-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.1 = (fun _ => 1#1)
    ∧ (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.1 = (fun _ => 1#1)
    ∧ (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_all_finite2 [hPre_all_finite2 : Cert.Pre_all_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_all_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_all_finite2 [hPre_all_finite2 : Cert.Pre_all_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_all_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_all_finite3 [hPre_all_finite3 : Cert.Pre_all_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_all_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_all_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.1 = (fun _ => 1#1)
    ∧ (Cert.Pre_all_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.1 = (fun _ => 1#1)
    ∧ (Cert.Pre_all_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_all_finite3 [hPre_all_finite3 : Cert.Pre_all_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_all_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_all_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.1 = (fun _ => 1#1)
    ∧ (Cert.Pre_all_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.1 = (fun _ => 1#1)
    ∧ (Cert.Pre_all_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_all_finite13 [hPre_all_finite13 : Cert.Pre_all_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_all_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).1 = (fun _ => 1#1)
    ∧ (Cert.Pre_all_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.1 = (fun _ => 1#1)
    ∧ (Cert.Pre_all_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.1 = (fun _ => 1#1)
    ∧ (Cert.Pre_all_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4))).2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_all_finite13 [hPre_all_finite13 : Cert.Pre_all_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_all_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).1 = (fun _ => 1#1)
    ∧ (Cert.Pre_all_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.1 = (fun _ => 1#1)
    ∧ (Cert.Pre_all_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.1 = (fun _ => 1#1)
    ∧ (Cert.Pre_all_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4))).2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_all_finite14 [hPre_all_finite14 : Cert.Pre_all_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_all_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).1 = (fun _ => 1#1)
    ∧ (Cert.Pre_all_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.1 = (fun _ => 1#1)
    ∧ (Cert.Pre_all_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.1 = (fun _ => 1#1)
    ∧ (Cert.Pre_all_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_all_finite14 [hPre_all_finite14 : Cert.Pre_all_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_all_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).1 = (fun _ => 1#1)
    ∧ (Cert.Pre_all_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.1 = (fun _ => 1#1)
    ∧ (Cert.Pre_all_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.1 = (fun _ => 1#1)
    ∧ (Cert.Pre_all_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_all_finite2 [hKernel2Ideal : Cert.Kernel2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_all_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_all_finite2 [hReference2Ideal : Cert.Reference2Ideal.Facts] [hPre_all_finite2 : Cert.Pre_all_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_all_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_all_finite3 [hKernel3Ideal : Cert.Kernel3Ideal.Facts] [hPre_all_finite3 : Cert.Pre_all_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_all_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_all_finite3 [hReference3Ideal : Cert.Reference3Ideal.Facts] [hPre_all_finite3 : Cert.Pre_all_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_all_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Kernel13Ideal_pre_all_finite13 [hKernel13Ideal : Cert.Kernel13Ideal.Facts] [hPre_all_finite13 : Cert.Pre_all_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_all_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Reference13Ideal_pre_all_finite13 [hReference13Ideal : Cert.Reference13Ideal.Facts] [hPre_all_finite13 : Cert.Pre_all_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_all_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Kernel14Ideal_pre_all_finite14 [hKernel14Ideal : Cert.Kernel14Ideal.Facts] [hPre_all_finite14 : Cert.Pre_all_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_all_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Reference14Ideal_pre_all_finite14 [hReference14Ideal : Cert.Reference14Ideal.Facts] [hPre_all_finite14 : Cert.Pre_all_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_all_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt_2pi" .f32 0x3ECC422A#32 (((Real.sqrt (2 * Real.pi))⁻¹ : ℝ) : EReal)

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v64_0)) (v1 : (c : Dev Cert.KernelIdeal.nD) → Buf (Elt Ideal) ((c.tc : Thread Cert.KernelIdeal.nD Cert.KernelIdeal.τ).loc Cert.KernelIdeal.main_v64_1)) (v2 : (c : Dev Cert.KernelIdeal.nD) → Buf (Elt Ideal) ((c.tc : Thread Cert.KernelIdeal.nD Cert.KernelIdeal.τ).loc Cert.KernelIdeal.main_v64_2)) (v3 : (c : Dev Cert.KernelIdeal.nD) → Buf (Elt Ideal) ((c.tc : Thread Cert.KernelIdeal.nD Cert.KernelIdeal.τ).loc Cert.KernelIdeal.main_v64_3)) (v4 : (c : Dev Cert.KernelIdeal.nD) → Buf (Elt Ideal) ((c.tc : Thread Cert.KernelIdeal.nD Cert.KernelIdeal.τ).loc Cert.KernelIdeal.main_v64_4)) (v5 : (c : Dev Cert.KernelIdeal.nD) → Buf (Elt Ideal) ((c.tc : Thread Cert.KernelIdeal.nD Cert.KernelIdeal.τ).loc Cert.KernelIdeal.main_v64_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64_0) = v0 c
          ∧ r.2.mem ((c.tc : Thread Cert.KernelIdeal.nD Cert.KernelIdeal.τ).loc Cert.KernelIdeal.main_v64_1) = v1 c
          ∧ r.2.mem ((c.tc : Thread Cert.KernelIdeal.nD Cert.KernelIdeal.τ).loc Cert.KernelIdeal.main_v64_2) = v2 c
          ∧ r.2.mem ((c.tc : Thread Cert.KernelIdeal.nD Cert.KernelIdeal.τ).loc Cert.KernelIdeal.main_v64_3) = v3 c
          ∧ r.2.mem ((c.tc : Thread Cert.KernelIdeal.nD Cert.KernelIdeal.τ).loc Cert.KernelIdeal.main_v64_4) = v4 c
          ∧ r.2.mem ((c.tc : Thread Cert.KernelIdeal.nD Cert.KernelIdeal.τ).loc Cert.KernelIdeal.main_v64_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v158) = v3 c
          ∧ r.2.mem ((c.tc : Thread Cert.ReferenceIdeal.nD Cert.ReferenceIdeal.τ).loc Cert.ReferenceIdeal.main_v159) = v4 c
          ∧ r.2.mem ((c.tc : Thread Cert.ReferenceIdeal.nD Cert.ReferenceIdeal.τ).loc Cert.ReferenceIdeal.main_v160) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal_pre_all_finite2 [hKernel2Ideal : Cert.Kernel2Ideal.Facts] [hReference2Ideal : Cert.Reference2Ideal.Facts] [hPre_all_finite2 : Cert.Pre_all_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_all_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v35_0)) (v1 : (c : Dev Cert.Kernel2Ideal.nD) → Buf (Elt Ideal) ((c.tc : Thread Cert.Kernel2Ideal.nD Cert.Kernel2Ideal.τ).loc Cert.Kernel2Ideal.main_v35_1)) (v2 : (c : Dev Cert.Kernel2Ideal.nD) → Buf (Elt Ideal) ((c.tc : Thread Cert.Kernel2Ideal.nD Cert.Kernel2Ideal.τ).loc Cert.Kernel2Ideal.main_v35_2)) (v3 : (c : Dev Cert.Kernel2Ideal.nD) → Buf (Elt Ideal) ((c.tc : Thread Cert.Kernel2Ideal.nD Cert.Kernel2Ideal.τ).loc Cert.Kernel2Ideal.main_v35_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v35_0) = v0 c
          ∧ r.2.mem ((c.tc : Thread Cert.Kernel2Ideal.nD Cert.Kernel2Ideal.τ).loc Cert.Kernel2Ideal.main_v35_1) = v1 c
          ∧ r.2.mem ((c.tc : Thread Cert.Kernel2Ideal.nD Cert.Kernel2Ideal.τ).loc Cert.Kernel2Ideal.main_v35_2) = v2 c
          ∧ r.2.mem ((c.tc : Thread Cert.Kernel2Ideal.nD Cert.Kernel2Ideal.τ).loc Cert.Kernel2Ideal.main_v35_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_v59) = v1 c
          ∧ r.2.mem ((c.tc : Thread Cert.Reference2Ideal.nD Cert.Reference2Ideal.τ).loc Cert.Reference2Ideal.main_v60) = v2 c
          ∧ r.2.mem ((c.tc : Thread Cert.Reference2Ideal.nD Cert.Reference2Ideal.τ).loc Cert.Reference2Ideal.main_v61) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_all_finite3 [hKernel3Ideal : Cert.Kernel3Ideal.Facts] [hReference3Ideal : Cert.Reference3Ideal.Facts] [hPre_all_finite3 : Cert.Pre_all_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_all_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v5_0)) (v1 : (c : Dev Cert.Kernel3Ideal.nD) → Buf (Elt Ideal) ((c.tc : Thread Cert.Kernel3Ideal.nD Cert.Kernel3Ideal.τ).loc Cert.Kernel3Ideal.main_v5_1)) (v2 : (c : Dev Cert.Kernel3Ideal.nD) → Buf (Elt Ideal) ((c.tc : Thread Cert.Kernel3Ideal.nD Cert.Kernel3Ideal.τ).loc Cert.Kernel3Ideal.main_v5_2)) (v3 : (c : Dev Cert.Kernel3Ideal.nD) → Buf (Elt Ideal) ((c.tc : Thread Cert.Kernel3Ideal.nD Cert.Kernel3Ideal.τ).loc Cert.Kernel3Ideal.main_v5_3)) (v4 : (c : Dev Cert.Kernel3Ideal.nD) → Buf (Elt Ideal) ((c.tc : Thread Cert.Kernel3Ideal.nD Cert.Kernel3Ideal.τ).loc Cert.Kernel3Ideal.main_v5_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5_0) = v0 c
          ∧ r.2.mem ((c.tc : Thread Cert.Kernel3Ideal.nD Cert.Kernel3Ideal.τ).loc Cert.Kernel3Ideal.main_v5_1) = v1 c
          ∧ r.2.mem ((c.tc : Thread Cert.Kernel3Ideal.nD Cert.Kernel3Ideal.τ).loc Cert.Kernel3Ideal.main_v5_2) = v2 c
          ∧ r.2.mem ((c.tc : Thread Cert.Kernel3Ideal.nD Cert.Kernel3Ideal.τ).loc Cert.Kernel3Ideal.main_v5_3) = v3 c
          ∧ r.2.mem ((c.tc : Thread Cert.Kernel3Ideal.nD Cert.Kernel3Ideal.τ).loc Cert.Kernel3Ideal.main_v5_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_v42) = v2 c
          ∧ r.2.mem ((c.tc : Thread Cert.Reference3Ideal.nD Cert.Reference3Ideal.τ).loc Cert.Reference3Ideal.main_v44) = v3 c
          ∧ r.2.mem ((c.tc : Thread Cert.Reference3Ideal.nD Cert.Reference3Ideal.τ).loc Cert.Reference3Ideal.main_v54) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v15)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v15) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v25)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v25) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v27) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v15)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v14)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v15)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v15) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal_pre_all_finite13 [hKernel13Ideal : Cert.Kernel13Ideal.Facts] [hReference13Ideal : Cert.Reference13Ideal.Facts] [hPre_all_finite13 : Cert.Pre_all_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_all_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v41) = v0 c
          ∧ r.2.mem ((c.tc : Thread Cert.Reference13Ideal.nD Cert.Reference13Ideal.τ).loc Cert.Reference13Ideal.main_v42) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal_pre_all_finite14 [hKernel14Ideal : Cert.Kernel14Ideal.Facts] [hReference14Ideal : Cert.Reference14Ideal.Facts] [hPre_all_finite14 : Cert.Pre_all_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_all_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v37) = v0 c
          ∧ r.2.mem ((c.tc : Thread Cert.Reference14Ideal.nD Cert.Reference14Ideal.τ).loc Cert.Reference14Ideal.main_v38) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_all_finite : Cert.Pre_all_finite.Facts) (hPre_all_finite2 : Cert.Pre_all_finite2.Facts) (hPre_all_finite3 : Cert.Pre_all_finite3.Facts) (hPre_all_finite13 : Cert.Pre_all_finite13.Facts) (hPre_all_finite14 : Cert.Pre_all_finite14.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Kernel2Ideal_pre_all_finite2 (hKernel2Ideal := hKernel2Ideal) (hPre_all_finite2 := hPre_all_finite2)
    ∧ quiescent_Reference2Ideal (hReference2Ideal := hReference2Ideal)
    ∧ quiescent_Reference2Ideal_pre_all_finite2 (hReference2Ideal := hReference2Ideal) (hPre_all_finite2 := hPre_all_finite2)
    ∧ quiescent_Kernel3 (hKernel3 := hKernel3)
    ∧ quiescent_Kernel3Ideal (hKernel3Ideal := hKernel3Ideal)
    ∧ quiescent_Kernel3Ideal_pre_all_finite3 (hKernel3Ideal := hKernel3Ideal) (hPre_all_finite3 := hPre_all_finite3)
    ∧ quiescent_Reference3Ideal (hReference3Ideal := hReference3Ideal)
    ∧ quiescent_Reference3Ideal_pre_all_finite3 (hReference3Ideal := hReference3Ideal) (hPre_all_finite3 := hPre_all_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_all_finite13 (hKernel13Ideal := hKernel13Ideal) (hPre_all_finite13 := hPre_all_finite13)
    ∧ quiescent_Reference13Ideal (hReference13Ideal := hReference13Ideal)
    ∧ quiescent_Reference13Ideal_pre_all_finite13 (hReference13Ideal := hReference13Ideal) (hPre_all_finite13 := hPre_all_finite13)
    ∧ quiescent_Kernel14 (hKernel14 := hKernel14)
    ∧ quiescent_Kernel14Ideal (hKernel14Ideal := hKernel14Ideal)
    ∧ quiescent_Kernel14Ideal_pre_all_finite14 (hKernel14Ideal := hKernel14Ideal) (hPre_all_finite14 := hPre_all_finite14)
    ∧ quiescent_Reference14Ideal (hReference14Ideal := hReference14Ideal)
    ∧ quiescent_Reference14Ideal_pre_all_finite14 (hReference14Ideal := hReference14Ideal) (hPre_all_finite14 := hPre_all_finite14)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal_pre_all_finite2 (hKernel2Ideal := hKernel2Ideal) (hReference2Ideal := hReference2Ideal) (hPre_all_finite2 := hPre_all_finite2)
    ∧ preserves_Kernel3_Kernel3Ideal
    ∧ algebraic_Kernel3Ideal_Reference3Ideal_pre_all_finite3 (hKernel3Ideal := hKernel3Ideal) (hReference3Ideal := hReference3Ideal) (hPre_all_finite3 := hPre_all_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_all_finite13 (hKernel13Ideal := hKernel13Ideal) (hReference13Ideal := hReference13Ideal) (hPre_all_finite13 := hPre_all_finite13)
    ∧ preserves_Kernel14_Kernel14Ideal
    ∧ algebraic_Kernel14Ideal_Reference14Ideal_pre_all_finite14 (hKernel14Ideal := hKernel14Ideal) (hReference14Ideal := hReference14Ideal) (hPre_all_finite14 := hPre_all_finite14)
-- ==== Pre_all_finite.lean ====
abbrev S4096x1024 : Shape := ⟨2, ![4096, 1024]⟩
abbrev S1x1024 : Shape := ⟨2, ![1, 1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2048 : S_.BroadcastsInDim S1024x2048 (![] : Fin 0 → Fin S1024x2048.rank)
  bcast_S_S8x128x128 : S_.BroadcastsInDim S8x128x128 (![] : Fin 0 → Fin S8x128x128.rank)
  bcast_S_S8x128 : S_.BroadcastsInDim S8x128 (![] : Fin 0 → Fin S8x128.rank)
  bcast_S_S1024x1024 : S_.BroadcastsInDim S1024x1024 (![] : Fin 0 → Fin S1024x1024.rank)

variable [Facts]

def fn_part1 {F : FTy → Type} [FloatOps F] (main_arg6 : FVec F S1024x1024 .f32) (main_arg7 : FVec F S4096x1024 .f32) (main_v2 : IVec S4096x1024 1) (main_v5 : IVec S1x1024 1) (main_v8 : IVec S1024x2048 1) (main_v11 : IVec S1x1024 1) (main_v14 : IVec S8x128x128 1) (main_v17 : IVec S8x128 1) : IVec S4096x1024 1 × IVec S1x1024 1 × IVec S1024x2048 1 × IVec S1x1024 1 × IVec S8x128x128 1 × IVec S8x128 1 × IVec S1024x1024 1 × IVec S4096x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x1024 .f32) (main_arg1 : FVec F S1x1024 .f32) (main_arg2 : FVec F S1024x2048 .f32) (main_arg3 : FVec F S1x1024 .f32) (main_arg4 : FVec F S8x128x128 .f32) (main_arg5 : FVec F S8x128 .f32) (main_arg6 : FVec F S1024x1024 .f32) (main_arg7 : FVec F S4096x1024 .f32) : IVec S4096x1024 1 × IVec S1x1024 1 × IVec S1024x2048 1 × IVec S1x1024 1 × IVec S8x128x128 1 × IVec S8x128 1 × IVec S1024x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2048 .f32 := Host.absf main_arg2
  let main_cst_1 : FVec F S_ .f32 := constant S_ .f32 0x7F800000#32
  let main_v7 : FVec F S1024x2048 .f32 := broadcastInDim S1024x2048 ![] bcast_S_S1024x2048 main_cst_1
  let main_v8 : IVec S1024x2048 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S8x128x128 .f32 := Host.absf main_arg4
  let main_cst_3 : FVec F S_ .f32 := constant S_ .f32 0x7F800000#32
  let main_v13 : FVec F S8x128x128 .f32 := broadcastInDim S8x128x128 ![] bcast_S_S8x128x128 main_cst_3
  let main_v14 : IVec S8x128x128 1 := cmpf .olt main_v12 main_v13
  let main_v15 : FVec F S8x128 .f32 := Host.absf main_arg5
  let main_cst_4 : FVec F S_ .f32 := constant S_ .f32 0x7F800000#32
  let main_v16 : FVec F S8x128 .f32 := broadcastInDim S8x128 ![] bcast_S_S8x128 main_cst_4
  let main_v17 : IVec S8x128 1 := cmpf .olt main_v15 main_v16
  fn_part1 (F := F) main_arg6 main_arg7 main_v2 main_v5 main_v8 main_v11 main_v14 main_v17
-- ==== Pre_all_finite13.lean ====
abbrev S4096x1024 : Shape := ⟨2, ![4096, 1024]⟩
abbrev S1x1024 : Shape := ⟨2, ![1, 1024]⟩
abbrev S1024x3072 : Shape := ⟨2, ![1024, 3072]⟩
abbrev S3x4096x1024 : Shape := ⟨3, ![3, 4096, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x3072 : S_.BroadcastsInDim S1024x3072 (![] : Fin 0 → Fin S1024x3072.rank)
  bcast_S_S3x4096x1024 : S_.BroadcastsInDim S3x4096x1024 (![] : Fin 0 → Fin S3x4096x1024.rank)

variable [Facts]

def fn {F : FTy → Type} [FloatOps F] (main_arg0 : FVec F S4096x1024 .f32) (main_arg1 : FVec F S1x1024 .f32) (main_arg2 : FVec F S1024x3072 .f32) (main_arg3 : FVec F S3x4096x1024 .bf16) (main_arg4 : FVec F S4096x1024 .f32) : IVec S4096x1024 1 × IVec S1x1024 1 × IVec S1024x3072 1 × IVec S3x4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x3072 .f32 := Host.absf main_arg2
  let main_cst_1 : FVec F S_ .f32 := constant S_ .f32 0x7F800000#32
  let main_v7 : FVec F S1024x3072 .f32 := broadcastInDim S1024x3072 ![] bcast_S_S1024x3072 main_cst_1
  let main_v8 : IVec S1024x3072 1 := cmpf .olt main_v6 main_v7
  let main_v9 : FVec F S3x4096x1024 .bf16 := Host.absf main_arg3
  let main_cst_2 : FVec F S_ .bf16 := constant S_ .bf16 0x7F80#16
  let main_v10 : FVec F S3x4096x1024 .bf16 := broadcastInDim S3x4096x1024 ![] bcast_S_S3x4096x1024 main_cst_2
  let main_v11 : IVec S3x4096x1024 1 := cmpf .olt main_v9 main_v10
  (main_v2, main_v5, main_v8, main_v11)
-- ==== Pre_all_finite14.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x1024 : S_.BroadcastsInDim S1024x1024 (![] : Fin 0 → Fin S1024x1024.rank)

variable [Facts]

def fn {F : FTy → Type} [FloatOps F] (main_arg0 : FVec F S4096x1024 .f32) (main_arg1 : FVec F S1x1024 .f32) (main_arg2 : FVec F S1024x1024 .f32) (main_arg3 : FVec F S4096x1024 .bf16) (main_arg4 : FVec F S4096x1024 .f32) : IVec S4096x1024 1 × IVec S1x1024 1 × IVec S1024x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S4096x1024 .bf16 := Host.absf main_arg3
  let main_cst_2 : FVec F S_ .bf16 := constant S_ .bf16 0x7F80#16
  let main_v10 : FVec F S4096x1024 .bf16 := broadcastInDim S4096x1024 ![] bcast_S_S4096x1024 main_cst_2
  let main_v11 : IVec S4096x1024 1 := cmpf .olt main_v9 main_v10
  (main_v2, main_v5, main_v8, main_v11)
-- ==== Pre_all_finite2.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) : IVec S4096x1024 1 × IVec S1x1024 1 × IVec S1024x2816 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_all_finite3.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)

variable [Facts]

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) : IVec S4096x1024 1 × IVec S1x1024 1 × IVec S1024x2816 1 × IVec S1024x2816 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  (main_v2, main_v5, main_v8, main_v11)
-- ==== Kernel.lean ====
abbrev S4096x1024 : Shape := ⟨2, ![4096, 1024]⟩
abbrev S1x1024 : Shape := ⟨2, ![1, 1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S128 : Shape := ⟨1, ![128]⟩
abbrev S1x128 : Shape := ⟨2, ![1, 128]⟩
abbrev S_ : Shape := ⟨0, ![]⟩
abbrev S128x1 : Shape := ⟨2, ![128, 1]⟩
abbrev S128x128 : Shape := ⟨2, ![128, 128]⟩
abbrev S1x128x128 : Shape := ⟨3, ![1, 128, 128]⟩
abbrev S8x128x1 : Shape := ⟨3, ![8, 128, 1]⟩
abbrev S1024x4x512 : Shape := ⟨3, ![1024, 4, 512]⟩
abbrev S4x1024x512 : Shape := ⟨3, ![4, 1024, 512]⟩
abbrev S4096 : Shape := ⟨1, ![4096]⟩
abbrev S4096x1 : Shape := ⟨2, ![4096, 1]⟩
abbrev S4096x2048 : Shape := ⟨2, ![4096, 2048]⟩
abbrev S8x1024 : Shape := ⟨2, ![8, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024 : Shape := ⟨1, ![1024]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 127
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2048, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S1024x1024, .f32⟩
  | .hbm, ⟨7, _⟩ => ⟨S4096x1024, .f32⟩
  | .hbm, ⟨8, _⟩ => ⟨S128, .i32⟩
  | .hbm, ⟨9, _⟩ => ⟨S1x128, .i32⟩
  | .hbm, ⟨10, _⟩ => ⟨S_, .i32⟩
  | .hbm, ⟨11, _⟩ => ⟨S_, .i32⟩
  | .hbm, ⟨12, _⟩ => ⟨S1x128, .i32⟩
  | .hbm, ⟨13, _⟩ => ⟨S1x128, .i32⟩
  | .hbm, ⟨14, _⟩ => ⟨S1x128, .i32⟩
  | .hbm, ⟨15, _⟩ => ⟨S_, .i32⟩
  | .hbm, ⟨16, _⟩ => ⟨S1x128, .i32⟩
  | .hbm, ⟨17, _⟩ => ⟨S1x128, .i1⟩
  | .hbm, ⟨18, _⟩ => ⟨S1x128, .i32⟩
  | .hbm, ⟨19, _⟩ => ⟨S1x128, .i32⟩
  | .hbm, ⟨20, _⟩ => ⟨S_, .i32⟩
  | .hbm, ⟨21, _⟩ => ⟨S1x128, .i32⟩
  | .hbm, ⟨22, _⟩ => ⟨S1x128, .i1⟩
  | .hbm, ⟨23, _⟩ => ⟨S1x128, .i1⟩
  | .hbm, ⟨24, _⟩ => ⟨S_, .i32⟩
  | .hbm, ⟨25, _⟩ => ⟨S1x128, .i32⟩
  | .hbm, ⟨26, _⟩ => ⟨S1x128, .i32⟩
  | .hbm, ⟨27, _⟩ => ⟨S1x128, .i32⟩
  | .hbm, ⟨28, _⟩ => ⟨S128x1, .i32⟩
  | .hbm, ⟨29, _⟩ => ⟨S_, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x1, .i32⟩
  | .hbm, ⟨34, _⟩ => ⟨S_, .i32⟩
  | .hbm, ⟨35, _⟩ => ⟨S128x1, .i32⟩
  | .hbm, ⟨36, _⟩ => ⟨S128x1, .i1⟩
  | .hbm, ⟨37, _⟩ => ⟨S128x1, .i32⟩
  | .hbm, ⟨38, _⟩ => ⟨S128x1, .i32⟩
  | .hbm, ⟨39, _⟩ => ⟨S_, .i32⟩
  | .hbm, ⟨40, _⟩ => ⟨S128x1, .i32⟩
  | .hbm, ⟨41, _⟩ => ⟨S128x1, .i1⟩
  | .hbm, ⟨42, _⟩ => ⟨S128x1, .i1⟩
  | .hbm, ⟨43, _⟩ => ⟨S_, .i32⟩
  | .hbm, ⟨44, _⟩ => ⟨S128x1, .i32⟩
  | .hbm, ⟨45, _⟩ => ⟨S128x1, .i32⟩
  | .hbm, ⟨46, _⟩ => ⟨S128x1, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S1x128x128, .i1⟩
  | .hbm, ⟨51, _⟩ => ⟨S_, .i32⟩
  | .hbm, ⟨52, _⟩ => ⟨S_, .f32⟩
  | .hbm, ⟨53, _⟩ => ⟨S8x128x128, .i1⟩
  | .hbm, ⟨54, _⟩ => ⟨S8x128x128, .f32⟩
  | .hbm, ⟨55, _⟩ => ⟨S8x128x128, .f32⟩
  | .hbm, ⟨56, _⟩ => ⟨S8x128x128, .bf16⟩
  | .hbm, ⟨57, _⟩ => ⟨S8x128x128, .f32⟩
  | .hbm, ⟨58, _⟩ => ⟨S8x128x128, .bf16⟩
  | .hbm, ⟨59, _⟩ => ⟨S8x128x1, .f32⟩
  | .hbm, ⟨60, _⟩ => ⟨S8x128x128, .f32⟩
  | .hbm, ⟨61, _⟩ => ⟨S1024x2048, .bf16⟩
  | .hbm, ⟨62, _⟩ => ⟨S1024x4x512, .bf16⟩
  | .hbm, ⟨63, _⟩ => ⟨S4x1024x512, .bf16⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S4096x1, .f32⟩
  | .hbm, ⟨73, _⟩ => ⟨S4096x1, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x2048, .f32⟩
  | .hbm, ⟨80, _⟩ => ⟨S4096x1024, .f32⟩
  | .hbm, ⟨81, _⟩ => ⟨S_, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S_, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S_, .f32⟩
  | .hbm, ⟨97, _⟩ => ⟨S4096x1, .f32⟩
  | .hbm, ⟨98, _⟩ => ⟨S4096x1, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S_, .f32⟩
  | .hbm, ⟨103, _⟩ => ⟨S4096, .f32⟩
  | .hbm, ⟨104, _⟩ => ⟨S4096x1, .f32⟩
  | .hbm, ⟨105, _⟩ => ⟨S_, .f32⟩
  | .hbm, ⟨106, _⟩ => ⟨S4096x1, .f32⟩
  | .hbm, ⟨107, _⟩ => ⟨S4096x1, .f32⟩
  | .hbm, ⟨108, _⟩ => ⟨S4096x1024, .f32⟩
  | .hbm, ⟨109, _⟩ => ⟨S4096x1024, .f32⟩
  | .hbm, ⟨110, _⟩ => ⟨S_, .f32⟩
  | .hbm, ⟨111, _⟩ => ⟨S4096x1, .f32⟩
  | .hbm, ⟨112, _⟩ => ⟨S4096x1, .f32⟩
  | .hbm, ⟨113, _⟩ => ⟨S4096x1, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S4096x1024, .f32⟩
  | .hbm, ⟨118, _⟩ => ⟨S4096x2048, .bf16⟩
  | .hbm, ⟨119, _⟩ => ⟨S4096x1024, .bf16⟩
  | .hbm, ⟨120, _⟩ => ⟨S1024x1024, .bf16⟩
  | .hbm, ⟨121, _⟩ => ⟨S4096x1024, .f32⟩
  | .hbm, ⟨122, _⟩ => ⟨S4096x2048, .bf16⟩
  | .hbm, ⟨123, _⟩ => ⟨S8x128x128, .f32⟩
  | .hbm, ⟨124, _⟩ => ⟨S8x128x128, .f32⟩
  | .hbm, ⟨125, _⟩ => ⟨S8x1024, .f32⟩
  | .hbm, ⟨126, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x2048, .bf16⟩
  | .local _ .vmem, ⟨6, _⟩ => ⟨S512x2048, .bf16⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S8x128x128, .bf16⟩
  | .local _ .vmem, ⟨11, _⟩ => ⟨S8x128x128, .bf16⟩
  | .local _ .vmem, ⟨12, _⟩ => ⟨S8x128x128, .f32⟩
  | .local _ .vmem, ⟨13, _⟩ => ⟨S1024x1024, .bf16⟩
  | .local _ .vmem, ⟨14, _⟩ => ⟨S4x1024x512, .bf16⟩
  | .local _ .vmem, ⟨15, _⟩ => ⟨S512x1024, .f32⟩
  | .local _ .vmem, ⟨16, _⟩ => ⟨S512x1024, .f32⟩
  | .local _ .vmem, ⟨17, _⟩ => ⟨S512x2048, .bf16⟩
  | .local _ .vmem, ⟨18, _⟩ => ⟨S512x2048, .bf16⟩
  | .local _ .vmem, ⟨19, _⟩ => ⟨S8x128x128, .f32⟩
  | .local _ .vmem, ⟨20, _⟩ => ⟨S8x128x128, .f32⟩
  | .local _ .vmem, ⟨21, _⟩ => ⟨S8x1024, .f32⟩
  | .local _ .vmem, ⟨22, _⟩ => ⟨S8x1024, .f32⟩
  | .local _ .vmem, ⟨23, _⟩ => ⟨S512x1024, .f32⟩
  | .local _ .vmem, ⟨24, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v2 : Ref sig .tc := ⟨.hbm, 27, rfl⟩
abbrev main_v3 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_c_1 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_cst : Ref sig .tc := ⟨.hbm, 65, rfl⟩
abbrev main_v19 : Ref sig .tc := ⟨.hbm, 66, rfl⟩
abbrev main_v20 : Ref sig .tc := ⟨.hbm, 67, rfl⟩
abbrev main_cst_2 : Ref sig .tc := ⟨.hbm, 68, rfl⟩
abbrev main_v21 : Ref sig .tc := ⟨.hbm, 69, rfl⟩
abbrev main_v22 : Ref sig .tc := ⟨.hbm, 70, rfl⟩
abbrev main_cst_3 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_cst_4 : Ref sig .tc := ⟨.hbm, 81, rfl⟩
abbrev main_v32 : Ref sig .tc := ⟨.hbm, 82, rfl⟩
abbrev main_v33 : Ref sig .tc := ⟨.hbm, 83, rfl⟩
abbrev main_cst_5 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_cst_6 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_7 : Ref sig .tc := ⟨.hbm, 93, rfl⟩
abbrev main_v41 : Ref sig .tc := ⟨.hbm, 94, rfl⟩
abbrev main_v42 : Ref sig .tc := ⟨.hbm, 95, rfl⟩
abbrev main_cst_8 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_cst_9 : Ref sig .tc := ⟨.hbm, 102, rfl⟩
abbrev main_v48 : Ref sig .tc := ⟨.hbm, 103, rfl⟩
abbrev main_v49 : Ref sig .tc := ⟨.hbm, 104, rfl⟩
abbrev main_cst_10 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_cst_11 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64_0 : Ref sig .tc := ⟨.hbm, 121, rfl⟩
abbrev main_v64_1 : Ref sig .tc := ⟨.hbm, 122, rfl⟩
abbrev main_v64_2 : Ref sig .tc := ⟨.hbm, 123, rfl⟩
abbrev main_v64_3 : Ref sig .tc := ⟨.hbm, 124, rfl⟩
abbrev main_v64_4 : Ref sig .tc := ⟨.hbm, 125, rfl⟩
abbrev main_v64_5 : Ref sig .tc := ⟨.hbm, 126, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21
abbrev cc0_sem16_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1024x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S8x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt_2pi" => some (((Real.sqrt (2 * Real.pi))⁻¹ : ℝ) : EReal)
  | _ => none
-- ==== ReferenceIdeal.lean ====
abbrev S4096x1024 : Shape := ⟨2, ![4096, 1024]⟩
abbrev S1x1024 : Shape := ⟨2, ![1, 1024]⟩
abbrev S1024x2048 : Shape := ⟨2, ![1024, 2048]⟩
abbrev S8x128x128 : Shape := ⟨3, ![8, 128, 128]⟩
abbrev S8x128 : Shape := ⟨2, ![8, 128]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S4096x2048 : Shape := ⟨2, ![4096, 2048]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S32x128x8x128 : Shape := ⟨4, ![32, 128, 8, 128]⟩
abbrev S8x32x128x128 : Shape := ⟨4, ![8, 32, 128, 128]⟩
abbrev S128x8 : Shape := ⟨2, ![128, 8]⟩
abbrev S1x128x8x1 : Shape := ⟨4, ![1, 128, 8, 1]⟩
abbrev S1024 : Shape := ⟨1, ![1024]⟩
abbrev S8x128x1 : Shape := ⟨3, ![8, 128, 1]⟩
abbrev S8x1024 : Shape := ⟨2, ![8, 1024]⟩

abbrev nBuf : Space → Nat
  | .hbm => 245
  | .vmem => 0
  | .smem => 0
  | _ => 0

abbrev hbmTy0_0 (i : Nat) : BufTy := match i % 128 with
  | 0 => ⟨S4096x1024, .f32⟩
  | 1 => ⟨S1x1024, .f32⟩
  | 2 => ⟨S1024x2048, .f32⟩
  | 3 => ⟨S1x1024, .f32⟩
  | 4 => ⟨S8x128x128, .f32⟩
  | 5 => ⟨S8x128, .f32⟩
  | 6 => ⟨S1024x1024, .f32⟩
  | 7 => ⟨S4096x1024, .f32⟩
  | 8 => ⟨S4096x1024, .f32⟩
  | 9 => ⟨S_, .f32⟩
  | 10 => ⟨S4096, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096x1, .f32⟩
  | 17 => ⟨S4096x1, .f32⟩
  | 18 => ⟨S4096x1, .f32⟩
  | 19 => ⟨S4096x1, .f32⟩
  | 20 => ⟨S_, .f32⟩
  | 21 => ⟨S4096x1, .f32⟩
  | 22 => ⟨S4096x1, .f32⟩
  | 23 => ⟨S4096x1024, .f32⟩
  | 24 => ⟨S4096x1024, .f32⟩
  | 25 => ⟨S4096x1024, .f32⟩
  | 26 => ⟨S4096x1024, .f32⟩
  | 27 => ⟨S4096x2048, .f32⟩
  | 28 => ⟨S128, .i32⟩
  | 29 => ⟨S1x128, .i32⟩
  | 30 => ⟨S_, .i32⟩
  | 31 => ⟨S_, .i32⟩
  | 32 => ⟨S1x128, .i32⟩
  | 33 => ⟨S1x128, .i32⟩
  | 34 => ⟨S1x128, .i32⟩
  | 35 => ⟨S_, .i32⟩
  | 36 => ⟨S1x128, .i32⟩
  | 37 => ⟨S1x128, .i1⟩
  | 38 => ⟨S1x128, .i32⟩
  | 39 => ⟨S1x128, .i32⟩
  | 40 => ⟨S_, .i32⟩
  | 41 => ⟨S1x128, .i32⟩
  | 42 => ⟨S1x128, .i1⟩
  | 43 => ⟨S1x128, .i1⟩
  | 44 => ⟨S_, .i32⟩
  | 45 => ⟨S1x128, .i32⟩
  | 46 => ⟨S1x128, .i32⟩
  | 47 => ⟨S1x128, .i32⟩
  | 48 => ⟨S128x1, .i32⟩
  | 49 => ⟨S_, .i32⟩
  | 50 => ⟨S_, .i32⟩
  | 51 => ⟨S128x1, .i32⟩
  | 52 => ⟨S128x1, .i32⟩
  | 53 => ⟨S128x1, .i32⟩
  | 54 => ⟨S_, .i32⟩
  | 55 => ⟨S128x1, .i32⟩
  | 56 => ⟨S128x1, .i1⟩
  | 57 => ⟨S128x1, .i32⟩
  | 58 => ⟨S128x1, .i32⟩
  | 59 => ⟨S_, .i32⟩
  | 60 => ⟨S128x1, .i32⟩
  | 61 => ⟨S128x1, .i1⟩
  | 62 => ⟨S128x1, .i1⟩
  | 63 => ⟨S_, .i32⟩
  | 64 => ⟨S128x1, .i32⟩
  | 65 => ⟨S128x1, .i32⟩
  | 66 => ⟨S128x1, .i32⟩
  | 67 => ⟨S128x128, .i32⟩
  | 68 => ⟨S128x128, .i32⟩
  | 69 => ⟨S128x128, .i1⟩
  | 70 => ⟨S1x128x128, .i1⟩
  | 71 => ⟨S_, .i32⟩
  | 72 => ⟨S_, .f32⟩
  | 73 => ⟨S8x128x128, .i1⟩
  | 74 => ⟨S8x128x128, .f32⟩
  | 75 => ⟨S8x128x128, .f32⟩
  | 76 => ⟨S_, .f32⟩
  | 77 => ⟨S4096x2048, .f32⟩
  | 78 => ⟨S4096x2048, .f32⟩
  | 79 => ⟨S_, .f32⟩
  | 80 => ⟨S_, .f32⟩
  | 81 => ⟨S4096x2048, .f32⟩
  | 82 => ⟨S4096x2048, .f32⟩
  | 83 => ⟨S4096x2048, .f32⟩
  | 84 => ⟨S_, .f32⟩
  | 85 => ⟨S4096x2048, .f32⟩
  | 86 => ⟨S4096x2048, .f32⟩
  | 87 => ⟨S4096x2048, .f32⟩
  | 88 => ⟨S4096x1024, .f32⟩
  | 89 => ⟨S4096x1024, .f32⟩
  | 90 => ⟨S_, .f32⟩
  | 91 => ⟨S4096, .f32⟩
  | 92 => ⟨S4096x1, .f32⟩
  | 93 => ⟨S_, .f32⟩
  | 94 => ⟨S4096x1, .f32⟩
  | 95 => ⟨S4096x1, .f32⟩
  | 96 => ⟨S4096x1024, .f32⟩
  | 97 => ⟨S4096x1024, .f32⟩
  | 98 => ⟨S4096x1024, .f32⟩
  | 99 => ⟨S_, .f32⟩
  | 100 => ⟨S4096x1024, .f32⟩
  | 101 => ⟨S4096x1024, .f32⟩
  | 102 => ⟨S_, .f32⟩
  | 103 => ⟨S4096, .f32⟩
  | 104 => ⟨S4096x1, .f32⟩
  | 105 => ⟨S_, .f32⟩
  | 106 => ⟨S4096x1, .f32⟩
  | 107 => ⟨S4096x1, .f32⟩
  | 108 => ⟨S4096x1024, .f32⟩
  | 109 => ⟨S4096x1024, .f32⟩
  | 110 => ⟨S_, .f32⟩
  | 111 => ⟨S4096x1, .f32⟩
  | 112 => ⟨S4096x1, .f32⟩
  | 113 => ⟨S4096x1, .f32⟩
  | 114 => ⟨S4096x1, .f32⟩
  | 115 => ⟨S_, .f32⟩
  | 116 => ⟨S4096x1, .f32⟩
  | 117 => ⟨S4096x1, .f32⟩
  | 118 => ⟨S4096x1024, .f32⟩
  | 119 => ⟨S4096x1024, .f32⟩
  | 120 => ⟨S4096x1024, .f32⟩
  | 121 => ⟨S4096x1024, .f32⟩
  | 122 => ⟨S32x128x8x128, .f32⟩
  | 123 => ⟨S8x32x128x128, .f32⟩
  | 124 => ⟨S32x128x8x128, .f32⟩
  | 125 => ⟨S128x8, .f32⟩
  | 126 => ⟨S1x128x8x1, .f32⟩
  | 127 => ⟨S32x128x8x128, .f32⟩
  | _ => ⟨S4096x1024, .f32⟩

abbrev hbmTy0_1 (i : Nat) : BufTy := match i % 128 with
  | 0 => ⟨S32x128x8x128, .f32⟩
  | 1 => ⟨S4096x1024, .f32⟩
  | 2 => ⟨S4096x1024, .f32⟩
  | 3 => ⟨S4096x1024, .f32⟩
  | 4 => ⟨S4096x1024, .f32⟩
  | 5 => ⟨S4096x1024, .f32⟩
  | 6 => ⟨S4096x1024, .f32⟩
  | 7 => ⟨S32x128x8x128, .f32⟩
  | 8 => ⟨S_, .f32⟩
  | 9 => ⟨S128x8, .f32⟩
  | 10 => ⟨S1x128x8x1, .f32⟩
  | 11 => ⟨S_, .f32⟩
  | 12 => ⟨S128x8, .f32⟩
  | 13 => ⟨S8x128, .f32⟩
  | 14 => ⟨S8x32x128x128, .f32⟩
  | 15 => ⟨S8x128x128, .f32⟩
  | 16 => ⟨S8x32x128x128, .f32⟩
  | 17 => ⟨S32x128x8x128, .f32⟩
  | 18 => ⟨S4096x1024, .f32⟩
  | 19 => ⟨S4096x1024, .f32⟩
  | 20 => ⟨S_, .f32⟩
  | 21 => ⟨S1024, .f32⟩
  | 22 => ⟨S1x1024, .f32⟩
  | 23 => ⟨S4096x1024, .f32⟩
  | 24 => ⟨S4096x1024, .f32⟩
  | 25 => ⟨S4096x1024, .f32⟩
  | 26 => ⟨S_, .f32⟩
  | 27 => ⟨S4096, .f32⟩
  | 28 => ⟨S4096x1, .f32⟩
  | 29 => ⟨S4096x1024, .f32⟩
  | 30 => ⟨S4096x1024, .f32⟩
  | 31 => ⟨S4096x1, .f32⟩
  | 32 => ⟨S4096x1024, .f32⟩
  | 33 => ⟨S_, .f32⟩
  | 34 => ⟨S4096, .f32⟩
  | 35 => ⟨S4096x1, .f32⟩
  | 36 => ⟨S_, .f32⟩
  | 37 => ⟨S4096x1, .f32⟩
  | 38 => ⟨S4096x1, .f32⟩
  | 39 => ⟨S_, .f32⟩
  | 40 => ⟨S4096, .f32⟩
  | 41 => ⟨S4096x1024, .f32⟩
  | 42 => ⟨S4096x1024, .f32⟩
  | 43 => ⟨S4096x1024, .f32⟩
  | 44 => ⟨S_, .f32⟩
  | 45 => ⟨S4096, .f32⟩
  | 46 => ⟨S4096x1, .f32⟩
  | 47 => ⟨S4096x1024, .f32⟩
  | 48 => ⟨S4096x1, .f32⟩
  | 49 => ⟨S_, .f32⟩
  | 50 => ⟨S4096x1, .f32⟩
  | 51 => ⟨S4096x1, .f32⟩
  | 52 => ⟨S_, .f32⟩
  | 53 => ⟨S4096, .f32⟩
  | 54 => ⟨S4096x1024, .f32⟩
  | 55 => ⟨S4096x1024, .f32⟩
  | 56 => ⟨S4096x2048, .f32⟩
  | 57 => ⟨S_, .f32⟩
  | 58 => ⟨S_, .f32⟩
  | 59 => ⟨S4096x2048, .f32⟩
  | 60 => ⟨S4096x2048, .f32⟩
  | 61 => ⟨S4096x2048, .f32⟩
  | 62 => ⟨S_, .f32⟩
  | 63 => ⟨S4096x2048, .f32⟩
  | 64 => ⟨S4096x2048, .f32⟩
  | 65 => ⟨S_, .f32⟩
  | 66 => ⟨S4096x2048, .f32⟩
  | 67 => ⟨S4096x2048, .f32⟩
  | 68 => ⟨S4096x2048, .f32⟩
  | 69 => ⟨S_, .f32⟩
  | 70 => ⟨S4096x2048, .f32⟩
  | 71 => ⟨S4096x2048, .f32⟩
  | 72 => ⟨S4096x2048, .f32⟩
  | 73 => ⟨S_, .f32⟩
  | 74 => ⟨S_, .f32⟩
  | 75 => ⟨S_, .f32⟩
  | 76 => ⟨S_, .f32⟩
  | 77 => ⟨S_, .f32⟩
  | 78 => ⟨S4096x2048, .f32⟩
  | 79 => ⟨S4096x2048, .f32⟩
  | 80 => ⟨S4096x2048, .f32⟩
  | 81 => ⟨S4096x2048, .f32⟩
  | 82 => ⟨S4096x2048, .f32⟩
  | 83 => ⟨S4096x1024, .f32⟩
  | 84 => ⟨S4096x1024, .f32⟩
  | 85 => ⟨S_, .f32⟩
  | 86 => ⟨S1024, .f32⟩
  | 87 => ⟨S1x1024, .f32⟩
  | 88 => ⟨S4096x1024, .f32⟩
  | 89 => ⟨S4096x1024, .f32⟩
  | 90 => ⟨S4096x1024, .f32⟩
  | 91 => ⟨S_, .f32⟩
  | 92 => ⟨S4096, .f32⟩
  | 93 => ⟨S4096x1, .f32⟩
  | 94 => ⟨S4096x1024, .f32⟩
  | 95 => ⟨S4096x1024, .f32⟩
  | 96 => ⟨S4096x1, .f32⟩
  | 97 => ⟨S_, .f32⟩
  | 98 => ⟨S4096x1, .f32⟩
  | 99 => ⟨S4096x1, .f32⟩
  | 100 => ⟨S_, .f32⟩
  | 101 => ⟨S4096, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x2048, .bf16⟩
  | 109 => ⟨S8x128x1, .f32⟩
  | 110 => ⟨S8x128x128, .f32⟩
  | 111 => ⟨S_, .i32⟩
  | 112 => ⟨S_, .f32⟩
  | 113 => ⟨S8x1024, .f32⟩
  | 114 => ⟨S_, .i32⟩
  | 115 => ⟨S_, .f32⟩
  | 116 => ⟨S8x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_v6 : Ref sig .tc := ⟨.hbm, 37, rfl⟩
abbrev main_call0_v7 : Ref sig .tc := ⟨.hbm, 38, rfl⟩
abbrev main_call0_v8 : Ref sig .tc := ⟨.hbm, 39, rfl⟩
abbrev main_call0_c : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_0 : Ref sig .tc := ⟨.hbm, 44, rfl⟩
abbrev main_call0_v12 : Ref sig .tc := ⟨.hbm, 45, rfl⟩
abbrev main_call0_v13 : Ref sig .tc := ⟨.hbm, 46, rfl⟩
abbrev main_v18 : Ref sig .tc := ⟨.hbm, 47, rfl⟩
abbrev main_v19 : Ref sig .tc := ⟨.hbm, 48, rfl⟩
abbrev main_c_3 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_c : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_0 : Ref sig .tc := ⟨.hbm, 63, rfl⟩
abbrev main_call1_v12 : Ref sig .tc := ⟨.hbm, 64, rfl⟩
abbrev main_call1_v13 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_c_4 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v25 : Ref sig .tc := ⟨.hbm, 75, rfl⟩
abbrev main_cst_5 : Ref sig .tc := ⟨.hbm, 76, rfl⟩
abbrev main_v26 : Ref sig .tc := ⟨.hbm, 77, rfl⟩
abbrev main_v27 : Ref sig .tc := ⟨.hbm, 78, rfl⟩
abbrev main_cst_6 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_7 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_cst_8 : Ref sig .tc := ⟨.hbm, 90, rfl⟩
abbrev main_v37 : Ref sig .tc := ⟨.hbm, 91, rfl⟩
abbrev main_v38 : Ref sig .tc := ⟨.hbm, 92, rfl⟩
abbrev main_cst_9 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_cst_10 : Ref sig .tc := ⟨.hbm, 99, rfl⟩
abbrev main_v44 : Ref sig .tc := ⟨.hbm, 100, rfl⟩
abbrev main_v45 : Ref sig .tc := ⟨.hbm, 101, rfl⟩
abbrev main_cst_11 : Ref sig .tc := ⟨.hbm, 102, rfl⟩
abbrev main_v46 : Ref sig .tc := ⟨.hbm, 103, rfl⟩
abbrev main_v47 : Ref sig .tc := ⟨.hbm, 104, rfl⟩
abbrev main_cst_12 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_cst_13 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_cst_14 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_cst_15 : Ref sig .tc := ⟨.hbm, 136, rfl⟩
abbrev main_v76 : Ref sig .tc := ⟨.hbm, 137, rfl⟩
abbrev main_v77 : Ref sig .tc := ⟨.hbm, 138, rfl⟩
abbrev main_cst_16 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_cst_17 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_cst_18 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_cst_19 : Ref sig .tc := ⟨.hbm, 161, rfl⟩
abbrev main_v97 : Ref sig .tc := ⟨.hbm, 162, rfl⟩
abbrev main_v98 : Ref sig .tc := ⟨.hbm, 163, rfl⟩
abbrev main_cst_20 : Ref sig .tc := ⟨.hbm, 164, rfl⟩
abbrev main_v99 : Ref sig .tc := ⟨.hbm, 165, rfl⟩
abbrev main_v100 : Ref sig .tc := ⟨.hbm, 166, rfl⟩
abbrev main_cst_21 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_cst_22 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_cst_23 : Ref sig .tc := ⟨.hbm, 177, rfl⟩
abbrev main_v109 : Ref sig .tc := ⟨.hbm, 178, rfl⟩
abbrev main_v110 : Ref sig .tc := ⟨.hbm, 179, rfl⟩
abbrev main_cst_24 : Ref sig .tc := ⟨.hbm, 180, rfl⟩
abbrev main_v111 : Ref sig .tc := ⟨.hbm, 181, rfl⟩
abbrev main_v112 : Ref sig .tc := ⟨.hbm, 182, rfl⟩
abbrev main_v113 : Ref sig .tc := ⟨.hbm, 183, rfl⟩
abbrev main_v114 : Ref sig .tc := ⟨.hbm, 184, rfl⟩
abbrev main_cst_25 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_cst_26 : Ref sig .tc := ⟨.hbm, 190, rfl⟩
abbrev main_v119 : Ref sig .tc := ⟨.hbm, 191, rfl⟩
abbrev main_v120 : Ref sig .tc := ⟨.hbm, 192, rfl⟩
abbrev main_cst_27 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_28 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_cst_29 : Ref sig .tc := ⟨.hbm, 201, rfl⟩
abbrev main_v127 : Ref sig .tc := ⟨.hbm, 202, rfl⟩
abbrev main_cst_30 : Ref sig .tc := ⟨.hbm, 203, rfl⟩
abbrev main_v128 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_cst_31 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_32 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_cst_33 : Ref sig .tc := ⟨.hbm, 225, rfl⟩
abbrev main_v147 : Ref sig .tc := ⟨.hbm, 226, rfl⟩
abbrev main_v148 : Ref sig .tc := ⟨.hbm, 227, rfl⟩
abbrev main_cst_34 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_c_35 : Ref sig .tc := ⟨.hbm, 239, rfl⟩
abbrev main_call3_v0 : Ref sig .tc := ⟨.hbm, 240, rfl⟩
abbrev main_v159 : Ref sig .tc := ⟨.hbm, 241, rfl⟩
abbrev main_c_36 : Ref sig .tc := ⟨.hbm, 242, rfl⟩
abbrev main_call4_v0 : Ref sig .tc := ⟨.hbm, 243, rfl⟩
abbrev main_v160 : Ref sig .tc := ⟨.hbm, 244, rfl⟩

abbrev nD : Nat := 1
abbrev τ : Topo := Topo.v7x

variable {F : FTy → Type} [FloatOps F]
-- ==== Kernel2.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S8x1024 : Shape := ⟨2, ![8, 1024]⟩
abbrev S256x1024 : Shape := ⟨2, ![256, 1024]⟩
abbrev S256x2816 : Shape := ⟨2, ![256, 2816]⟩
abbrev S1024x1024 : Shape := ⟨2, ![1024, 1024]⟩
abbrev S768x1024 : Shape := ⟨2, ![768, 1024]⟩
abbrev S256x768 : Shape := ⟨2, ![256, 768]⟩
abbrev S256 : Shape := ⟨1, ![256]⟩
abbrev S256x1 : Shape := ⟨2, ![256, 1]⟩
abbrev S1024 : Shape := ⟨1, ![1024]⟩

abbrev nBuf : Space → Nat
  | .hbm => 52
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .bf16⟩
  | .hbm, ⟨42, _⟩ => ⟨S4096x2816, .bf16⟩
  | .hbm, ⟨43, _⟩ => ⟨S2816x1024, .f32⟩
  | .hbm, ⟨44, _⟩ => ⟨S2816x1024, .bf16⟩
  | .hbm, ⟨45, _⟩ => ⟨S2816x1024, .f32⟩
  | .hbm, ⟨46, _⟩ => ⟨S2816x1024, .bf16⟩
  | .hbm, ⟨47, _⟩ => ⟨S2816x1024, .bf16⟩
  | .hbm, ⟨48, _⟩ => ⟨S4096x1024, .f32⟩
  | .hbm, ⟨49, _⟩ => ⟨S4096x2816, .bf16⟩
  | .hbm, ⟨50, _⟩ => ⟨S4096x2816, .bf16⟩
  | .hbm, ⟨51, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35_0 : Ref sig .tc := ⟨.hbm, 48, rfl⟩
abbrev main_v35_1 : Ref sig .tc := ⟨.hbm, 49, rfl⟩
abbrev main_v35_2 : Ref sig .tc := ⟨.hbm, 50, rfl⟩
abbrev main_v35_3 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference2Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S8x1024 : Shape := ⟨2, ![8, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x2816, .bf16⟩
  | .hbm, ⟨77, _⟩ => ⟨S4096x2816, .bf16⟩
  | .hbm, ⟨78, _⟩ => ⟨S_, .i32⟩
  | .hbm, ⟨79, _⟩ => ⟨S_, .f32⟩
  | .hbm, ⟨80, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_c : Ref sig .tc := ⟨.hbm, 78, rfl⟩
abbrev main_call0_v0 : Ref sig .tc := ⟨.hbm, 79, rfl⟩
abbrev main_v61 : Ref sig .tc := ⟨.hbm, 80, rfl⟩

abbrev nD : Nat := 1
abbrev τ : Topo := Topo.v7x

variable {F : FTy → Type} [FloatOps F]
-- ==== Kernel3.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S768x1024 : Shape := ⟨2, ![768, 1024]⟩
abbrev S512x768 : Shape := ⟨2, ![512, 768]⟩
abbrev S512x512 : Shape := ⟨2, ![512, 512]⟩

abbrev nBuf : Space → Nat
  | .hbm => 15
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S4096x1024, .bf16⟩
  | .hbm, ⟨11, _⟩ => ⟨S4096x2816, .bf16⟩
  | .hbm, ⟨12, _⟩ => ⟨S4096x2816, .bf16⟩
  | .hbm, ⟨13, _⟩ => ⟨S4096x2816, .bf16⟩
  | .hbm, ⟨14, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .bf16⟩
  | .local _ .vmem, ⟨7, _⟩ => ⟨S512x1024, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x1024, .f32⟩
  | .local _ .vmem, ⟨15, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S_, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .bf16⟩
  | .hbm, ⟨56, _⟩ => ⟨S4096x2816, .bf16⟩
  | .hbm, ⟨57, _⟩ => ⟨S4096x2816, .f32⟩
  | .hbm, ⟨58, _⟩ => ⟨S4096x2816, .bf16⟩
  | .hbm, ⟨59, _⟩ => ⟨S4096x2816, .f32⟩
  | .hbm, ⟨60, _⟩ => ⟨S4096x2816, .f32⟩
  | .hbm, ⟨61, _⟩ => ⟨S_, .f32⟩
  | .hbm, ⟨62, _⟩ => ⟨S4096x2816, .f32⟩
  | .hbm, ⟨63, _⟩ => ⟨S4096x2816, .f32⟩
  | .hbm, ⟨64, _⟩ => ⟨S_, .f32⟩
  | .hbm, ⟨65, _⟩ => ⟨S4096x2816, .f32⟩
  | .hbm, ⟨66, _⟩ => ⟨S4096x2816, .f32⟩
  | .hbm, ⟨67, _⟩ => ⟨S4096x2816, .f32⟩
  | .hbm, ⟨68, _⟩ => ⟨S4096x2816, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_8 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S4096x2816 : Shape := ⟨2, ![4096, 2816]⟩
abbrev S_ : Shape := ⟨0, ![]⟩
abbrev S4096 : Shape := ⟨1, ![4096]⟩
abbrev S4096x1 : Shape := ⟨2, ![4096, 1]⟩
abbrev S1x4096x2816 : Shape := ⟨3, ![1, 4096, 2816]⟩
abbrev S1x4096x1024 : Shape := ⟨3, ![1, 4096, 1024]⟩
abbrev S1x2816x1024 : Shape := ⟨3, ![1, 2816, 1024]⟩
abbrev S1x4096x1408 : Shape := ⟨3, ![1, 4096, 1408]⟩
abbrev S1x1408x1024 : Shape := ⟨3, ![1, 1408, 1024]⟩
abbrev S4096x1408 : Shape := ⟨2, ![4096, 1408]⟩
abbrev S1408x1024 : Shape := ⟨2, ![1408, 1024]⟩

abbrev nBuf : Space → Nat
  | .hbm => 22
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2816, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1x4096x2816, .bf16⟩
  | .hbm, ⟨20, _⟩ => ⟨S1x4096x1024, .bf16⟩
  | .hbm, ⟨21, _⟩ => ⟨S1x2816x1024, .bf16⟩
  | .local _ .vmem, ⟨0, _⟩ => ⟨S1x4096x1408, .bf16⟩
  | .local _ .vmem, ⟨1, _⟩ => ⟨S1x4096x1408, .bf16⟩
  | .local _ .vmem, ⟨2, _⟩ => ⟨S1x4096x1024, .bf16⟩
  | .local _ .vmem, ⟨3, _⟩ => ⟨S1x1408x1024, .bf16⟩
  | .local _ .vmem, ⟨4, _⟩ => ⟨S1x1408x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c0_i32_12 : BitVec 32 := 0#32
  let c0_i32_13 : BitVec 32 := 0#32
  let c0_i32_14 : BitVec 32 := 0#32
  ![c0_i32_12.toNat, c0_i32_13.toNat, v33.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![c0_i32_5.toNat, v16.toNat, c0_i32_6.toNat]

abbrev stage0_0 : Fin 2 → Memref sig .tc .vmem S1x4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4096x1024 : Shape := ⟨2, ![4096, 1024]⟩
abbrev S1x1024 : Shape := ⟨2, ![1, 1024]⟩
abbrev S4096x2816 : Shape := ⟨2, ![4096, 2816]⟩
abbrev S_ : Shape := ⟨0, ![]⟩
abbrev S1024x2816 : Shape := ⟨2, ![1024, 2816]⟩
abbrev S4096 : Shape := ⟨1, ![4096]⟩
abbrev S4096x1 : Shape := ⟨2, ![4096, 1]⟩
abbrev S2816x1024 : Shape := ⟨2, ![2816, 1024]⟩
abbrev S1x2816x1024 : Shape := ⟨3, ![1, 2816, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2816, .bf16⟩
  | .hbm, ⟨3, _⟩ => ⟨S_, .f32⟩
  | .hbm, ⟨4, _⟩ => ⟨S1024x2816, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S2816x1024, .f32⟩
  | .hbm, ⟨23, _⟩ => ⟨S1024x2816, .f32⟩
  | .hbm, ⟨24, _⟩ => ⟨S2816x1024, .f32⟩
  | .hbm, ⟨25, _⟩ => ⟨S2816x1024, .bf16⟩
  | .hbm, ⟨26, _⟩ => ⟨S1x2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1x4096x2816 : Shape := ⟨3, ![1, 4096, 2816]⟩
abbrev S1x4096x1024 : Shape := ⟨3, ![1, 4096, 1024]⟩
abbrev S1x2816x1024 : Shape := ⟨3, ![1, 2816, 1024]⟩
abbrev S1x4096x1408 : Shape := ⟨3, ![1, 4096, 1408]⟩
abbrev S1x4096x512 : Shape := ⟨3, ![1, 4096, 512]⟩
abbrev S1x1408x512 : Shape := ⟨3, ![1, 1408, 512]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 37
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .bf16⟩
  | .hbm, ⟨34, _⟩ => ⟨S1x4096x2816, .bf16⟩
  | .hbm, ⟨35, _⟩ => ⟨S1x4096x1024, .f32⟩
  | .hbm, ⟨36, _⟩ => ⟨S1x2816x1024, .bf16⟩
  | .local _ .vmem, ⟨0, _⟩ => ⟨S1x4096x1408, .bf16⟩
  | .local _ .vmem, ⟨1, _⟩ => ⟨S1x4096x1408, .bf16⟩
  | .local _ .vmem, ⟨2, _⟩ => ⟨S1x4096x512, .f32⟩
  | .local _ .vmem, ⟨3, _⟩ => ⟨S1x4096x512, .f32⟩
  | .local _ .vmem, ⟨4, _⟩ => ⟨S1x1408x512, .bf16⟩
  | .local _ .vmem, ⟨5, _⟩ => ⟨S1x1408x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let v17 : BitVec 32 := Scalar.divsi arg0 c2_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c2_i32_4 c0_i32_7
  let v24 : BitVec 32 := Scalar.extui v23
  let c0_i32_8 : BitVec 32 := 0#32
  let v25 : BitVec 1 := Scalar.cmpi .slt c2_i32_4 c0_i32_8
  let v26 : BitVec 32 := Scalar.extui v25
  let v27 : BitVec 32 := Scalar.subi v24 v26
  let v28 : BitVec 1 := Scalar.cmpi .ne v22 v27
  let v29 : BitVec 32 := Scalar.remsi arg0 c2_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c0_i32_11 : BitVec 32 := 0#32
  let c0_i32_12 : BitVec 32 := 0#32
  let c0_i32_13 : BitVec 32 := 0#32
  ![c0_i32_11.toNat, c0_i32_12.toNat, v33.toNat]

def cc0_transform_1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_6 : BitVec 32 := 0#32
  let v13 : BitVec 1 := Scalar.cmpi .ne v12 c0_i32_6
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let v17 : BitVec 1 := Scalar.andi v16 v13
  let v18 : BitVec 32 := Scalar.addi v12 v11
  let v19 : BitVec 32 := Scalar.select v17 v18 v12
  let c0_i32_9 : BitVec 32 := 0#32
  let c0_i32_10 : BitVec 32 := 0#32
  let c0_i32_11 : BitVec 32 := 0#32
  ![c0_i32_9.toNat, c0_i32_10.toNat, v19.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![c0_i32_10.toNat, v16.toNat, v26.toNat]

abbrev stage0_0 : Fin 2 → Memref sig .tc .vmem S1x4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1x2816x1024 : Shape := ⟨3, ![1, 2816, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S_, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x1024, .f32⟩
  | .hbm, ⟨34, _⟩ => ⟨S4096x1024, .f32⟩
  | .hbm, ⟨35, _⟩ => ⟨S1024x2816, .f32⟩
  | .hbm, ⟨36, _⟩ => ⟨S2816x1024, .f32⟩
  | .hbm, ⟨37, _⟩ => ⟨S2816x1024, .bf16⟩
  | .hbm, ⟨38, _⟩ => ⟨S1x2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel6.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1x4096x512 : Shape := ⟨3, ![1, 4096, 512]⟩
abbrev S1x512x1024 : Shape := ⟨3, ![1, 512, 1024]⟩
abbrev S4096x512 : Shape := ⟨2, ![4096, 512]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1x4096x1024, .bf16⟩
  | .hbm, ⟨3, _⟩ => ⟨S1x4096x1024, .f32⟩
  | .hbm, ⟨4, _⟩ => ⟨S1x1024x1024, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x1024, .f32⟩
  | .local _ .vmem, ⟨3, _⟩ => ⟨S1x512x1024, .bf16⟩
  | .local _ .vmem, ⟨4, _⟩ => ⟨S1x512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x1024 : Shape := ⟨2, ![4096, 1024]⟩
abbrev S_ : Shape := ⟨0, ![]⟩
abbrev S1024x1024 : Shape := ⟨2, ![1024, 1024]⟩
abbrev S1x1024x1024 : Shape := ⟨3, ![1, 1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | .hbm, ⟨9, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S1x1024 : Shape := ⟨2, ![1, 1024]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x4096x2048 : Shape := ⟨3, ![1, 4096, 2048]⟩
abbrev S1x4096x1024 : Shape := ⟨3, ![1, 4096, 1024]⟩
abbrev S4x1024x512 : Shape := ⟨3, ![4, 1024, 512]⟩
abbrev S1x4096x512 : Shape := ⟨3, ![1, 4096, 512]⟩
abbrev S1x1024x512 : Shape := ⟨3, ![1, 1024, 512]⟩
abbrev S4096x512 : Shape := ⟨2, ![4096, 512]⟩
abbrev S1024x512 : Shape := ⟨2, ![1024, 512]⟩

abbrev nBuf : Space → Nat
  | .hbm => 22
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2048, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1x4096x2048, .bf16⟩
  | .hbm, ⟨20, _⟩ => ⟨S1x4096x1024, .bf16⟩
  | .hbm, ⟨21, _⟩ => ⟨S4x1024x512, .bf16⟩
  | .local _ .vmem, ⟨0, _⟩ => ⟨S1x4096x1024, .bf16⟩
  | .local _ .vmem, ⟨1, _⟩ => ⟨S1x4096x512, .bf16⟩
  | .local _ .vmem, ⟨2, _⟩ => ⟨S1x4096x512, .bf16⟩
  | .local _ .vmem, ⟨3, _⟩ => ⟨S1x1024x512, .bf16⟩
  | .local _ .vmem, ⟨4, _⟩ => ⟨S1x1024x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x1024 : Shape := ⟨2, ![4096, 1024]⟩
abbrev S1x1024 : Shape := ⟨2, ![1, 1024]⟩
abbrev S4096x2048 : Shape := ⟨2, ![4096, 2048]⟩
abbrev S_ : Shape := ⟨0, ![]⟩
abbrev S1024x2048 : Shape := ⟨2, ![1024, 2048]⟩
abbrev S4096 : Shape := ⟨1, ![4096]⟩
abbrev S4096x1 : Shape := ⟨2, ![4096, 1]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x2048, .bf16⟩
  | .hbm, ⟨3, _⟩ => ⟨S_, .f32⟩
  | .hbm, ⟨4, _⟩ => ⟨S1024x2048, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x2048, .f32⟩
  | .hbm, ⟨21, _⟩ => ⟨S4096x2048, .f32⟩
  | .hbm, ⟨22, _⟩ => ⟨S2048x1024, .f32⟩
  | .hbm, ⟨23, _⟩ => ⟨S1024x2048, .f32⟩
  | .hbm, ⟨24, _⟩ => ⟨S1024x2048, .bf16⟩
  | .hbm, ⟨25, _⟩ => ⟨S1024x4x512, .bf16⟩
  | .hbm, ⟨26, _⟩ => ⟨S4x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S3x4096x1024 : Shape := ⟨3, ![3, 4096, 1024]⟩
abbrev S_ : Shape := ⟨0, ![]⟩
abbrev S4096 : Shape := ⟨1, ![4096]⟩
abbrev S4096x1 : Shape := ⟨2, ![4096, 1]⟩
abbrev S1x4096x1024 : Shape := ⟨3, ![1, 4096, 1024]⟩
abbrev S4x1024x768 : Shape := ⟨3, ![4, 1024, 768]⟩
abbrev S1x4096x256 : Shape := ⟨3, ![1, 4096, 256]⟩
abbrev S1x1024x256 : Shape := ⟨3, ![1, 1024, 256]⟩
abbrev S4096x256 : Shape := ⟨2, ![4096, 256]⟩
abbrev S1024x256 : Shape := ⟨2, ![1024, 256]⟩

abbrev nBuf : Space → Nat
  | .hbm => 21
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3x4096x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1x4096x1024, .bf16⟩
  | .hbm, ⟨20, _⟩ => ⟨S4x1024x768, .bf16⟩
  | .local _ .vmem, ⟨0, _⟩ => ⟨S1x4096x1024, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x1024x256, .bf16⟩
  | .local _ .vmem, ⟨4, _⟩ => ⟨S1x1024x256, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32_10 : BitVec 32 := 4#32
  let v27 : BitVec 32 := Scalar.divsi arg0 c4_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c4_i32_10 c0_i32_13
  let v34 : BitVec 32 := Scalar.extui v33
  let c0_i32_14 : BitVec 32 := 0#32
  let v35 : BitVec 1 := Scalar.cmpi .slt c4_i32_10 c0_i32_14
  let v36 : BitVec 32 := Scalar.extui v35
  let v37 : BitVec 32 := Scalar.subi v34 v36
  let v38 : BitVec 1 := Scalar.cmpi .ne v32 v37
  let v39 : BitVec 32 := Scalar.remsi arg0 c4_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c4_i32_17 : BitVec 32 := 4#32
  let c0_i32_18 : BitVec 32 := 0#32
  let v44 : BitVec 1 := Scalar.cmpi .eq c4_i32_17 c0_i32_18
  let c1_i32_19 : BitVec 32 := 1#32
  let v45 : BitVec 32 := Scalar.select v44 c1_i32_19 c4_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  ![v16.toNat, c0_i32_23.toNat, v53.toNat]

def cc0_transform_2 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S1x4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x1024 : Shape := ⟨2, ![4096, 1024]⟩
abbrev S1x1024 : Shape := ⟨2, ![1, 1024]⟩
abbrev S3x4096x1024 : Shape := ⟨3, ![3, 4096, 1024]⟩
abbrev S_ : Shape := ⟨0, ![]⟩
abbrev S1024x3072 : Shape := ⟨2, ![1024, 3072]⟩
abbrev S4096 : Shape := ⟨1, ![4096]⟩
abbrev S4096x1 : Shape := ⟨2, ![4096, 1]⟩
abbrev S4096x3072 : Shape := ⟨2, ![4096, 3072]⟩
abbrev S4096x3x1024 : Shape := ⟨3, ![4096, 3, 1024]⟩
abbrev S3072x1024 : Shape := ⟨2, ![3072, 1024]⟩
abbrev S1024x4x768 : Shape := ⟨3, ![1024, 4, 768]⟩
abbrev S4x1024x768 : Shape := ⟨3, ![4, 1024, 768]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3x4096x1024, .bf16⟩
  | .hbm, ⟨3, _⟩ => ⟨S_, .f32⟩
  | .hbm, ⟨4, _⟩ => ⟨S1024x3072, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x3072, .f32⟩
  | .hbm, ⟨21, _⟩ => ⟨S4096x3x1024, .f32⟩
  | .hbm, ⟨22, _⟩ => ⟨S3x4096x1024, .f32⟩
  | .hbm, ⟨23, _⟩ => ⟨S3x4096x1024, .f32⟩
  | .hbm, ⟨24, _⟩ => ⟨S4096x3x1024, .f32⟩
  | .hbm, ⟨25, _⟩ => ⟨S4096x3072, .f32⟩
  | .hbm, ⟨26, _⟩ => ⟨S3072x1024, .f32⟩
  | .hbm, ⟨27, _⟩ => ⟨S1024x3072, .f32⟩
  | .hbm, ⟨28, _⟩ => ⟨S1024x3072, .bf16⟩
  | .hbm, ⟨29, _⟩ => ⟨S1024x4x768, .bf16⟩
  | .hbm, ⟨30, _⟩ => ⟨S4x1024x768, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1x4096x1024 : Shape := ⟨3, ![1, 4096, 1024]⟩
abbrev S1x1024x1024 : Shape := ⟨3, ![1, 1024, 1024]⟩
abbrev S1x4096x512 : Shape := ⟨3, ![1, 4096, 512]⟩
abbrev S1x512x1024 : Shape := ⟨3, ![1, 512, 1024]⟩
abbrev S4096x512 : Shape := ⟨2, ![4096, 512]⟩
abbrev S512x1024 : Shape := ⟨2, ![512, 1024]⟩

abbrev nBuf : Space → Nat
  | .hbm => 22
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S1x4096x1024, .bf16⟩
  | .hbm, ⟨20, _⟩ => ⟨S1x4096x1024, .bf16⟩
  | .hbm, ⟨21, _⟩ => ⟨S1x1024x1024, .bf16⟩
  | .local _ .vmem, ⟨0, _⟩ => ⟨S1x4096x512, .bf16⟩
  | .local _ .vmem, ⟨1, _⟩ => ⟨S1x4096x512, .bf16⟩
  | .local _ .vmem, ⟨2, _⟩ => ⟨S1x4096x1024, .bf16⟩
  | .local _ .vmem, ⟨3, _⟩ => ⟨S1x512x1024, .bf16⟩
  | .local _ .vmem, ⟨4, _⟩ => ⟨S1x512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S4096x1024 : Shape := ⟨2, ![4096, 1024]⟩
abbrev S1x1024 : Shape := ⟨2, ![1, 1024]⟩
abbrev S_ : Shape := ⟨0, ![]⟩
abbrev S1024x1024 : Shape := ⟨2, ![1024, 1024]⟩
abbrev S4096 : Shape := ⟨1, ![4096]⟩
abbrev S4096x1 : Shape := ⟨2, ![4096, 1]⟩
abbrev S1x1024x1024 : Shape := ⟨3, ![1, 1024, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1024x1024, .f32⟩
  | .hbm, ⟨23, _⟩ => ⟨S1024x1024, .f32⟩
  | .hbm, ⟨24, _⟩ => ⟨S1024x1024, .bf16⟩
  | .hbm, ⟨25, _⟩ => ⟨S1x1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel10.lean ====
abbrev S4096x1024 : Shape := ⟨2, ![4096, 1024]⟩
abbrev S1x4096x1024 : Shape := ⟨3, ![1, 4096, 1024]⟩
abbrev S4x256x256 : Shape := ⟨3, ![4, 256, 256]⟩
abbrev S1x4096x256 : Shape := ⟨3, ![1, 4096, 256]⟩
abbrev S1x256x256 : Shape := ⟨3, ![1, 256, 256]⟩
abbrev S4096x256 : Shape := ⟨2, ![4096, 256]⟩
abbrev S256x256 : Shape := ⟨2, ![256, 256]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x4096x1024, .bf16⟩
  | .hbm, ⟨3, _⟩ => ⟨S1x4096x1024, .bf16⟩
  | .hbm, ⟨4, _⟩ => ⟨S4x256x256, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x256x256, .bf16⟩
  | .local _ .vmem, ⟨5, _⟩ => ⟨S1x256x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S4096x1024 : Shape := ⟨2, ![4096, 1024]⟩
abbrev S_ : Shape := ⟨0, ![]⟩
abbrev S4x256x256 : Shape := ⟨3, ![4, 256, 256]⟩
abbrev S4096x4x256 : Shape := ⟨3, ![4096, 4, 256]⟩
abbrev S4x256x4096 : Shape := ⟨3, ![4, 256, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S4x256x256, .f32⟩
  | .hbm, ⟨4, _⟩ => ⟨S4096x1024, .f32⟩
  | .hbm, ⟨5, _⟩ => ⟨S4096x4x256, .f32⟩
  | .hbm, ⟨6, _⟩ => ⟨S4x256x4096, .f32⟩
  | .hbm, ⟨7, _⟩ => ⟨S4096x4x256, .f32⟩
  | .hbm, ⟨8, _⟩ => ⟨S4096x1024, .f32⟩
  | .hbm, ⟨9, _⟩ => ⟨S4096x1024, .f32⟩
  | .hbm, ⟨10, _⟩ => ⟨S4096x4x256, .f32⟩
  | .hbm, ⟨11, _⟩ => ⟨S4x256x4096, .f32⟩
  | .hbm, ⟨12, _⟩ => ⟨S4x256x256, .f32⟩
  | .hbm, ⟨13, _⟩ => ⟨S4x256x256, .f32⟩
  | .hbm, ⟨14, _⟩ => ⟨S4x256x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .bf16⟩
  | .hbm, ⟨3, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S1024x1024, .bf16⟩
  | .hbm, ⟨4, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .f32⟩
  | .hbm, ⟨3, _⟩ => ⟨S4096x1024, .f32⟩
  | .hbm, ⟨4, _⟩ => ⟨S4096x1024, .f32⟩
  | .hbm, ⟨5, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S4096x1024 : Shape := ⟨2, ![4096, 1024]⟩
abbrev S1x1024 : Shape := ⟨2, ![1, 1024]⟩
abbrev S1024x3072 : Shape := ⟨2, ![1024, 3072]⟩
abbrev S3x4096x1024 : Shape := ⟨3, ![3, 4096, 1024]⟩
abbrev S1024x4x768 : Shape := ⟨3, ![1024, 4, 768]⟩
abbrev S4x1024x768 : Shape := ⟨3, ![4, 1024, 768]⟩
abbrev S8x1024 : Shape := ⟨2, ![8, 1024]⟩
abbrev S3x512x1024 : Shape := ⟨3, ![3, 512, 1024]⟩
abbrev S512x1024 : Shape := ⟨2, ![512, 1024]⟩
abbrev S1x512x256 : Shape := ⟨3, ![1, 512, 256]⟩
abbrev S512x256 : Shape := ⟨2, ![512, 256]⟩
abbrev S1x1024x256 : Shape := ⟨3, ![1, 1024, 256]⟩
abbrev S1024x256 : Shape := ⟨2, ![1024, 256]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .f32⟩
  | .hbm, ⟨3, _⟩ => ⟨S3x4096x1024, .bf16⟩
  | .hbm, ⟨4, _⟩ => ⟨S4096x1024, .f32⟩
  | .hbm, ⟨5, _⟩ => ⟨S1024x4x768, .f32⟩
  | .hbm, ⟨6, _⟩ => ⟨S4x1024x768, .f32⟩
  | .hbm, ⟨7, _⟩ => ⟨S4x1024x768, .bf16⟩
  | .hbm, ⟨8, _⟩ => ⟨S4096x1024, .f32⟩
  | .hbm, ⟨9, _⟩ => ⟨S8x1024, .f32⟩
  | .local _ .vmem, ⟨0, _⟩ => ⟨S3x512x1024, .bf16⟩
  | .local _ .vmem, ⟨1, _⟩ => ⟨S3x512x1024, .bf16⟩
  | .local _ .vmem, ⟨2, _⟩ => ⟨S4x1024x768, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S3x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference13Ideal.lean ====
abbrev S4096x1024 : Shape := ⟨2, ![4096, 1024]⟩
abbrev S1x1024 : Shape := ⟨2, ![1, 1024]⟩
abbrev S1024x3072 : Shape := ⟨2, ![1024, 3072]⟩
abbrev S3x4096x1024 : Shape := ⟨3, ![3, 4096, 1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩
abbrev S4096x3x1024 : Shape := ⟨3, ![4096, 3, 1024]⟩
abbrev S1024 : Shape := ⟨1, ![1024]⟩
abbrev S8x1024 : Shape := ⟨2, ![8, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .f32⟩
  | .hbm, ⟨3, _⟩ => ⟨S3x4096x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x3072, .f32⟩
  | .hbm, ⟨25, _⟩ => ⟨S4096x3x1024, .f32⟩
  | .hbm, ⟨26, _⟩ => ⟨S3x4096x1024, .f32⟩
  | .hbm, ⟨27, _⟩ => ⟨S3x4096x1024, .f32⟩
  | .hbm, ⟨28, _⟩ => ⟨S4096x3x1024, .f32⟩
  | .hbm, ⟨29, _⟩ => ⟨S4096x3072, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .i32⟩
  | .hbm, ⟨56, _⟩ => ⟨S_, .f32⟩
  | .hbm, ⟨57, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c : Ref sig .tc := ⟨.hbm, 55, rfl⟩
abbrev main_call0_v0 : Ref sig .tc := ⟨.hbm, 56, rfl⟩
abbrev main_v42 : Ref sig .tc := ⟨.hbm, 57, rfl⟩

abbrev nD : Nat := 1
abbrev τ : Topo := Topo.v7x

variable {F : FTy → Type} [FloatOps F]
-- ==== Kernel14.lean ====
abbrev S4096x1024 : Shape := ⟨2, ![4096, 1024]⟩
abbrev S1x1024 : Shape := ⟨2, ![1, 1024]⟩
abbrev S1024x1024 : Shape := ⟨2, ![1024, 1024]⟩
abbrev S1x4096x1024 : Shape := ⟨3, ![1, 4096, 1024]⟩
abbrev S1x1024x1024 : Shape := ⟨3, ![1, 1024, 1024]⟩
abbrev S8x1024 : Shape := ⟨2, ![8, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S4096x1024, .bf16⟩
  | .hbm, ⟨4, _⟩ => ⟨S4096x1024, .f32⟩
  | .hbm, ⟨5, _⟩ => ⟨S1x4096x1024, .bf16⟩
  | .hbm, ⟨6, _⟩ => ⟨S1024x1024, .bf16⟩
  | .hbm, ⟨7, _⟩ => ⟨S1x1024x1024, .bf16⟩
  | .hbm, ⟨8, _⟩ => ⟨S4096x1024, .f32⟩
  | .hbm, ⟨9, _⟩ => ⟨S8x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S4096x1024 : Shape := ⟨2, ![4096, 1024]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .f32⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .i32⟩
  | .hbm, ⟨52, _⟩ => ⟨S_, .f32⟩
  | .hbm, ⟨53, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c : Ref sig .tc := ⟨.hbm, 51, rfl⟩
abbrev main_call0_v0 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Proof.Same.lean ====
/-
  Functions of several arguments at equal arguments.
-/
module

public import Mathlib.Logic.Basic

@[expose] public section

namespace Gating

/-! One function of several arguments takes one value at equal arguments. -/

theorem same3 {A0 A1 A2 R : Type} (f : A0 → A1 → A2 → R) {x0 y0 : A0} {x1 y1 : A1} {x2 y2 : A2}
    (h0 : x0 = y0) (h1 : x1 = y1) (h2 : x2 = y2) :
    f x0 x1 x2 = f y0 y1 y2 := by
  subst h0 h1 h2
  rfl

theorem same4 {A0 A1 A2 A3 R : Type} (f : A0 → A1 → A2 → A3 → R) {x0 y0 : A0} {x1 y1 : A1} {x2 y2 : A2} {x3 y3 : A3}
    (h0 : x0 = y0) (h1 : x1 = y1) (h2 : x2 = y2) (h3 : x3 = y3) :
    f x0 x1 x2 x3 = f y0 y1 y2 y3 := by
  subst h0 h1 h2 h3
  rfl

theorem same5 {A0 A1 A2 A3 A4 R : Type} (f : A0 → A1 → A2 → A3 → A4 → R) {x0 y0 : A0} {x1 y1 : A1} {x2 y2 : A2} {x3 y3 : A3} {x4 y4 : A4}
    (h0 : x0 = y0) (h1 : x1 = y1) (h2 : x2 = y2) (h3 : x3 = y3) (h4 : x4 = y4) :
    f x0 x1 x2 x3 x4 = f y0 y1 y2 y3 y4 := by
  subst h0 h1 h2 h3 h4
  rfl

theorem same6 {A0 A1 A2 A3 A4 A5 R : Type} (f : A0 → A1 → A2 → A3 → A4 → A5 → R) {x0 y0 : A0} {x1 y1 : A1} {x2 y2 : A2} {x3 y3 : A3} {x4 y4 : A4} {x5 y5 : A5}
    (h0 : x0 = y0) (h1 : x1 = y1) (h2 : x2 = y2) (h3 : x3 = y3) (h4 : x4 = y4) (h5 : x5 = y5) :
    f x0 x1 x2 x3 x4 x5 = f y0 y1 y2 y3 y4 y5 := by
  subst h0 h1 h2 h3 h4 h5
  rfl

theorem same8 {A0 A1 A2 A3 A4 A5 A6 A7 R : Type} (f : A0 → A1 → A2 → A3 → A4 → A5 → A6 → A7 → R) {x0 y0 : A0} {x1 y1 : A1} {x2 y2 : A2} {x3 y3 : A3} {x4 y4 : A4} {x5 y5 : A5} {x6 y6 : A6} {x7 y7 : A7}
    (h0 : x0 = y0) (h1 : x1 = y1) (h2 : x2 = y2) (h3 : x3 = y3) (h4 : x4 = y4) (h5 : x5 = y5) (h6 : x6 = y6) (h7 : x7 = y7) :
    f x0 x1 x2 x3 x4 x5 x6 x7 = f y0 y1 y2 y3 y4 y5 y6 y7 := by
  subst h0 h1 h2 h3 h4 h5 h6 h7
  rfl

end Gating
-- ==== Proof.Formulas.lean ====
/-
  The formulas both programs are compared with, on plain functions of `Fin` indices with extended-real values.

  The backward pass of the spatial-gating mixer is local to a block of 128 consecutive rows, except for four sums
  over all rows (the gradients of the spatial weights, the biases and the two gains). `Rows` holds what one such
  block reads, `Weights` the parameters; the definitions below follow the mathematics of the mixer backwards.
-/
module

public import Idealize.ShloMosaic.PureOps.Ideal.Laws

@[expose] public section

noncomputable section

namespace Gating

open Idealize.ShloMosaic

/-- The parameters of the mixer: the gains of the two norms, the masked spatial weights and their biases, and the
    two projections. -/
structure Weights where
  g : Fin 1024 → EReal
  gv : Fin 1024 → EReal
  wm : Fin 8 → Fin 128 → Fin 128 → EReal
  bs : Fin 8 → Fin 128 → EReal
  wout : Fin 1024 → Fin 1024 → EReal
  win : Fin 1024 → Fin 2048 → EReal

/-- One block of 128 rows: the incoming gradient, the mixer's input, the saved projection and the saved gate. -/
structure Rows where
  ct : Fin 128 → Fin 1024 → EReal
  x : Fin 128 → Fin 1024 → EReal
  z : Fin 128 → Fin 2048 → EReal
  vn : Fin 128 → Fin 1024 → EReal

/-- The left half of a row of 2048. -/
def lo (j : Fin 1024) : Fin 2048 := ⟨j.val, by omega⟩
/-- The right half of a row of 2048. -/
def hi (j : Fin 1024) : Fin 2048 := ⟨1024 + j.val, by omega⟩
/-- The group of 128 channels a channel lies in. -/
def grp (j : Fin 1024) : Fin 8 := ⟨j.val / 128, by omega⟩
/-- Channel `c` of group `a`. -/
def chan (a : Fin 8) (c : Fin 128) : Fin 1024 := ⟨128 * a.val + c.val, by omega⟩

/-! ### Scalars -/

/-- The two norms' guard, the value of its float word. -/
def eps : EReal := Ideal.ofBits .f32 0x358637BD#32
def half : EReal := ((1 / 2 : ℝ) : EReal)
/-- 1/√2. -/
def invSqrt2 : EReal := (((Real.sqrt 2)⁻¹ : ℝ) : EReal)
/-- 1/√(2π). -/
def invSqrt2Pi : EReal := (((Real.sqrt (2 * Real.pi))⁻¹ : ℝ) : EReal)

/-- The mean of a row. -/
def mean (f : Fin 1024 → EReal) : EReal := Ideal.div (∑ j, f j) ((1024 : ℝ) : EReal)

/-- The Gaussian error linear unit … -/
def gelu (x : EReal) : EReal := half * x * (1 + Ideal.erf (x * invSqrt2))
/-- … and its derivative. -/
def geluD (x : EReal) : EReal :=
  half * (1 + Ideal.erf (x * invSqrt2)) + x * Ideal.exp (-half * x * x) * invSqrt2Pi

/-! ### The two norms of a row -/

/-- One over the root mean square of a row. -/
def rmsInv (x : Fin 1024 → EReal) : EReal := Ideal.rsqrt (mean (fun j => x j * x j) + eps)
/-- The row scaled to root mean square one. -/
def rmsHat (x : Fin 1024 → EReal) (j : Fin 1024) : EReal := x j * rmsInv x
/-- The gradient of the root-mean-square norm with respect to its row; `d` is the gradient of the scaled row. -/
def rmsGrad (x d : Fin 1024 → EReal) (j : Fin 1024) : EReal :=
  rmsInv x * (d j - rmsHat x j * mean (fun i => d i * rmsHat x i))

/-- A row less its mean. -/
def centred (v : Fin 1024 → EReal) (j : Fin 1024) : EReal := v j - mean v
/-- One over the standard deviation of a row. -/
def stdInv (v : Fin 1024 → EReal) : EReal := Ideal.rsqrt (mean (fun j => centred v j * centred v j) + eps)
/-- The row brought to mean zero and deviation one. -/
def normHat (v : Fin 1024 → EReal) (j : Fin 1024) : EReal := centred v j * stdInv v
/-- The gradient of that norm with respect to its row; `d` is the gradient of the normalised row. -/
def normGrad (v d : Fin 1024 → EReal) (j : Fin 1024) : EReal :=
  stdInv v * (d j - mean d - normHat v j * mean (fun i => d i * normHat v i))

/-! ### One block of 128 rows -/

variable (W : Weights) (B : Rows)

/-- The gradient of the gated product, before the output projection. -/
def dy (r : Fin 128) (k : Fin 1024) : EReal := ∑ q, B.ct r q * W.wout k q
/-- The ungated half. -/
def uu (r : Fin 128) (j : Fin 1024) : EReal := gelu (B.z r (lo j))
/-- The half that is normalised and mixed over the rows. -/
def vv (r : Fin 128) (j : Fin 1024) : EReal := gelu (B.z r (hi j))
/-- The mixed gate. -/
def sv (r : Fin 128) (j : Fin 1024) : EReal := (∑ q, W.wm (grp j) r q * B.vn q j) + W.bs (grp j) r
/-- The gradient of the ungated half. -/
def du (r : Fin 128) (j : Fin 1024) : EReal := dy W B r j * sv W B r j
/-- The gradient of the mixed gate. -/
def dsv (r : Fin 128) (j : Fin 1024) : EReal := dy W B r j * uu B r j
/-- The gradient of the normalised half. -/
def dvn (r : Fin 128) (j : Fin 1024) : EReal := ∑ q, W.wm (grp j) q r * dsv W B q j
/-- This block's share of the gradient of the spatial weights. -/
def dwm (a : Fin 8) (i q : Fin 128) : EReal := ∑ c, dsv W B i (chan a c) * B.vn q (chan a c)
/-- This block's share of the gradient of the biases. -/
def dbs (a : Fin 8) (i : Fin 128) : EReal := ∑ c, dsv W B i (chan a c)
/-- This block's share of the gradient of the norm's gain. -/
def dgv (j : Fin 1024) : EReal := ∑ r, dvn W B r j * normHat (vv B r) j
/-- The gradient of the half that is normalised. -/
def dv (r : Fin 128) (j : Fin 1024) : EReal := normGrad (vv B r) (fun i => dvn W B r i * W.gv i) j
/-- The gradient of the projection. -/
def dz (r : Fin 128) (j : Fin 2048) : EReal :=
  if h : j.val < 1024 then du W B r ⟨j.val, h⟩ * geluD (B.z r j)
  else dv W B r ⟨j.val - 1024, by omega⟩ * geluD (B.z r j)
/-- The gradient of the normalised input. -/
def dh (r : Fin 128) (k : Fin 1024) : EReal := ∑ j, dz W B r j * W.win k j
/-- The gradient handed on: the incoming one plus the mixer's own. -/
def dx (r : Fin 128) (j : Fin 1024) : EReal := B.ct r j + rmsGrad (B.x r) (fun i => dh W B r i * W.g i) j
/-- This block's share of the gradient of the input norm's gain. -/
def dg (j : Fin 1024) : EReal := ∑ r, dh W B r j * rmsHat (B.x r) j

end Gating
-- ==== Proof.FeedFormulas.lean ====
/-
  The feed-forward layer and its backward call, one row at a time, as formulas over the extended reals: the gradients
  of the two hidden products, of the layer's input, of the residual and of the norm's gain.
-/
module

public import proofs.«01_k».proof.Proof.Formulas

@[expose] public section

noncomputable section

namespace Feeding

open Idealize.ShloMosaic Gating

/-- The parameters: the norm's gain and the three projections, each with the 2816 hidden channels first. -/
structure Params where
  g : Fin 1024 → EReal
  wg : Fin 2816 → Fin 1024 → EReal
  wu : Fin 2816 → Fin 1024 → EReal
  wd : Fin 2816 → Fin 1024 → EReal

/-- One row: the incoming gradient, the layer's input and the saved derivatives of the hidden product. -/
structure Row where
  ct : Fin 1024 → EReal
  x : Fin 1024 → EReal
  fa : Fin 2816 → EReal
  fb : Fin 2816 → EReal

/-- The logistic function. -/
def logistic (a : EReal) : EReal := Ideal.div 1 (1 + Ideal.exp (-a))
/-- The gate's unit. -/
def unit (a : EReal) : EReal := a * logistic a
/-- The unit's derivative, with the logistic function taken out. -/
def slope (a : EReal) : EReal := logistic a * (1 + a * (1 - logistic a))

variable (L : Params) (R : Row)

/-- The gradient of the hidden product. -/
def ds (k : Fin 2816) : EReal := ∑ q, R.ct q * L.wd k q
/-- The gradient of the gated branch. -/
def da (k : Fin 2816) : EReal := ds L R k * R.fa k
/-- The gradient of the linear branch. -/
def db (k : Fin 2816) : EReal := ds L R k * R.fb k
/-- The gradient of the normed row, scaled by the gain. -/
def dh (j : Fin 1024) : EReal := (∑ k, da L R k * L.wg k j) + ∑ k, db L R k * L.wu k j
/-- The gradient handed on: the residual's and the norm's. -/
def dx (j : Fin 1024) : EReal := R.ct j + rmsGrad R.x (fun i => dh L R i * L.g i) j
/-- The row's share of the gain's gradient. -/
def dg (j : Fin 1024) : EReal := dh L R j * rmsHat R.x j

/-! ### The hidden channels in three runs -/

/-- Channel `q` of the run of `n` channels that starts at `o`. -/
def col (o n : ℕ) (h : o + n ≤ 2816) (q : Fin n) : Fin 2816 := ⟨o + q.val, by omega⟩

/-- A sum over the hidden channels, run by run. -/
theorem sum_runs (f : Fin 2816 → EReal) : ∑ k, f k
    = (∑ q, f (col 0 1024 (by decide) q)) + (∑ q, f (col 1024 1024 (by decide) q)) + ∑ q, f (col 2048 768 (by decide) q) := by
  refine (Fin.sum_univ_add (a := 2048) (b := 768) f).trans (congrArg₂ (· + ·) ?_ ?_)
  · refine (Fin.sum_univ_add (a := 1024) (b := 1024) fun i => f (Fin.castAdd 768 i)).trans (congrArg₂ (· + ·) ?_ ?_)
    · exact Finset.sum_congr rfl fun q _ => congrArg f (Fin.ext (by show q.val = 0 + q.val; omega))
    · rfl
  · rfl

/-- One run's part of the gradient of the normed row. -/
def part (o n : ℕ) (h : o + n ≤ 2816) (j : Fin 1024) : EReal :=
  (∑ q, da L R (col o n h q) * L.wg (col o n h q) j) + ∑ q, db L R (col o n h q) * L.wu (col o n h q) j

theorem dh_parts (j : Fin 1024) : part L R 0 1024 (by decide) j + part L R 1024 1024 (by decide) j
    + part L R 2048 768 (by decide) j = dh L R j := by
  unfold dh part
  rw [sum_runs (fun k => da L R k * L.wg k j), sum_runs (fun k => db L R k * L.wu k j),
    add_add_add_comm (∑ q, da L R (col 0 1024 _ q) * _) _ (∑ q, da L R (col 1024 1024 _ q) * _) _,
    add_add_add_comm (_ + _) (_ + _) (∑ q, da L R (col 2048 768 _ q) * _) _]

end Feeding
-- ==== Proof.Products.lean ====
/-
  The products the gradient call takes, read at an index at the ideal values: each is one sum over the contracted
  axis of the products of the entries.
-/
module

public import proofs.«01_k».proof.Proof.Gen.KernelIdeal.Skeleton
public import Idealize.ShloMosaic.Lib.ValueIdx
public import Idealize.ShloMosaic.Lib.Pipeline.Value
public import Idealize.ShloMosaic.PureOps.Ideal.Laws
public import proofs.«01_k».proof.Proof.Formulas

@[expose] public section

noncomputable section

namespace Gating

open Idealize.ShloMosaic Idealize.ShloMosaic.ValueIdx Cert.KernelIdeal Cert.KernelIdeal.Gen
open Idealize.ShloMosaic.Ideal (matmul_constant_zero_apply multiReduction_add_single)

variable {φ₁ φ₂ : FTy}

/-- Rows against rows: the incoming gradient against the output projection. -/
theorem prod_wout (a : FVec Ideal S512x1024 φ₁) (b : FVec Ideal S1024x1024 φ₂) (i : Fin 512) (j : Fin 1024) :
    matmul dot_S512x1024_S1024x1024_S512x1024_1_1_0_0_n_n none a b (constant S512x1024 .f32 0x00000000#32) (ix2 i j)
      = ∑ q : Fin 1024, a (ix2 i q) * b (ix2 j q) := by
  simp only [matmul]
  rw [matmul_constant_zero_apply, ← Equiv.sum_comp (contrEquiv1 dot_S512x1024_S1024x1024_S512x1024_1_1_0_0_n_n 1024 rfl rfl).symm]
  refine Finset.sum_congr rfl fun q _ => congrArg₂ (· * ·) (congrArg a ?_) (congrArg b ?_) <;>
    exact funext fun d => match d with | ⟨0, _⟩ => rfl | ⟨1, _⟩ => rfl

/-- Rows against rows: a quarter of the projection's gradient against a quarter of its weights. -/
theorem prod_win (a : FVec Ideal S512x512 φ₁) (b : FVec Ideal S1024x512 φ₂) (i : Fin 512) (j : Fin 1024) :
    matmul dot_S512x512_S1024x512_S512x1024_1_1_0_0_n_n none a b (constant S512x1024 .f32 0x00000000#32) (ix2 i j)
      = ∑ q : Fin 512, a (ix2 i q) * b (ix2 j q) := by
  simp only [matmul]
  rw [matmul_constant_zero_apply, ← Equiv.sum_comp (contrEquiv1 dot_S512x512_S1024x512_S512x1024_1_1_0_0_n_n 512 rfl rfl).symm]
  refine Finset.sum_congr rfl fun q _ => congrArg₂ (· * ·) (congrArg a ?_) (congrArg b ?_) <;>
    exact funext fun d => match d with | ⟨0, _⟩ => rfl | ⟨1, _⟩ => rfl

/-- Rows against columns, for a block of 128 by 128. -/
theorem prod_block (a b : FVec Ideal S128x128 φ₁) (i j : Fin 128) :
    matmul dot_S128x128_S128x128_S128x128_1_0_0_1_n_n none a b (constant S128x128 .f32 0x00000000#32) (ix2 i j)
      = ∑ q : Fin 128, a (ix2 i q) * b (ix2 q j) := by
  simp only [matmul]
  rw [matmul_constant_zero_apply, ← Equiv.sum_comp (contrEquiv1 dot_S128x128_S128x128_S128x128_1_0_0_1_n_n 128 rfl rfl).symm]
  refine Finset.sum_congr rfl fun q _ => congrArg₂ (· * ·) (congrArg a ?_) (congrArg b ?_) <;>
    exact funext fun d => match d with | ⟨0, _⟩ => rfl | ⟨1, _⟩ => rfl

/-- Rows against rows, for a block of 128 by 128. -/
theorem prod_block_nt (a b : FVec Ideal S128x128 φ₁) (i j : Fin 128) :
    matmul dot_S128x128_S128x128_S128x128_1_1_0_0_n_n none a b (constant S128x128 .f32 0x00000000#32) (ix2 i j)
      = ∑ q : Fin 128, a (ix2 i q) * b (ix2 j q) := by
  simp only [matmul]
  rw [matmul_constant_zero_apply, ← Equiv.sum_comp (contrEquiv1 dot_S128x128_S128x128_S128x128_1_1_0_0_n_n 128 rfl rfl).symm]
  refine Finset.sum_congr rfl fun q _ => congrArg₂ (· * ·) (congrArg a ?_) (congrArg b ?_) <;>
    exact funext fun d => match d with | ⟨0, _⟩ => rfl | ⟨1, _⟩ => rfl

/-! ### Sums of rows and columns -/

/-- The sum of a row, kept as a column. -/
theorem row_sum (f : FVec Ideal S512x1024 .f32) (i : Fin 512) (u : Fin 1) :
    shapeCast S512x1 (multiReduction .add [1] S512 f 0x00000000#32 reduces_S512x1024_S512 (.inl rfl) rfl) shapeCasts_S512_S512x1 (ix2 i u)
      = ∑ j : Fin 1024, f (ix2 i j) := by
  rw [shapeCast_apply _ _ (ix2 i u) (ix1 i) (by rw [Shape.rowMajor_val_one, Shape.rowMajor_val_two]; simp)]
  refine (multiReduction_add_single f _ _ _ _ _).trans ?_
  refine Finset.sum_congr rfl fun j _ => congrArg f ?_
  exact funext fun d => match d with | ⟨0, _⟩ => rfl | ⟨1, _⟩ => rfl

/-- The sum of a column, kept as a row. -/
theorem col_sum (f : FVec Ideal S512x1024 .f32) (u : Fin 1) (j : Fin 1024) :
    shapeCast S1x1024 (multiReduction .add [0] S1024 f 0x00000000#32 reduces_S512x1024_S1024 (.inl rfl) rfl) shapeCasts_S1024_S1x1024 (ix2 u j)
      = ∑ i : Fin 512, f (ix2 i j) := by
  rw [shapeCast_apply _ _ (ix2 u j) (ix1 j) (by rw [Shape.rowMajor_val_one, Shape.rowMajor_val_two]; simp)]
  refine (multiReduction_add_single f _ _ _ _ _).trans ?_
  refine Finset.sum_congr rfl fun i _ => congrArg f ?_
  exact funext fun d => match d with | ⟨0, _⟩ => rfl | ⟨1, _⟩ => rfl

/-- A column laid out over the rows' entries. -/
theorem spread_col {α : Type} (f : S512x1.Idx → α) (i : Fin 512) (j : Fin 1024) :
    broadcastTo S512x1024 f broadcasts_S512x1_S512x1024 (ix2 i j) = f (ix2 i 0) :=
  broadcastTo_apply _ _ _ _ fun a => match a with | ⟨0, _⟩ => rfl | ⟨1, _⟩ => rfl

/-- A row laid out over all rows. -/
theorem spread_row {α : Type} (f : S1x1024.Idx → α) (i : Fin 512) (j : Fin 1024) :
    broadcastTo S512x1024 f broadcasts_S1x1024_S512x1024 (ix2 i j) = f (ix2 0 j) :=
  broadcastTo_apply _ _ _ _ fun a => match a with | ⟨0, _⟩ => rfl | ⟨1, _⟩ => rfl

end Gating
-- ==== Proof.Stages.lean ====
/-
  The values the gradient call computes row by row, read at an index: the gradient of the gated product, the two
  halves of the gate, the normalised half and its deviation. Each is a formula of `Gating` on the block of 128 rows
  the row lies in.
-/
module

public import proofs.«01_k».proof.Proof.Products

@[expose] public section

noncomputable section

namespace Gating

open Idealize.ShloMosaic Idealize.ShloMosaic.ValueIdx Cert.KernelIdeal Cert.KernelIdeal.Gen

/-- Row `r` of the `n`-th block of 128 rows among 512. -/
def row (n : Fin 4) (r : Fin 128) : Fin 512 := ⟨128 * n.val + r.val, by omega⟩

theorem row_div_mod (i : Fin 512) : row ⟨i.val / 128, by omega⟩ ⟨i.val % 128, by omega⟩ = i :=
  Fin.ext (by simp only [row]; omega)

/-- Column `c` of the `s`-th quarter of a row of 2048. -/
def quarter (s : Fin 4) (c : Fin 512) : Fin 2048 := ⟨512 * s.val + c.val, by omega⟩

/-- What one run of the body reads: four blocks of 128 rows of each row-wise array, and the parameters whole. -/
structure Reads (W : Weights) (B : Fin 4 → Rows) (x0 x1 : Vec Ideal S512x1024 .f32) (x2 : Vec Ideal S1x1024 .f32)
    (x3 : Vec Ideal S512x2048 .bf16) (x4 : Vec Ideal S512x1024 .bf16) (x5 : Vec Ideal S1x1024 .f32)
    (x6 x7 : Vec Ideal S8x128x128 .bf16) (x8 : Vec Ideal S8x128x128 .f32) (x9 : Vec Ideal S1024x1024 .bf16)
    (x10 : Vec Ideal S4x1024x512 .bf16) : Prop where
  ct : ∀ n r j, x0 (ix2 (row n r) j) = (B n).ct r j
  x : ∀ n r j, x1 (ix2 (row n r) j) = (B n).x r j
  g : ∀ j, x2 (ix2 0 j) = W.g j
  z : ∀ n r j, x3 (ix2 (row n r) j) = (B n).z r j
  vn : ∀ n r j, x4 (ix2 (row n r) j) = (B n).vn r j
  gv : ∀ j, x5 (ix2 0 j) = W.gv j
  wm : ∀ a i q, x6 (ix3 a i q) = W.wm a i q
  wmt : ∀ a i q, x7 (ix3 a i q) = W.wm a q i
  bs : ∀ a i c, x8 (ix3 a i c) = W.bs a i
  wout : ∀ k q, x9 (ix2 k q) = W.wout k q
  win : ∀ s k c, x10 (ix3 s k c) = W.win k (quarter s c)

/-! ### Scalars -/

theorem ofBits_half : Ideal.ofBits .f32 0x3F000000#32 = half := by
  simp [half, Ideal.ofBits, Ideal.ieee, -EReal.coe_mul, -zpow_neg]; norm_num
theorem ofBits_neg_half : Ideal.ofBits .f32 0xBF000000#32 = -half := by
  rw [half, ← EReal.coe_neg]; simp [Ideal.ofBits, Ideal.ieee, -EReal.coe_mul, -zpow_neg]; norm_num
theorem ofBits_one : Ideal.ofBits .f32 0x3F800000#32 = 1 := by
  rw [← EReal.coe_one]; simp [Ideal.ofBits, Ideal.ieee, -EReal.coe_mul, -zpow_neg]; norm_num
theorem ofBits_one_bf16 : Ideal.ofBits .bf16 0x3F80#16 = 1 := by
  rw [← EReal.coe_one]; simp [Ideal.ofBits, Ideal.ieee, -EReal.coe_mul, -zpow_neg]; norm_num
theorem ofBits_1024 : Ideal.ofBits .f32 0x44800000#32 = ((1024 : ℝ) : EReal) := by
  simp [Ideal.ofBits, Ideal.ieee, -EReal.coe_mul, -zpow_neg]; norm_num

/-- The kernel's spelling of the unit at a value. -/
theorem gelu_word (x : EReal) :
    Ideal.ofBits .f32 0x3F000000#32 * x * (Ideal.ofBits .f32 0x3F800000#32 + Ideal.erf (x * invSqrt2)) = gelu x := by
  rw [ofBits_half, ofBits_one]; rfl

/-- The kernel's spelling of its derivative. -/
theorem geluD_word (x : EReal) :
    Ideal.ofBits .f32 0x3F000000#32 * (Ideal.ofBits .f32 0x3F800000#32 + Ideal.erf (x * invSqrt2))
      + x * Ideal.exp (Ideal.ofBits .f32 0xBF000000#32 * x * x) * invSqrt2Pi = geluD x := by
  rw [ofBits_half, ofBits_neg_half, ofBits_one]; rfl

variable {W : Weights} {B : Fin 4 → Rows}

/-! ### The row-wise values -/

theorem dy_read {v3 : Vec Ideal S512x1024 .f32} {v5 : Vec Ideal S1024x1024 .bf16}
    (h3 : ∀ n r j, v3 (ix2 (row n r) j) = (B n).ct r j) (h5 : ∀ k q, v5 (ix2 k q) = W.wout k q)
    (n : Fin 4) (r : Fin 128) (k : Fin 1024) : k0_pay7 v3 v5 (ix2 (row n r) k) = dy W (B n) r k := by
  unfold k0_pay7
  refine (prod_wout _ _ _ _).trans ?_
  rw [shapeCast_self]
  exact Finset.sum_congr rfl fun q _ => congrArg₂ (· * ·) (h3 n r q) (h5 k q)

theorem zu_read {v8 : Vec Ideal S512x2048 .bf16} (h8 : ∀ n r j, v8 (ix2 (row n r) j) = (B n).z r j)
    (n : Fin 4) (r : Fin 128) (j : Fin 1024) : k0_pay9 v8 (ix2 (row n r) j) = (B n).z r (lo j) := by
  unfold k0_pay9 k0_pay8
  refine (extractStridedSlice_apply _ _ _ _ (ix2 (row n r) (lo j)) fun a => match a with | ⟨0, _⟩ => ?_ | ⟨1, _⟩ => ?_).trans ?_
  · simp
  · simp [lo]
  · rw [shapeCast_self]; exact h8 n r (lo j)

theorem zv_read {v8 : Vec Ideal S512x2048 .bf16} (h8 : ∀ n r j, v8 (ix2 (row n r) j) = (B n).z r j)
    (n : Fin 4) (r : Fin 128) (j : Fin 1024) : k0_pay10 v8 (ix2 (row n r) j) = (B n).z r (hi j) := by
  unfold k0_pay10 k0_pay8
  refine (extractStridedSlice_apply _ _ _ _ (ix2 (row n r) (hi j)) fun a => match a with | ⟨0, _⟩ => ?_ | ⟨1, _⟩ => ?_).trans ?_
  · simp
  · simp [hi]
  · rw [shapeCast_self]; exact h8 n r (hi j)

theorem u_read {v8 : Vec Ideal S512x2048 .bf16} (h8 : ∀ n r j, v8 (ix2 (row n r) j) = (B n).z r j)
    (n : Fin 4) (r : Fin 128) (j : Fin 1024) : k0_pay11 v8 (ix2 (row n r) j) = uu (B n) r j := by
  unfold k0_pay11 uu
  rw [← zu_read h8 n r j]
  exact gelu_word _

/-- The unit of the right half, as the kernel spells it. -/
def vPart (v8 : Vec Ideal S512x2048 .bf16) : FVec Ideal S512x1024 .f32 :=
  mulf (mulf (broadcast S512x1024 (Scalar.ofBits .f32 0x3F000000#32)) (k0_pay10 v8))
    (addf (broadcast S512x1024 (Scalar.ofBits .f32 0x3F800000#32))
      (erf (mulf (k0_pay10 v8) (broadcast S512x1024 (Named.named κ "inv_sqrt2" 0x3F3504F3#32)))))

theorem vPart_read {v8 : Vec Ideal S512x2048 .bf16} (h8 : ∀ n r j, v8 (ix2 (row n r) j) = (B n).z r j)
    (n : Fin 4) (r : Fin 128) (j : Fin 1024) : vPart v8 (ix2 (row n r) j) = vv (B n) r j := by
  unfold vPart vv
  rw [← zv_read h8 n r j]
  exact gelu_word _

/-- The kernel's mean of a row. -/
theorem mean_read {f : FVec Ideal S512x1024 .f32} {g : Fin 1024 → EReal} (i : Fin 512) (u : Fin 1) (h : ∀ j, f (ix2 i j) = g j) :
    divf (shapeCast S512x1 (multiReduction .add [1] S512 f 0x00000000#32 reduces_S512x1024_S512 (.inl rfl) rfl) shapeCasts_S512_S512x1)
      (broadcast S512x1 (Scalar.ofBits .f32 0x44800000#32)) (ix2 i u) = mean g := by
  show Ideal.div _ (Ideal.ofBits .f32 0x44800000#32) = _
  rw [ofBits_1024, row_sum]
  exact congrArg (fun s => Ideal.div s _) (Finset.sum_congr rfl fun j _ => h j)

theorem centred_read {v8 : Vec Ideal S512x2048 .bf16} (h8 : ∀ n r j, v8 (ix2 (row n r) j) = (B n).z r j)
    (n : Fin 4) (r : Fin 128) (j : Fin 1024) : k0_pay12 v8 (ix2 (row n r) j) = centred (vv (B n) r) j := by
  have e : k0_pay12 v8 = subf (vPart v8) (broadcastTo S512x1024
      (divf (shapeCast S512x1 (multiReduction .add [1] S512 (vPart v8) 0x00000000#32 reduces_S512x1024_S512 (.inl rfl) rfl) shapeCasts_S512_S512x1)
        (broadcast S512x1 (Scalar.ofBits .f32 0x44800000#32))) broadcasts_S512x1_S512x1024) := rfl
  rw [e, subf_apply, spread_col, vPart_read h8, mean_read (row n r) 0 (vPart_read h8 n r)]
  rfl

theorem std_read {v8 : Vec Ideal S512x2048 .bf16} (h8 : ∀ n r j, v8 (ix2 (row n r) j) = (B n).z r j)
    (n : Fin 4) (r : Fin 128) :
    rsqrt (addf (divf (k0_pay13 v8) k0_pay14) (broadcast S512x1 (Scalar.ofBits .f32 0x358637BD#32))) (ix2 (row n r) 0)
      = stdInv (vv (B n) r) := by
  show Ideal.rsqrt (divf (k0_pay13 v8) k0_pay14 (ix2 (row n r) 0) + eps) = _
  unfold k0_pay13 k0_pay14 stdInv
  refine congrArg (fun s => Ideal.rsqrt (s + eps)) ?_
  refine mean_read (row n r) 0 fun j => ?_
  rw [mulf_apply, centred_read h8]

end Gating
-- ==== Proof.FeedPays.lean ====
/-
  The values the feed-forward layer's backward call stores for a block of 256 rows, read at an index: three runs of
  hidden channels, whose products add up to the gradient of the normed row, then the gradient of the norm.
-/
module

public import proofs.«01_k».proof.Proof.FeedFormulas
public import proofs.«01_k».proof.Proof.Stages
public import proofs.«01_k».proof.Proof.Gen.Kernel2Ideal.Skeleton

@[expose] public section

noncomputable section

namespace Feeding

open Idealize.ShloMosaic Idealize.ShloMosaic.ValueIdx Cert.Kernel2Ideal Cert.Kernel2Ideal.Gen
open Idealize.ShloMosaic.Ideal (matmul_constant_zero_apply multiReduction_add_single)
open Gating (mean rmsInv rmsHat rmsGrad eps ofBits_1024)

variable {φ₁ φ₂ : FTy}

/-! ### Products and sums -/

/-- Rows against rows, 1024 of them. -/
theorem rows_wide (a : FVec Ideal S256x1024 φ₁) (b : FVec Ideal S1024x1024 φ₂) (i : Fin 256) (j : Fin 1024) :
    matmul dot_S256x1024_S1024x1024_S256x1024_1_1_0_0_n_n none a b (constant S256x1024 .f32 0x00000000#32) (ix2 i j)
      = ∑ q : Fin 1024, a (ix2 i q) * b (ix2 j q) := by
  simp only [matmul]
  rw [matmul_constant_zero_apply, ← Equiv.sum_comp (contrEquiv1 dot_S256x1024_S1024x1024_S256x1024_1_1_0_0_n_n 1024 rfl rfl).symm]
  refine Finset.sum_congr rfl fun q _ => congrArg₂ (· * ·) (congrArg a ?_) (congrArg b ?_) <;>
    exact funext fun d => match d with | ⟨0, _⟩ => rfl | ⟨1, _⟩ => rfl

/-- Rows against rows, 768 of them. -/
theorem rows_narrow (a : FVec Ideal S256x1024 φ₁) (b : FVec Ideal S768x1024 φ₂) (i : Fin 256) (j : Fin 768) :
    matmul dot_S256x1024_S768x1024_S256x768_1_1_0_0_n_n none a b (constant S256x768 .f32 0x00000000#32) (ix2 i j)
      = ∑ q : Fin 1024, a (ix2 i q) * b (ix2 j q) := by
  simp only [matmul]
  rw [matmul_constant_zero_apply, ← Equiv.sum_comp (contrEquiv1 dot_S256x1024_S768x1024_S256x768_1_1_0_0_n_n 1024 rfl rfl).symm]
  refine Finset.sum_congr rfl fun q _ => congrArg₂ (· * ·) (congrArg a ?_) (congrArg b ?_) <;>
    exact funext fun d => match d with | ⟨0, _⟩ => rfl | ⟨1, _⟩ => rfl

/-- Rows against columns of 1024. -/
theorem cols_wide (a : FVec Ideal S256x1024 φ₁) (b : FVec Ideal S1024x1024 φ₂) (i : Fin 256) (j : Fin 1024) :
    matmul dot_S256x1024_S1024x1024_S256x1024_1_0_0_1_n_n none a b (constant S256x1024 .f32 0x00000000#32) (ix2 i j)
      = ∑ q : Fin 1024, a (ix2 i q) * b (ix2 q j) := by
  simp only [matmul]
  rw [matmul_constant_zero_apply, ← Equiv.sum_comp (contrEquiv1 dot_S256x1024_S1024x1024_S256x1024_1_0_0_1_n_n 1024 rfl rfl).symm]
  refine Finset.sum_congr rfl fun q _ => congrArg₂ (· * ·) (congrArg a ?_) (congrArg b ?_) <;>
    exact funext fun d => match d with | ⟨0, _⟩ => rfl | ⟨1, _⟩ => rfl

/-- Rows against columns of 768. -/
theorem cols_narrow (a : FVec Ideal S256x768 φ₁) (b : FVec Ideal S768x1024 φ₂) (i : Fin 256) (j : Fin 1024) :
    matmul dot_S256x768_S768x1024_S256x1024_1_0_0_1_n_n none a b (constant S256x1024 .f32 0x00000000#32) (ix2 i j)
      = ∑ q : Fin 768, a (ix2 i q) * b (ix2 q j) := by
  simp only [matmul]
  rw [matmul_constant_zero_apply, ← Equiv.sum_comp (contrEquiv1 dot_S256x768_S768x1024_S256x1024_1_0_0_1_n_n 768 rfl rfl).symm]
  refine Finset.sum_congr rfl fun q _ => congrArg₂ (· * ·) (congrArg a ?_) (congrArg b ?_) <;>
    exact funext fun d => match d with | ⟨0, _⟩ => rfl | ⟨1, _⟩ => rfl

/-- The kernel's mean of a row. -/
theorem mean_row {f : FVec Ideal S256x1024 .f32} {g : Fin 1024 → EReal} (i : Fin 256) (u : Fin 1) (h : ∀ j, f (ix2 i j) = g j) :
    divf (shapeCast S256x1 (multiReduction .add [1] S256 f 0x00000000#32 reduces_S256x1024_S256 (.inl rfl) rfl) shapeCasts_S256_S256x1)
      (broadcast S256x1 (Scalar.ofBits .f32 0x44800000#32)) (ix2 i u) = mean g := by
  show Ideal.div _ (Ideal.ofBits .f32 0x44800000#32) = _
  rw [ofBits_1024, shapeCast_apply _ _ (ix2 i u) (ix1 i) (by rw [Shape.rowMajor_val_one, Shape.rowMajor_val_two]; simp)]
  refine congrArg (fun s => Ideal.div s _) ((multiReduction_add_single f _ _ _ _ _).trans (Finset.sum_congr rfl fun j _ => ?_))
  rw [← h j]
  exact congrArg f (funext fun d => match d with | ⟨0, _⟩ => rfl | ⟨1, _⟩ => rfl)

/-- The sum of a column, kept as a row. -/
theorem column_sum (f : FVec Ideal S256x1024 .f32) (u : Fin 1) (j : Fin 1024) :
    shapeCast S1x1024 (multiReduction .add [0] S1024 f 0x00000000#32 reduces_S256x1024_S1024 (.inl rfl) rfl) shapeCasts_S1024_S1x1024 (ix2 u j)
      = ∑ i : Fin 256, f (ix2 i j) := by
  rw [shapeCast_apply _ _ (ix2 u j) (ix1 j) (by rw [Shape.rowMajor_val_one, Shape.rowMajor_val_two]; simp)]
  refine (multiReduction_add_single f _ _ _ _ _).trans (Finset.sum_congr rfl fun i _ => congrArg f ?_)
  exact funext fun d => match d with | ⟨0, _⟩ => rfl | ⟨1, _⟩ => rfl

/-- A column laid out over the rows' entries. -/
theorem spread_col {α : Type} (f : S256x1.Idx → α) (i : Fin 256) (j : Fin 1024) :
    broadcastTo S256x1024 f broadcasts_S256x1_S256x1024 (ix2 i j) = f (ix2 i 0) :=
  broadcastTo_apply _ _ _ _ fun a => match a with | ⟨0, _⟩ => rfl | ⟨1, _⟩ => rfl

/-- A row laid out over all rows. -/
theorem spread_row {α : Type} (f : S1x1024.Idx → α) (i : Fin 256) (j : Fin 1024) :
    broadcastTo S256x1024 f broadcasts_S1x1024_S256x1024 (ix2 i j) = f (ix2 0 j) :=
  broadcastTo_apply _ _ _ _ fun a => match a with | ⟨0, _⟩ => rfl | ⟨1, _⟩ => rfl

variable {L : Params} {R : Fin 256 → Row}

/-! ### The gradient of the hidden product, a run at a time -/

section Wide

variable {o : ℕ} {ho : o + 1024 ≤ 2816} {v3 : Vec Ideal S256x1024 .f32} {w : Vec Ideal S1024x1024 .bf16}

theorem ds_wide (h3 : ∀ r j, v3 (ix2 r j) = (R r).ct j) (hw : ∀ q j, w (ix2 q j) = L.wd (col o 1024 ho q) j) (r : Fin 256) (q : Fin 1024) :
    k0_pay8 v3 w (ix2 r q) = ds L (R r) (col o 1024 ho q) := by
  unfold k0_pay8 k0_pay3
  refine (rows_wide _ _ _ _).trans ?_
  rw [shapeCast_self]
  exact Finset.sum_congr rfl fun j _ => congrArg₂ (· * ·) (h3 r j) (hw q j)

variable {s : FVec Ideal S256x1024 .f32} {f f' : Vec Ideal S256x1024 .bf16} {wg wu : Vec Ideal S1024x1024 .bf16}

theorem da_wide (hs : ∀ r q, s (ix2 r q) = ds L (R r) (col o 1024 ho q)) (hf : ∀ r q, f (ix2 r q) = (R r).fa (col o 1024 ho q))
    (r : Fin 256) (q : Fin 1024) : k0_pay9 s f (ix2 r q) = da L (R r) (col o 1024 ho q) := by
  unfold k0_pay9
  rw [shapeCast_self]
  exact congrArg₂ (· * ·) (hs r q) (hf r q)

theorem db_wide (hs : ∀ r q, s (ix2 r q) = ds L (R r) (col o 1024 ho q)) (hf : ∀ r q, f (ix2 r q) = (R r).fb (col o 1024 ho q))
    (r : Fin 256) (q : Fin 1024) : k0_pay10 s f (ix2 r q) = db L (R r) (col o 1024 ho q) := by
  unfold k0_pay10
  rw [shapeCast_self]
  exact congrArg₂ (· * ·) (hs r q) (hf r q)

theorem part_wide (hs : ∀ r q, s (ix2 r q) = ds L (R r) (col o 1024 ho q)) (hf : ∀ r q, f (ix2 r q) = (R r).fa (col o 1024 ho q))
    (hf' : ∀ r q, f' (ix2 r q) = (R r).fb (col o 1024 ho q)) (hg : ∀ q j, wg (ix2 q j) = L.wg (col o 1024 ho q) j)
    (hu : ∀ q j, wu (ix2 q j) = L.wu (col o 1024 ho q) j) (r : Fin 256) (j : Fin 1024) :
    addf (matmul dot_S256x1024_S1024x1024_S256x1024_1_0_0_1_n_n none (k0_pay9 s f)
        (shapeCast S1024x1024 wg shapeCasts_S1024x1024_S1024x1024 : FVec Ideal S1024x1024 .bf16) (constant S256x1024 .f32 0x00000000#32))
      (matmul dot_S256x1024_S1024x1024_S256x1024_1_0_0_1_n_n none (k0_pay10 s f')
        (shapeCast S1024x1024 wu shapeCasts_S1024x1024_S1024x1024 : FVec Ideal S1024x1024 .bf16) (constant S256x1024 .f32 0x00000000#32)) (ix2 r j)
      = part L (R r) o 1024 ho j := by
  rw [addf_apply, cols_wide, cols_wide, shapeCast_self, shapeCast_self]
  exact congrArg₂ (· + ·) (Finset.sum_congr rfl fun q _ => congrArg₂ (· * ·) (da_wide hs hf r q) (hg q j))
    (Finset.sum_congr rfl fun q _ => congrArg₂ (· * ·) (db_wide hs hf' r q) (hu q j))

end Wide

section Narrow

variable {v4 : FVec Ideal S256x1024 .bf16} {w wg wu : Vec Ideal S768x1024 .bf16} {f f' : Vec Ideal S256x768 .bf16}
  {a b : FVec Ideal S256x768 .bf16}

theorem ds_narrow (h4 : ∀ r j, v4 (ix2 r j) = (R r).ct j) (hw : ∀ q j, w (ix2 q j) = L.wd (col 2048 768 (by decide) q) j) (r : Fin 256) (q : Fin 768) :
    k0_pay12 v4 w (ix2 r q) = ds L (R r) (col 2048 768 (by decide) q) := by
  unfold k0_pay12
  refine (rows_narrow _ _ _ _).trans ?_
  rw [shapeCast_self]
  exact Finset.sum_congr rfl fun j _ => congrArg₂ (· * ·) (h4 r j) (hw q j)

theorem da_narrow (h4 : ∀ r j, v4 (ix2 r j) = (R r).ct j) (hw : ∀ q j, w (ix2 q j) = L.wd (col 2048 768 (by decide) q) j)
    (hf : ∀ r q, f (ix2 r q) = (R r).fa (col 2048 768 (by decide) q)) (r : Fin 256) (q : Fin 768) :
    k0_pay13 v4 w f (ix2 r q) = da L (R r) (col 2048 768 (by decide) q) := by
  unfold k0_pay13
  rw [shapeCast_self]
  exact congrArg₂ (· * ·) (ds_narrow h4 hw r q) (hf r q)

theorem db_narrow (h4 : ∀ r j, v4 (ix2 r j) = (R r).ct j) (hw : ∀ q j, w (ix2 q j) = L.wd (col 2048 768 (by decide) q) j)
    (hf : ∀ r q, f (ix2 r q) = (R r).fb (col 2048 768 (by decide) q)) (r : Fin 256) (q : Fin 768) :
    k0_pay14 v4 w f (ix2 r q) = db L (R r) (col 2048 768 (by decide) q) := by
  unfold k0_pay14
  rw [shapeCast_self]
  exact congrArg₂ (· * ·) (ds_narrow h4 hw r q) (hf r q)

/-- The three runs together. -/
theorem dh_read {v49 : FVec Ideal S256x1024 .f32}
    (h : ∀ r j, v49 (ix2 r j) = part L (R r) 0 1024 (by decide) j + part L (R r) 1024 1024 (by decide) j)
    (ha : ∀ r q, a (ix2 r q) = da L (R r) (col 2048 768 (by decide) q)) (hb : ∀ r q, b (ix2 r q) = db L (R r) (col 2048 768 (by decide) q))
    (hg : ∀ q j, wg (ix2 q j) = L.wg (col 2048 768 (by decide) q) j)
    (hu : ∀ q j, wu (ix2 q j) = L.wu (col 2048 768 (by decide) q) j) (r : Fin 256) (j : Fin 1024) :
    k0_pay15 v49 a b wg wu (ix2 r j) = dh L (R r) j := by
  unfold k0_pay15
  rw [addf_apply, addf_apply, cols_narrow, cols_narrow, shapeCast_self, shapeCast_self, ← dh_parts, h]
  exact congrArg (_ + ·) (congrArg₂ (· + ·) (Finset.sum_congr rfl fun q _ => congrArg₂ (· * ·) (ha r q) (hg q j))
    (Finset.sum_congr rfl fun q _ => congrArg₂ (· * ·) (hb r q) (hu q j)))

end Narrow

/-! ### The norm -/

section Norm

variable {v73 : Vec Ideal S256x1024 .f32} (hx : ∀ r j, v73 (ix2 r j) = (R r).x j)
include hx

theorem inv_read (r : Fin 256) : k0_pay16 v73 (ix2 r 0) = rmsInv (R r).x := by
  unfold k0_pay16 rmsInv
  refine congrArg (fun s => Ideal.rsqrt (s + eps)) (mean_row r 0 fun j => ?_)
  rw [mulf_apply, hx]

theorem hat_read (r : Fin 256) (j : Fin 1024) : k0_pay17 v73 (ix2 r j) = rmsHat (R r).x j := by
  unfold k0_pay17 rmsHat
  rw [mulf_apply, spread_col, hx, inv_read hx]

variable {v49 : FVec Ideal S256x1024 .f32} {a b : FVec Ideal S256x768 .bf16} {wg wu : Vec Ideal S768x1024 .bf16}
  (hh : ∀ r j, k0_pay15 v49 a b wg wu (ix2 r j) = dh L (R r) j)
include hh

/-- The gain's gradient: the rows' shares. -/
theorem dg_read (u : Fin 1) (j : Fin 1024) : k0_pay18 v49 a b wg wu v73 (ix2 u j) = ∑ r, dg L (R r) j := by
  unfold k0_pay18
  refine (column_sum _ _ _).trans (Finset.sum_congr rfl fun r _ => ?_)
  rw [mulf_apply, hh, hat_read hx, dg]

/-- The gradient handed on. -/
theorem dx_read {v3 : Vec Ideal S256x1024 .f32} {v74 : Vec Ideal S1x1024 .f32} (h3 : ∀ r j, v3 (ix2 r j) = (R r).ct j)
    (hg : ∀ j, v74 (ix2 0 j) = L.g j) (r : Fin 256) (j : Fin 1024) :
    k0_pay19 v3 v49 a b wg wu v73 v74 (ix2 r j) = dx L (R r) j := by
  have hd : ∀ i, mulf (k0_pay15 v49 a b wg wu) (broadcastTo S256x1024 v74 broadcasts_S1x1024_S256x1024) (ix2 r i) = dh L (R r) i * L.g i := fun i => by
    rw [mulf_apply, spread_row, hh, hg]
  unfold k0_pay19 dx rmsGrad
  dsimp only
  rw [addf_apply, mulf_apply, subf_apply, hd, mulf_apply, spread_col, spread_col, h3, inv_read hx, hat_read hx,
    mean_row (g := fun i => dh L (R r) i * L.g i * rmsHat (R r).x i) r 0 fun i => by rw [mulf_apply, hd, hat_read hx]]

end Norm

end Feeding
-- ==== Proof.Blocks.lean ====
/-
  The blocks of 128 rows by 128 channels: for each, the kernel takes a slice of the saved gate, two products with the
  spatial weights of the group, and adds to the gradients of the weights and the biases. Each stored piece is read
  here at an index.
-/
module

public import proofs.«01_k».proof.Proof.Stages

@[expose] public section

noncomputable section

namespace Gating

open Idealize.ShloMosaic Idealize.ShloMosaic.ValueIdx Cert.KernelIdeal Cert.KernelIdeal.Gen

/-! ### Loads -/

/-- A load of a rectangle of a whole buffer, read at an index. -/
theorem load_apply {sg : RefSig} {κ : Kind} {sp : Space} {S : Shape} {e : EltTy} {Val : EltTy → Type} (M : Memref sg κ sp S e)
    (hM : M.IsWhole) (X : S.Idx → Val e) (off size : Fin S.rank → Nat) (inb : ∀ a, off a + size a ≤ S.size a)
    (y : (Rect.unit off size inb).shape.Idx) (k : S.Idx) (hk : ∀ a, (k a).val = off a + (y a).val) :
    View.readAt Val M.view (Rect.unit off size inb).toLoadRect (hM.unread X) y = X k := by
  rw [View.readAt_eq_ld, Memref.IsWhole.read_unread]
  refine congrArg X (funext fun a => Fin.ext ?_)
  rw [hk a]
  exact congrArg (off a + ·) (Nat.one_mul (y a).val)

/-- A load of the whole of a whole buffer. -/
theorem load_whole {sg : RefSig} {κ : Kind} {sp : Space} {S : Shape} {e : EltTy} {Val : EltTy → Type} (M : Memref sg κ sp S e)
    (hM : M.IsWhole) (X : S.Idx → Val e) {off : Fin S.rank → Nat} (h : off = fun _ => 0) (inb : ∀ a, off a + S.size a ≤ S.size a) :
    View.readAt Val M.view (Rect.unit off S.size inb).toLoadRect (hM.unread X) = X := by
  rw [View.readAt_eq_ld, Memref.IsWhole.read_unread]
  exact View.ld_unit_zero h inb X

/-- A unit axis dropped. -/
theorem drop_unit {α : Type} {n k : Nat} (v : (⟨3, ![1, n, k]⟩ : Shape).Idx → α)
    (h : (⟨3, ![1, n, k]⟩ : Shape).ShapeCasts ⟨2, ![n, k]⟩) (i : Fin n) (q : Fin k) :
    shapeCast ⟨2, ![n, k]⟩ v h (ix2 i q) = v (ix3 0 i q) :=
  shapeCast_apply _ _ _ _ (by
    rw [Shape.rowMajor_val_three, Shape.rowMajor_val_two]
    show (0 * n + i.val) * k + q.val = i.val * k + q.val
    rw [Nat.zero_mul, Nat.zero_add])

/-- A unit axis added. -/
theorem add_unit {α : Type} {n k : Nat} (v : (⟨2, ![n, k]⟩ : Shape).Idx → α)
    (h : (⟨2, ![n, k]⟩ : Shape).ShapeCasts ⟨3, ![1, n, k]⟩) (u : Fin 1) (i : Fin n) (q : Fin k) :
    shapeCast ⟨3, ![1, n, k]⟩ v h (ix3 u i q) = v (ix2 i q) :=
  shapeCast_apply _ _ _ _ (by
    rw [Shape.rowMajor_val_three, Shape.rowMajor_val_two]
    show i.val * k + q.val = (u.val * n + i.val) * k + q.val
    rw [show u.val = 0 from by omega, Nat.zero_mul, Nat.zero_add])

variable {W : Weights} {B : Fin 4 → Rows}

/-! ### The block of rows `n` and group `a` -/

/-- A block of a row-wise value. -/
theorem slice_read {φ : FTy} {f : FVec Ideal S512x1024 φ} (n : Fin 4) (a : Fin 8) {o0 o1 : Nat} (h0 : o0 = 128 * n.val) (h1 : o1 = 128 * a.val)
    (h : S512x1024.Slices ![o0, o1] S128x128) (r c : Fin 128) :
    extractStridedSlice S128x128 ![o0, o1] f h (ix2 r c) = f (ix2 (row n r) (chan a c)) :=
  extractStridedSlice_apply _ _ _ _ _ fun d => match d with
    | ⟨0, _⟩ => by simp [row, h0]
    | ⟨1, _⟩ => by simp [chan, h1]

theorem grp_chan (a : Fin 8) (c : Fin 128) : grp (chan a c) = a := Fin.ext (by simp only [grp, chan]; omega)
theorem chan_grp (j : Fin 1024) : chan (grp j) ⟨j.val % 128, by omega⟩ = j := Fin.ext (by simp only [grp, chan]; omega)

/-- The mixed gate of the block. -/
theorem sv_block {vn : FVec Ideal S512x1024 .bf16} {w : FVec Ideal S1x128x128 .bf16} {b : FVec Ideal S1x128x128 .f32}
    (n : Fin 4) (a : Fin 8) {o0 o1 : Nat} (h0 : o0 = 128 * n.val) (h1 : o1 = 128 * a.val)
    (hvn : ∀ n r j, vn (ix2 (row n r) j) = (B n).vn r j) (hw : ∀ i q, w (ix3 0 i q) = W.wm a i q)
    (hb : ∀ i c, b (ix3 0 i c) = W.bs a i) (hs hc) (r c : Fin 128) :
    addf (matmul dot_S128x128_S128x128_S128x128_1_0_0_1_n_n none (shapeCast S128x128 w hc)
        (extractStridedSlice S128x128 ![o0, o1] vn hs) (constant S128x128 .f32 0x00000000#32))
      (shapeCast S128x128 b hc) (ix2 r c) = sv W (B n) r (chan a c) := by
  rw [addf_apply, prod_block, sv, grp_chan]
  refine congrArg₂ (· + ·) (Finset.sum_congr rfl fun q _ => congrArg₂ (· * ·) ?_ ?_) ?_
  · rw [drop_unit, hw]
  · rw [slice_read n a h0 h1, hvn]
  · rw [drop_unit, hb]

/-- The gradient of the ungated half, over the block. -/
theorem du_block {dyv : FVec Ideal S512x1024 .f32} {vn : FVec Ideal S512x1024 .bf16} {w : FVec Ideal S1x128x128 .bf16}
    {b : FVec Ideal S1x128x128 .f32} (n : Fin 4) (a : Fin 8) {o0 o1 : Nat} (h0 : o0 = 128 * n.val) (h1 : o1 = 128 * a.val)
    (hdy : ∀ n r j, dyv (ix2 (row n r) j) = dy W (B n) r j)
    (hvn : ∀ n r j, vn (ix2 (row n r) j) = (B n).vn r j) (hw : ∀ i q, w (ix3 0 i q) = W.wm a i q)
    (hb : ∀ i c, b (ix3 0 i c) = W.bs a i) (hs hc hz) (r c : Fin 128) :
    shapeCast S128x128 (mulf (extractStridedSlice S128x128 ![o0, o1] dyv hs)
      (addf (matmul dot_S128x128_S128x128_S128x128_1_0_0_1_n_n none (shapeCast S128x128 w hc)
        (extractStridedSlice S128x128 ![o0, o1] vn hs) (constant S128x128 .f32 0x00000000#32))
      (shapeCast S128x128 b hc))) hz (ix2 r c) = du W (B n) r (chan a c) := by
  rw [shapeCast_self, mulf_apply, sv_block n a h0 h1 hvn hw hb, slice_read n a h0 h1, hdy]
  rfl

/-- The gradient of the mixed gate, over the block. -/
theorem dsv_block {dyv u : FVec Ideal S512x1024 .f32} (n : Fin 4) (a : Fin 8) {o0 o1 : Nat} (h0 : o0 = 128 * n.val) (h1 : o1 = 128 * a.val)
    (hdy : ∀ n r j, dyv (ix2 (row n r) j) = dy W (B n) r j) (hu : ∀ n r j, u (ix2 (row n r) j) = uu (B n) r j) (hs ht) (r c : Fin 128) :
    (truncf .bf16 (mulf (extractStridedSlice S128x128 ![o0, o1] dyv hs) (extractStridedSlice S128x128 ![o0, o1] u hs)) ht : FVec Ideal S128x128 .bf16) (ix2 r c)
      = dsv W (B n) r (chan a c) := by
  rw [truncf_apply, mulf_apply, slice_read n a h0 h1, slice_read n a h0 h1, hdy, hu]
  rfl

/-- The gradient of the normalised half, over the block. -/
theorem dvn_block {dyv u : FVec Ideal S512x1024 .f32} {w : FVec Ideal S1x128x128 .bf16}
    (n : Fin 4) (a : Fin 8) {o0 o1 : Nat} (h0 : o0 = 128 * n.val) (h1 : o1 = 128 * a.val)
    (hdy : ∀ n r j, dyv (ix2 (row n r) j) = dy W (B n) r j) (hu : ∀ n r j, u (ix2 (row n r) j) = uu (B n) r j)
    (hw : ∀ i q, w (ix3 0 i q) = W.wm a q i) (hs ht hc hz) (r c : Fin 128) :
    shapeCast S128x128 (matmul dot_S128x128_S128x128_S128x128_1_0_0_1_n_n none (shapeCast S128x128 w hc)
        (truncf .bf16 (mulf (extractStridedSlice S128x128 ![o0, o1] dyv hs) (extractStridedSlice S128x128 ![o0, o1] u hs)) ht : FVec Ideal S128x128 .bf16)
        (constant S128x128 .f32 0x00000000#32)) hz (ix2 r c) = dvn W (B n) r (chan a c) := by
  rw [shapeCast_self, prod_block, dvn, grp_chan]
  refine Finset.sum_congr rfl fun q _ => congrArg₂ (· * ·) ?_ (dsv_block n a h0 h1 hdy hu hs ht q c)
  rw [drop_unit, hw]

/-- What the block adds to the gradient of the spatial weights, over what was there. -/
theorem dwm_block {dyv u : FVec Ideal S512x1024 .f32} {vn : FVec Ideal S512x1024 .bf16} {old : FVec Ideal S1x128x128 .f32}
    (n : Fin 4) (a : Fin 8) {o0 o1 : Nat} (h0 : o0 = 128 * n.val) (h1 : o1 = 128 * a.val)
    (hdy : ∀ n r j, dyv (ix2 (row n r) j) = dy W (B n) r j) (hu : ∀ n r j, u (ix2 (row n r) j) = uu (B n) r j)
    (hvn : ∀ n r j, vn (ix2 (row n r) j) = (B n).vn r j) (hs ht hc hz) (i q : Fin 128) :
    shapeCast S1x128x128 (addf (shapeCast S128x128 old hc) (matmul dot_S128x128_S128x128_S128x128_1_1_0_0_n_n none
        (truncf .bf16 (mulf (extractStridedSlice S128x128 ![o0, o1] dyv hs) (extractStridedSlice S128x128 ![o0, o1] u hs)) ht : FVec Ideal S128x128 .bf16)
        (extractStridedSlice S128x128 ![o0, o1] vn hs) (constant S128x128 .f32 0x00000000#32))) hz (ix3 0 i q)
      = old (ix3 0 i q) + dwm W (B n) a i q := by
  rw [add_unit, addf_apply, drop_unit, prod_block_nt]
  refine congrArg (old (ix3 0 i q) + ·) (Finset.sum_congr rfl fun c _ => congrArg₂ (· * ·) (dsv_block n a h0 h1 hdy hu hs ht i c) ?_)
  rw [slice_read n a h0 h1, hvn]

/-- What the block adds to the gradient of the biases, over what was there. -/
theorem dbs_block {dyv u : FVec Ideal S512x1024 .f32} {old : FVec Ideal S1x128x128 .f32}
    (n : Fin 4) (a : Fin 8) {o0 o1 : Nat} (h0 : o0 = 128 * n.val) (h1 : o1 = 128 * a.val)
    (hdy : ∀ n r j, dyv (ix2 (row n r) j) = dy W (B n) r j) (hu : ∀ n r j, u (ix2 (row n r) j) = uu (B n) r j)
    (hs ht hc hz) (i q : Fin 128) :
    shapeCast S1x128x128 (addf (shapeCast S128x128 old hc) (matmul dot_S128x128_S128x128_S128x128_1_0_0_1_n_n none
        (truncf .bf16 (mulf (extractStridedSlice S128x128 ![o0, o1] dyv hs) (extractStridedSlice S128x128 ![o0, o1] u hs)) ht : FVec Ideal S128x128 .bf16)
        (broadcast S128x128 (Scalar.ofBits .bf16 0x3F80#16)) (constant S128x128 .f32 0x00000000#32))) hz (ix3 0 i q)
      = old (ix3 0 i q) + dbs W (B n) a i := by
  rw [add_unit, addf_apply, drop_unit, prod_block]
  refine congrArg (old (ix3 0 i q) + ·) (Finset.sum_congr rfl fun c _ => ?_)
  rw [dsv_block n a h0 h1 hdy hu hs ht i c]
  exact (congrArg (dsv W (B n) i (chan a c) * ·) ofBits_one_bf16).trans (mul_one _)

/-! ### Pieces of a scratch of 512 by 1024 -/

/-- The whole scratch, from a formula per block of rows. -/
def laid (f : Fin 4 → Fin 128 → Fin 1024 → EReal) (y : S512x1024.Idx) : EReal :=
  f ⟨(y 0).val / 128, by have := idx2_lt0 y; omega⟩ ⟨(y 0).val % 128, by omega⟩ ⟨(y 1).val, idx2_lt1 y⟩

theorem laid_row (f : Fin 4 → Fin 128 → Fin 1024 → EReal) (n : Fin 4) (r : Fin 128) (j : Fin 1024) :
    laid f (ix2 (row n r) j) = f n r j := by
  have e0 : (⟨(128 * n.val + r.val) / 128, by omega⟩ : Fin 4) = n := Fin.ext (by show (128 * n.val + r.val) / 128 = n.val; omega)
  have e1 : (⟨(128 * n.val + r.val) % 128, by omega⟩ : Fin 128) = r := Fin.ext (by show (128 * n.val + r.val) % 128 = r.val; omega)
  exact congrArg₂ (fun a b => f a b j) e0 e1

/-- A piece that holds a formula's block, as a piece of the whole. -/
theorem piece_laid {f : Fin 4 → Fin 128 → Fin 1024 → EReal} {p : S128x128.Idx → EReal} (n : Fin 4) (a : Fin 8) {o0 o1 : Nat}
    (h0 : o0 = 128 * n.val) (h1 : o1 = 128 * a.val) (inb : ∀ d, ![o0, o1] d + S128x128.size d ≤ S512x1024.size d)
    (h : ∀ r c, p (ix2 r c) = f n r (chan a c)) (y : S128x128.Idx) :
    p y = laid f ((Rect.unit (s := S512x1024) ![o0, o1] S128x128.size inb).emb y) := by
  have e : (Rect.unit (s := S512x1024) ![o0, o1] S128x128.size inb).emb y = ix2 (row n (y 0)) (chan a (y 1)) :=
    funext fun d => match d with
      | ⟨0, _⟩ => Fin.ext (by show o0 + 1 * (y 0).val = 128 * n.val + (y 0).val; omega)
      | ⟨1, _⟩ => Fin.ext (by show o1 + 1 * (y 1).val = 128 * a.val + (y 1).val; omega)
  refine ((congrArg p (eq_ix2 y)).trans ((h (y 0) (y 1)).trans ?_)).trans (congrArg (laid f) e).symm
  exact (laid_row f n (y 0) (chan a (y 1))).symm

/-- Piece by piece: the pieces of a list hold a formula's blocks. -/
theorem pieces_cons {f : Fin 4 → Fin 128 → Fin 1024 → EReal} {p : S128x128.Idx → EReal} (n : Fin 4) (a : Fin 8) {o0 o1 : Nat}
    {inb : ∀ d, ![o0, o1] d + S128x128.size d ≤ S512x1024.size d} {L : List (View.Piece (Elt Ideal) S512x1024 .f32)}
    (h0 : o0 = 128 * n.val) (h1 : o1 = 128 * a.val)
    (h : ∀ r c, p (ix2 r c) = f n r (chan a c)) (hL : ∀ q ∈ L, ∀ x, q.2 x = laid f (q.1.emb x)) :
    ∀ q ∈ ((⟨Rect.unit (s := S512x1024) ![o0, o1] S128x128.size inb, p⟩ : View.Piece (Elt Ideal) S512x1024 .f32) :: L),
      ∀ x, q.2 x = laid f (q.1.emb x) :=
  List.forall_mem_cons.2 ⟨piece_laid n a h0 h1 inb h, hL⟩

section Memrefs

variable {m6 : Memref sig .tc .vmem S8x128x128 .bf16} {hm6 : m6.IsWhole} {x6 : Vec Ideal S8x128x128 .bf16}
  {m8 : Memref sig .tc .vmem S8x128x128 .f32} {hm8 : m8.IsWhole} {x8 : Vec Ideal S8x128x128 .f32}
  {dyv u : FVec Ideal S512x1024 .f32} {vn : FVec Ideal S512x1024 .bf16}

/-! The row-wise values as the body takes them, from the whole buffers loaded. -/

section Loaded

variable {x0 x1 : Vec Ideal S512x1024 .f32} {x2 : Vec Ideal S1x1024 .f32}
    {x3 : Vec Ideal S512x2048 .bf16} {x4 : Vec Ideal S512x1024 .bf16} {x5 : Vec Ideal S1x1024 .f32}
    {x6 x7 : Vec Ideal S8x128x128 .bf16} {x8 : Vec Ideal S8x128x128 .f32} {x9 : Vec Ideal S1024x1024 .bf16}
    {x10 : Vec Ideal S4x1024x512 .bf16} (R : Reads W B x0 x1 x2 x3 x4 x5 x6 x7 x8 x9 x10)

include R

theorem dy_loaded {m0 : Memref sig .tc .vmem S512x1024 .f32} {h0 : m0.IsWhole} {m9 : Memref sig .tc .vmem S1024x1024 .bf16} {h9 : m9.IsWhole}
    {i0 i9} (n : Fin 4) (r : Fin 128) (j : Fin 1024) :
    k0_pay7 (View.readAt (Elt Ideal) m0.view (Rect.unit (s := S512x1024) ![0, 0] S512x1024.size i0).toLoadRect (h0.unread x0))
      (View.readAt (Elt Ideal) m9.view (Rect.unit (s := S1024x1024) ![0, 0] S1024x1024.size i9).toLoadRect (h9.unread x9)) (ix2 (row n r) j)
      = dy W (B n) r j := by
  rw [load_whole m0 h0 x0 (by decide) i0, load_whole m9 h9 x9 (by decide) i9]; exact dy_read R.ct R.wout n r j

theorem u_loaded {m3 : Memref sig .tc .vmem S512x2048 .bf16} {h3 : m3.IsWhole} {i3} (n : Fin 4) (r : Fin 128) (j : Fin 1024) :
    k0_pay11 (View.readAt (Elt Ideal) m3.view (Rect.unit (s := S512x2048) ![0, 0] S512x2048.size i3).toLoadRect (h3.unread x3)) (ix2 (row n r) j)
      = uu (B n) r j := by
  rw [load_whole m3 h3 x3 (by decide) i3]; exact u_read R.z n r j

theorem vn_loaded {m4 : Memref sig .tc .vmem S512x1024 .bf16} {h4 : m4.IsWhole} {i4 hc} (n : Fin 4) (r : Fin 128) (j : Fin 1024) :
    (shapeCast S512x1024 (View.readAt (Elt Ideal) m4.view (Rect.unit (s := S512x1024) ![0, 0] S512x1024.size i4).toLoadRect (h4.unread x4)) hc :
      FVec Ideal S512x1024 .bf16) (ix2 (row n r) j) = (B n).vn r j := by
  rw [load_whole m4 h4 x4 (by decide) i4]
  exact (congrFun (shapeCast_self x4 hc) _).trans (R.vn n r j)

end Loaded

/-- A matrix of a stack of eight, loaded alone. -/
theorem load_group {e : EltTy} {M : Memref sig .tc .vmem S8x128x128 e} {hM : M.IsWhole} {X : Vec Ideal S8x128x128 e}
    (a : Fin 8) {o : Nat} (h : o = a.val) (inb : ∀ d, ![o, 0, 0] d + S1x128x128.size d ≤ S8x128x128.size d) (i q : Fin 128) :
    View.readAt (Elt Ideal) M.view (Rect.unit (s := S8x128x128) ![o, 0, 0] S1x128x128.size inb).toLoadRect (hM.unread X) (ix3 0 i q) = X (ix3 a i q) :=
  load_apply M hM X _ _ inb _ _ fun d => match d with
    | ⟨0, _⟩ => by show a.val = o + 0; omega
    | ⟨1, _⟩ => (Nat.zero_add _).symm
    | ⟨2, _⟩ => (Nat.zero_add _).symm

/-- The stores of the gradient of the ungated half, one block at a time. -/
theorem du_cons (n : Fin 4) (a : Fin 8) {o0 o1 o6 : Nat} {inb} {L : List (View.Piece (Elt Ideal) S512x1024 .f32)} {inb6 inb8}
    (hdy : ∀ n r j, dyv (ix2 (row n r) j) = dy W (B n) r j) (hvn : ∀ n r j, vn (ix2 (row n r) j) = (B n).vn r j)
    (h6 : ∀ a i q, x6 (ix3 a i q) = W.wm a i q) (h8 : ∀ a i c, x8 (ix3 a i c) = W.bs a i) {hs hc hz}
    (h0 : o0 = 128 * n.val) (h1 : o1 = 128 * a.val) (ho6 : o6 = a.val)
    (hL : ∀ q ∈ L, ∀ x, q.2 x = laid (fun n => du W (B n)) (q.1.emb x)) :
    ∀ q ∈ ((⟨Rect.unit (s := S512x1024) ![o0, o1] S128x128.size inb,
      shapeCast S128x128 (mulf (extractStridedSlice S128x128 ![o0, o1] dyv hs)
        (addf (matmul dot_S128x128_S128x128_S128x128_1_0_0_1_n_n none
          (shapeCast S128x128 (View.readAt (Elt Ideal) m6.view (Rect.unit (s := S8x128x128) ![o6, 0, 0] S1x128x128.size inb6).toLoadRect (hm6.unread x6)) hc : FVec Ideal S128x128 .bf16)
          (extractStridedSlice S128x128 ![o0, o1] vn hs) (constant S128x128 .f32 0x00000000#32))
        (shapeCast S128x128 (View.readAt (Elt Ideal) m8.view (Rect.unit (s := S8x128x128) ![o6, 0, 0] S1x128x128.size inb8).toLoadRect (hm8.unread x8)) hc : FVec Ideal S128x128 .f32))) hz⟩ :
        View.Piece (Elt Ideal) S512x1024 .f32) :: L), ∀ x, q.2 x = laid (fun n => du W (B n)) (q.1.emb x) :=
  pieces_cons n a h0 h1 (du_block n a h0 h1 hdy hvn
    (fun i q => (load_group a ho6 inb6 i q).trans (h6 a i q)) (fun i c => (load_group a ho6 inb8 i c).trans (h8 a i c)) hs hc hz) hL

/-- The stores of the gradient of the normalised half, one block at a time. -/
theorem dvn_cons (n : Fin 4) (a : Fin 8) {o0 o1 o6 : Nat} {inb} {L : List (View.Piece (Elt Ideal) S512x1024 .f32)} {inb6}
    (hdy : ∀ n r j, dyv (ix2 (row n r) j) = dy W (B n) r j) (hu : ∀ n r j, u (ix2 (row n r) j) = uu (B n) r j)
    (h6 : ∀ a i q, x6 (ix3 a i q) = W.wm a q i) {hs ht hc hz}
    (h0 : o0 = 128 * n.val) (h1 : o1 = 128 * a.val) (ho6 : o6 = a.val)
    (hL : ∀ q ∈ L, ∀ x, q.2 x = laid (fun n => dvn W (B n)) (q.1.emb x)) :
    ∀ q ∈ ((⟨Rect.unit (s := S512x1024) ![o0, o1] S128x128.size inb,
      shapeCast S128x128 (matmul dot_S128x128_S128x128_S128x128_1_0_0_1_n_n none
        (shapeCast S128x128 (View.readAt (Elt Ideal) m6.view (Rect.unit (s := S8x128x128) ![o6, 0, 0] S1x128x128.size inb6).toLoadRect (hm6.unread x6)) hc : FVec Ideal S128x128 .bf16)
        (truncf .bf16 (mulf (extractStridedSlice S128x128 ![o0, o1] dyv hs) (extractStridedSlice S128x128 ![o0, o1] u hs)) ht : FVec Ideal S128x128 .bf16)
        (constant S128x128 .f32 0x00000000#32)) hz⟩ :
        View.Piece (Elt Ideal) S512x1024 .f32) :: L), ∀ x, q.2 x = laid (fun n => dvn W (B n)) (q.1.emb x) :=
  pieces_cons n a h0 h1 (dvn_block n a h0 h1 hdy hu (fun i q => (load_group a ho6 inb6 i q).trans (h6 a i q)) hs ht hc hz) hL

end Memrefs

end Gating
-- ==== Proof.FeedBlocks.lean ====
/-
  Loads and stores of the feed-forward layer's two calls: a block of `N` rows of 1024 entries or of 2816 hidden channels,
  whole or a run of channels at a time.
-/
module

public import proofs.«01_k».proof.Proof.FeedFormulas
public import Idealize.ShloMosaic.Lib.WritesUnit
public import proofs.«01_k».proof.Proof.Blocks

@[expose] public section

noncomputable section

namespace Feeding

open Idealize.ShloMosaic Idealize.ShloMosaic.TcCoe Idealize.ShloMosaic.ValueIdx
open Gating (load_apply load_whole)

variable {sg : RefSig} {N : ℕ}

/-! ### Loads -/

/-- The parameters of a run of hidden channels, loaded. -/
theorem channels {M : Memref sg .tc .vmem ⟨2, ![2816, 1024]⟩ .bf16} {hM : M.IsWhole} {X : Vec Ideal ⟨2, ![2816, 1024]⟩ .bf16}
    {f : Fin 2816 → Fin 1024 → EReal} (hX : ∀ k j, X (ix2 k j) = f k j) (o n : ℕ) (ho : o + n ≤ 2816)
    {inb : ∀ d, ![o, 0] d + ![n, 1024] d ≤ (⟨2, ![2816, 1024]⟩ : Shape).size d} (q : Fin n) (j : Fin 1024) :
    View.readAt (Elt Ideal) M.view (Rect.unit (s := ⟨2, ![2816, 1024]⟩) ![o, 0] ![n, 1024] inb).toLoadRect (hM.unread X) (ix2 q j)
      = f (col o n ho q) j :=
  (load_apply M hM X _ _ inb _ (ix2 (col o n ho q) j) fun d => match d with
    | ⟨0, _⟩ => rfl
    | ⟨1, _⟩ => (Nat.zero_add _).symm).trans (hX _ _)

/-- The columns of a run of hidden channels, loaded. -/
theorem columns {M : Memref sg .tc .vmem ⟨2, ![N, 2816]⟩ .bf16} {hM : M.IsWhole} {X : Vec Ideal ⟨2, ![N, 2816]⟩ .bf16}
    {f : Fin N → Fin 2816 → EReal} (hX : ∀ r k, X (ix2 r k) = f r k) (o n : ℕ) (ho : o + n ≤ 2816)
    {inb : ∀ d, ![0, o] d + ![N, n] d ≤ (⟨2, ![N, 2816]⟩ : Shape).size d} (r : Fin N) (q : Fin n) :
    View.readAt (Elt Ideal) M.view (Rect.unit (s := ⟨2, ![N, 2816]⟩) ![0, o] ![N, n] inb).toLoadRect (hM.unread X) (ix2 r q)
      = f r (col o n ho q) :=
  (load_apply M hM X _ _ inb _ (ix2 r (col o n ho q)) fun d => match d with
    | ⟨0, _⟩ => (Nat.zero_add _).symm
    | ⟨1, _⟩ => rfl).trans (hX _ _)

/-- Rows of 1024, loaded whole. -/
theorem whole {M : Memref sg .tc .vmem ⟨2, ![N, 1024]⟩ .f32} {hM : M.IsWhole} {X : Vec Ideal ⟨2, ![N, 1024]⟩ .f32}
    {f : Fin N → Fin 1024 → EReal} (hX : ∀ r j, X (ix2 r j) = f r j)
    {inb : ∀ d, ![0, 0] d + (⟨2, ![N, 1024]⟩ : Shape).size d ≤ (⟨2, ![N, 1024]⟩ : Shape).size d} (r : Fin N) (j : Fin 1024) :
    View.readAt (Elt Ideal) M.view (Rect.unit (s := ⟨2, ![N, 1024]⟩) ![0, 0] (⟨2, ![N, 1024]⟩ : Shape).size inb).toLoadRect
      (hM.unread X) (ix2 r j) = f r j := by
  rw [load_whole M hM X (funext fun d => match d with | ⟨0, _⟩ => rfl | ⟨1, _⟩ => rfl) inb]; exact hX r j

/-- The gain, loaded. -/
theorem gain {M : Memref sg .tc .vmem ⟨2, ![1, 1024]⟩ .f32} {hM : M.IsWhole} {X : Vec Ideal ⟨2, ![1, 1024]⟩ .f32}
    {f : Fin 1024 → EReal} (hX : ∀ j, X (ix2 0 j) = f j)
    {inb : ∀ d, ![0, 0] d + (⟨2, ![1, 1024]⟩ : Shape).size d ≤ (⟨2, ![1, 1024]⟩ : Shape).size d} (j : Fin 1024) :
    View.readAt (Elt Ideal) M.view (Rect.unit (s := ⟨2, ![1, 1024]⟩) ![0, 0] (⟨2, ![1, 1024]⟩ : Shape).size inb).toLoadRect
      (hM.unread X) (ix2 0 j) = f j := by
  rw [load_whole M hM X (by decide) inb]; exact hX j

/-! ### Stores -/

/-- The whole block, from a formula per row. -/
def laid (f : Fin N → Fin 2816 → EReal) (y : (⟨2, ![N, 2816]⟩ : Shape).Idx) : EReal := f ⟨(y 0).val, idx2_lt0 y⟩ ⟨(y 1).val, idx2_lt1 y⟩

/-- The columns of a run of hidden channels, as a piece of the whole block. -/
theorem piece {f : Fin N → Fin 2816 → EReal} {o n : ℕ} {ho : o + n ≤ 2816} {p : (⟨2, ![N, n]⟩ : Shape).Idx → EReal}
    {inb : ∀ d, ![0, o] d + ![N, n] d ≤ (⟨2, ![N, 2816]⟩ : Shape).size d}
    (h : ∀ r q, p (ix2 r q) = f r (col o n ho q)) (y : (⟨2, ![N, n]⟩ : Shape).Idx) :
    p y = laid f ((Rect.unit (s := ⟨2, ![N, 2816]⟩) ![0, o] ![N, n] inb).emb y) := by
  refine (congrArg p (eq_ix2 y)).trans ((h (y 0) (y 1)).trans (congrArg₂ f (Fin.ext ?_) (Fin.ext ?_)))
  · show (y 0).val = 0 + 1 * (y 0).val; omega
  · show o + (y 1).val = o + 1 * (y 1).val; omega

theorem piece_cons {f : Fin N → Fin 2816 → EReal} (o n : ℕ) (ho : o + n ≤ 2816) {p : (⟨2, ![N, n]⟩ : Shape).Idx → EReal}
    {inb : ∀ d, ![0, o] d + ![N, n] d ≤ (⟨2, ![N, 2816]⟩ : Shape).size d}
    {T : List (View.Piece (Elt Ideal) ⟨2, ![N, 2816]⟩ .bf16)}
    (h : ∀ r q, p (ix2 r q) = f r (col o n ho q)) (hT : ∀ q ∈ T, ∀ x, q.2 x = laid f (q.1.emb x)) :
    ∀ q ∈ ((⟨Rect.unit (s := ⟨2, ![N, 2816]⟩) ![0, o] ![N, n] inb, p⟩ : View.Piece (Elt Ideal) ⟨2, ![N, 2816]⟩ .bf16) :: T),
      ∀ x, q.2 x = laid f (q.1.emb x) :=
  List.forall_mem_cons.2 ⟨piece (inb := inb) h, hT⟩

/-- A store of a block's first row is read in that row … -/
theorem row_hit {p : (⟨2, ![1, 1024]⟩ : Shape).Idx → EReal} {T : List (View.Piece (Elt Ideal) ⟨2, ![8, 1024]⟩ .f32)} {M : Memref sg .tc .vmem ⟨2, ![8, 1024]⟩ .f32} {f}
    {inb : ∀ d, ![0, 0] d + (⟨2, ![1, 1024]⟩ : Shape).size d ≤ (⟨2, ![8, 1024]⟩ : Shape).size d} (j : Fin 1024) :
    M.view.read (Elt Ideal) (M.view.writes (Elt Ideal) f ((⟨Rect.unit (s := ⟨2, ![8, 1024]⟩) ![0, 0] (⟨2, ![1, 1024]⟩ : Shape).size inb, p⟩ : View.Piece (Elt Ideal) ⟨2, ![8, 1024]⟩ .f32) :: T))
      (ix2 0 j) = p (ix2 0 j) :=
  View.read_writes_cons_unit_of_mem M.view f inb p T _ (ix2 0 j) rfl fun d => match d with
    | ⟨0, _⟩ => rfl
    | ⟨1, _⟩ => (Nat.zero_add _).symm

/-- … the others keep what they held. -/
theorem row_miss {p : (⟨2, ![1, 1024]⟩ : Shape).Idx → EReal} {T : List (View.Piece (Elt Ideal) ⟨2, ![8, 1024]⟩ .f32)} {M : Memref sg .tc .vmem ⟨2, ![8, 1024]⟩ .f32} {f}
    {inb : ∀ d, ![0, 0] d + (⟨2, ![1, 1024]⟩ : Shape).size d ≤ (⟨2, ![8, 1024]⟩ : Shape).size d} (i : Fin 8) (hi : i ≠ 0) (j : Fin 1024) :
    M.view.read (Elt Ideal) (M.view.writes (Elt Ideal) f ((⟨Rect.unit (s := ⟨2, ![8, 1024]⟩) ![0, 0] (⟨2, ![1, 1024]⟩ : Shape).size inb, p⟩ : View.Piece (Elt Ideal) ⟨2, ![8, 1024]⟩ .f32) :: T))
      (ix2 i j) = M.view.read (Elt Ideal) (M.view.writes (Elt Ideal) f T) (ix2 i j) :=
  View.read_writes_cons_unit_of_not_mem M.view f inb p T _ rfl (0 : Fin 2) (Or.inr (by
    show 0 + 1 ≤ i.val
    have : i.val ≠ 0 := fun h => hi (Fin.ext h)
    omega))

/-- A block filled and its first row read back. -/
theorem row_filled {M : Memref sg .tc .vmem ⟨2, ![8, 1024]⟩ .f32} {p : (⟨2, ![8, 1024]⟩ : Shape).Idx → EReal} {inb inb'} (j : Fin 1024) :
    M.view.readCov ((⟨Rect.unit (s := ⟨2, ![8, 1024]⟩) ![0, 0] (⟨2, ![8, 1024]⟩ : Shape).size inb, p⟩ : View.Piece (Elt Ideal) ⟨2, ![8, 1024]⟩ .f32) :: [])
      (Rect.unit (s := ⟨2, ![8, 1024]⟩) ![0, 0] (⟨2, ![1, 1024]⟩ : Shape).size inb').toLoadRect (ix2 0 j) = p (ix2 0 j) := by
  rw [View.readCov_eq_canon', View.canon_unit_zero (Val := Elt Ideal) (e := .f32) (S := ⟨2, ![8, 1024]⟩) (off := ![0, 0]) (by decide) inb p]
  exact congrArg p (funext fun d => match d with
    | ⟨0, _⟩ => rfl
    | ⟨1, _⟩ => Fin.ext (by show 0 + 1 * j.val = j.val; omega))

/-! ### Whole arrays -/

/-- The array of the given rows. -/
def stacked {m n : ℕ} (f : Fin m → Fin n → EReal) : (⟨2, ![m, n]⟩ : Shape).Idx → EReal :=
  fun i => f ⟨(i 0).val, idx2_lt0 i⟩ ⟨(i 1).val, idx2_lt1 i⟩

/-- An array of rows is known by its entries. -/
theorem stacked_ext {m n : ℕ} {f : Fin m → Fin n → EReal} {v : (⟨2, ![m, n]⟩ : Shape).Idx → EReal}
    (h : ∀ i j, v (ix2 i j) = f i j) : stacked f = v := by
  funext i
  rw [eq_ix2 i]
  exact (h _ _).symm

end Feeding
-- ==== Proof.FeedLoads.lean ====
/-
  The loads of the feed-forward layer's backward call and the values it stores for a block of 256 rows, as formulas of
  the rows: the same whether the block is a device's first or a later one.
-/
module

public import proofs.«01_k».proof.Proof.FeedPays
public import proofs.«01_k».proof.Proof.FeedBlocks
public import proofs.«01_k».proof.Proof.Gen.Kernel2Ideal.Frame

@[expose] public section

set_option maxRecDepth 16384

noncomputable section

namespace Feeding

open Idealize.ShloMosaic Idealize.ShloMosaic.TcCoe Idealize.ShloMosaic.ValueIdx Cert.Kernel2Ideal Cert.Kernel2Ideal.Gen Idealize.SL.Sem
/-- What one run of the body reads: 256 rows of each row-wise array, and the parameters whole. -/
structure Reads (L : Params) (R : Fin 256 → Row) (x0 : Vec Ideal S256x1024 .f32) (x1 x2 : Vec Ideal S256x2816 .bf16)
    (x3 : Vec Ideal S256x1024 .f32) (x4 : Vec Ideal S1x1024 .f32) (x5 x6 x7 : Vec Ideal S2816x1024 .bf16) : Prop where
  ct : ∀ r j, x0 (ix2 r j) = (R r).ct j
  fa : ∀ r k, x1 (ix2 r k) = (R r).fa k
  fb : ∀ r k, x2 (ix2 r k) = (R r).fb k
  x : ∀ r j, x3 (ix2 r j) = (R r).x j
  g : ∀ j, x4 (ix2 0 j) = L.g j
  wg : ∀ k j, x5 (ix2 k j) = L.wg k j
  wu : ∀ k j, x6 (ix2 k j) = L.wu k j
  wd : ∀ k j, x7 (ix2 k j) = L.wd k j

/-! ### The stored values -/

variable {arg1 : Memref sig .tc .vmem S256x1024 .f32} {harg1 : arg1.IsWhole} {arg2 : Memref sig .tc .vmem S256x2816 .bf16} {harg2 : arg2.IsWhole} {arg3 : Memref sig .tc .vmem S256x2816 .bf16} {harg3 : arg3.IsWhole} {arg4 : Memref sig .tc .vmem S256x1024 .f32} {harg4 : arg4.IsWhole} {arg5 : Memref sig .tc .vmem S1x1024 .f32} {harg5 : arg5.IsWhole} {arg6 : Memref sig .tc .vmem S2816x1024 .bf16} {harg6 : arg6.IsWhole} {arg7 : Memref sig .tc .vmem S2816x1024 .bf16} {harg7 : arg7.IsWhole} {arg8 : Memref sig .tc .vmem S2816x1024 .bf16} {harg8 : arg8.IsWhole}
  {x0 : Vec Ideal S256x1024 .f32} {x1 x2 : Vec Ideal S256x2816 .bf16} {x3 : Vec Ideal S256x1024 .f32} {x4 : Vec Ideal S1x1024 .f32}
  {x5 x6 x7 : Vec Ideal S2816x1024 .bf16} {L : Params} {R : Fin 256 → Row} (h : Reads L R x0 x1 x2 x3 x4 x5 x6 x7)
include h

theorem runs_loaded (r : Fin 256) (j : Fin 1024) :
    k0_pay11 (k0_pay7 (View.readAt (Elt Ideal) arg1.view (Rect.unit (s := S256x1024) ![0, 0] S256x1024.size inb_S256x1024_S256x1024_0_0).toLoadRect (harg1.unread x0)) (View.readAt (Elt Ideal) arg8.view (Rect.unit (s := S2816x1024) ![0, 0] S1024x1024.size inb_S2816x1024_S1024x1024_0_0).toLoadRect (harg8.unread x7)) (View.readAt (Elt Ideal) arg2.view (Rect.unit (s := S256x2816) ![0, 0] S256x1024.size inb_S256x2816_S256x1024_0_0).toLoadRect (harg2.unread x1)) (View.readAt (Elt Ideal) arg3.view (Rect.unit (s := S256x2816) ![0, 0] S256x1024.size inb_S256x2816_S256x1024_0_0).toLoadRect (harg3.unread x2))
        (View.readAt (Elt Ideal) arg6.view (Rect.unit (s := S2816x1024) ![0, 0] S1024x1024.size inb_S2816x1024_S1024x1024_0_0).toLoadRect (harg6.unread x5))
        (View.readAt (Elt Ideal) arg7.view (Rect.unit (s := S2816x1024) ![0, 0] S1024x1024.size inb_S2816x1024_S1024x1024_0_0).toLoadRect (harg7.unread x6)))
      (k0_pay8 (View.readAt (Elt Ideal) arg1.view (Rect.unit (s := S256x1024) ![0, 0] S256x1024.size inb_S256x1024_S256x1024_0_0).toLoadRect (harg1.unread x0)) (View.readAt (Elt Ideal) arg8.view (Rect.unit (s := S2816x1024) ![1024, 0] S1024x1024.size inb_S2816x1024_S1024x1024_1024_0).toLoadRect (harg8.unread x7)))
      (View.readAt (Elt Ideal) arg2.view (Rect.unit (s := S256x2816) ![0, 1024] S256x1024.size inb_S256x2816_S256x1024_0_1024).toLoadRect (harg2.unread x1))
      (View.readAt (Elt Ideal) arg3.view (Rect.unit (s := S256x2816) ![0, 1024] S256x1024.size inb_S256x2816_S256x1024_0_1024).toLoadRect (harg3.unread x2))
      (View.readAt (Elt Ideal) arg6.view (Rect.unit (s := S2816x1024) ![1024, 0] S1024x1024.size inb_S2816x1024_S1024x1024_1024_0).toLoadRect (harg6.unread x5))
      (View.readAt (Elt Ideal) arg7.view (Rect.unit (s := S2816x1024) ![1024, 0] S1024x1024.size inb_S2816x1024_S1024x1024_1024_0).toLoadRect (harg7.unread x6)) (ix2 r j)
      = part L (R r) 0 1024 (by decide) j + part L (R r) 1024 1024 (by decide) j := by
  have s0 := ds_wide (o := 0) (ho := by decide) (whole (M := arg1) (hM := harg1) h.ct (inb := inb_S256x1024_S256x1024_0_0))
    (channels (M := arg8) (hM := harg8) h.wd 0 1024 (by decide) (inb := inb_S2816x1024_S1024x1024_0_0))
  have s1 := ds_wide (o := 1024) (ho := by decide) (whole (M := arg1) (hM := harg1) h.ct (inb := inb_S256x1024_S256x1024_0_0))
    (channels (M := arg8) (hM := harg8) h.wd 1024 1024 (by decide) (inb := inb_S2816x1024_S1024x1024_1024_0))
  unfold k0_pay11
  refine congrArg₂ (· + ·) ?_ ?_
  · exact part_wide s0 (columns h.fa 0 1024 (by decide)) (columns h.fb 0 1024 (by decide)) (channels h.wg 0 1024 (by decide))
      (channels h.wu 0 1024 (by decide)) r j
  · exact part_wide s1 (columns h.fa 1024 1024 (by decide)) (columns h.fb 1024 1024 (by decide)) (channels h.wg 1024 1024 (by decide))
      (channels h.wu 1024 1024 (by decide)) r j

/-- The gradient of the normed row, from what was loaded. -/
theorem dh_loaded (r : Fin 256) (j : Fin 1024) :
    k0_pay15 (k0_pay11 (k0_pay7 (View.readAt (Elt Ideal) arg1.view (Rect.unit (s := S256x1024) ![0, 0] S256x1024.size inb_S256x1024_S256x1024_0_0).toLoadRect (harg1.unread x0)) (View.readAt (Elt Ideal) arg8.view (Rect.unit (s := S2816x1024) ![0, 0] S1024x1024.size inb_S2816x1024_S1024x1024_0_0).toLoadRect (harg8.unread x7)) (View.readAt (Elt Ideal) arg2.view (Rect.unit (s := S256x2816) ![0, 0] S256x1024.size inb_S256x2816_S256x1024_0_0).toLoadRect (harg2.unread x1)) (View.readAt (Elt Ideal) arg3.view (Rect.unit (s := S256x2816) ![0, 0] S256x1024.size inb_S256x2816_S256x1024_0_0).toLoadRect (harg3.unread x2))
        (View.readAt (Elt Ideal) arg6.view (Rect.unit (s := S2816x1024) ![0, 0] S1024x1024.size inb_S2816x1024_S1024x1024_0_0).toLoadRect (harg6.unread x5))
        (View.readAt (Elt Ideal) arg7.view (Rect.unit (s := S2816x1024) ![0, 0] S1024x1024.size inb_S2816x1024_S1024x1024_0_0).toLoadRect (harg7.unread x6)))
      (k0_pay8 (View.readAt (Elt Ideal) arg1.view (Rect.unit (s := S256x1024) ![0, 0] S256x1024.size inb_S256x1024_S256x1024_0_0).toLoadRect (harg1.unread x0)) (View.readAt (Elt Ideal) arg8.view (Rect.unit (s := S2816x1024) ![1024, 0] S1024x1024.size inb_S2816x1024_S1024x1024_1024_0).toLoadRect (harg8.unread x7)))
      (View.readAt (Elt Ideal) arg2.view (Rect.unit (s := S256x2816) ![0, 1024] S256x1024.size inb_S256x2816_S256x1024_0_1024).toLoadRect (harg2.unread x1))
      (View.readAt (Elt Ideal) arg3.view (Rect.unit (s := S256x2816) ![0, 1024] S256x1024.size inb_S256x2816_S256x1024_0_1024).toLoadRect (harg3.unread x2))
      (View.readAt (Elt Ideal) arg6.view (Rect.unit (s := S2816x1024) ![1024, 0] S1024x1024.size inb_S2816x1024_S1024x1024_1024_0).toLoadRect (harg6.unread x5))
      (View.readAt (Elt Ideal) arg7.view (Rect.unit (s := S2816x1024) ![1024, 0] S1024x1024.size inb_S2816x1024_S1024x1024_1024_0).toLoadRect (harg7.unread x6)))
      (k0_pay13 (k0_pay3 (View.readAt (Elt Ideal) arg1.view (Rect.unit (s := S256x1024) ![0, 0] S256x1024.size inb_S256x1024_S256x1024_0_0).toLoadRect (harg1.unread x0))) (View.readAt (Elt Ideal) arg8.view (Rect.unit (s := S2816x1024) ![2048, 0] S768x1024.size inb_S2816x1024_S768x1024_2048_0).toLoadRect (harg8.unread x7)) (View.readAt (Elt Ideal) arg2.view (Rect.unit (s := S256x2816) ![0, 2048] S256x768.size inb_S256x2816_S256x768_0_2048).toLoadRect (harg2.unread x1)))
      (k0_pay14 (k0_pay3 (View.readAt (Elt Ideal) arg1.view (Rect.unit (s := S256x1024) ![0, 0] S256x1024.size inb_S256x1024_S256x1024_0_0).toLoadRect (harg1.unread x0))) (View.readAt (Elt Ideal) arg8.view (Rect.unit (s := S2816x1024) ![2048, 0] S768x1024.size inb_S2816x1024_S768x1024_2048_0).toLoadRect (harg8.unread x7)) (View.readAt (Elt Ideal) arg3.view (Rect.unit (s := S256x2816) ![0, 2048] S256x768.size inb_S256x2816_S256x768_0_2048).toLoadRect (harg3.unread x2)))
      (View.readAt (Elt Ideal) arg6.view (Rect.unit (s := S2816x1024) ![2048, 0] S768x1024.size inb_S2816x1024_S768x1024_2048_0).toLoadRect (harg6.unread x5))
      (View.readAt (Elt Ideal) arg7.view (Rect.unit (s := S2816x1024) ![2048, 0] S768x1024.size inb_S2816x1024_S768x1024_2048_0).toLoadRect (harg7.unread x6)) (ix2 r j)
      = dh L (R r) j :=
  dh_read (runs_loaded h)
    (da_narrow (whole h.ct) (channels h.wd 2048 768 (by decide)) (columns h.fa 2048 768 (by decide)))
    (db_narrow (whole h.ct) (channels h.wd 2048 768 (by decide)) (columns h.fb 2048 768 (by decide)))
    (channels h.wg 2048 768 (by decide)) (channels h.wu 2048 768 (by decide)) r j

/-- The three runs of columns stored of the gated branch's gradient … -/
theorem da_pieces : ∀ q ∈ ([⟨Rect.unit (s := S256x2816) ![0, 2048] S256x768.size inb_S256x2816_S256x768_0_2048, k0_pay13 (k0_pay3 (View.readAt (Elt Ideal) arg1.view (Rect.unit (s := S256x1024) ![0, 0] S256x1024.size inb_S256x1024_S256x1024_0_0).toLoadRect (harg1.unread x0)))
        (View.readAt (Elt Ideal) arg8.view (Rect.unit (s := S2816x1024) ![2048, 0] S768x1024.size inb_S2816x1024_S768x1024_2048_0).toLoadRect (harg8.unread x7))
        (View.readAt (Elt Ideal) arg2.view (Rect.unit (s := S256x2816) ![0, 2048] S256x768.size inb_S256x2816_S256x768_0_2048).toLoadRect (harg2.unread x1))⟩,
      ⟨Rect.unit (s := S256x2816) ![0, 1024] S256x1024.size inb_S256x2816_S256x1024_0_1024, k0_pay9
        (k0_pay8 (View.readAt (Elt Ideal) arg1.view (Rect.unit (s := S256x1024) ![0, 0] S256x1024.size inb_S256x1024_S256x1024_0_0).toLoadRect (harg1.unread x0)) (View.readAt (Elt Ideal) arg8.view (Rect.unit (s := S2816x1024) ![1024, 0] S1024x1024.size inb_S2816x1024_S1024x1024_1024_0).toLoadRect (harg8.unread x7)))
        (View.readAt (Elt Ideal) arg2.view (Rect.unit (s := S256x2816) ![0, 1024] S256x1024.size inb_S256x2816_S256x1024_0_1024).toLoadRect (harg2.unread x1))⟩,
      ⟨Rect.unit (s := S256x2816) ![0, 0] S256x1024.size inb_S256x2816_S256x1024_0_0, k0_pay5
        (View.readAt (Elt Ideal) arg1.view (Rect.unit (s := S256x1024) ![0, 0] S256x1024.size inb_S256x1024_S256x1024_0_0).toLoadRect (harg1.unread x0))
        (View.readAt (Elt Ideal) arg8.view (Rect.unit (s := S2816x1024) ![0, 0] S1024x1024.size inb_S2816x1024_S1024x1024_0_0).toLoadRect (harg8.unread x7))
        (View.readAt (Elt Ideal) arg2.view (Rect.unit (s := S256x2816) ![0, 0] S256x1024.size inb_S256x2816_S256x1024_0_0).toLoadRect (harg2.unread x1))⟩] :
      List (View.Piece (Elt Ideal) S256x2816 .bf16)), ∀ x, q.2 x = laid (fun r k => da L (R r) k) (q.1.emb x) := by
  refine piece_cons 2048 768 (by decide) ?_ (piece_cons 1024 1024 (by decide) ?_ (piece_cons 0 1024 (by decide) ?_ (List.forall_mem_nil _)))
  · exact da_narrow (whole h.ct) (channels h.wd 2048 768 (by decide)) (columns h.fa 2048 768 (by decide))
  · exact da_wide (ds_wide (whole h.ct) (channels h.wd 1024 1024 (by decide))) (columns h.fa 1024 1024 (by decide))
  · exact da_wide (ds_wide (whole h.ct) (channels h.wd 0 1024 (by decide))) (columns h.fa 0 1024 (by decide))

/-- … and of the linear branch's. -/
theorem db_pieces : ∀ q ∈ ([⟨Rect.unit (s := S256x2816) ![0, 2048] S256x768.size inb_S256x2816_S256x768_0_2048, k0_pay14 (k0_pay3 (View.readAt (Elt Ideal) arg1.view (Rect.unit (s := S256x1024) ![0, 0] S256x1024.size inb_S256x1024_S256x1024_0_0).toLoadRect (harg1.unread x0)))
        (View.readAt (Elt Ideal) arg8.view (Rect.unit (s := S2816x1024) ![2048, 0] S768x1024.size inb_S2816x1024_S768x1024_2048_0).toLoadRect (harg8.unread x7))
        (View.readAt (Elt Ideal) arg3.view (Rect.unit (s := S256x2816) ![0, 2048] S256x768.size inb_S256x2816_S256x768_0_2048).toLoadRect (harg3.unread x2))⟩,
      ⟨Rect.unit (s := S256x2816) ![0, 1024] S256x1024.size inb_S256x2816_S256x1024_0_1024, k0_pay10
        (k0_pay8 (View.readAt (Elt Ideal) arg1.view (Rect.unit (s := S256x1024) ![0, 0] S256x1024.size inb_S256x1024_S256x1024_0_0).toLoadRect (harg1.unread x0)) (View.readAt (Elt Ideal) arg8.view (Rect.unit (s := S2816x1024) ![1024, 0] S1024x1024.size inb_S2816x1024_S1024x1024_1024_0).toLoadRect (harg8.unread x7)))
        (View.readAt (Elt Ideal) arg3.view (Rect.unit (s := S256x2816) ![0, 1024] S256x1024.size inb_S256x2816_S256x1024_0_1024).toLoadRect (harg3.unread x2))⟩,
      ⟨Rect.unit (s := S256x2816) ![0, 0] S256x1024.size inb_S256x2816_S256x1024_0_0, k0_pay6
        (View.readAt (Elt Ideal) arg1.view (Rect.unit (s := S256x1024) ![0, 0] S256x1024.size inb_S256x1024_S256x1024_0_0).toLoadRect (harg1.unread x0))
        (View.readAt (Elt Ideal) arg8.view (Rect.unit (s := S2816x1024) ![0, 0] S1024x1024.size inb_S2816x1024_S1024x1024_0_0).toLoadRect (harg8.unread x7))
        (View.readAt (Elt Ideal) arg3.view (Rect.unit (s := S256x2816) ![0, 0] S256x1024.size inb_S256x2816_S256x1024_0_0).toLoadRect (harg3.unread x2))⟩] :
      List (View.Piece (Elt Ideal) S256x2816 .bf16)), ∀ x, q.2 x = laid (fun r k => db L (R r) k) (q.1.emb x) := by
  refine piece_cons 2048 768 (by decide) ?_ (piece_cons 1024 1024 (by decide) ?_ (piece_cons 0 1024 (by decide) ?_ (List.forall_mem_nil _)))
  · exact db_narrow (whole h.ct) (channels h.wd 2048 768 (by decide)) (columns h.fb 2048 768 (by decide))
  · exact db_wide (ds_wide (whole h.ct) (channels h.wd 1024 1024 (by decide))) (columns h.fb 1024 1024 (by decide))
  · exact db_wide (ds_wide (whole h.ct) (channels h.wd 0 1024 (by decide))) (columns h.fb 0 1024 (by decide))

end Feeding
-- ==== Proof.FeedFirst.lean ====
/-
  The run of the feed-forward layer's backward call at a device's first block of rows: the gain's gradient is filled with
  zero, then added to.
-/
module

public import proofs.«01_k».proof.Proof.FeedLoads

@[expose] public section

set_option maxRecDepth 16384

noncomputable section

namespace Feeding

open Idealize.ShloMosaic Idealize.ShloMosaic.TcCoe Idealize.ShloMosaic.ValueIdx Cert.Kernel2Ideal Cert.Kernel2Ideal.Gen Idealize.SL.Sem

variable (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S8x1024 .f32) (harg12 : arg12.IsWhole) (hc0 : cond0_0 i)
    (x0 : Vec Ideal S256x1024 .f32) (x1 : Vec Ideal S256x2816 .bf16) (x2 : Vec Ideal S256x2816 .bf16) (x3 : Vec Ideal S256x1024 .f32) (x4 : Vec Ideal S1x1024 .f32) (x5 : Vec Ideal S2816x1024 .bf16) (x6 : Vec Ideal S2816x1024 .bf16) (x7 : Vec Ideal S2816x1024 .bf16)
variable {L : Params} {R : Fin 256 → Row} (h : Reads L R x0 x1 x2 x3 x4 x5 x6 x7)

include h

theorem first_da (r : Fin 256) (k : Fin 2816) : out0_A_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 (ix2 r k) = da L (R r) k := by
  refine (congrFun (View.read_writes_junk_eq_canon _ _) _).trans ?_
  refine View.canon_apply_of_pieces (Val := Elt Ideal) (e := .bf16) (laid fun r k => da L (R r) k) _ ?_ (ix2 r k) ?_
  · exact da_pieces h
  · exact cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 _

theorem first_db (r : Fin 256) (k : Fin 2816) : out0_A_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 (ix2 r k) = db L (R r) k := by
  refine (congrFun (View.read_writes_junk_eq_canon _ _) _).trans ?_
  refine View.canon_apply_of_pieces (Val := Elt Ideal) (e := .bf16) (laid fun r k => db L (R r) k) _ ?_ (ix2 r k) ?_
  · exact db_pieces h
  · exact cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 _

theorem first_dx (r : Fin 256) (j : Fin 1024) : out0_A_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 (ix2 r j) = dx L (R r) j := by
  refine (congrFun (View.read_writes_junk_eq_canon _ _) _).trans ?_
  refine (congrFun (View.canon_unit_zero (Val := Elt Ideal) (e := .f32) (S := S256x1024) (off := ![0, 0]) (by decide) _ _) _).trans ?_
  exact dx_read (whole h.x) (dh_loaded h) (whole h.ct) (gain h.g) r j

/-- The gain's gradient: the first row holds the rows' shares … -/
theorem first_dg (j : Fin 1024) : out0_A_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 (ix2 0 j) = 0 + ∑ r, dg L (R r) j := by
  refine (row_hit j).trans ?_
  refine congrArg₂ (· + ·) ?_ (dg_read (whole h.x) (dh_loaded h) 0 j)
  exact (congrFun (shapeCast_self _ _) _).trans ((row_filled j).trans Ideal.ofBits_zero_f32)

omit h in
/-- … and the others zero. -/
theorem first_dg_rest (i' : Fin 8) (hi : i' ≠ 0) (j : Fin 1024) : out0_A_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 (ix2 i' j) = 0 := by
  refine (row_miss i' hi j).trans ?_
  refine (congrFun (View.read_writes_junk_eq_canon _ _) _).trans ?_
  refine (congrFun (View.canon_unit_zero (Val := Elt Ideal) (e := .f32) (S := S8x1024) (off := ![0, 0]) (by decide) _ _) _).trans ?_
  exact Ideal.ofBits_zero_f32

end Feeding
-- ==== Proof.FeedNext.lean ====
/-
  The run of the feed-forward layer's backward call at a later block of rows: the gain's gradient is added to.
-/
module

public import proofs.«01_k».proof.Proof.FeedLoads

@[expose] public section

set_option maxRecDepth 16384

noncomputable section

namespace Feeding

open Idealize.ShloMosaic Idealize.ShloMosaic.TcCoe Idealize.ShloMosaic.ValueIdx Cert.Kernel2Ideal Cert.Kernel2Ideal.Gen Idealize.SL.Sem

variable (c : Dev nD) (i : grid0.Coords) (arg1 : Memref sig .tc .vmem S256x1024 .f32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x1024 .f32) (harg4 : arg4.IsWhole) (arg5 : Memref sig .tc .vmem S1x1024 .f32) (harg5 : arg5.IsWhole) (arg6 : Memref sig .tc .vmem S2816x1024 .bf16) (harg6 : arg6.IsWhole) (arg7 : Memref sig .tc .vmem S2816x1024 .bf16) (harg7 : arg7.IsWhole) (arg8 : Memref sig .tc .vmem S2816x1024 .bf16) (harg8 : arg8.IsWhole) (arg9 : Memref sig .tc .vmem S256x1024 .f32) (harg9 : arg9.IsWhole) (arg10 : Memref sig .tc .vmem S256x2816 .bf16) (harg10 : arg10.IsWhole) (arg11 : Memref sig .tc .vmem S256x2816 .bf16) (harg11 : arg11.IsWhole) (arg12 : Memref sig .tc .vmem S8x1024 .f32) (harg12 : arg12.IsWhole) (hc0 : ¬cond0_0 i)
    (x0 : Vec Ideal S256x1024 .f32) (x1 : Vec Ideal S256x2816 .bf16) (x2 : Vec Ideal S256x2816 .bf16) (x3 : Vec Ideal S256x1024 .f32) (x4 : Vec Ideal S1x1024 .f32) (x5 : Vec Ideal S2816x1024 .bf16) (x6 : Vec Ideal S2816x1024 .bf16) (x7 : Vec Ideal S2816x1024 .bf16) (xo11 : Vec Ideal S8x1024 .f32)
variable {L : Params} {R : Fin 256 → Row} (h : Reads L R x0 x1 x2 x3 x4 x5 x6 x7)

include h

theorem next_da (r : Fin 256) (k : Fin 2816) : out0_B_9 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo11 (ix2 r k) = da L (R r) k := by
  refine (congrFun (View.read_writes_junk_eq_canon _ _) _).trans ?_
  refine View.canon_apply_of_pieces (Val := Elt Ideal) (e := .bf16) (laid fun r k => da L (R r) k) _ ?_ (ix2 r k) ?_
  · exact da_pieces h
  · exact cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo11 _

theorem next_db (r : Fin 256) (k : Fin 2816) : out0_B_10 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo11 (ix2 r k) = db L (R r) k := by
  refine (congrFun (View.read_writes_junk_eq_canon _ _) _).trans ?_
  refine View.canon_apply_of_pieces (Val := Elt Ideal) (e := .bf16) (laid fun r k => db L (R r) k) _ ?_ (ix2 r k) ?_
  · exact db_pieces h
  · exact cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo11 _

theorem next_dx (r : Fin 256) (j : Fin 1024) : out0_B_8 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo11 (ix2 r j) = dx L (R r) j := by
  refine (congrFun (View.read_writes_junk_eq_canon _ _) _).trans ?_
  refine (congrFun (View.canon_unit_zero (Val := Elt Ideal) (e := .f32) (S := S256x1024) (off := ![0, 0]) (by decide) _ _) _).trans ?_
  exact dx_read (whole h.x) (dh_loaded h) (whole h.ct) (gain h.g) r j

/-- The gain's gradient: the first row gains the rows' shares … -/
theorem next_dg (j : Fin 1024) : out0_B_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo11 (ix2 0 j) = xo11 (ix2 0 j) + ∑ r, dg L (R r) j := by
  refine (row_hit j).trans ?_
  refine congrArg₂ (· + ·) ?_ (dg_read (whole h.x) (dh_loaded h) 0 j)
  exact (congrFun (shapeCast_self _ _) _).trans (Gating.load_apply _ _ _ _ _ _ _ _ fun d => match d with
    | ⟨0, _⟩ => rfl
    | ⟨1, _⟩ => (Nat.zero_add _).symm)

omit h in
/-- … and the others keep what they held. -/
theorem next_dg_rest (i' : Fin 8) (hi : i' ≠ 0) (j : Fin 1024) : out0_B_11 (F := Ideal) c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo11 (ix2 i' j) = xo11 (ix2 i' j) := by
  refine (row_miss i' hi j).trans ?_
  exact congrFun (Memref.IsWhole.read_unread _ _) _

end Feeding
-- ==== Proof.FeedFinal.lean ====
/-
  From the runs of the feed-forward layer's backward call to its whole results: sixteen blocks of 256 rows, each
  result's block stored where it belongs, and the gain's gradient summed over all rows.
-/
module

public import Idealize.ShloMosaic.Lib.Pipeline.ValueKit
public import proofs.«01_k».proof.Proof.FeedFirst
public import proofs.«01_k».proof.Proof.FeedNext
public import proofs.«01_k».proof.Proof.Gen.Kernel2Ideal.Value

@[expose] public section

set_option maxRecDepth 16384

noncomputable section

namespace Feeding

open Idealize.ShloMosaic hiding ix1 ix2 ix3 eq_ix2 eq_ix3
open Idealize.ShloMosaic.TcCoe Idealize.ShloMosaic.ValueIdx Cert.Kernel2Ideal Cert.Kernel2Ideal.Gen Idealize.SL.Sem

/-- What the call is handed: 4096 rows of each row-wise array, and the parameters. -/
structure Arrays (L : Params) (R : Fin 4096 → Row) (a0 : S4096x1024.Idx → EReal) (a1 a2 : S4096x2816.Idx → EReal)
    (a3 : S4096x1024.Idx → EReal) (a4 : S1x1024.Idx → EReal) (a5 a6 a7 : S2816x1024.Idx → EReal) : Prop where
  ct : ∀ n j, a0 (ix2 n j) = (R n).ct j
  fa : ∀ n k, a1 (ix2 n k) = (R n).fa k
  fb : ∀ n k, a2 (ix2 n k) = (R n).fb k
  x : ∀ n j, a3 (ix2 n j) = (R n).x j
  g : ∀ j, a4 (ix2 0 j) = L.g j
  wg : ∀ k j, a5 (ix2 k j) = L.wg k j
  wu : ∀ k j, a6 (ix2 k j) = L.wu k j
  wd : ∀ k j, a7 (ix2 k j) = L.wd k j

variable (m : (ℓ : Loc nD τ sig) → Buf (Elt Ideal) ℓ) (c : Dev nD) {L : Params} {R : Fin 4096 → Row}

/-- Row `r` of the block that run `t` covers. -/
def rowAt (t : Fin cfg0.N) (r : Fin 256) : Fin 4096 := ⟨256 * t.val + r.val, by have : t.val < 16 := t.isLt; omega⟩

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![t.val, 0] := by decide +kernel
theorem index_3 : ∀ t : Fin cfg0.N, win0_3.index t = ![t.val, 0] := by decide +kernel
theorem index_4 : ∀ t : Fin cfg0.N, win0_4.index t = ![0, 0] := by decide +kernel
theorem index_5 : ∀ t : Fin cfg0.N, win0_5.index t = ![0, 0] := by decide +kernel
theorem index_6 : ∀ t : Fin cfg0.N, win0_6.index t = ![0, 0] := by decide +kernel
theorem index_7 : ∀ t : Fin cfg0.N, win0_7.index t = ![0, 0] := by decide +kernel
theorem index_8 : ∀ t : Fin cfg0.N, win0_8.index t = ![t.val, 0] := by decide +kernel
theorem index_9 : ∀ t : Fin cfg0.N, win0_9.index t = ![t.val, 0] := by decide +kernel
theorem index_10 : ∀ t : Fin cfg0.N, win0_10.index t = ![t.val, 0] := by decide +kernel

/-- What the arrays hold when the call starts. -/
def Handed (L : Params) (R : Fin 4096 → Row) : Prop :=
  Arrays L R (V m c main_arg5) (V m c main_v28) (V m c main_v29) (V m c main_arg0) (V m c main_arg1) (V m c main_v31)
    (V m c main_v33) (V m c main_v34)

theorem ct_at (t : Fin cfg0.N) (r : Fin 256) (j : Fin 1024) :
    iblk m c 0 t (ix2 r j) = V m c main_arg5 (ix2 (rowAt t r) j) := by
  blk_ext [iblk, V, index_0 t, rowAt]
  show t.val * 256 + r.val = 256 * t.val + r.val
  omega

theorem fa_at (t : Fin cfg0.N) (r : Fin 256) (k : Fin 2816) :
    iblk m c 1 t (ix2 r k) = V m c main_v28 (ix2 (rowAt t r) k) := by
  blk_ext [iblk, V, index_1 t, rowAt]
  show t.val * 256 + r.val = 256 * t.val + r.val
  omega

theorem fb_at (t : Fin cfg0.N) (r : Fin 256) (k : Fin 2816) :
    iblk m c 2 t (ix2 r k) = V m c main_v29 (ix2 (rowAt t r) k) := by
  blk_ext [iblk, V, index_2 t, rowAt]
  show t.val * 256 + r.val = 256 * t.val + r.val
  omega

theorem x_at (t : Fin cfg0.N) (r : Fin 256) (j : Fin 1024) :
    iblk m c 3 t (ix2 r j) = V m c main_arg0 (ix2 (rowAt t r) j) := by
  blk_ext [iblk, V, index_3 t, rowAt]
  show t.val * 256 + r.val = 256 * t.val + r.val
  omega

theorem g_at (t : Fin cfg0.N) (j : Fin 1024) : iblk m c 4 t (ix2 0 j) = V m c main_arg1 (ix2 0 j) := by
  blk_ext [iblk, V, index_4 t]

theorem wg_at (t : Fin cfg0.N) (k : Fin 2816) (j : Fin 1024) : iblk m c 5 t (ix2 k j) = V m c main_v31 (ix2 k j) := by
  blk_ext [iblk, V, index_5 t]

theorem wu_at (t : Fin cfg0.N) (k : Fin 2816) (j : Fin 1024) : iblk m c 6 t (ix2 k j) = V m c main_v33 (ix2 k j) := by
  blk_ext [iblk, V, index_6 t]

theorem wd_at (t : Fin cfg0.N) (k : Fin 2816) (j : Fin 1024) : iblk m c 7 t (ix2 k j) = V m c main_v34 (ix2 k j) := by
  blk_ext [iblk, V, index_7 t]

variable {m c}

theorem reads_at (h : Handed m c L R) (t : Fin cfg0.N) :
    Reads L (fun r => R (rowAt t r)) (iblk m c 0 t) (iblk m c 1 t) (iblk m c 2 t) (iblk m c 3 t) (iblk m c 4 t) (iblk m c 5 t)
      (iblk m c 6 t) (iblk m c 7 t) where
  ct r j := (ct_at m c t r j).trans (h.ct _ j)
  fa r k := (fa_at m c t r k).trans (h.fa _ k)
  fb r k := (fb_at m c t r k).trans (h.fb _ k)
  x r j := (x_at m c t r j).trans (h.x _ j)
  g j := (g_at m c t j).trans (h.g j)
  wg k j := (wg_at m c t k j).trans (h.wg k j)
  wu k j := (wu_at m c t k j).trans (h.wu k j)
  wd k j := (wd_at m c t k j).trans (h.wd k j)

/-- Sixteen blocks of 256 rows. -/
theorem sum_blocks (f : Fin 4096 → EReal) : ∑ t : Fin cfg0.N, ∑ r : Fin 256, f (rowAt t r) = ∑ n, f n := by
  refine (Fintype.sum_prod_type' (fun (t : Fin 16) (r : Fin 256) => f (rowAt t r))).symm.trans ?_
  exact Fintype.sum_equiv (finProdFinEquiv (m := 16) (n := 256)) _ _ fun x => congrArg f (Fin.ext (Nat.add_comm _ _))

theorem dx_point (h : Handed m c L R) (t : Fin cfg0.N) (r : Fin 256) (j : Fin 1024) :
    (outsAt0 m c t.val t.isLt).1 (ix2 r j) = dx L (R (rowAt t r)) j := by
  by_cases h0 : t.val % 16 = 0
  · rw [outsAt0_A m c t h0]
    dsimp only
    rw [first_dx _ _ _ _ _ _ _ _ _ _ _ _ _ _ _ _ _ _ _ _ _ _ _ _ _ _ _ _ _ _ _ _ _ _ _ (reads_at h t)]
  · rw [outsAt0_B m c t h0]
    dsimp only
    rw [next_dx _ _ _ _ _ _ _ _ _ _ _ _ _ _ _ _ _ _ _ _ _ _ _ _ _ _ _ _ _ _ _ _ _ _ _ _ (reads_at h t)]

theorem dx_final (h : Handed m c L R) : (dats m 0 c).arrAt 8 cfg0.N = stacked fun n => dx L (R n) := by
  refine (dats m 0 c).arrAt_eq_of_covers 8 _ (by decide +kernel) fun t hf y => ?_
  blk_simp
  rw [after0_8]
  obtain ⟨i, j, rfl⟩ : ∃ i j, y = ix2 i j := ⟨y 0, y 1, eq_ix2 y⟩
  have he : (win0_8.blk t).view.emb (ix2 i j : S256x1024.Idx) = ix2 (rowAt t i) j := by
    blk_ext [index_8 t, rowAt]
    show t.val * 256 + i.val = 256 * t.val + i.val
    omega
  exact ((dx_point h t i j).trans (congrArg (stacked fun n => dx L (R n)) he).symm)

theorem da_point (h : Handed m c L R) (t : Fin cfg0.N) (r : Fin 256) (j : Fin 2816) :
    (outsAt0 m c t.val t.isLt).2.1 (ix2 r j) = da L (R (rowAt t r)) j := by
  by_cases h0 : t.val % 16 = 0
  · rw [outsAt0_A m c t h0]
    dsimp only
    rw [first_da _ _ _ _ _ _ _ _ _ _ _ _ _ _ _ _ _ _ _ _ _ _ _ _ _ _ _ _ _ _ _ _ _ _ _ (reads_at h t)]
  · rw [outsAt0_B m c t h0]
    dsimp only
    rw [next_da _ _ _ _ _ _ _ _ _ _ _ _ _ _ _ _ _ _ _ _ _ _ _ _ _ _ _ _ _ _ _ _ _ _ _ _ (reads_at h t)]

theorem da_final (h : Handed m c L R) : (dats m 0 c).arrAt 9 cfg0.N = stacked fun n => da L (R n) := by
  refine (dats m 0 c).arrAt_eq_of_covers 9 _ (by decide +kernel) fun t hf y => ?_
  blk_simp
  rw [after0_9]
  obtain ⟨i, j, rfl⟩ : ∃ i j, y = ix2 i j := ⟨y 0, y 1, eq_ix2 y⟩
  have he : (win0_9.blk t).view.emb (ix2 i j : S256x2816.Idx) = ix2 (rowAt t i) j := by
    blk_ext [index_9 t, rowAt]
    show t.val * 256 + i.val = 256 * t.val + i.val
    omega
  exact ((da_point h t i j).trans (congrArg (stacked fun n => da L (R n)) he).symm)

theorem db_point (h : Handed m c L R) (t : Fin cfg0.N) (r : Fin 256) (j : Fin 2816) :
    (outsAt0 m c t.val t.isLt).2.2.1 (ix2 r j) = db L (R (rowAt t r)) j := by
  by_cases h0 : t.val % 16 = 0
  · rw [outsAt0_A m c t h0]
    dsimp only
    rw [first_db _ _ _ _ _ _ _ _ _ _ _ _ _ _ _ _ _ _ _ _ _ _ _ _ _ _ _ _ _ _ _ _ _ _ _ (reads_at h t)]
  · rw [outsAt0_B m c t h0]
    dsimp only
    rw [next_db _ _ _ _ _ _ _ _ _ _ _ _ _ _ _ _ _ _ _ _ _ _ _ _ _ _ _ _ _ _ _ _ _ _ _ _ (reads_at h t)]

theorem db_final (h : Handed m c L R) : (dats m 0 c).arrAt 10 cfg0.N = stacked fun n => db L (R n) := by
  refine (dats m 0 c).arrAt_eq_of_covers 10 _ (by decide +kernel) fun t hf y => ?_
  blk_simp
  rw [after0_10]
  obtain ⟨i, j, rfl⟩ : ∃ i j, y = ix2 i j := ⟨y 0, y 1, eq_ix2 y⟩
  have he : (win0_10.blk t).view.emb (ix2 i j : S256x2816.Idx) = ix2 (rowAt t i) j := by
    blk_ext [index_10 t, rowAt]
    show t.val * 256 + i.val = 256 * t.val + i.val
    omega
  exact ((db_point h t i j).trans (congrArg (stacked fun n => db L (R n)) he).symm)

theorem dg_sum (h : Handed m c L R) : (dats m 0 c).arrAt 11 cfg0.N
    = fun i : S8x1024.Idx => ∑ p : Fin cfg0.N, if (i 0).val = 0 then ∑ r : Fin 256, dg L (R (rowAt p r)) (i 1) else 0 := by
  refine (dats m 0 c).arrAt_eq_of_after_last 11 t0_15 (by decide +kernel) _ fun j => ?_
  blk_simp
  rw [after0_11, Pipeline.eq_sum_fin_of_reset_step_apply_last (fun n h => (outsAt0 m c n h).2.2.2) 16 (fun _ => 0)
    (fun p i => if (i 0).val = 0 then ∑ r : Fin 256, dg L (R (rowAt p r)) (i 1) else 0)
    (fun t h0 i => by
      rw [outsAt0_A m c t h0]
      obtain ⟨a, j, rfl⟩ : ∃ a j, i = ix2 a j := ⟨i 0, i 1, eq_ix2 i⟩
      by_cases ha : a = 0
      · subst ha
        dsimp only
        rw [first_dg _ _ _ _ _ _ _ _ _ _ _ _ _ _ _ _ _ _ _ _ _ _ _ _ _ _ _ _ _ _ _ _ _ _ _ (reads_at h t)]
        rfl
      · have hv : ¬ ((ix2 a j : S8x1024.Idx) 0).val = 0 := fun e => ha (Fin.ext e)
        dsimp only
        rw [first_dg_rest _ _ _ _ _ _ _ _ _ _ _ _ _ _ _ _ _ _ _ _ _ _ _ _ _ _ _ _ _ _ _ _ _ _ _ a ha, if_neg hv, add_zero])
    (fun t h0 i => by
      rw [outsAt0_B m c t h0]
      obtain ⟨a, j, rfl⟩ : ∃ a j, i = ix2 a j := ⟨i 0, i 1, eq_ix2 i⟩
      by_cases ha : a = 0
      · subst ha
        dsimp only
        rw [next_dg _ _ _ _ _ _ _ _ _ _ _ _ _ _ _ _ _ _ _ _ _ _ _ _ _ _ _ _ _ _ _ _ _ _ _ _ (reads_at h t)]
        rfl
      · have hv : ¬ ((ix2 a j : S8x1024.Idx) 0).val = 0 := fun e => ha (Fin.ext e)
        dsimp only
        rw [next_dg_rest _ _ _ _ _ _ _ _ _ _ _ _ _ _ _ _ _ _ _ _ _ _ _ _ _ _ _ _ _ _ _ _ _ _ _ _ a ha, if_neg hv, add_zero])
    (le_of_eq N_0) t0_15 rfl _]
  exact zero_add (_ : EReal)

theorem dg_final (h : Handed m c L R) (j : Fin 1024) :
    (dats m 0 c).arrAt 11 cfg0.N (ix2 0 j) = ∑ n, dg L (R n) j := by
  rw [dg_sum h]
  exact sum_blocks fun n => dg L (R n) j

theorem dg_final_rest (h : Handed m c L R) (a : Fin 8) (ha : a ≠ 0) (j : Fin 1024) :
    (dats m 0 c).arrAt 11 cfg0.N (ix2 a j) = (0 : EReal) := by
  rw [dg_sum h]
  exact Finset.sum_eq_zero (M := EReal) fun p _ => if_neg (show ¬ a.val = 0 from fun e => ha (Fin.ext e))

end Feeding
-- ==== Proof.RowLaws.lean ====
/-
  The two gradients of the norms as the plain mathematics writes them (step by step, backwards through the mean,
  the square and the inverse root) equal the short forms of `Formulas`, on rows of finite numbers.
-/
module

public import proofs.«01_k».proof.Proof.Formulas

@[expose] public section

noncomputable section

namespace Gating

open Idealize.ShloMosaic

/-! ### Finite values -/

/-- A finite extended real. -/
def IsReal (x : EReal) : Prop := ∃ r : ℝ, x = (r : EReal)

theorem isReal_coe (r : ℝ) : IsReal (r : EReal) := ⟨r, rfl⟩
theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩

theorem coe_sum {ι : Type} [Fintype ι] (f : ι → ℝ) : ((∑ i, f i : ℝ) : EReal) = ∑ i, (f i : EReal) := by
  classical
  refine Finset.induction_on (Finset.univ : Finset ι) (by simp) fun a s ha ih => ?_
  rw [Finset.sum_insert ha, Finset.sum_insert ha, EReal.coe_add, ih]

theorem isReal_sum {ι : Type} [Fintype ι] (f : ι → EReal) (h : ∀ i, IsReal (f i)) : IsReal (∑ i, f i) := by
  choose g hg using h
  exact ⟨∑ i, g i, by rw [coe_sum]; exact Finset.sum_congr rfl fun i _ => hg i⟩

theorem IsReal.div {x : EReal} {c : ℝ} (hc : c ≠ 0) (h : IsReal x) : IsReal (Ideal.div x (c : EReal)) := by
  rw [Ideal.div_coe hc]; exact h.mul (isReal_coe _)
theorem IsReal.erf {x : EReal} : IsReal x → IsReal (Ideal.erf x)
  | ⟨a, ha⟩ => by rw [ha, Ideal.erf_coe]; exact isReal_coe _
theorem IsReal.exp {x : EReal} : IsReal x → IsReal (Ideal.exp x)
  | ⟨a, ha⟩ => by rw [ha]; exact isReal_coe _

theorem eps_real : ∃ e : ℝ, 0 < e ∧ eps = (e : EReal) :=
  ⟨8796093 * (2 : ℝ) ^ (-43 : ℤ), by positivity, by
    simp [eps, Ideal.ofBits, Ideal.ieee, -EReal.coe_mul, -zpow_neg]⟩

theorem isReal_gelu {x : EReal} (h : IsReal x) : IsReal (gelu x) :=
  ((isReal_coe _).mul h).mul ((isReal_coe 1).add (h.mul (isReal_coe _)).erf)
theorem isReal_geluD {x : EReal} (h : IsReal x) : IsReal (geluD x) := by
  have hn : IsReal (-half) := ⟨-(1 / 2), by rw [half, ← EReal.coe_neg]⟩
  exact ((isReal_coe _).mul ((isReal_coe 1).add (h.mul (isReal_coe _)).erf)).add
    ((h.mul ((hn.mul h).mul h).exp).mul (isReal_coe _))

/-! ### The norms of a row of finite numbers, over the reals -/

theorem mean_coe (f : Fin 1024 → ℝ) : mean (fun j => (f j : EReal)) = (((∑ j, f j) / 1024 : ℝ) : EReal) := by
  rw [mean, ← coe_sum, Ideal.div_coe (by norm_num), ← EReal.coe_mul]
  congr 1; ring

theorem isReal_mean {f : Fin 1024 → EReal} (h : ∀ j, IsReal (f j)) : IsReal (mean f) :=
  (isReal_sum f h).div (by norm_num)

/-- The mean square of a finite row and the guard: a positive real, with the inverse root of it. -/
theorem guarded (f : Fin 1024 → ℝ) : ∃ s : ℝ, 0 < s ∧ mean (fun j => (f j : EReal) * (f j : EReal)) + eps = (s : EReal)
    ∧ Ideal.rsqrt (s : EReal) = (((Real.sqrt s)⁻¹ : ℝ) : EReal) := by
  obtain ⟨e, he, hE⟩ := eps_real
  have hs : 0 < (∑ j, f j * f j) / 1024 + e :=
    add_pos_of_nonneg_of_pos (div_nonneg (Finset.sum_nonneg fun j _ => mul_self_nonneg _) (by norm_num)) he
  refine ⟨(∑ j, f j * f j) / 1024 + e, hs, ?_, ?_⟩
  · rw [hE, EReal.coe_add, ← mean_coe]
    simp only [EReal.coe_mul]
  · rw [Ideal.rsqrt_coe, if_neg (not_lt.mpr hs.le), if_neg hs.ne']

theorem isReal_rmsInv {x : Fin 1024 → EReal} (h : ∀ j, IsReal (x j)) : IsReal (rmsInv x) := by
  choose f hf using h
  obtain rfl : x = fun j => (f j : EReal) := funext hf
  obtain ⟨s, _, hs, hr⟩ := guarded f
  exact ⟨_, by rw [rmsInv, hs, hr]⟩

theorem isReal_centred {v : Fin 1024 → EReal} (h : ∀ j, IsReal (v j)) (j : Fin 1024) : IsReal (centred v j) :=
  (h j).sub (isReal_mean h)

theorem isReal_stdInv {v : Fin 1024 → EReal} (h : ∀ j, IsReal (v j)) : IsReal (stdInv v) := by
  choose f hf using isReal_centred h
  have e : centred v = fun j => (f j : EReal) := funext hf
  obtain ⟨s, _, hs, hr⟩ := guarded f
  exact ⟨_, by rw [stdInv, e, hs, hr]⟩

/-! ### Backwards through the norms, step by step -/

/-- The gradient of the root-mean-square norm as the chain rule gives it: the inverse root's own gradient is
    `-½ · r / m`, and it reaches every entry of the row twice, once through either factor of the square. -/
def rmsVjp (x d : Fin 1024 → EReal) (j : Fin 1024) : EReal :=
  let a := Ideal.div ((∑ i, x i * d i) * (-half * Ideal.div (rmsInv x) (mean (fun j => x j * x j) + eps))) ((1024 : ℝ) : EReal)
  d j * rmsInv x + x j * a + a * x j

/-- The gradient of the other norm as the chain rule gives it: through the factor, through the deviation, and
    through the mean that every entry has part in. -/
def normVjp (v d : Fin 1024 → EReal) (j : Fin 1024) : EReal :=
  let b := Ideal.div ((∑ i, centred v i * d i)
    * (-half * Ideal.div (stdInv v) (mean (fun j => centred v j * centred v j) + eps))) ((1024 : ℝ) : EReal)
  d j * stdInv v + b * (((2 : ℝ) : EReal) * centred v j)
    + Ideal.div ((∑ i, -(d i * stdInv v)) + ∑ i, -(b * (((2 : ℝ) : EReal) * centred v i))) ((1024 : ℝ) : EReal)

theorem rmsVjp_eq (x d : Fin 1024 → EReal) (hx : ∀ j, IsReal (x j)) (hd : ∀ j, IsReal (d j)) (j : Fin 1024) :
    rmsVjp x d j = rmsGrad x d j := by
  choose f hf using hx
  choose e he using hd
  obtain rfl : x = fun j => (f j : EReal) := funext hf
  obtain rfl : d = fun j => (e j : EReal) := funext he
  obtain ⟨s, hs, hm, hr⟩ := guarded f
  have hS : ((Real.sqrt s)⁻¹) ^ 2 = 1 / s := by rw [inv_pow, Real.sq_sqrt hs.le, one_div]
  have hh : (-half : EReal) = ((-(1 / 2) : ℝ) : EReal) := by rw [half, ← EReal.coe_neg]
  simp only [rmsVjp, rmsGrad, rmsHat, rmsInv, hm, hr, hh, Ideal.div_coe hs.ne', Ideal.div_coe (by norm_num : (1024 : ℝ) ≠ 0)]
  simp only [← EReal.coe_mul, ← coe_sum, mean_coe, ← EReal.coe_sub, ← EReal.coe_add]
  congr 1
  generalize (Real.sqrt s)⁻¹ = r at hS
  have h1 : ∑ i, e i * (f i * r) = r * ∑ i, f i * e i := by
    rw [Finset.mul_sum]; exact Finset.sum_congr rfl fun i _ => by ring
  rw [h1, ← hS]
  ring

theorem normVjp_eq (v d : Fin 1024 → EReal) (hv : ∀ j, IsReal (v j)) (hd : ∀ j, IsReal (d j)) (j : Fin 1024) :
    normVjp v d j = normGrad v d j := by
  choose w hw using hv
  choose e he using hd
  obtain rfl : v = fun j => (w j : EReal) := funext hw
  obtain rfl : d = fun j => (e j : EReal) := funext he
  obtain ⟨f, hc, h0⟩ : ∃ f : Fin 1024 → ℝ, (∀ i, centred (fun j => (w j : EReal)) i = (f i : EReal)) ∧ ∑ i, f i = 0 := by
    refine ⟨fun i => w i - (∑ j, w j) / 1024, fun i => by rw [centred, mean_coe, EReal.coe_sub], ?_⟩
    rw [Finset.sum_sub_distrib, Finset.sum_const, Finset.card_univ, Fintype.card_fin]
    simp; ring
  obtain ⟨s, hs, hm, hr⟩ := guarded f
  have hS : ((Real.sqrt s)⁻¹) ^ 2 = 1 / s := by rw [inv_pow, Real.sq_sqrt hs.le, one_div]
  have hh : (-half : EReal) = ((-(1 / 2) : ℝ) : EReal) := by rw [half, ← EReal.coe_neg]
  simp only [normVjp, normGrad, normHat, stdInv, hc, hm, hr, hh, Ideal.div_coe hs.ne', Ideal.div_coe (by norm_num : (1024 : ℝ) ≠ 0)]
  simp only [← EReal.coe_mul, ← EReal.coe_neg, ← coe_sum, mean_coe, ← EReal.coe_sub, ← EReal.coe_add]
  congr 1
  generalize (Real.sqrt s)⁻¹ = r at hS
  have h1 : ∑ i, e i * (f i * r) = r * ∑ i, f i * e i := by
    rw [Finset.mul_sum]; exact Finset.sum_congr rfl fun i _ => by ring
  have h2 : ∑ i, -(e i * r) = -(r * ∑ i, e i) := by
    rw [Finset.mul_sum, ← Finset.sum_neg_distrib]; exact Finset.sum_congr rfl fun i _ => by ring
  have h3 : ∀ b : ℝ, ∑ i, -(b * (2 * f i)) = 0 := fun b => by
    rw [show (fun i => -(b * (2 * f i))) = fun i => (-(b * 2)) * f i from funext fun i => by ring, ← Finset.mul_sum, h0, mul_zero]
  rw [h1, h2, h3, ← hS]
  ring

end Gating
-- ==== Proof.Stacks.lean ====
/-
  The two stacks of eight matrices a run of the body adds to: the gradients of the spatial weights and of the biases.
  The body visits the four blocks of rows in turn and, within each, the eight groups; every visit reads the group's
  matrix, adds the block's share and stores it back.
-/
module

public import proofs.«01_k».proof.Proof.Blocks

@[expose] public section

noncomputable section

namespace Gating

open Idealize.ShloMosaic Idealize.ShloMosaic.ValueIdx Cert.KernelIdeal Cert.KernelIdeal.Gen

/-- A group's matrix after the first `m` blocks of rows have been added. -/
def partialSum (base : S8x128x128.Idx → EReal) (D : Fin 4 → Fin 8 → Fin 128 → Fin 128 → EReal) (a : Fin 8) (i q : Fin 128) : ℕ → EReal
  | 0 => base (ix3 a i q)
  | m + 1 => partialSum base D a i q m + D ⟨m % 4, by omega⟩ a i q

theorem partialSum_four (base : S8x128x128.Idx → EReal) (D : Fin 4 → Fin 8 → Fin 128 → Fin 128 → EReal) (a : Fin 8) (i q : Fin 128) :
    partialSum base D a i q 4 = base (ix3 a i q) + ∑ n, D n a i q := by
  rw [Fin.sum_univ_four]
  show base (ix3 a i q) + D 0 a i q + D 1 a i q + D 2 a i q + D 3 a i q = _
  simp only [add_assoc]

/-- After `k` visits the list of stores holds the partial sums — of every group when the stack was filled first
    (`all`), else of the groups visited. -/
def Upto (base : S8x128x128.Idx → EReal) (D : Fin 4 → Fin 8 → Fin 128 → Fin 128 → EReal) (all : Prop) (k : ℕ)
    (L : List (View.Piece (Elt Ideal) S8x128x128 .f32)) : Prop :=
  ∀ a i q, (all ∨ a.val < k) → View.canon L (ix3 a i q) = partialSum base D a i q ((k + 7 - a.val) / 8)

variable {base : S8x128x128.Idx → EReal} {D : Fin 4 → Fin 8 → Fin 128 → Fin 128 → EReal} {all : Prop}

/-- Where a group's matrix lies in the stack. -/
theorem group_emb (a : Fin 8) {o : Nat} (h : o = a.val) (inb : ∀ d, ![o, 0, 0] d + S1x128x128.size d ≤ S8x128x128.size d) (i q : Fin 128) :
    (Rect.unit (s := S8x128x128) ![o, 0, 0] S1x128x128.size inb).emb (ix3 0 i q) = ix3 a i q :=
  funext fun d => match d with
    | ⟨0, _⟩ => Fin.ext (by show o + 1 * 0 = a.val; omega)
    | ⟨1, _⟩ => Fin.ext (by show 0 + 1 * i.val = i.val; omega)
    | ⟨2, _⟩ => Fin.ext (by show 0 + 1 * q.val = q.val; omega)

/-- … and that no other group lies there. -/
theorem group_not_mem (a b : Fin 8) {o : Nat} (h : o = a.val) (hb : b ≠ a) (inb : ∀ d, ![o, 0, 0] d + S1x128x128.size d ≤ S8x128x128.size d)
    (i q : Fin 128) : ix3 b i q ∉ (Rect.unit (s := S8x128x128) ![o, 0, 0] S1x128x128.size inb).set := by
  intro hm
  obtain ⟨x, hx⟩ := (Rect.unit (s := S8x128x128) ![o, 0, 0] S1x128x128.size inb).exists_idx_of_mem hm
  refine hb (Fin.ext ?_)
  have h0 : o + 1 * (x 0).val = b.val := congrArg Fin.val (congrFun hx 0)
  have h1 : (x 0).val < 1 := (x 0).isLt
  omega

/-- One more visit. -/
theorem upto_cons {p : S1x128x128.Idx → EReal} {L : List (View.Piece (Elt Ideal) S8x128x128 .f32)} (n : Fin 4) (a : Fin 8) {o k : Nat}
    {inb : ∀ d, ![o, 0, 0] d + S1x128x128.size d ≤ S8x128x128.size d} (ho : o = a.val) (hk : k = 8 * n.val + a.val + 1)
    (hL : Upto base D all (8 * n.val + a.val) L)
    (hp : ∀ i q, p (ix3 0 i q) = partialSum base D a i q (n.val + 1)) :
    Upto base D all k ((⟨Rect.unit (s := S8x128x128) ![o, 0, 0] S1x128x128.size inb, p⟩ : View.Piece (Elt Ideal) S8x128x128 .f32) :: L) := by
  subst hk
  intro b i q hb
  by_cases e : b = a
  · subst e
    have h := View.canon_cons_emb (Val := Elt Ideal) (e := .f32) (Rect.unit (s := S8x128x128) ![o, 0, 0] S1x128x128.size inb) p L (ix3 0 i q)
    rw [group_emb b ho inb i q] at h
    refine h.trans ((hp i q).trans (congrArg _ ?_))
    omega
  · have hne : b.val ≠ a.val := fun h => e (Fin.ext h)
    have h := View.canon_cons_of_not_mem (Val := Elt Ideal) (e := .f32) ⟨Rect.unit (s := S8x128x128) ![o, 0, 0] S1x128x128.size inb, p⟩ L
      (group_not_mem a b ho e inb i q)
    refine h.trans ((hL b i q (hb.imp id fun h => by omega)).trans (congrArg _ ?_))
    omega

/-- A group's matrix read back from the stores so far. -/
theorem upto_read {M : Memref sig .tc .vmem S8x128x128 .f32} {L : List (View.Piece (Elt Ideal) S8x128x128 .f32)} (n : Fin 4) (a : Fin 8) {o : Nat}
    (ho : o = a.val) (inb : ∀ d, ![o, 0, 0] d + S1x128x128.size d ≤ S8x128x128.size d) (hall : all ∨ 0 < n.val)
    (hL : Upto base D all (8 * n.val + a.val) L) (i q : Fin 128) :
    M.view.readCov L (Rect.unit (s := S8x128x128) ![o, 0, 0] S1x128x128.size inb).toLoadRect (ix3 0 i q) = partialSum base D a i q n.val := by
  rw [View.readCov_eq_canon']
  refine (congrArg (View.canon L) (group_emb a ho inb i q)).trans ((hL a i q (hall.imp id fun h => by omega)).trans ?_)
  rw [show (8 * n.val + a.val + 7 - a.val) / 8 = n.val from by omega]

theorem partialSum_succ (n : Fin 4) (a : Fin 8) (i q : Fin 128) :
    partialSum base D a i q (n.val + 1) = partialSum base D a i q n.val + D n a i q := by
  show _ + D ⟨n.val % 4, _⟩ a i q = _
  rw [show (⟨n.val % 4, by omega⟩ : Fin 4) = n from Fin.ext (Nat.mod_eq_of_lt n.isLt)]

/-- Nothing has been visited. -/
theorem upto_nil (base : S8x128x128.Idx → EReal) (D) : Upto base D False 0 [] :=
  fun _ _ _ h => h.elim False.elim (fun h => absurd h (Nat.not_lt_zero _))

/-- The stack filled first. -/
theorem upto_fill {p : S8x128x128.Idx → EReal} {inb : ∀ d, ![0, 0, 0] d + S8x128x128.size d ≤ S8x128x128.size d} (hp : ∀ y, p y = base y) :
    Upto base D True 0 [(⟨Rect.unit (s := S8x128x128) ![0, 0, 0] S8x128x128.size inb, p⟩ : View.Piece (Elt Ideal) S8x128x128 .f32)] := by
  intro a i q _
  have h := congrFun (View.canon_unit_zero (Val := Elt Ideal) (e := .f32) (S := S8x128x128) (off := ![0, 0, 0])
    (funext fun d => by fin_cases d <;> rfl) inb p) (ix3 a i q)
  rw [show (0 + 7 - a.val) / 8 = 0 from by omega]
  exact h.trans (hp _)

/-- After the last visit. -/
theorem upto_last {L : List (View.Piece (Elt Ideal) S8x128x128 .f32)} (h : Upto base D all 32 L) (a : Fin 8) (i q : Fin 128) :
    View.canon L (ix3 a i q) = base (ix3 a i q) + ∑ n, D n a i q := by
  rw [h a i q (Or.inr (by omega)), show (32 + 7 - a.val) / 8 = 4 from by omega, partialSum_four]

variable {W : Weights} {B : Fin 4 → Rows}
variable {dyv u : FVec Ideal S512x1024 .f32} {vn : FVec Ideal S512x1024 .bf16}
variable {M : Memref sig .tc .vmem S8x128x128 .f32} {hM : M.IsWhole} {X : Vec Ideal S8x128x128 .f32}
  {L : List (View.Piece (Elt Ideal) S8x128x128 .f32)}

/-- What the stacks receive. -/
def wmShare (W : Weights) (B : Fin 4 → Rows) (n : Fin 4) (a : Fin 8) (i q : Fin 128) : EReal := dwm W (B n) a i q
def bsShare (W : Weights) (B : Fin 4 → Rows) (n : Fin 4) (a : Fin 8) (i _q : Fin 128) : EReal := dbs W (B n) a i

/-- A visit to the gradient of the spatial weights that reads an earlier store. -/
theorem dwm_read (n : Fin 4) (a : Fin 8) {o o0 o1 k : Nat} {inb inb'}
    (hdy : ∀ n r j, dyv (ix2 (row n r) j) = dy W (B n) r j) (hu : ∀ n r j, u (ix2 (row n r) j) = uu (B n) r j)
    (hvn : ∀ n r j, vn (ix2 (row n r) j) = (B n).vn r j) {hs ht hc hz}
    (hall : all ∨ 0 < n.val) (ho : o = a.val) (h0 : o0 = 128 * n.val) (h1 : o1 = 128 * a.val) (hk : k = 8 * n.val + a.val + 1)
    (hL : Upto base (wmShare W B) all (8 * n.val + a.val) L) :
    Upto base (wmShare W B) all k ((⟨Rect.unit (s := S8x128x128) ![o, 0, 0] S1x128x128.size inb,
      shapeCast S1x128x128 (addf (shapeCast S128x128 (M.view.readCov L (Rect.unit (s := S8x128x128) ![o, 0, 0] S1x128x128.size inb').toLoadRect) hc : FVec Ideal S128x128 .f32)
        (matmul dot_S128x128_S128x128_S128x128_1_1_0_0_n_n none
          (truncf .bf16 (mulf (extractStridedSlice S128x128 ![o0, o1] dyv hs) (extractStridedSlice S128x128 ![o0, o1] u hs)) ht : FVec Ideal S128x128 .bf16)
          (extractStridedSlice S128x128 ![o0, o1] vn hs) (constant S128x128 .f32 0x00000000#32))) hz⟩ : View.Piece (Elt Ideal) S8x128x128 .f32) :: L) :=
  upto_cons n a ho hk hL fun i q => by
    rw [dwm_block n a h0 h1 hdy hu hvn hs ht hc hz i q, partialSum_succ]
    exact congrArg (· + dwm W (B n) a i q) (upto_read n a ho inb' hall hL i q)

/-- A visit that reads what the buffer held before the run. -/
theorem dwm_load (a : Fin 8) {o o0 o1 k : Nat} {inb inb'}
    (hdy : ∀ n r j, dyv (ix2 (row n r) j) = dy W (B n) r j) (hu : ∀ n r j, u (ix2 (row n r) j) = uu (B n) r j)
    (hvn : ∀ n r j, vn (ix2 (row n r) j) = (B n).vn r j) {hs ht hc hz}
    (ho : o = a.val) (h0 : o0 = 128 * (0 : Fin 4).val) (h1 : o1 = 128 * a.val) (hk : k = 8 * (0 : Fin 4).val + a.val + 1) (hL : Upto X (wmShare W B) False (8 * (0 : Fin 4).val + a.val) L) :
    Upto X (wmShare W B) False k ((⟨Rect.unit (s := S8x128x128) ![o, 0, 0] S1x128x128.size inb,
      shapeCast S1x128x128 (addf (shapeCast S128x128 (View.readAt (Elt Ideal) M.view (Rect.unit (s := S8x128x128) ![o, 0, 0] S1x128x128.size inb').toLoadRect (hM.unread X)) hc : FVec Ideal S128x128 .f32)
        (matmul dot_S128x128_S128x128_S128x128_1_1_0_0_n_n none
          (truncf .bf16 (mulf (extractStridedSlice S128x128 ![o0, o1] dyv hs) (extractStridedSlice S128x128 ![o0, o1] u hs)) ht : FVec Ideal S128x128 .bf16)
          (extractStridedSlice S128x128 ![o0, o1] vn hs) (constant S128x128 .f32 0x00000000#32))) hz⟩ : View.Piece (Elt Ideal) S8x128x128 .f32) :: L) :=
  upto_cons 0 a ho hk hL fun i q => by
    rw [dwm_block 0 a h0 h1 hdy hu hvn hs ht hc hz i q, partialSum_succ]
    exact congrArg (· + dwm W (B 0) a i q) (load_group a ho inb' i q)

/-- A visit to the gradient of the biases that reads an earlier store. -/
theorem dbs_read (n : Fin 4) (a : Fin 8) {o o0 o1 k : Nat} {inb inb'}
    (hdy : ∀ n r j, dyv (ix2 (row n r) j) = dy W (B n) r j) (hu : ∀ n r j, u (ix2 (row n r) j) = uu (B n) r j) {hs ht hc hz}
    (hall : all ∨ 0 < n.val) (ho : o = a.val) (h0 : o0 = 128 * n.val) (h1 : o1 = 128 * a.val) (hk : k = 8 * n.val + a.val + 1)
    (hL : Upto base (bsShare W B) all (8 * n.val + a.val) L) :
    Upto base (bsShare W B) all k ((⟨Rect.unit (s := S8x128x128) ![o, 0, 0] S1x128x128.size inb,
      shapeCast S1x128x128 (addf (shapeCast S128x128 (M.view.readCov L (Rect.unit (s := S8x128x128) ![o, 0, 0] S1x128x128.size inb').toLoadRect) hc : FVec Ideal S128x128 .f32)
        (matmul dot_S128x128_S128x128_S128x128_1_0_0_1_n_n none
          (truncf .bf16 (mulf (extractStridedSlice S128x128 ![o0, o1] dyv hs) (extractStridedSlice S128x128 ![o0, o1] u hs)) ht : FVec Ideal S128x128 .bf16)
          (broadcast S128x128 (Scalar.ofBits .bf16 0x3F80#16)) (constant S128x128 .f32 0x00000000#32))) hz⟩ : View.Piece (Elt Ideal) S8x128x128 .f32) :: L) :=
  upto_cons n a ho hk hL fun i q => by
    rw [dbs_block n a h0 h1 hdy hu hs ht hc hz i q, partialSum_succ]
    exact congrArg (· + dbs W (B n) a i) (upto_read n a ho inb' hall hL i q)

/-- A visit that reads what the buffer held before the run. -/
theorem dbs_load (a : Fin 8) {o o0 o1 k : Nat} {inb inb'}
    (hdy : ∀ n r j, dyv (ix2 (row n r) j) = dy W (B n) r j) (hu : ∀ n r j, u (ix2 (row n r) j) = uu (B n) r j) {hs ht hc hz}
    (ho : o = a.val) (h0 : o0 = 128 * (0 : Fin 4).val) (h1 : o1 = 128 * a.val) (hk : k = 8 * (0 : Fin 4).val + a.val + 1) (hL : Upto X (bsShare W B) False (8 * (0 : Fin 4).val + a.val) L) :
    Upto X (bsShare W B) False k ((⟨Rect.unit (s := S8x128x128) ![o, 0, 0] S1x128x128.size inb,
      shapeCast S1x128x128 (addf (shapeCast S128x128 (View.readAt (Elt Ideal) M.view (Rect.unit (s := S8x128x128) ![o, 0, 0] S1x128x128.size inb').toLoadRect (hM.unread X)) hc : FVec Ideal S128x128 .f32)
        (matmul dot_S128x128_S128x128_S128x128_1_0_0_1_n_n none
          (truncf .bf16 (mulf (extractStridedSlice S128x128 ![o0, o1] dyv hs) (extractStridedSlice S128x128 ![o0, o1] u hs)) ht : FVec Ideal S128x128 .bf16)
          (broadcast S128x128 (Scalar.ofBits .bf16 0x3F80#16)) (constant S128x128 .f32 0x00000000#32))) hz⟩ : View.Piece (Elt Ideal) S8x128x128 .f32) :: L) :=
  upto_cons 0 a ho hk hL fun i q => by
    rw [dbs_block 0 a h0 h1 hdy hu hs ht hc hz i q, partialSum_succ]
    exact congrArg (· + dbs W (B 0) a i) (load_group a ho inb' i q)

end Gating
-- ==== Proof.Tail.lean ====
/-
  The row-wise stages after the blocks: from the gradients of the two halves to the gradient of the projection, the
  product with the projection's weights, the gradient handed on, and the sums over rows for the two gains.
-/
module

public import Idealize.ShloMosaic.Lib.WritesUnit
public import proofs.«01_k».proof.Proof.Blocks

@[expose] public section

noncomputable section

namespace Gating

open Idealize.ShloMosaic Idealize.ShloMosaic.ValueIdx Cert.KernelIdeal Cert.KernelIdeal.Gen

variable {W : Weights} {B : Fin 4 → Rows}

/-- A sum over 512 rows, block by block. -/
theorem sum_rows (f : Fin 512 → EReal) : ∑ i, f i = ∑ n : Fin 4, ∑ r : Fin 128, f (row n r) := by
  rw [← Finset.sum_product', ← Equiv.sum_comp (finProdFinEquiv (m := 4) (n := 128))]
  refine Finset.sum_congr rfl fun p _ => congrArg f (Fin.ext ?_)
  show p.2.val + 128 * p.1.val = 128 * p.1.val + p.2.val
  omega

/-- A sum over 2048 columns, quarter by quarter. -/
theorem sum_quarters (f : Fin 2048 → EReal) : ∑ i, f i = ∑ s : Fin 4, ∑ c : Fin 512, f (quarter s c) := by
  rw [← Finset.sum_product', ← Equiv.sum_comp (finProdFinEquiv (m := 4) (n := 512))]
  refine Finset.sum_congr rfl fun p _ => congrArg f (Fin.ext ?_)
  show p.2.val + 512 * p.1.val = 512 * p.1.val + p.2.val
  omega

/-! ### The norm of the mixed half -/

section Norm

variable {v8 : Vec Ideal S512x2048 .bf16} (h8 : ∀ n r j, v8 (ix2 (row n r) j) = (B n).z r j)
include h8

theorem std_pay (n : Fin 4) (r : Fin 128) : k0_pay15 (k0_pay13 v8) k0_pay14 (ix2 (row n r) 0) = stdInv (vv (B n) r) :=
  std_read h8 n r

theorem hat_pay (n : Fin 4) (r : Fin 128) (j : Fin 1024) :
    k0_pay16 (k0_pay12 v8) (k0_pay13 v8) k0_pay14 (ix2 (row n r) j) = normHat (vv (B n) r) j := by
  unfold k0_pay16 normHat
  rw [mulf_apply, spread_col, centred_read h8, std_pay h8]

variable {d : Vec Ideal S512x1024 .f32} (hd : ∀ n r j, d (ix2 (row n r) j) = dvn W (B n) r j)
include hd

/-- The gain's gradient: what the row held plus this run's four blocks. -/
theorem dgv_row (old : FVec Ideal S1x1024 .f32) (u : Fin 1) (j : Fin 1024) :
    addf old (shapeCast S1x1024 (multiReduction .add [0] S1024 (mulf d (k0_pay16 (k0_pay12 v8) (k0_pay13 v8) k0_pay14)) 0x00000000#32
      reduces_S512x1024_S1024 (.inl rfl) rfl) shapeCasts_S1024_S1x1024) (ix2 u j)
      = old (ix2 u j) + ∑ n, dgv W (B n) j := by
  rw [addf_apply, col_sum, sum_rows]
  refine congrArg (old (ix2 u j) + ·) (Finset.sum_congr rfl fun n _ => Finset.sum_congr rfl fun r _ => ?_)
  rw [mulf_apply, hd, hat_pay h8]

variable {gv : Vec Ideal S1x1024 .f32} (hgv : ∀ j, gv (ix2 0 j) = W.gv j)
include hgv

omit h8 in
theorem scaled_pay (n : Fin 4) (r : Fin 128) (j : Fin 1024) : k0_pay269 d gv (ix2 (row n r) j) = dvn W (B n) r j * W.gv j := by
  unfold k0_pay269
  rw [mulf_apply, spread_row, hd, hgv]

omit h8 in
theorem scaled_centred_pay (n : Fin 4) (r : Fin 128) (j : Fin 1024) :
    k0_pay270 d gv (ix2 (row n r) j) = dvn W (B n) r j * W.gv j - mean fun i => dvn W (B n) r i * W.gv i := by
  unfold k0_pay270
  dsimp only
  rw [subf_apply, spread_col, scaled_pay hd hgv, mean_read (row n r) 0 (scaled_pay hd hgv n r)]

/-- The gradient of the right half of the projection. -/
theorem dz_hi_pay (n : Fin 4) (r : Fin 128) (j : Fin 1024) :
    k0_pay273 (k0_pay10 v8) (k0_pay15 (k0_pay13 v8) k0_pay14) (k0_pay16 (k0_pay12 v8) (k0_pay13 v8) k0_pay14) (k0_pay270 d gv)
      (k0_pay271 (k0_pay16 (k0_pay12 v8) (k0_pay13 v8) k0_pay14) d gv) (ix2 (row n r) j)
      = dv W (B n) r j * geluD ((B n).z r (hi j)) := by
  have hm : ∀ i, k0_pay271 (k0_pay16 (k0_pay12 v8) (k0_pay13 v8) k0_pay14) d gv (ix2 (row n r) i)
      = (dvn W (B n) r i * W.gv i) * normHat (vv (B n) r) i := fun i => by
    unfold k0_pay271
    rw [mulf_apply, scaled_pay hd hgv, hat_pay h8]
  unfold k0_pay273
  dsimp only
  rw [mulf_apply, mulf_apply, subf_apply, mulf_apply, spread_col, spread_col, mean_read (row n r) 0 hm, std_pay h8, hat_pay h8,
    scaled_centred_pay hd hgv, ← zv_read h8 n r j]
  exact congrArg (_ * ·) (geluD_word _)

omit hd hgv in
/-- The gradient of the left half of the projection. -/
theorem dz_lo_pay {d : Vec Ideal S512x1024 .f32} (hd : ∀ n r j, d (ix2 (row n r) j) = du W (B n) r j) (n : Fin 4) (r : Fin 128) (j : Fin 1024) :
    k0_pay272 (k0_pay9 v8) d (ix2 (row n r) j) = du W (B n) r j * geluD ((B n).z r (lo j)) := by
  unfold k0_pay272
  rw [truncf_apply, mulf_apply, hd, ← zu_read h8 n r j]
  exact congrArg (_ * ·) (geluD_word _)

end Norm

/-! ### The gradient of the projection, stored in two halves -/

/-- The two halves of a row of 2048 stored one after the other. -/
theorem halves_canon {p q : S512x1024.Idx → EReal} {inbP inbQ} (i : Fin 512) (f : Fin 2048 → EReal)
    (hp : ∀ j, p (ix2 i j) = f (hi j)) (hq : ∀ j, q (ix2 i j) = f (lo j)) (j : Fin 2048) :
    View.canon ((⟨Rect.unit (s := S512x2048) ![0, 1024] S512x1024.size inbP, p⟩ : View.Piece (Elt Ideal) S512x2048 .bf16)
      :: ⟨Rect.unit (s := S512x2048) ![0, 0] S512x1024.size inbQ, q⟩ :: []) (ix2 i j) = f j := by
  by_cases h : j.val < 1024
  · have hn : ix2 i j ∉ (Rect.unit (s := S512x2048) ![0, 1024] S512x1024.size inbP).set := by
      intro hm
      obtain ⟨x, hx⟩ := (Rect.unit (s := S512x2048) ![0, 1024] S512x1024.size inbP).exists_idx_of_mem hm
      have h0 : 1024 + 1 * (x 1).val = j.val := congrArg Fin.val (congrFun hx 1)
      omega
    have he : (Rect.unit (s := S512x2048) ![0, 0] S512x1024.size inbQ).emb (ix2 i ⟨j.val, h⟩) = ix2 i j :=
      funext fun d => match d with
        | ⟨0, _⟩ => Fin.ext (by show 0 + 1 * i.val = i.val; omega)
        | ⟨1, _⟩ => Fin.ext (by show 0 + 1 * j.val = j.val; omega)
    have e := View.canon_cons_emb (Val := Elt Ideal) (e := .bf16) (Rect.unit (s := S512x2048) ![0, 0] S512x1024.size inbQ) q [] (ix2 i ⟨j.val, h⟩)
    rw [he] at e
    exact (View.canon_cons_of_not_mem (Val := Elt Ideal) (e := .bf16) ⟨Rect.unit (s := S512x2048) ![0, 1024] S512x1024.size inbP, p⟩ _ hn).trans
      (e.trans (hq ⟨j.val, h⟩))
  · have he : (Rect.unit (s := S512x2048) ![0, 1024] S512x1024.size inbP).emb (ix2 i ⟨j.val - 1024, by omega⟩) = ix2 i j :=
      funext fun d => match d with
        | ⟨0, _⟩ => Fin.ext (by show 0 + 1 * i.val = i.val; omega)
        | ⟨1, _⟩ => Fin.ext (by show 1024 + 1 * (j.val - 1024) = j.val; omega)
    have e := View.canon_cons_emb (Val := Elt Ideal) (e := .bf16) (Rect.unit (s := S512x2048) ![0, 1024] S512x1024.size inbP) p
      (⟨Rect.unit (s := S512x2048) ![0, 0] S512x1024.size inbQ, q⟩ :: []) (ix2 i ⟨j.val - 1024, by omega⟩)
    rw [he] at e
    exact e.trans ((hp ⟨j.val - 1024, by omega⟩).trans (congrArg f (Fin.ext (by show 1024 + (j.val - 1024) = j.val; omega))))

theorem dz_lo (r : Fin 128) (j : Fin 1024) (B : Rows) : dz W B r (lo j) = du W B r j * geluD (B.z r (lo j)) := by
  unfold dz
  rw [dif_pos (show (lo j).val < 1024 from j.isLt)]
  rfl

theorem dz_hi (r : Fin 128) (j : Fin 1024) (B : Rows) : dz W B r (hi j) = dv W B r j * geluD (B.z r (hi j)) := by
  unfold dz
  rw [dif_neg (show ¬ (hi j).val < 1024 from by simp only [hi]; omega)]
  exact congrArg (fun k => dv W B r k * _) (Fin.ext (by simp only [hi]; omega))

/-- A quarter of the stored rows read back. -/
theorem quarter_read {M : Memref sig .tc .vmem S512x2048 .bf16} {L : List (View.Piece (Elt Ideal) S512x2048 .bf16)}
    (hL : ∀ n r j, View.canon L (ix2 (row n r) j) = dz W (B n) r j) (s : Fin 4) {o : Nat} (ho : o = 512 * s.val)
    (inb : ∀ d, ![0, o] d + S512x512.size d ≤ S512x2048.size d) (n : Fin 4) (r : Fin 128) (c : Fin 512) :
    M.view.readCov L (Rect.unit (s := S512x2048) ![0, o] S512x512.size inb).toLoadRect (ix2 (row n r) c) = dz W (B n) r (quarter s c) := by
  rw [View.readCov_eq_canon']
  refine (congrArg (View.canon L) ?_).trans (hL n r (quarter s c))
  exact funext fun d => match d with
    | ⟨0, _⟩ => Fin.ext (by show 0 + 1 * (row n r).val = (row n r).val; omega)
    | ⟨1, _⟩ => Fin.ext (by show o + 1 * c.val = 512 * s.val + c.val; omega)

/-! ### The product with the projection's weights -/

theorem dh_pay {a0 a1 a2 a3 : Vec Ideal S512x512 .bf16} {b0 b1 b2 b3 : Vec Ideal S1x1024x512 .bf16}
    (h0 : ∀ n r c, a0 (ix2 (row n r) c) = dz W (B n) r (quarter 0 c)) (h1 : ∀ n r c, a1 (ix2 (row n r) c) = dz W (B n) r (quarter 1 c))
    (h2 : ∀ n r c, a2 (ix2 (row n r) c) = dz W (B n) r (quarter 2 c)) (h3 : ∀ n r c, a3 (ix2 (row n r) c) = dz W (B n) r (quarter 3 c))
    (g0 : ∀ k c, b0 (ix3 0 k c) = W.win k (quarter 0 c)) (g1 : ∀ k c, b1 (ix3 0 k c) = W.win k (quarter 1 c))
    (g2 : ∀ k c, b2 (ix3 0 k c) = W.win k (quarter 2 c)) (g3 : ∀ k c, b3 (ix3 0 k c) = W.win k (quarter 3 c))
    (n : Fin 4) (r : Fin 128) (k : Fin 1024) : k0_pay275 a0 b0 a1 b1 a2 b2 a3 b3 (ix2 (row n r) k) = dh W (B n) r k := by
  have one : ∀ {a : Vec Ideal S512x512 .bf16} {b : Vec Ideal S1x1024x512 .bf16} (s : Fin 4),
      (∀ n r c, a (ix2 (row n r) c) = dz W (B n) r (quarter s c)) → (∀ k c, b (ix3 0 k c) = W.win k (quarter s c)) →
      matmul dot_S512x512_S1024x512_S512x1024_1_1_0_0_n_n none (shapeCast S512x512 a shapeCasts_S512x512_S512x512 : FVec Ideal S512x512 .bf16)
        (shapeCast S1024x512 b shapeCasts_S1x1024x512_S1024x512 : FVec Ideal S1024x512 .bf16) (constant S512x1024 .f32 0x00000000#32) (ix2 (row n r) k)
        = ∑ c, dz W (B n) r (quarter s c) * W.win k (quarter s c) := by
    intro a b s ha hb
    rw [prod_win]
    refine Finset.sum_congr rfl fun c _ => ?_
    rw [shapeCast_self, drop_unit, ha, hb]
  unfold k0_pay275 dh
  rw [addf_apply, addf_apply, addf_apply, one 0 h0 g0, one 1 h1 g1, one 2 h2 g2, one 3 h3 g3, sum_quarters, Fin.sum_univ_four]

/-! ### The gradient handed on -/

section Last

variable {v1254 : FVec Ideal S512x1024 .f32} (hdh : ∀ n r j, v1254 (ix2 (row n r) j) = dh W (B n) r j)
  {x : Vec Ideal S512x1024 .f32} (hx : ∀ n r j, x (ix2 (row n r) j) = (B n).x r j)

include hx in
theorem rms_pay (n : Fin 4) (r : Fin 128) : k0_pay277 (k0_pay276 x) (ix2 (row n r) 0) = rmsInv ((B n).x r) := by
  unfold k0_pay277 rmsInv
  dsimp only
  show Ideal.rsqrt (_ + eps) = _
  refine congrArg (fun s => Ideal.rsqrt (s + eps)) (mean_read (row n r) 0 fun j => ?_)
  unfold k0_pay276
  rw [mulf_apply, hx]

include hx in
theorem rms_hat_pay (n : Fin 4) (r : Fin 128) (j : Fin 1024) : k0_pay278 x (k0_pay276 x) (ix2 (row n r) j) = rmsHat ((B n).x r) j := by
  unfold k0_pay278 rmsHat
  rw [mulf_apply, spread_col, rms_pay hx, hx]

include hdh in
theorem dh_scaled_pay {g : Vec Ideal S1x1024 .f32} (hg : ∀ j, g (ix2 0 j) = W.g j) (n : Fin 4) (r : Fin 128) (j : Fin 1024) :
    k0_pay279 v1254 g (ix2 (row n r) j) = dh W (B n) r j * W.g j := by
  unfold k0_pay279
  rw [mulf_apply, spread_row, hdh, hg]

include hdh hx in
theorem dx_pay {g : Vec Ideal S1x1024 .f32} (hg : ∀ j, g (ix2 0 j) = W.g j) {ct : Vec Ideal S512x1024 .f32}
    (hct : ∀ n r j, ct (ix2 (row n r) j) = (B n).ct r j) (n : Fin 4) (r : Fin 128) (j : Fin 1024) :
    k0_pay1 ct (k0_pay277 (k0_pay276 x)) (k0_pay278 x (k0_pay276 x)) (k0_pay279 v1254 g) (k0_pay280 v1254 x g (k0_pay276 x)) (ix2 (row n r) j)
      = dx W (B n) r j := by
  have hm : k0_pay280 v1254 x g (k0_pay276 x) (ix2 (row n r) 0) = mean fun i => (dh W (B n) r i * W.g i) * rmsHat ((B n).x r) i := by
    unfold k0_pay280
    dsimp only
    refine mean_read (row n r) 0 fun i => ?_
    rw [mulf_apply, dh_scaled_pay hdh hg, rms_hat_pay hx]
  unfold k0_pay1
  rw [addf_apply, mulf_apply, subf_apply, mulf_apply, spread_col, spread_col, hm, rms_pay hx, rms_hat_pay hx, dh_scaled_pay hdh hg, hct]
  rfl

include hdh hx in
/-- The input norm's gain: what the row held plus this run's four blocks. -/
theorem dg_row (old : Vec Ideal S1x1024 .f32) (u : Fin 1) (j : Fin 1024) :
    k0_pay2 v1254 (k0_pay278 x (k0_pay276 x)) old (ix2 u j) = old (ix2 u j) + ∑ n, dg W (B n) j := by
  unfold k0_pay2
  dsimp only
  rw [addf_apply, col_sum, sum_rows]
  refine congrArg₂ (· + ·) (congrFun (shapeCast_self _ _) _) (Finset.sum_congr rfl fun n _ => Finset.sum_congr rfl fun r _ => ?_)
  rw [mulf_apply, hdh, rms_hat_pay hx]

end Last

/-! ### A stack of eight rows of which the first is added to -/

/-- The first row holds the row stored, … -/
theorem first_row_hit {p : S1x1024.Idx → EReal} {L : List (View.Piece (Elt Ideal) S8x1024 .f32)} {M : Memref sig .tc .vmem S8x1024 .f32} {f}
    {inb : ∀ d, ![0, 0] d + S1x1024.size d ≤ S8x1024.size d} (j : Fin 1024) :
    M.view.read (Elt Ideal) (M.view.writes (Elt Ideal) f ((⟨Rect.unit (s := S8x1024) ![0, 0] S1x1024.size inb, p⟩ : View.Piece (Elt Ideal) S8x1024 .f32) :: L))
      (ix2 0 j) = p (ix2 0 j) :=
  View.read_writes_cons_unit_of_mem M.view f inb p L _ (ix2 0 j) rfl fun d => match d with
    | ⟨0, _⟩ => rfl
    | ⟨1, _⟩ => (Nat.zero_add _).symm

/-- … the others what they held. -/
theorem first_row_miss {p : S1x1024.Idx → EReal} {L : List (View.Piece (Elt Ideal) S8x1024 .f32)} {M : Memref sig .tc .vmem S8x1024 .f32} {f}
    {inb : ∀ d, ![0, 0] d + S1x1024.size d ≤ S8x1024.size d} (i : Fin 8) (hi : i ≠ 0) (j : Fin 1024) :
    M.view.read (Elt Ideal) (M.view.writes (Elt Ideal) f ((⟨Rect.unit (s := S8x1024) ![0, 0] S1x1024.size inb, p⟩ : View.Piece (Elt Ideal) S8x1024 .f32) :: L))
      (ix2 i j) = M.view.read (Elt Ideal) (M.view.writes (Elt Ideal) f L) (ix2 i j) :=
  View.read_writes_cons_unit_of_not_mem M.view f inb p L _ rfl (0 : Fin 2) (Or.inr (by
    show 0 + 1 ≤ i.val
    have : i.val ≠ 0 := fun h => hi (Fin.ext h)
    omega))

/-! ### What the stages read -/

/-- A scratch read back whole. -/
theorem read_back {M : Memref sig .tc .vmem S512x1024 .f32} {L : List (View.Piece (Elt Ideal) S512x1024 .f32)} {f : Fin 4 → Fin 128 → Fin 1024 → EReal}
    {inb} (hL : View.canon L = laid f) (n : Fin 4) (r : Fin 128) (j : Fin 1024) :
    M.view.readCov L (Rect.unit (s := S512x1024) ![0, 0] S512x1024.size inb).toLoadRect (ix2 (row n r) j) = f n r j := by
  rw [View.readCov_eq_canon', hL]
  refine (congrArg (laid f) ?_).trans (laid_row f n r j)
  exact funext fun d => match d with
    | ⟨0, _⟩ => Fin.ext (by show 0 + 1 * (row n r).val = (row n r).val; omega)
    | ⟨1, _⟩ => Fin.ext (by show 0 + 1 * j.val = j.val; omega)

section Loaded

variable {x0 x1 : Vec Ideal S512x1024 .f32} {x2 : Vec Ideal S1x1024 .f32}
    {x3 : Vec Ideal S512x2048 .bf16} {x4 : Vec Ideal S512x1024 .bf16} {x5 : Vec Ideal S1x1024 .f32}
    {x6 x7 : Vec Ideal S8x128x128 .bf16} {x8 : Vec Ideal S8x128x128 .f32} {x9 : Vec Ideal S1024x1024 .bf16}
    {x10 : Vec Ideal S4x1024x512 .bf16} (R : Reads W B x0 x1 x2 x3 x4 x5 x6 x7 x8 x9 x10)

include R

theorem ct_loaded {m : Memref sig .tc .vmem S512x1024 .f32} {h : m.IsWhole} {inb} (n : Fin 4) (r : Fin 128) (j : Fin 1024) :
    View.readAt (Elt Ideal) m.view (Rect.unit (s := S512x1024) ![0, 0] S512x1024.size inb).toLoadRect (h.unread x0) (ix2 (row n r) j) = (B n).ct r j := by
  rw [load_whole m h x0 (by decide) inb]; exact R.ct n r j

theorem x_loaded {m : Memref sig .tc .vmem S512x1024 .f32} {h : m.IsWhole} {inb} (n : Fin 4) (r : Fin 128) (j : Fin 1024) :
    View.readAt (Elt Ideal) m.view (Rect.unit (s := S512x1024) ![0, 0] S512x1024.size inb).toLoadRect (h.unread x1) (ix2 (row n r) j) = (B n).x r j := by
  rw [load_whole m h x1 (by decide) inb]; exact R.x n r j

theorem g_loaded {m : Memref sig .tc .vmem S1x1024 .f32} {h : m.IsWhole} {inb} (j : Fin 1024) :
    View.readAt (Elt Ideal) m.view (Rect.unit (s := S1x1024) ![0, 0] S1x1024.size inb).toLoadRect (h.unread x2) (ix2 0 j) = W.g j := by
  rw [load_whole m h x2 (by decide) inb]; exact R.g j

theorem z_loaded {m : Memref sig .tc .vmem S512x2048 .bf16} {h : m.IsWhole} {inb} (n : Fin 4) (r : Fin 128) (j : Fin 2048) :
    View.readAt (Elt Ideal) m.view (Rect.unit (s := S512x2048) ![0, 0] S512x2048.size inb).toLoadRect (h.unread x3) (ix2 (row n r) j) = (B n).z r j := by
  rw [load_whole m h x3 (by decide) inb]; exact R.z n r j

theorem gv_loaded {m : Memref sig .tc .vmem S1x1024 .f32} {h : m.IsWhole} {inb} (j : Fin 1024) :
    View.readAt (Elt Ideal) m.view (Rect.unit (s := S1x1024) ![0, 0] S1x1024.size inb).toLoadRect (h.unread x5) (ix2 0 j) = W.gv j := by
  rw [load_whole m h x5 (by decide) inb]; exact R.gv j

theorem win_loaded {m : Memref sig .tc .vmem S4x1024x512 .bf16} {h : m.IsWhole} (s : Fin 4) {o : Nat} (ho : o = s.val)
    {inb : ∀ d, ![o, 0, 0] d + S1x1024x512.size d ≤ S4x1024x512.size d} (k : Fin 1024) (c : Fin 512) :
    View.readAt (Elt Ideal) m.view (Rect.unit (s := S4x1024x512) ![o, 0, 0] S1x1024x512.size inb).toLoadRect (h.unread x10) (ix3 0 k c)
      = W.win k (quarter s c) :=
  (load_apply m h x10 _ _ inb _ (ix3 s k c) fun d => match d with
    | ⟨0, _⟩ => by show s.val = o + 0; omega
    | ⟨1, _⟩ => (Nat.zero_add _).symm
    | ⟨2, _⟩ => (Nat.zero_add _).symm).trans (R.win s k c)

end Loaded

/-- The first row of a stack of eight, loaded. -/
theorem load_first {M : Memref sig .tc .vmem S8x1024 .f32} {hM : M.IsWhole} {X : Vec Ideal S8x1024 .f32}
    {inb : ∀ d, ![0, 0] d + S1x1024.size d ≤ S8x1024.size d} (j : Fin 1024) :
    View.readAt (Elt Ideal) M.view (Rect.unit (s := S8x1024) ![0, 0] S1x1024.size inb).toLoadRect (hM.unread X) (ix2 0 j) = X (ix2 0 j) :=
  load_apply M hM X _ _ inb _ _ fun d => match d with
    | ⟨0, _⟩ => rfl
    | ⟨1, _⟩ => (Nat.zero_add _).symm

/-- The first row of a stack filled with one value, read back. -/
theorem read_first {M : Memref sig .tc .vmem S8x1024 .f32} {p : S8x1024.Idx → EReal} {inb inb'} (j : Fin 1024) :
    M.view.readCov ((⟨Rect.unit (s := S8x1024) ![0, 0] S8x1024.size inb, p⟩ : View.Piece (Elt Ideal) S8x1024 .f32) :: [])
      (Rect.unit (s := S8x1024) ![0, 0] S1x1024.size inb').toLoadRect (ix2 0 j) = p (ix2 0 j) := by
  rw [View.readCov_eq_canon', View.canon_unit_zero (Val := Elt Ideal) (e := .f32) (S := S8x1024) (off := ![0, 0]) (by decide) inb p]
  exact congrArg p (funext fun d => match d with
    | ⟨0, _⟩ => rfl
    | ⟨1, _⟩ => Fin.ext (by show 0 + 1 * j.val = j.val; omega))

end Gating
-- ==== Proof.RunFirst.lean ====
/-
  The run of the body at the first block of rows a device takes: the four sums are filled with zero, then added to.
  Its stores, read at an index, are the formulas of the four blocks of 128 rows it covers.
-/
module

public import proofs.«01_k».proof.Proof.Stacks
public import proofs.«01_k».proof.Proof.Tail
public import proofs.«01_k».proof.Proof.Gen.KernelIdeal.Frame

@[expose] public section

set_option maxRecDepth 16384

noncomputable section

namespace Gating

open Idealize.ShloMosaic Idealize.ShloMosaic.TcCoe Idealize.ShloMosaic.ValueIdx Cert.KernelIdeal Cert.KernelIdeal.Gen Idealize.SL.Sem

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S8x128x128 .bf16) (harg7 : arg7.IsWhole) (arg8 : Memref sig .tc .vmem S8x128x128 .bf16) (harg8 : arg8.IsWhole) (arg9 : Memref sig .tc .vmem S8x128x128 .f32) (harg9 : arg9.IsWhole) (arg10 : Memref sig .tc .vmem S1024x1024 .bf16) (harg10 : arg10.IsWhole) (arg11 : Memref sig .tc .vmem S4x1024x512 .bf16) (harg11 : arg11.IsWhole) (arg12 : Memref sig .tc .vmem S512x1024 .f32) (harg12 : arg12.IsWhole) (arg13 : Memref sig .tc .vmem S512x2048 .bf16) (harg13 : arg13.IsWhole) (arg14 : Memref sig .tc .vmem S8x128x128 .f32) (harg14 : arg14.IsWhole) (arg15 : Memref sig .tc .vmem S8x128x128 .f32) (harg15 : arg15.IsWhole) (arg16 : Memref sig .tc .vmem S8x1024 .f32) (harg16 : arg16.IsWhole) (arg17 : Memref sig .tc .vmem S8x1024 .f32) (harg17 : arg17.IsWhole) (arg18 : Memref sig .tc .vmem S512x1024 .f32) (harg18 : arg18.IsWhole) (arg19 : Memref sig .tc .vmem S512x1024 .f32) (harg19 : arg19.IsWhole) (hc0 : cond0_0 i)
    (x0 : Vec Ideal S512x1024 .f32) (x1 : Vec Ideal S512x1024 .f32) (x2 : Vec Ideal S1x1024 .f32) (x3 : Vec Ideal S512x2048 .bf16) (x4 : Vec Ideal S512x1024 .bf16) (x5 : Vec Ideal S1x1024 .f32) (x6 : Vec Ideal S8x128x128 .bf16) (x7 : Vec Ideal S8x128x128 .bf16) (x8 : Vec Ideal S8x128x128 .f32) (x9 : Vec Ideal S1024x1024 .bf16) (x10 : Vec Ideal S4x1024x512 .bf16)
variable {W : Weights} {B : Fin 4 → Rows} (R : Reads W B x0 x1 x2 x3 x4 x5 x6 x7 x8 x9 x10)

include R

/-- The scratch of the ungated half's gradient. -/
theorem first_du : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.2.2.1 = laid fun n r j => du W (B n) r j := by
  funext y
  refine View.canon_apply_of_pieces _ _ ?_ y ?_
  · refine du_cons 3 7 (dy_loaded R) (vn_loaded R) R.wm R.bs rfl rfl rfl ?_
    refine du_cons 3 6 (dy_loaded R) (vn_loaded R) R.wm R.bs rfl rfl rfl ?_
    refine du_cons 3 5 (dy_loaded R) (vn_loaded R) R.wm R.bs rfl rfl rfl ?_
    refine du_cons 3 4 (dy_loaded R) (vn_loaded R) R.wm R.bs rfl rfl rfl ?_
    refine du_cons 3 3 (dy_loaded R) (vn_loaded R) R.wm R.bs rfl rfl rfl ?_
    refine du_cons 3 2 (dy_loaded R) (vn_loaded R) R.wm R.bs rfl rfl rfl ?_
    refine du_cons 3 1 (dy_loaded R) (vn_loaded R) R.wm R.bs rfl rfl rfl ?_
    refine du_cons 3 0 (dy_loaded R) (vn_loaded R) R.wm R.bs rfl rfl rfl ?_
    refine du_cons 2 7 (dy_loaded R) (vn_loaded R) R.wm R.bs rfl rfl rfl ?_
    refine du_cons 2 6 (dy_loaded R) (vn_loaded R) R.wm R.bs rfl rfl rfl ?_
    refine du_cons 2 5 (dy_loaded R) (vn_loaded R) R.wm R.bs rfl rfl rfl ?_
    refine du_cons 2 4 (dy_loaded R) (vn_loaded R) R.wm R.bs rfl rfl rfl ?_
    refine du_cons 2 3 (dy_loaded R) (vn_loaded R) R.wm R.bs rfl rfl rfl ?_
    refine du_cons 2 2 (dy_loaded R) (vn_loaded R) R.wm R.bs rfl rfl rfl ?_
    refine du_cons 2 1 (dy_loaded R) (vn_loaded R) R.wm R.bs rfl rfl rfl ?_
    refine du_cons 2 0 (dy_loaded R) (vn_loaded R) R.wm R.bs rfl rfl rfl ?_
    refine du_cons 1 7 (dy_loaded R) (vn_loaded R) R.wm R.bs rfl rfl rfl ?_
    refine du_cons 1 6 (dy_loaded R) (vn_loaded R) R.wm R.bs rfl rfl rfl ?_
    refine du_cons 1 5 (dy_loaded R) (vn_loaded R) R.wm R.bs rfl rfl rfl ?_
    refine du_cons 1 4 (dy_loaded R) (vn_loaded R) R.wm R.bs rfl rfl rfl ?_
    refine du_cons 1 3 (dy_loaded R) (vn_loaded R) R.wm R.bs rfl rfl rfl ?_
    refine du_cons 1 2 (dy_loaded R) (vn_loaded R) R.wm R.bs rfl rfl rfl ?_
    refine du_cons 1 1 (dy_loaded R) (vn_loaded R) R.wm R.bs rfl rfl rfl ?_
    refine du_cons 1 0 (dy_loaded R) (vn_loaded R) R.wm R.bs rfl rfl rfl ?_
    refine du_cons 0 7 (dy_loaded R) (vn_loaded R) R.wm R.bs rfl rfl rfl ?_
    refine du_cons 0 6 (dy_loaded R) (vn_loaded R) R.wm R.bs rfl rfl rfl ?_
    refine du_cons 0 5 (dy_loaded R) (vn_loaded R) R.wm R.bs rfl rfl rfl ?_
    refine du_cons 0 4 (dy_loaded R) (vn_loaded R) R.wm R.bs rfl rfl rfl ?_
    refine du_cons 0 3 (dy_loaded R) (vn_loaded R) R.wm R.bs rfl rfl rfl ?_
    refine du_cons 0 2 (dy_loaded R) (vn_loaded R) R.wm R.bs rfl rfl rfl ?_
    refine du_cons 0 1 (dy_loaded R) (vn_loaded R) R.wm R.bs rfl rfl rfl ?_
    refine du_cons 0 0 (dy_loaded R) (vn_loaded R) R.wm R.bs rfl rfl rfl ?_
    exact List.forall_mem_nil _
  · exact View.cover_of_tiledL _ ![128, 128] (by sl_kernel_rfl) y

/-- The scratch of the normalised half's gradient. -/
theorem first_dvn : View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.2.2.2.2.1 = laid fun n r j => dvn W (B n) r j := by
  funext y
  refine View.canon_apply_of_pieces _ _ ?_ y ?_
  · refine dvn_cons 3 7 (dy_loaded R) (u_loaded R) R.wmt rfl rfl rfl ?_
    refine dvn_cons 3 6 (dy_loaded R) (u_loaded R) R.wmt rfl rfl rfl ?_
    refine dvn_cons 3 5 (dy_loaded R) (u_loaded R) R.wmt rfl rfl rfl ?_
    refine dvn_cons 3 4 (dy_loaded R) (u_loaded R) R.wmt rfl rfl rfl ?_
    refine dvn_cons 3 3 (dy_loaded R) (u_loaded R) R.wmt rfl rfl rfl ?_
    refine dvn_cons 3 2 (dy_loaded R) (u_loaded R) R.wmt rfl rfl rfl ?_
    refine dvn_cons 3 1 (dy_loaded R) (u_loaded R) R.wmt rfl rfl rfl ?_
    refine dvn_cons 3 0 (dy_loaded R) (u_loaded R) R.wmt rfl rfl rfl ?_
    refine dvn_cons 2 7 (dy_loaded R) (u_loaded R) R.wmt rfl rfl rfl ?_
    refine dvn_cons 2 6 (dy_loaded R) (u_loaded R) R.wmt rfl rfl rfl ?_
    refine dvn_cons 2 5 (dy_loaded R) (u_loaded R) R.wmt rfl rfl rfl ?_
    refine dvn_cons 2 4 (dy_loaded R) (u_loaded R) R.wmt rfl rfl rfl ?_
    refine dvn_cons 2 3 (dy_loaded R) (u_loaded R) R.wmt rfl rfl rfl ?_
    refine dvn_cons 2 2 (dy_loaded R) (u_loaded R) R.wmt rfl rfl rfl ?_
    refine dvn_cons 2 1 (dy_loaded R) (u_loaded R) R.wmt rfl rfl rfl ?_
    refine dvn_cons 2 0 (dy_loaded R) (u_loaded R) R.wmt rfl rfl rfl ?_
    refine dvn_cons 1 7 (dy_loaded R) (u_loaded R) R.wmt rfl rfl rfl ?_
    refine dvn_cons 1 6 (dy_loaded R) (u_loaded R) R.wmt rfl rfl rfl ?_
    refine dvn_cons 1 5 (dy_loaded R) (u_loaded R) R.wmt rfl rfl rfl ?_
    refine dvn_cons 1 4 (dy_loaded R) (u_loaded R) R.wmt rfl rfl rfl ?_
    refine dvn_cons 1 3 (dy_loaded R) (u_loaded R) R.wmt rfl rfl rfl ?_
    refine dvn_cons 1 2 (dy_loaded R) (u_loaded R) R.wmt rfl rfl rfl ?_
    refine dvn_cons 1 1 (dy_loaded R) (u_loaded R) R.wmt rfl rfl rfl ?_
    refine dvn_cons 1 0 (dy_loaded R) (u_loaded R) R.wmt rfl rfl rfl ?_
    refine dvn_cons 0 7 (dy_loaded R) (u_loaded R) R.wmt rfl rfl rfl ?_
    refine dvn_cons 0 6 (dy_loaded R) (u_loaded R) R.wmt rfl rfl rfl ?_
    refine dvn_cons 0 5 (dy_loaded R) (u_loaded R) R.wmt rfl rfl rfl ?_
    refine dvn_cons 0 4 (dy_loaded R) (u_loaded R) R.wmt rfl rfl rfl ?_
    refine dvn_cons 0 3 (dy_loaded R) (u_loaded R) R.wmt rfl rfl rfl ?_
    refine dvn_cons 0 2 (dy_loaded R) (u_loaded R) R.wmt rfl rfl rfl ?_
    refine dvn_cons 0 1 (dy_loaded R) (u_loaded R) R.wmt rfl rfl rfl ?_
    refine dvn_cons 0 0 (dy_loaded R) (u_loaded R) R.wmt rfl rfl rfl ?_
    exact List.forall_mem_nil _
  · exact View.cover_of_tiledL _ ![128, 128] (by sl_kernel_rfl) y

/-- The gradient of the spatial weights, visit by visit. -/
theorem first_dwm_stores : Upto (fun _ => 0) (wmShare W B) True 32 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.1 := by
  refine dwm_read 3 7 (dy_loaded R) (u_loaded R) (vn_loaded R) (Or.inl trivial) rfl rfl rfl rfl ?_
  refine dwm_read 3 6 (dy_loaded R) (u_loaded R) (vn_loaded R) (Or.inl trivial) rfl rfl rfl rfl ?_
  refine dwm_read 3 5 (dy_loaded R) (u_loaded R) (vn_loaded R) (Or.inl trivial) rfl rfl rfl rfl ?_
  refine dwm_read 3 4 (dy_loaded R) (u_loaded R) (vn_loaded R) (Or.inl trivial) rfl rfl rfl rfl ?_
  refine dwm_read 3 3 (dy_loaded R) (u_loaded R) (vn_loaded R) (Or.inl trivial) rfl rfl rfl rfl ?_
  refine dwm_read 3 2 (dy_loaded R) (u_loaded R) (vn_loaded R) (Or.inl trivial) rfl rfl rfl rfl ?_
  refine dwm_read 3 1 (dy_loaded R) (u_loaded R) (vn_loaded R) (Or.inl trivial) rfl rfl rfl rfl ?_
  refine dwm_read 3 0 (dy_loaded R) (u_loaded R) (vn_loaded R) (Or.inl trivial) rfl rfl rfl rfl ?_
  refine dwm_read 2 7 (dy_loaded R) (u_loaded R) (vn_loaded R) (Or.inl trivial) rfl rfl rfl rfl ?_
  refine dwm_read 2 6 (dy_loaded R) (u_loaded R) (vn_loaded R) (Or.inl trivial) rfl rfl rfl rfl ?_
  refine dwm_read 2 5 (dy_loaded R) (u_loaded R) (vn_loaded R) (Or.inl trivial) rfl rfl rfl rfl ?_
  refine dwm_read 2 4 (dy_loaded R) (u_loaded R) (vn_loaded R) (Or.inl trivial) rfl rfl rfl rfl ?_
  refine dwm_read 2 3 (dy_loaded R) (u_loaded R) (vn_loaded R) (Or.inl trivial) rfl rfl rfl rfl ?_
  refine dwm_read 2 2 (dy_loaded R) (u_loaded R) (vn_loaded R) (Or.inl trivial) rfl rfl rfl rfl ?_
  refine dwm_read 2 1 (dy_loaded R) (u_loaded R) (vn_loaded R) (Or.inl trivial) rfl rfl rfl rfl ?_
  refine dwm_read 2 0 (dy_loaded R) (u_loaded R) (vn_loaded R) (Or.inl trivial) rfl rfl rfl rfl ?_
  refine dwm_read 1 7 (dy_loaded R) (u_loaded R) (vn_loaded R) (Or.inl trivial) rfl rfl rfl rfl ?_
  refine dwm_read 1 6 (dy_loaded R) (u_loaded R) (vn_loaded R) (Or.inl trivial) rfl rfl rfl rfl ?_
  refine dwm_read 1 5 (dy_loaded R) (u_loaded R) (vn_loaded R) (Or.inl trivial) rfl rfl rfl rfl ?_
  refine dwm_read 1 4 (dy_loaded R) (u_loaded R) (vn_loaded R) (Or.inl trivial) rfl rfl rfl rfl ?_
  refine dwm_read 1 3 (dy_loaded R) (u_loaded R) (vn_loaded R) (Or.inl trivial) rfl rfl rfl rfl ?_
  refine dwm_read 1 2 (dy_loaded R) (u_loaded R) (vn_loaded R) (Or.inl trivial) rfl rfl rfl rfl ?_
  refine dwm_read 1 1 (dy_loaded R) (u_loaded R) (vn_loaded R) (Or.inl trivial) rfl rfl rfl rfl ?_
  refine dwm_read 1 0 (dy_loaded R) (u_loaded R) (vn_loaded R) (Or.inl trivial) rfl rfl rfl rfl ?_
  refine dwm_read 0 7 (dy_loaded R) (u_loaded R) (vn_loaded R) (Or.inl trivial) rfl rfl rfl rfl ?_
  refine dwm_read 0 6 (dy_loaded R) (u_loaded R) (vn_loaded R) (Or.inl trivial) rfl rfl rfl rfl ?_
  refine dwm_read 0 5 (dy_loaded R) (u_loaded R) (vn_loaded R) (Or.inl trivial) rfl rfl rfl rfl ?_
  refine dwm_read 0 4 (dy_loaded R) (u_loaded R) (vn_loaded R) (Or.inl trivial) rfl rfl rfl rfl ?_
  refine dwm_read 0 3 (dy_loaded R) (u_loaded R) (vn_loaded R) (Or.inl trivial) rfl rfl rfl rfl ?_
  refine dwm_read 0 2 (dy_loaded R) (u_loaded R) (vn_loaded R) (Or.inl trivial) rfl rfl rfl rfl ?_
  refine dwm_read 0 1 (dy_loaded R) (u_loaded R) (vn_loaded R) (Or.inl trivial) rfl rfl rfl rfl ?_
  refine dwm_read 0 0 (dy_loaded R) (u_loaded R) (vn_loaded R) (Or.inl trivial) rfl rfl rfl rfl ?_
  exact upto_fill fun _ => Ideal.ofBits_zero_f32

theorem first_dwm (a : Fin 8) (p q : Fin 128) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 (ix3 a p q)
    = 0 + ∑ n, dwm W (B n) a p q :=
  (congrFun (View.read_writes_junk_eq_canon _ _) _).trans (upto_last (first_dwm_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 R) a p q)

/-- The gradient of the biases, visit by visit. -/
theorem first_dbs_stores : Upto (fun _ => 0) (bsShare W B) True 32 (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.2.2.1 := by
  refine dbs_read 3 7 (dy_loaded R) (u_loaded R) (Or.inl trivial) rfl rfl rfl rfl ?_
  refine dbs_read 3 6 (dy_loaded R) (u_loaded R) (Or.inl trivial) rfl rfl rfl rfl ?_
  refine dbs_read 3 5 (dy_loaded R) (u_loaded R) (Or.inl trivial) rfl rfl rfl rfl ?_
  refine dbs_read 3 4 (dy_loaded R) (u_loaded R) (Or.inl trivial) rfl rfl rfl rfl ?_
  refine dbs_read 3 3 (dy_loaded R) (u_loaded R) (Or.inl trivial) rfl rfl rfl rfl ?_
  refine dbs_read 3 2 (dy_loaded R) (u_loaded R) (Or.inl trivial) rfl rfl rfl rfl ?_
  refine dbs_read 3 1 (dy_loaded R) (u_loaded R) (Or.inl trivial) rfl rfl rfl rfl ?_
  refine dbs_read 3 0 (dy_loaded R) (u_loaded R) (Or.inl trivial) rfl rfl rfl rfl ?_
  refine dbs_read 2 7 (dy_loaded R) (u_loaded R) (Or.inl trivial) rfl rfl rfl rfl ?_
  refine dbs_read 2 6 (dy_loaded R) (u_loaded R) (Or.inl trivial) rfl rfl rfl rfl ?_
  refine dbs_read 2 5 (dy_loaded R) (u_loaded R) (Or.inl trivial) rfl rfl rfl rfl ?_
  refine dbs_read 2 4 (dy_loaded R) (u_loaded R) (Or.inl trivial) rfl rfl rfl rfl ?_
  refine dbs_read 2 3 (dy_loaded R) (u_loaded R) (Or.inl trivial) rfl rfl rfl rfl ?_
  refine dbs_read 2 2 (dy_loaded R) (u_loaded R) (Or.inl trivial) rfl rfl rfl rfl ?_
  refine dbs_read 2 1 (dy_loaded R) (u_loaded R) (Or.inl trivial) rfl rfl rfl rfl ?_
  refine dbs_read 2 0 (dy_loaded R) (u_loaded R) (Or.inl trivial) rfl rfl rfl rfl ?_
  refine dbs_read 1 7 (dy_loaded R) (u_loaded R) (Or.inl trivial) rfl rfl rfl rfl ?_
  refine dbs_read 1 6 (dy_loaded R) (u_loaded R) (Or.inl trivial) rfl rfl rfl rfl ?_
  refine dbs_read 1 5 (dy_loaded R) (u_loaded R) (Or.inl trivial) rfl rfl rfl rfl ?_
  refine dbs_read 1 4 (dy_loaded R) (u_loaded R) (Or.inl trivial) rfl rfl rfl rfl ?_
  refine dbs_read 1 3 (dy_loaded R) (u_loaded R) (Or.inl trivial) rfl rfl rfl rfl ?_
  refine dbs_read 1 2 (dy_loaded R) (u_loaded R) (Or.inl trivial) rfl rfl rfl rfl ?_
  refine dbs_read 1 1 (dy_loaded R) (u_loaded R) (Or.inl trivial) rfl rfl rfl rfl ?_
  refine dbs_read 1 0 (dy_loaded R) (u_loaded R) (Or.inl trivial) rfl rfl rfl rfl ?_
  refine dbs_read 0 7 (dy_loaded R) (u_loaded R) (Or.inl trivial) rfl rfl rfl rfl ?_
  refine dbs_read 0 6 (dy_loaded R) (u_loaded R) (Or.inl trivial) rfl rfl rfl rfl ?_
  refine dbs_read 0 5 (dy_loaded R) (u_loaded R) (Or.inl trivial) rfl rfl rfl rfl ?_
  refine dbs_read 0 4 (dy_loaded R) (u_loaded R) (Or.inl trivial) rfl rfl rfl rfl ?_
  refine dbs_read 0 3 (dy_loaded R) (u_loaded R) (Or.inl trivial) rfl rfl rfl rfl ?_
  refine dbs_read 0 2 (dy_loaded R) (u_loaded R) (Or.inl trivial) rfl rfl rfl rfl ?_
  refine dbs_read 0 1 (dy_loaded R) (u_loaded R) (Or.inl trivial) rfl rfl rfl rfl ?_
  refine dbs_read 0 0 (dy_loaded R) (u_loaded R) (Or.inl trivial) rfl rfl rfl rfl ?_
  exact upto_fill fun _ => Ideal.ofBits_zero_f32

theorem first_dbs (a : Fin 8) (p q : Fin 128) : out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 (ix3 a p q)
    = 0 + ∑ n, dbs W (B n) a p :=
  (congrFun (View.read_writes_junk_eq_canon _ _) _).trans (upto_last (first_dbs_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 R) a p q)

/-- The gradient of the projection, as stored. -/
theorem first_dz_stores (n : Fin 4) (r : Fin 128) (j : Fin 2048) :
    View.canon (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10).2.1 (ix2 (row n r) j) = dz W (B n) r j :=
  halves_canon (row n r) (dz W (B n) r)
    (fun j => (dz_hi_pay (z_loaded R) (read_back (first_dvn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 R)) (gv_loaded R) n r j).trans (dz_hi r j (B n)).symm)
    (fun j => (dz_lo_pay (z_loaded R) (read_back (first_du c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 R)) n r j).trans (dz_lo r j (B n)).symm) j

theorem first_dz (n : Fin 4) (r : Fin 128) (j : Fin 2048) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 (ix2 (row n r) j) = dz W (B n) r j :=
  (congrFun (View.read_writes_junk_eq_canon _ _) _).trans (first_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 R n r j)

/-- The gradient handed on. -/
theorem first_dx (n : Fin 4) (r : Fin 128) (j : Fin 1024) : out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 (ix2 (row n r) j) = dx W (B n) r j := by
  refine (congrFun (View.read_writes_junk_eq_canon _ _) _).trans ?_
  refine (congrFun (View.canon_unit_zero (Val := Elt Ideal) (e := .f32) (S := S512x1024) (off := ![0, 0]) (by decide) _ _) _).trans ?_
  exact dx_pay (dh_pay (quarter_read (first_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 R) 0 rfl _) (quarter_read (first_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 R) 1 rfl _)
      (quarter_read (first_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 R) 2 rfl _) (quarter_read (first_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 R) 3 rfl _)
      (win_loaded R 0 rfl) (win_loaded R 1 rfl) (win_loaded R 2 rfl) (win_loaded R 3 rfl))
    (x_loaded R) (g_loaded R) (ct_loaded R) n r j

/-- The gain of the mixed half's norm: the first row. -/
theorem first_dgv (j : Fin 1024) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 (ix2 0 j) = 0 + ∑ n, dgv W (B n) j := by
  refine (first_row_hit j).trans ?_
  refine (dgv_row (z_loaded R) (read_back (first_dvn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 R)) _ 0 j).trans ?_
  exact (congrArg (· + _) ((congrFun (shapeCast_self _ _) _).trans ((read_first j).trans (Ideal.ofBits_zero_f32))))

omit R in
theorem first_dgv_rest (i' : Fin 8) (hi : i' ≠ 0) (j : Fin 1024) : out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 (ix2 i' j) = 0 := by
  refine (first_row_miss i' hi j).trans ?_
  refine (congrFun (View.read_writes_junk_eq_canon _ _) _).trans ?_
  refine (congrFun (View.canon_unit_zero (Val := Elt Ideal) (e := .f32) (S := S8x1024) (off := ![0, 0]) (by decide) _ _) _).trans ?_
  exact Ideal.ofBits_zero_f32

/-- The gain of the input's norm: the first row. -/
theorem first_dg (j : Fin 1024) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 (ix2 0 j) = 0 + ∑ n, dg W (B n) j := by
  refine (first_row_hit j).trans ?_
  refine (dg_row (dh_pay (quarter_read (first_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 R) 0 rfl _) (quarter_read (first_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 R) 1 rfl _)
      (quarter_read (first_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 R) 2 rfl _) (quarter_read (first_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 R) 3 rfl _)
      (win_loaded R 0 rfl) (win_loaded R 1 rfl) (win_loaded R 2 rfl) (win_loaded R 3 rfl)) (x_loaded R) _ 0 j).trans ?_
  exact (congrArg (· + _) ((read_first j).trans (Ideal.ofBits_zero_f32)))

omit R in
theorem first_dg_rest (i' : Fin 8) (hi : i' ≠ 0) (j : Fin 1024) : out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 (ix2 i' j) = 0 := by
  refine (first_row_miss i' hi j).trans ?_
  refine (congrFun (View.read_writes_junk_eq_canon _ _) _).trans ?_
  refine (congrFun (View.canon_unit_zero (Val := Elt Ideal) (e := .f32) (S := S8x1024) (off := ![0, 0]) (by decide) _ _) _).trans ?_
  exact Ideal.ofBits_zero_f32

end Gating
-- ==== Proof.RunNext.lean ====
/-
  The run of the body at every later block of rows: the four sums are added to.
  Its stores, read at an index, are the formulas of the four blocks of 128 rows it covers.
-/
module

public import proofs.«01_k».proof.Proof.Stacks
public import proofs.«01_k».proof.Proof.Tail
public import proofs.«01_k».proof.Proof.Gen.KernelIdeal.Frame

@[expose] public section

set_option maxRecDepth 16384

noncomputable section

namespace Gating

open Idealize.ShloMosaic Idealize.ShloMosaic.TcCoe Idealize.ShloMosaic.ValueIdx Cert.KernelIdeal Cert.KernelIdeal.Gen Idealize.SL.Sem

variable (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (arg4 : Memref sig .tc .vmem S512x2048 .bf16) (harg4 : arg4.IsWhole) (arg5 : Memref sig .tc .vmem S512x1024 .bf16) (harg5 : arg5.IsWhole) (arg6 : Memref sig .tc .vmem S1x1024 .f32) (harg6 : arg6.IsWhole) (arg7 : Memref sig .tc .vmem S8x128x128 .bf16) (harg7 : arg7.IsWhole) (arg8 : Memref sig .tc .vmem S8x128x128 .bf16) (harg8 : arg8.IsWhole) (arg9 : Memref sig .tc .vmem S8x128x128 .f32) (harg9 : arg9.IsWhole) (arg10 : Memref sig .tc .vmem S1024x1024 .bf16) (harg10 : arg10.IsWhole) (arg11 : Memref sig .tc .vmem S4x1024x512 .bf16) (harg11 : arg11.IsWhole) (arg12 : Memref sig .tc .vmem S512x1024 .f32) (harg12 : arg12.IsWhole) (arg13 : Memref sig .tc .vmem S512x2048 .bf16) (harg13 : arg13.IsWhole) (arg14 : Memref sig .tc .vmem S8x128x128 .f32) (harg14 : arg14.IsWhole) (arg15 : Memref sig .tc .vmem S8x128x128 .f32) (harg15 : arg15.IsWhole) (arg16 : Memref sig .tc .vmem S8x1024 .f32) (harg16 : arg16.IsWhole) (arg17 : Memref sig .tc .vmem S8x1024 .f32) (harg17 : arg17.IsWhole) (arg18 : Memref sig .tc .vmem S512x1024 .f32) (harg18 : arg18.IsWhole) (arg19 : Memref sig .tc .vmem S512x1024 .f32) (harg19 : arg19.IsWhole) (hc0 : ¬cond0_0 i)
    (x0 : Vec Ideal S512x1024 .f32) (x1 : Vec Ideal S512x1024 .f32) (x2 : Vec Ideal S1x1024 .f32) (x3 : Vec Ideal S512x2048 .bf16) (x4 : Vec Ideal S512x1024 .bf16) (x5 : Vec Ideal S1x1024 .f32) (x6 : Vec Ideal S8x128x128 .bf16) (x7 : Vec Ideal S8x128x128 .bf16) (x8 : Vec Ideal S8x128x128 .f32) (x9 : Vec Ideal S1024x1024 .bf16) (x10 : Vec Ideal S4x1024x512 .bf16) (xo13 : Vec Ideal S8x128x128 .f32) (xo14 : Vec Ideal S8x128x128 .f32) (xo15 : Vec Ideal S8x1024 .f32) (xo16 : Vec Ideal S8x1024 .f32)
variable {W : Weights} {B : Fin 4 → Rows} (R : Reads W B x0 x1 x2 x3 x4 x5 x6 x7 x8 x9 x10)

include R

/-- The scratch of the ungated half's gradient. -/
theorem next_du : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16).2.2.2.2.2.2.1 = laid fun n r j => du W (B n) r j := by
  funext y
  refine View.canon_apply_of_pieces _ _ ?_ y ?_
  · refine du_cons 3 7 (dy_loaded R) (vn_loaded R) R.wm R.bs rfl rfl rfl ?_
    refine du_cons 3 6 (dy_loaded R) (vn_loaded R) R.wm R.bs rfl rfl rfl ?_
    refine du_cons 3 5 (dy_loaded R) (vn_loaded R) R.wm R.bs rfl rfl rfl ?_
    refine du_cons 3 4 (dy_loaded R) (vn_loaded R) R.wm R.bs rfl rfl rfl ?_
    refine du_cons 3 3 (dy_loaded R) (vn_loaded R) R.wm R.bs rfl rfl rfl ?_
    refine du_cons 3 2 (dy_loaded R) (vn_loaded R) R.wm R.bs rfl rfl rfl ?_
    refine du_cons 3 1 (dy_loaded R) (vn_loaded R) R.wm R.bs rfl rfl rfl ?_
    refine du_cons 3 0 (dy_loaded R) (vn_loaded R) R.wm R.bs rfl rfl rfl ?_
    refine du_cons 2 7 (dy_loaded R) (vn_loaded R) R.wm R.bs rfl rfl rfl ?_
    refine du_cons 2 6 (dy_loaded R) (vn_loaded R) R.wm R.bs rfl rfl rfl ?_
    refine du_cons 2 5 (dy_loaded R) (vn_loaded R) R.wm R.bs rfl rfl rfl ?_
    refine du_cons 2 4 (dy_loaded R) (vn_loaded R) R.wm R.bs rfl rfl rfl ?_
    refine du_cons 2 3 (dy_loaded R) (vn_loaded R) R.wm R.bs rfl rfl rfl ?_
    refine du_cons 2 2 (dy_loaded R) (vn_loaded R) R.wm R.bs rfl rfl rfl ?_
    refine du_cons 2 1 (dy_loaded R) (vn_loaded R) R.wm R.bs rfl rfl rfl ?_
    refine du_cons 2 0 (dy_loaded R) (vn_loaded R) R.wm R.bs rfl rfl rfl ?_
    refine du_cons 1 7 (dy_loaded R) (vn_loaded R) R.wm R.bs rfl rfl rfl ?_
    refine du_cons 1 6 (dy_loaded R) (vn_loaded R) R.wm R.bs rfl rfl rfl ?_
    refine du_cons 1 5 (dy_loaded R) (vn_loaded R) R.wm R.bs rfl rfl rfl ?_
    refine du_cons 1 4 (dy_loaded R) (vn_loaded R) R.wm R.bs rfl rfl rfl ?_
    refine du_cons 1 3 (dy_loaded R) (vn_loaded R) R.wm R.bs rfl rfl rfl ?_
    refine du_cons 1 2 (dy_loaded R) (vn_loaded R) R.wm R.bs rfl rfl rfl ?_
    refine du_cons 1 1 (dy_loaded R) (vn_loaded R) R.wm R.bs rfl rfl rfl ?_
    refine du_cons 1 0 (dy_loaded R) (vn_loaded R) R.wm R.bs rfl rfl rfl ?_
    refine du_cons 0 7 (dy_loaded R) (vn_loaded R) R.wm R.bs rfl rfl rfl ?_
    refine du_cons 0 6 (dy_loaded R) (vn_loaded R) R.wm R.bs rfl rfl rfl ?_
    refine du_cons 0 5 (dy_loaded R) (vn_loaded R) R.wm R.bs rfl rfl rfl ?_
    refine du_cons 0 4 (dy_loaded R) (vn_loaded R) R.wm R.bs rfl rfl rfl ?_
    refine du_cons 0 3 (dy_loaded R) (vn_loaded R) R.wm R.bs rfl rfl rfl ?_
    refine du_cons 0 2 (dy_loaded R) (vn_loaded R) R.wm R.bs rfl rfl rfl ?_
    refine du_cons 0 1 (dy_loaded R) (vn_loaded R) R.wm R.bs rfl rfl rfl ?_
    refine du_cons 0 0 (dy_loaded R) (vn_loaded R) R.wm R.bs rfl rfl rfl ?_
    exact List.forall_mem_nil _
  · exact View.cover_of_tiledL _ ![128, 128] (by sl_kernel_rfl) y

/-- The scratch of the normalised half's gradient. -/
theorem next_dvn : View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16).2.2.2.2.2.2.2.1 = laid fun n r j => dvn W (B n) r j := by
  funext y
  refine View.canon_apply_of_pieces _ _ ?_ y ?_
  · refine dvn_cons 3 7 (dy_loaded R) (u_loaded R) R.wmt rfl rfl rfl ?_
    refine dvn_cons 3 6 (dy_loaded R) (u_loaded R) R.wmt rfl rfl rfl ?_
    refine dvn_cons 3 5 (dy_loaded R) (u_loaded R) R.wmt rfl rfl rfl ?_
    refine dvn_cons 3 4 (dy_loaded R) (u_loaded R) R.wmt rfl rfl rfl ?_
    refine dvn_cons 3 3 (dy_loaded R) (u_loaded R) R.wmt rfl rfl rfl ?_
    refine dvn_cons 3 2 (dy_loaded R) (u_loaded R) R.wmt rfl rfl rfl ?_
    refine dvn_cons 3 1 (dy_loaded R) (u_loaded R) R.wmt rfl rfl rfl ?_
    refine dvn_cons 3 0 (dy_loaded R) (u_loaded R) R.wmt rfl rfl rfl ?_
    refine dvn_cons 2 7 (dy_loaded R) (u_loaded R) R.wmt rfl rfl rfl ?_
    refine dvn_cons 2 6 (dy_loaded R) (u_loaded R) R.wmt rfl rfl rfl ?_
    refine dvn_cons 2 5 (dy_loaded R) (u_loaded R) R.wmt rfl rfl rfl ?_
    refine dvn_cons 2 4 (dy_loaded R) (u_loaded R) R.wmt rfl rfl rfl ?_
    refine dvn_cons 2 3 (dy_loaded R) (u_loaded R) R.wmt rfl rfl rfl ?_
    refine dvn_cons 2 2 (dy_loaded R) (u_loaded R) R.wmt rfl rfl rfl ?_
    refine dvn_cons 2 1 (dy_loaded R) (u_loaded R) R.wmt rfl rfl rfl ?_
    refine dvn_cons 2 0 (dy_loaded R) (u_loaded R) R.wmt rfl rfl rfl ?_
    refine dvn_cons 1 7 (dy_loaded R) (u_loaded R) R.wmt rfl rfl rfl ?_
    refine dvn_cons 1 6 (dy_loaded R) (u_loaded R) R.wmt rfl rfl rfl ?_
    refine dvn_cons 1 5 (dy_loaded R) (u_loaded R) R.wmt rfl rfl rfl ?_
    refine dvn_cons 1 4 (dy_loaded R) (u_loaded R) R.wmt rfl rfl rfl ?_
    refine dvn_cons 1 3 (dy_loaded R) (u_loaded R) R.wmt rfl rfl rfl ?_
    refine dvn_cons 1 2 (dy_loaded R) (u_loaded R) R.wmt rfl rfl rfl ?_
    refine dvn_cons 1 1 (dy_loaded R) (u_loaded R) R.wmt rfl rfl rfl ?_
    refine dvn_cons 1 0 (dy_loaded R) (u_loaded R) R.wmt rfl rfl rfl ?_
    refine dvn_cons 0 7 (dy_loaded R) (u_loaded R) R.wmt rfl rfl rfl ?_
    refine dvn_cons 0 6 (dy_loaded R) (u_loaded R) R.wmt rfl rfl rfl ?_
    refine dvn_cons 0 5 (dy_loaded R) (u_loaded R) R.wmt rfl rfl rfl ?_
    refine dvn_cons 0 4 (dy_loaded R) (u_loaded R) R.wmt rfl rfl rfl ?_
    refine dvn_cons 0 3 (dy_loaded R) (u_loaded R) R.wmt rfl rfl rfl ?_
    refine dvn_cons 0 2 (dy_loaded R) (u_loaded R) R.wmt rfl rfl rfl ?_
    refine dvn_cons 0 1 (dy_loaded R) (u_loaded R) R.wmt rfl rfl rfl ?_
    refine dvn_cons 0 0 (dy_loaded R) (u_loaded R) R.wmt rfl rfl rfl ?_
    exact List.forall_mem_nil _
  · exact View.cover_of_tiledL _ ![128, 128] (by sl_kernel_rfl) y

/-- The gradient of the spatial weights, visit by visit. -/
theorem next_dwm_stores : Upto xo13 (wmShare W B) False 32 (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16).2.2.1 := by
  refine dwm_read 3 7 (dy_loaded R) (u_loaded R) (vn_loaded R) (Or.inr (by decide)) rfl rfl rfl rfl ?_
  refine dwm_read 3 6 (dy_loaded R) (u_loaded R) (vn_loaded R) (Or.inr (by decide)) rfl rfl rfl rfl ?_
  refine dwm_read 3 5 (dy_loaded R) (u_loaded R) (vn_loaded R) (Or.inr (by decide)) rfl rfl rfl rfl ?_
  refine dwm_read 3 4 (dy_loaded R) (u_loaded R) (vn_loaded R) (Or.inr (by decide)) rfl rfl rfl rfl ?_
  refine dwm_read 3 3 (dy_loaded R) (u_loaded R) (vn_loaded R) (Or.inr (by decide)) rfl rfl rfl rfl ?_
  refine dwm_read 3 2 (dy_loaded R) (u_loaded R) (vn_loaded R) (Or.inr (by decide)) rfl rfl rfl rfl ?_
  refine dwm_read 3 1 (dy_loaded R) (u_loaded R) (vn_loaded R) (Or.inr (by decide)) rfl rfl rfl rfl ?_
  refine dwm_read 3 0 (dy_loaded R) (u_loaded R) (vn_loaded R) (Or.inr (by decide)) rfl rfl rfl rfl ?_
  refine dwm_read 2 7 (dy_loaded R) (u_loaded R) (vn_loaded R) (Or.inr (by decide)) rfl rfl rfl rfl ?_
  refine dwm_read 2 6 (dy_loaded R) (u_loaded R) (vn_loaded R) (Or.inr (by decide)) rfl rfl rfl rfl ?_
  refine dwm_read 2 5 (dy_loaded R) (u_loaded R) (vn_loaded R) (Or.inr (by decide)) rfl rfl rfl rfl ?_
  refine dwm_read 2 4 (dy_loaded R) (u_loaded R) (vn_loaded R) (Or.inr (by decide)) rfl rfl rfl rfl ?_
  refine dwm_read 2 3 (dy_loaded R) (u_loaded R) (vn_loaded R) (Or.inr (by decide)) rfl rfl rfl rfl ?_
  refine dwm_read 2 2 (dy_loaded R) (u_loaded R) (vn_loaded R) (Or.inr (by decide)) rfl rfl rfl rfl ?_
  refine dwm_read 2 1 (dy_loaded R) (u_loaded R) (vn_loaded R) (Or.inr (by decide)) rfl rfl rfl rfl ?_
  refine dwm_read 2 0 (dy_loaded R) (u_loaded R) (vn_loaded R) (Or.inr (by decide)) rfl rfl rfl rfl ?_
  refine dwm_read 1 7 (dy_loaded R) (u_loaded R) (vn_loaded R) (Or.inr (by decide)) rfl rfl rfl rfl ?_
  refine dwm_read 1 6 (dy_loaded R) (u_loaded R) (vn_loaded R) (Or.inr (by decide)) rfl rfl rfl rfl ?_
  refine dwm_read 1 5 (dy_loaded R) (u_loaded R) (vn_loaded R) (Or.inr (by decide)) rfl rfl rfl rfl ?_
  refine dwm_read 1 4 (dy_loaded R) (u_loaded R) (vn_loaded R) (Or.inr (by decide)) rfl rfl rfl rfl ?_
  refine dwm_read 1 3 (dy_loaded R) (u_loaded R) (vn_loaded R) (Or.inr (by decide)) rfl rfl rfl rfl ?_
  refine dwm_read 1 2 (dy_loaded R) (u_loaded R) (vn_loaded R) (Or.inr (by decide)) rfl rfl rfl rfl ?_
  refine dwm_read 1 1 (dy_loaded R) (u_loaded R) (vn_loaded R) (Or.inr (by decide)) rfl rfl rfl rfl ?_
  refine dwm_read 1 0 (dy_loaded R) (u_loaded R) (vn_loaded R) (Or.inr (by decide)) rfl rfl rfl rfl ?_
  refine dwm_load 7 (dy_loaded R) (u_loaded R) (vn_loaded R) rfl rfl rfl rfl ?_
  refine dwm_load 6 (dy_loaded R) (u_loaded R) (vn_loaded R) rfl rfl rfl rfl ?_
  refine dwm_load 5 (dy_loaded R) (u_loaded R) (vn_loaded R) rfl rfl rfl rfl ?_
  refine dwm_load 4 (dy_loaded R) (u_loaded R) (vn_loaded R) rfl rfl rfl rfl ?_
  refine dwm_load 3 (dy_loaded R) (u_loaded R) (vn_loaded R) rfl rfl rfl rfl ?_
  refine dwm_load 2 (dy_loaded R) (u_loaded R) (vn_loaded R) rfl rfl rfl rfl ?_
  refine dwm_load 1 (dy_loaded R) (u_loaded R) (vn_loaded R) rfl rfl rfl rfl ?_
  refine dwm_load 0 (dy_loaded R) (u_loaded R) (vn_loaded R) rfl rfl rfl rfl ?_
  exact upto_nil _ _

theorem next_dwm (a : Fin 8) (p q : Fin 128) : out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 (ix3 a p q)
    = xo13 (ix3 a p q) + ∑ n, dwm W (B n) a p q :=
  (congrFun (View.read_writes_junk_eq_canon _ _) _).trans (upto_last (next_dwm_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 R) a p q)

/-- The gradient of the biases, visit by visit. -/
theorem next_dbs_stores : Upto xo14 (bsShare W B) False 32 (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16).2.2.2.1 := by
  refine dbs_read 3 7 (dy_loaded R) (u_loaded R) (Or.inr (by decide)) rfl rfl rfl rfl ?_
  refine dbs_read 3 6 (dy_loaded R) (u_loaded R) (Or.inr (by decide)) rfl rfl rfl rfl ?_
  refine dbs_read 3 5 (dy_loaded R) (u_loaded R) (Or.inr (by decide)) rfl rfl rfl rfl ?_
  refine dbs_read 3 4 (dy_loaded R) (u_loaded R) (Or.inr (by decide)) rfl rfl rfl rfl ?_
  refine dbs_read 3 3 (dy_loaded R) (u_loaded R) (Or.inr (by decide)) rfl rfl rfl rfl ?_
  refine dbs_read 3 2 (dy_loaded R) (u_loaded R) (Or.inr (by decide)) rfl rfl rfl rfl ?_
  refine dbs_read 3 1 (dy_loaded R) (u_loaded R) (Or.inr (by decide)) rfl rfl rfl rfl ?_
  refine dbs_read 3 0 (dy_loaded R) (u_loaded R) (Or.inr (by decide)) rfl rfl rfl rfl ?_
  refine dbs_read 2 7 (dy_loaded R) (u_loaded R) (Or.inr (by decide)) rfl rfl rfl rfl ?_
  refine dbs_read 2 6 (dy_loaded R) (u_loaded R) (Or.inr (by decide)) rfl rfl rfl rfl ?_
  refine dbs_read 2 5 (dy_loaded R) (u_loaded R) (Or.inr (by decide)) rfl rfl rfl rfl ?_
  refine dbs_read 2 4 (dy_loaded R) (u_loaded R) (Or.inr (by decide)) rfl rfl rfl rfl ?_
  refine dbs_read 2 3 (dy_loaded R) (u_loaded R) (Or.inr (by decide)) rfl rfl rfl rfl ?_
  refine dbs_read 2 2 (dy_loaded R) (u_loaded R) (Or.inr (by decide)) rfl rfl rfl rfl ?_
  refine dbs_read 2 1 (dy_loaded R) (u_loaded R) (Or.inr (by decide)) rfl rfl rfl rfl ?_
  refine dbs_read 2 0 (dy_loaded R) (u_loaded R) (Or.inr (by decide)) rfl rfl rfl rfl ?_
  refine dbs_read 1 7 (dy_loaded R) (u_loaded R) (Or.inr (by decide)) rfl rfl rfl rfl ?_
  refine dbs_read 1 6 (dy_loaded R) (u_loaded R) (Or.inr (by decide)) rfl rfl rfl rfl ?_
  refine dbs_read 1 5 (dy_loaded R) (u_loaded R) (Or.inr (by decide)) rfl rfl rfl rfl ?_
  refine dbs_read 1 4 (dy_loaded R) (u_loaded R) (Or.inr (by decide)) rfl rfl rfl rfl ?_
  refine dbs_read 1 3 (dy_loaded R) (u_loaded R) (Or.inr (by decide)) rfl rfl rfl rfl ?_
  refine dbs_read 1 2 (dy_loaded R) (u_loaded R) (Or.inr (by decide)) rfl rfl rfl rfl ?_
  refine dbs_read 1 1 (dy_loaded R) (u_loaded R) (Or.inr (by decide)) rfl rfl rfl rfl ?_
  refine dbs_read 1 0 (dy_loaded R) (u_loaded R) (Or.inr (by decide)) rfl rfl rfl rfl ?_
  refine dbs_load 7 (dy_loaded R) (u_loaded R) rfl rfl rfl rfl ?_
  refine dbs_load 6 (dy_loaded R) (u_loaded R) rfl rfl rfl rfl ?_
  refine dbs_load 5 (dy_loaded R) (u_loaded R) rfl rfl rfl rfl ?_
  refine dbs_load 4 (dy_loaded R) (u_loaded R) rfl rfl rfl rfl ?_
  refine dbs_load 3 (dy_loaded R) (u_loaded R) rfl rfl rfl rfl ?_
  refine dbs_load 2 (dy_loaded R) (u_loaded R) rfl rfl rfl rfl ?_
  refine dbs_load 1 (dy_loaded R) (u_loaded R) rfl rfl rfl rfl ?_
  refine dbs_load 0 (dy_loaded R) (u_loaded R) rfl rfl rfl rfl ?_
  exact upto_nil _ _

theorem next_dbs (a : Fin 8) (p q : Fin 128) : out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 (ix3 a p q)
    = xo14 (ix3 a p q) + ∑ n, dbs W (B n) a p :=
  (congrFun (View.read_writes_junk_eq_canon _ _) _).trans (upto_last (next_dbs_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 R) a p q)

/-- The gradient of the projection, as stored. -/
theorem next_dz_stores (n : Fin 4) (r : Fin 128) (j : Fin 2048) :
    View.canon (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16).2.1 (ix2 (row n r) j) = dz W (B n) r j :=
  halves_canon (row n r) (dz W (B n) r)
    (fun j => (dz_hi_pay (z_loaded R) (read_back (next_dvn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 R)) (gv_loaded R) n r j).trans (dz_hi r j (B n)).symm)
    (fun j => (dz_lo_pay (z_loaded R) (read_back (next_du c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 R)) n r j).trans (dz_lo r j (B n)).symm) j

theorem next_dz (n : Fin 4) (r : Fin 128) (j : Fin 2048) : out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 (ix2 (row n r) j) = dz W (B n) r j :=
  (congrFun (View.read_writes_junk_eq_canon _ _) _).trans (next_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 R n r j)

/-- The gradient handed on. -/
theorem next_dx (n : Fin 4) (r : Fin 128) (j : Fin 1024) : out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 (ix2 (row n r) j) = dx W (B n) r j := by
  refine (congrFun (View.read_writes_junk_eq_canon _ _) _).trans ?_
  refine (congrFun (View.canon_unit_zero (Val := Elt Ideal) (e := .f32) (S := S512x1024) (off := ![0, 0]) (by decide) _ _) _).trans ?_
  exact dx_pay (dh_pay (quarter_read (next_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 R) 0 rfl _) (quarter_read (next_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 R) 1 rfl _)
      (quarter_read (next_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 R) 2 rfl _) (quarter_read (next_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 R) 3 rfl _)
      (win_loaded R 0 rfl) (win_loaded R 1 rfl) (win_loaded R 2 rfl) (win_loaded R 3 rfl))
    (x_loaded R) (g_loaded R) (ct_loaded R) n r j

/-- The gain of the mixed half's norm: the first row. -/
theorem next_dgv (j : Fin 1024) : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 (ix2 0 j) = xo15 (ix2 0 j) + ∑ n, dgv W (B n) j := by
  refine (first_row_hit j).trans ?_
  refine (dgv_row (z_loaded R) (read_back (next_dvn c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 R)) _ 0 j).trans ?_
  exact (congrArg (· + _) ((congrFun (shapeCast_self _ _) _).trans (load_first j)))

omit R in
theorem next_dgv_rest (i' : Fin 8) (hi : i' ≠ 0) (j : Fin 1024) : out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 (ix2 i' j) = xo15 (ix2 i' j) := by
  refine (first_row_miss i' hi j).trans ?_
  exact congrFun (Memref.IsWhole.read_unread _ _) _

/-- The gain of the input's norm: the first row. -/
theorem next_dg (j : Fin 1024) : out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 (ix2 0 j) = xo16 (ix2 0 j) + ∑ n, dg W (B n) j := by
  refine (first_row_hit j).trans ?_
  refine (dg_row (dh_pay (quarter_read (next_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 R) 0 rfl _) (quarter_read (next_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 R) 1 rfl _)
      (quarter_read (next_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 R) 2 rfl _) (quarter_read (next_dz_stores c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 R) 3 rfl _)
      (win_loaded R 0 rfl) (win_loaded R 1 rfl) (win_loaded R 2 rfl) (win_loaded R 3 rfl)) (x_loaded R) _ 0 j).trans ?_
  exact (congrArg (· + _) (load_first j))

omit R in
theorem next_dg_rest (i' : Fin 8) (hi : i' ≠ 0) (j : Fin 1024) : out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xo13 xo14 xo15 xo16 (ix2 i' j) = xo16 (ix2 i' j) := by
  refine (first_row_miss i' hi j).trans ?_
  exact congrFun (Memref.IsWhole.read_unread _ _) _

end Gating
-- ==== Proof.Points.lean ====
/-
  Over the eight runs of the body: each reads four blocks of 128 rows of the device's 4096, and the four sums run
  through all of them. The arrays the kernel leaves, as formulas of the arrays it is handed.
-/
module

public import Idealize.ShloMosaic.Lib.Pipeline.ValueKit
public import proofs.«01_k».proof.Proof.RunFirst
public import proofs.«01_k».proof.Proof.RunNext
public import proofs.«01_k».proof.Proof.Gen.KernelIdeal.Value

@[expose] public section

noncomputable section

namespace Gating

open Idealize.ShloMosaic hiding ix1 ix2 ix3
open Idealize.ShloMosaic.TcCoe Idealize.ShloMosaic.ValueIdx Cert.KernelIdeal Cert.KernelIdeal.Gen Idealize.SL.Sem

/-- Row `r` of the `b`-th block of 128 rows among 4096. -/
def rowAt (b : Fin 32) (r : Fin 128) : Fin 4096 := ⟨128 * b.val + r.val, by omega⟩

/-- What the kernel is handed: 32 blocks of 128 rows of each row-wise array, and the parameters. -/
structure Arrays (W : Weights) (B : Fin 32 → Rows) (a0 a1 : S4096x1024.Idx → EReal) (a2 : S1x1024.Idx → EReal)
    (a3 : S4096x2048.Idx → EReal) (a4 : S4096x1024.Idx → EReal) (a5 : S1x1024.Idx → EReal)
    (a6 a7 a8 : S8x128x128.Idx → EReal) (a9 : S1024x1024.Idx → EReal) (a10 : S4x1024x512.Idx → EReal) : Prop where
  ct : ∀ b r j, a0 (ix2 (rowAt b r) j) = (B b).ct r j
  x : ∀ b r j, a1 (ix2 (rowAt b r) j) = (B b).x r j
  g : ∀ j, a2 (ix2 0 j) = W.g j
  z : ∀ b r j, a3 (ix2 (rowAt b r) j) = (B b).z r j
  vn : ∀ b r j, a4 (ix2 (rowAt b r) j) = (B b).vn r j
  gv : ∀ j, a5 (ix2 0 j) = W.gv j
  wm : ∀ a i q, a6 (ix3 a i q) = W.wm a i q
  wmt : ∀ a i q, a7 (ix3 a i q) = W.wm a q i
  bs : ∀ a i c, a8 (ix3 a i c) = W.bs a i
  wout : ∀ k q, a9 (ix2 k q) = W.wout k q
  win : ∀ s k c, a10 (ix3 s k c) = W.win k (quarter s c)

variable (m : (ℓ : Loc nD τ sig) → Buf (Elt Ideal) ℓ) (c : Dev nD) {W : Weights} {B : Fin 32 → Rows}

/-- The block of rows the `n`-th part of run `t` covers. -/
def part (t : Fin cfg0.N) (n : Fin 4) : Fin 32 := ⟨4 * t.val + n.val, by have : t.val < 8 := t.isLt; omega⟩

theorem index_0 : ∀ t : Fin cfg0.N, win0_0.index t = ![t.val, 0] := by decide +kernel
theorem index_1 : ∀ t : Fin cfg0.N, win0_1.index t = ![t.val, 0] := by decide +kernel
theorem index_2 : ∀ t : Fin cfg0.N, win0_2.index t = ![0, 0] := by decide +kernel
theorem index_3 : ∀ t : Fin cfg0.N, win0_3.index t = ![t.val, 0] := by decide +kernel
theorem index_4 : ∀ t : Fin cfg0.N, win0_4.index t = ![t.val, 0] := by decide +kernel
theorem index_5 : ∀ t : Fin cfg0.N, win0_5.index t = ![0, 0] := by decide +kernel
theorem index_6 : ∀ t : Fin cfg0.N, win0_6.index t = ![0, 0, 0] := by decide +kernel
theorem index_7 : ∀ t : Fin cfg0.N, win0_7.index t = ![0, 0, 0] := by decide +kernel
theorem index_8 : ∀ t : Fin cfg0.N, win0_8.index t = ![0, 0, 0] := by decide +kernel
theorem index_9 : ∀ t : Fin cfg0.N, win0_9.index t = ![0, 0] := by decide +kernel
theorem index_10 : ∀ t : Fin cfg0.N, win0_10.index t = ![0, 0, 0] := by decide +kernel
theorem index_11 : ∀ t : Fin cfg0.N, win0_11.index t = ![t.val, 0] := by decide +kernel
theorem index_12 : ∀ t : Fin cfg0.N, win0_12.index t = ![t.val, 0] := by decide +kernel

/-- What the arrays hold when the kernel starts. -/
def Handed (W : Weights) (B : Fin 32 → Rows) : Prop :=
  Arrays W B (V m c main_arg7) (V m c main_arg0) (V m c main_arg1) (V m c main_v61) (V m c main_v62) (V m c main_arg3)
    (V m c main_v10) (V m c main_v12) (V m c main_v14) (V m c main_v63) (V m c main_v17)

variable {m c}

variable (m c) in
theorem ct_at (t : Fin cfg0.N) (n : Fin 4) (r : Fin 128) (j : Fin 1024) :
    iblk m c 0 t (ix2 (row n r) j) = V m c main_arg7 (ix2 (rowAt (part t n) r) j) := by
  blk_ext [iblk, V, index_0 t, row, rowAt, part]

variable (m c) in
theorem x_at (t : Fin cfg0.N) (n : Fin 4) (r : Fin 128) (j : Fin 1024) :
    iblk m c 1 t (ix2 (row n r) j) = V m c main_arg0 (ix2 (rowAt (part t n) r) j) := by
  blk_ext [iblk, V, index_1 t, row, rowAt, part]

variable (m c) in
theorem g_at (t : Fin cfg0.N) (j : Fin 1024) : iblk m c 2 t (ix2 0 j) = V m c main_arg1 (ix2 0 j) := by
  blk_ext [iblk, V, index_2 t]

variable (m c) in
theorem z_at (t : Fin cfg0.N) (n : Fin 4) (r : Fin 128) (j : Fin 2048) :
    iblk m c 3 t (ix2 (row n r) j) = V m c main_v61 (ix2 (rowAt (part t n) r) j) := by
  blk_ext [iblk, V, index_3 t, row, rowAt, part]

variable (m c) in
theorem vn_at (t : Fin cfg0.N) (n : Fin 4) (r : Fin 128) (j : Fin 1024) :
    iblk m c 4 t (ix2 (row n r) j) = V m c main_v62 (ix2 (rowAt (part t n) r) j) := by
  blk_ext [iblk, V, index_4 t, row, rowAt, part]

variable (m c) in
theorem gv_at (t : Fin cfg0.N) (j : Fin 1024) : iblk m c 5 t (ix2 0 j) = V m c main_arg3 (ix2 0 j) := by
  blk_ext [iblk, V, index_5 t]

variable (m c) in
theorem wm_at (t : Fin cfg0.N) (a : Fin 8) (i : Fin 128) (q : Fin 128) : iblk m c 6 t (ix3 a i q) = V m c main_v10 (ix3 a i q) := by
  blk_ext [iblk, V, index_6 t]

variable (m c) in
theorem wmt_at (t : Fin cfg0.N) (a : Fin 8) (i : Fin 128) (q : Fin 128) : iblk m c 7 t (ix3 a i q) = V m c main_v12 (ix3 a i q) := by
  blk_ext [iblk, V, index_7 t]

variable (m c) in
theorem bs_at (t : Fin cfg0.N) (a : Fin 8) (i : Fin 128) (q : Fin 128) : iblk m c 8 t (ix3 a i q) = V m c main_v14 (ix3 a i q) := by
  blk_ext [iblk, V, index_8 t]

variable (m c) in
theorem wout_at (t : Fin cfg0.N) (k q : Fin 1024) : iblk m c 9 t (ix2 k q) = V m c main_v63 (ix2 k q) := by
  blk_ext [iblk, V, index_9 t]

variable (m c) in
theorem win_at (t : Fin cfg0.N) (a : Fin 4) (i : Fin 1024) (q : Fin 512) : iblk m c 10 t (ix3 a i q) = V m c main_v17 (ix3 a i q) := by
  blk_ext [iblk, V, index_10 t]

theorem reads_at (h : Handed m c W B) (t : Fin cfg0.N) :
    Reads W (fun n => B (part t n)) (iblk m c 0 t) (iblk m c 1 t) (iblk m c 2 t) (iblk m c 3 t) (iblk m c 4 t) (iblk m c 5 t)
      (iblk m c 6 t) (iblk m c 7 t) (iblk m c 8 t) (iblk m c 9 t) (iblk m c 10 t) where
  ct n r j := (ct_at m c t n r j).trans (h.ct _ r j)
  x n r j := (x_at m c t n r j).trans (h.x _ r j)
  g j := (g_at m c t j).trans (h.g j)
  z n r j := (z_at m c t n r j).trans (h.z _ r j)
  vn n r j := (vn_at m c t n r j).trans (h.vn _ r j)
  gv j := (gv_at m c t j).trans (h.gv j)
  wm a i q := (wm_at m c t a i q).trans (h.wm a i q)
  wmt a i q := (wmt_at m c t a i q).trans (h.wmt a i q)
  bs a i q := (bs_at m c t a i q).trans (h.bs a i q)
  wout k q := (wout_at m c t k q).trans (h.wout k q)
  win a i q := (win_at m c t a i q).trans (h.win a i q)

end Gating
-- ==== Proof.RefForward.lean ====
/-
  The reference read row by row, forwards: the two norms, the projection's two halves, the mixed gate.
-/
module

public import proofs.«01_k».proof.Proof.RowLaws
public import proofs.«01_k».proof.Proof.Points
public import proofs.«01_k».proof.Proof.Gen.ReferenceIdeal.Read

@[expose] public section

noncomputable section

namespace Gating

open Idealize.ShloMosaic hiding ix1 ix2 ix3 ix4 eq_ix1 eq_ix2 eq_ix3 eq_ix4
open Idealize.ShloMosaic.TcCoe Idealize.ShloMosaic.ValueIdx Cert.ReferenceIdeal Cert.ReferenceIdeal.Gen
open Cert.ReferenceIdeal.Read

/-! ### Reading at an index -/

theorem read1 {A : ℕ} {α : Type} (f : (⟨1, ![A]⟩ : Shape).Idx → α) (i : (⟨1, ![A]⟩ : Shape).Idx) (a : Fin A) (h0 : i 0 = a) :
    f i = f (ix1 a) := by subst h0; exact congrArg f (eq_ix1 i)
theorem read2 {A B : ℕ} {α : Type} (f : (⟨2, ![A, B]⟩ : Shape).Idx → α) (i : (⟨2, ![A, B]⟩ : Shape).Idx) (a : Fin A) (b : Fin B)
    (h0 : i 0 = a) (h1 : i 1 = b) : f i = f (ix2 a b) := by subst h0 h1; exact congrArg f (eq_ix2 i)
theorem read3 {A B C : ℕ} {α : Type} (f : (⟨3, ![A, B, C]⟩ : Shape).Idx → α) (i : (⟨3, ![A, B, C]⟩ : Shape).Idx) (a : Fin A)
    (b : Fin B) (c : Fin C) (h0 : i 0 = a) (h1 : i 1 = b) (h2 : i 2 = c) : f i = f (ix3 a b c) := by
  subst h0 h1 h2; exact congrArg f (eq_ix3 i)
theorem read4 {A B C D : ℕ} {α : Type} (f : (⟨4, ![A, B, C, D]⟩ : Shape).Idx → α) (i : (⟨4, ![A, B, C, D]⟩ : Shape).Idx) (a : Fin A)
    (b : Fin B) (c : Fin C) (d : Fin D) (h0 : i 0 = a) (h1 : i 1 = b) (h2 : i 2 = c) (h3 : i 3 = d) :
    f i = f (ix4 a b c d) := by
  subst h0 h1 h2 h3; exact congrArg f (eq_ix4 i)

/-! ### Scalars the reference writes otherwise -/

theorem ofBits_two : Ideal.ofBits .f32 0x40000000#32 = ((2 : ℝ) : EReal) := by
  simp [Ideal.ofBits, Ideal.ieee, -EReal.coe_mul, -zpow_neg]; norm_num
theorem ofBits_eight : Ideal.ofBits .f32 0x41000000#32 = ((8 : ℝ) : EReal) := by
  simp [Ideal.ofBits, Ideal.ieee, -EReal.coe_mul, -zpow_neg]; norm_num

theorem sqrt_two : Ideal.sqrt (Ideal.ofBits .f32 0x40000000#32) = ((Real.sqrt 2 : ℝ) : EReal) := by
  rw [ofBits_two, Ideal.sqrt_coe, if_neg (by norm_num)]

theorem div_sqrt_two (x : EReal) : Ideal.div x (Ideal.sqrt (Ideal.ofBits .f32 0x40000000#32)) = x * invSqrt2 := by
  rw [sqrt_two, Ideal.div_coe (by positivity), one_div]
  rfl

/-- The unit written with a division by the root of two. -/
theorem gelu_div (x : EReal) :
    Ideal.ofBits .f32 0x3F000000#32 * x * (Ideal.ofBits .f32 0x3F800000#32
      + Ideal.erf (Ideal.div x (Ideal.sqrt (Ideal.ofBits .f32 0x40000000#32)))) = gelu x := by
  rw [div_sqrt_two]
  exact gelu_word x

variable (x0 : (⟨S4096x1024, .f32⟩ : BufTy).Contents (Elt Ideal)) (x1 : (⟨S1x1024, .f32⟩ : BufTy).Contents (Elt Ideal))
  (x2 : (⟨S1024x2048, .f32⟩ : BufTy).Contents (Elt Ideal)) (x3 : (⟨S1x1024, .f32⟩ : BufTy).Contents (Elt Ideal))
  (x4 : (⟨S8x128x128, .f32⟩ : BufTy).Contents (Elt Ideal)) (x5 : (⟨S8x128, .f32⟩ : BufTy).Contents (Elt Ideal))
  (x6 : (⟨S1024x1024, .f32⟩ : BufTy).Contents (Elt Ideal)) (x7 : (⟨S4096x1024, .f32⟩ : BufTy).Contents (Elt Ideal))

/-- Row `n` of the input. -/
def xRow (n : Fin 4096) (j : Fin 1024) : EReal := x0 (ix2 n j)
/-- Row `n` of the projection. -/
def zRow (n : Fin 4096) (q : Fin 2048) : EReal := val_main_v15 (F := Ideal) x0 x1 x2 (ix2 n q)
/-- Row `n` of the half that is normalised. -/
def vRow (n : Fin 4096) (j : Fin 1024) : EReal := gelu (zRow x0 x1 x2 n (hi j))

/-! ### The input's norm and the projection -/

theorem rms_guard (n : Fin 4096) (u : Fin 1) :
    val_main_v6 (F := Ideal) x0 (ix2 n u) = mean (fun j => xRow x0 n j * xRow x0 n j) + eps := by
  rw [val_main_v6_apply, val_main_v4_apply, val_main_v2_apply, val_main_v1_apply, val_main_v5_apply, val_main_v3_apply, val_main_cst_1_apply, val_main_cst_0_apply, val_main_cst_apply]
  have e : ∀ k, val_main_v0 (F := Ideal) x0 (idx_main_v1 (idx_main_v2 (ix2 n u)) k) = xRow x0 n k * xRow x0 n k := fun k =>
    (read2 (val_main_v0 (F := Ideal) x0) _ n k rfl rfl).trans rfl
  simp only [e]
  show Ideal.div (Ideal.ofBits .f32 0x00000000#32 + _) (Ideal.ofBits .f32 0x44800000#32) + eps = _
  rw [Ideal.ofBits_zero_f32, zero_add, ofBits_1024]
  rfl

theorem rms_inv (n : Fin 4096) (u : Fin 1) : val_main_v7 (F := Ideal) x0 (ix2 n u) = rmsInv (xRow x0 n) := by
  rw [val_main_v7_apply, rms_guard]
  rfl

theorem rms_hat (n : Fin 4096) (j : Fin 1024) : val_main_v12 (F := Ideal) x0 (ix2 n j) = rmsHat (xRow x0 n) j := by
  rw [val_main_v12_apply, val_main_v11_apply, read2 (val_main_v7 (F := Ideal) x0) _ n 0 rfl rfl, rms_inv]
  rfl

theorem rms_out (n : Fin 4096) (j : Fin 1024) : val_main_v14 (F := Ideal) x0 x1 (ix2 n j) = rmsHat (xRow x0 n) j * x1 (ix2 0 j) := by
  rw [val_main_v14_apply, val_main_v13_apply, rms_hat, read2 x1 _ 0 j rfl rfl]
  rfl

theorem projected (n : Fin 4096) (q : Fin 2048) :
    zRow x0 x1 x2 n q = ∑ k, (rmsHat (xRow x0 n) k * x1 (ix2 0 k)) * x2 (ix2 k q) := by
  rw [zRow, val_main_v15_apply]
  refine Finset.sum_congr rfl fun k _ => ?_
  rw [read2 (val_main_v14 (F := Ideal) x0 x1) _ n k rfl rfl, rms_out, read2 x2 _ k q rfl rfl]

/-! ### The two halves and the norm of the right one -/

theorem gelu_at (n : Fin 4096) (q : Fin 2048) : val_main_v34 (F := Ideal) x0 x1 x2 (ix2 n q) = gelu (zRow x0 x1 x2 n q) := by
  rw [val_main_v34_apply, val_main_v27_apply, val_main_v26_apply, val_main_v33_apply, val_main_v32_apply, val_main_v31_apply, val_main_v30_apply, val_main_v29_apply, val_main_v28_apply, val_main_cst_5_apply, val_main_cst_6_apply, val_main_cst_7_apply]
  exact gelu_div _

theorem left_at (n : Fin 4096) (j : Fin 1024) : val_main_v35 (F := Ideal) x0 x1 x2 (ix2 n j) = gelu (zRow x0 x1 x2 n (lo j)) := by
  rw [val_main_v35_apply, read2 (val_main_v34 (F := Ideal) x0 x1 x2) _ n (lo j) rfl rfl, gelu_at]

theorem right_at (n : Fin 4096) (j : Fin 1024) : val_main_v36 (F := Ideal) x0 x1 x2 (ix2 n j) = vRow x0 x1 x2 n j := by
  rw [val_main_v36_apply, read2 (val_main_v34 (F := Ideal) x0 x1 x2) _ n (hi j) rfl rfl, gelu_at]
  rfl

theorem mean_at (n : Fin 4096) (u : Fin 1) : val_main_v40 (F := Ideal) x0 x1 x2 (ix2 n u) = mean (vRow x0 x1 x2 n) := by
  rw [val_main_v40_apply, val_main_v38_apply, val_main_v37_apply, val_main_v39_apply, val_main_cst_9_apply, val_main_cst_8_apply]
  have e : ∀ k, val_main_v36 (F := Ideal) x0 x1 x2 (idx_main_v37 (idx_main_v38 (ix2 n u)) k) = vRow x0 x1 x2 n k := fun k =>
    (read2 (val_main_v36 (F := Ideal) x0 x1 x2) _ n k rfl rfl).trans (right_at x0 x1 x2 n k)
  simp only [e]
  show Ideal.div (Ideal.ofBits .f32 0x00000000#32 + _) (Ideal.ofBits .f32 0x44800000#32) = _
  rw [Ideal.ofBits_zero_f32, zero_add, ofBits_1024]
  rfl

theorem centred_at (n : Fin 4096) (j : Fin 1024) : val_main_v42 (F := Ideal) x0 x1 x2 (ix2 n j) = centred (vRow x0 x1 x2 n) j := by
  rw [val_main_v42_apply, val_main_v41_apply, right_at, read2 (val_main_v40 (F := Ideal) x0 x1 x2) _ n 0 rfl rfl, mean_at]
  rfl

theorem centred_at' (n : Fin 4096) (j : Fin 1024) : val_main_v51 (F := Ideal) x0 x1 x2 (ix2 n j) = centred (vRow x0 x1 x2 n) j := by
  rw [val_main_v51_apply, val_main_v50_apply, right_at, read2 (val_main_v40 (F := Ideal) x0 x1 x2) _ n 0 rfl rfl, mean_at]
  rfl

theorem std_guard (n : Fin 4096) (u : Fin 1) :
    val_main_v53 (F := Ideal) x0 x1 x2 (ix2 n u) = mean (fun j => centred (vRow x0 x1 x2 n) j * centred (vRow x0 x1 x2 n) j) + eps := by
  rw [val_main_v53_apply, val_main_v52_apply, val_main_v49_apply, val_main_v47_apply, val_main_v46_apply, val_main_v48_apply, val_main_cst_13_apply, val_main_cst_12_apply, val_main_cst_11_apply]
  have e : ∀ k, val_main_v43 (F := Ideal) x0 x1 x2 (idx_main_v46 (idx_main_v47 (ix2 n u)) k)
      = centred (vRow x0 x1 x2 n) k * centred (vRow x0 x1 x2 n) k := fun k => by
    rw [read2 (val_main_v43 (F := Ideal) x0 x1 x2) _ n k rfl rfl, val_main_v43_apply, centred_at]
    rfl
  simp only [e]
  show Ideal.div (Ideal.ofBits .f32 0x00000000#32 + _) (Ideal.ofBits .f32 0x44800000#32) + eps = _
  rw [Ideal.ofBits_zero_f32, zero_add, ofBits_1024]
  rfl

theorem std_inv (n : Fin 4096) (u : Fin 1) : val_main_v54 (F := Ideal) x0 x1 x2 (ix2 n u) = stdInv (vRow x0 x1 x2 n) := by
  rw [val_main_v54_apply, std_guard]
  rfl

theorem norm_hat (n : Fin 4096) (j : Fin 1024) : val_main_v59 (F := Ideal) x0 x1 x2 (ix2 n j) = normHat (vRow x0 x1 x2 n) j := by
  rw [val_main_v59_apply, val_main_v58_apply, centred_at', read2 (val_main_v54 (F := Ideal) x0 x1 x2) _ n 0 rfl rfl, std_inv]
  rfl

theorem norm_out (n : Fin 4096) (j : Fin 1024) : val_main_v61 (F := Ideal) x0 x1 x2 x3 (ix2 n j) = normHat (vRow x0 x1 x2 n) j * x3 (ix2 0 j) := by
  rw [val_main_v61_apply, val_main_v60_apply, norm_hat, read2 x3 _ 0 j rfl rfl]
  rfl

/-! ### The blocks the reference's rows make -/

/-- The parameters, as the reference reads them. -/
def refWeights : Weights where
  g j := x1 (ix2 0 j)
  gv j := x3 (ix2 0 j)
  wm a i q := val_main_v25 (F := Ideal) x4 (ix3 a i q)
  bs a i := x5 (ix2 a i)
  wout k q := x6 (ix2 k q)
  win k q := x2 (ix2 k q)

/-- Block `b` of the reference's rows. -/
def refRows (b : Fin 32) : Rows where
  ct r j := x7 (ix2 (rowAt b r) j)
  x r j := xRow x0 (rowAt b r) j
  z r q := zRow x0 x1 x2 (rowAt b r) q
  vn r j := val_main_v61 (F := Ideal) x0 x1 x2 x3 (ix2 (rowAt b r) j)

end Gating
-- ==== Proof.RefGate.lean ====
/-
  The reference read row by row, through the gate: the mixed gate, and the gradients that come back out of it, as the
  formulas of one block of 128 rows.
-/
module

public import proofs.«01_k».proof.Proof.RefForward

@[expose] public section

noncomputable section

namespace Gating

open Idealize.ShloMosaic hiding ix1 ix2 ix3 ix4 eq_ix1 eq_ix2 eq_ix3 eq_ix4
open Idealize.ShloMosaic.TcCoe Idealize.ShloMosaic.ValueIdx Cert.ReferenceIdeal Cert.ReferenceIdeal.Gen
open Cert.ReferenceIdeal.Read

variable (x0 : (⟨S4096x1024, .f32⟩ : BufTy).Contents (Elt Ideal)) (x1 : (⟨S1x1024, .f32⟩ : BufTy).Contents (Elt Ideal))
  (x2 : (⟨S1024x2048, .f32⟩ : BufTy).Contents (Elt Ideal)) (x3 : (⟨S1x1024, .f32⟩ : BufTy).Contents (Elt Ideal))
  (x4 : (⟨S8x128x128, .f32⟩ : BufTy).Contents (Elt Ideal)) (x5 : (⟨S8x128, .f32⟩ : BufTy).Contents (Elt Ideal))
  (x6 : (⟨S1024x1024, .f32⟩ : BufTy).Contents (Elt Ideal)) (x7 : (⟨S4096x1024, .f32⟩ : BufTy).Contents (Elt Ideal))

theorem chan_self (j : Fin 1024) : chan (grp j) ⟨j.val % 128, by omega⟩ = j :=
  Fin.ext (show 128 * (j.val / 128) + j.val % 128 = j.val by omega)

/-- Where the regrouped arrays find row `r` of block `b`, channel `c` of group `a`. -/
theorem regroup_row (b : Fin 32) (r : Fin 128) (a : Fin 8) (c : Fin 128) :
    (((b.val * 128 + r.val) * 8 + a.val) * 128 + c.val) / 1024 = (rowAt b r).val := by
  show _ = 128 * b.val + r.val
  omega
theorem regroup_col (b : Fin 32) (r : Fin 128) (a : Fin 8) (c : Fin 128) :
    (((b.val * 128 + r.val) * 8 + a.val) * 128 + c.val) % 1024 = (chan a c).val := by
  show _ = 128 * a.val + c.val
  omega

theorem gate_group (b : Fin 32) (r : Fin 128) (a : Fin 8) (c : Fin 128) :
    val_main_v62 (F := Ideal) x0 x1 x2 x3 (ix4 b r a c) = (refRows x0 x1 x2 x3 x7 b).vn r (chan a c) := by
  rw [val_main_v62_apply]
  exact read2 (val_main_v61 (F := Ideal) x0 x1 x2 x3) _ (rowAt b r) (chan a c) (Fin.ext (regroup_row b r a c)) (Fin.ext (regroup_col b r a c))

/-- The mixed gate, grouped. -/
theorem mixed_group (b : Fin 32) (r : Fin 128) (a : Fin 8) (c : Fin 128) :
    val_main_v68 (F := Ideal) x0 x1 x2 x3 x4 x5 (ix4 b r a c) = sv (refWeights x1 x2 x3 x4 x5 x6) (refRows x0 x1 x2 x3 x7 b) r (chan a c) := by
  rw [val_main_v68_apply, val_main_v64_apply, val_main_v67_apply, val_main_v66_apply, val_main_v65_apply, read4 (val_main_v63 (F := Ideal) x0 x1 x2 x3 x4) _ a b c r rfl rfl rfl rfl, val_main_v63_apply]
  show _ + x5 _ = _
  rw [read2 x5 _ a r rfl rfl]
  show _ + _ = (∑ q, (refWeights x1 x2 x3 x4 x5 x6).wm (grp (chan a c)) r q * (refRows x0 x1 x2 x3 x7 b).vn q (chan a c)) + (refWeights x1 x2 x3 x4 x5 x6).bs (grp (chan a c)) r
  rw [grp_chan]
  refine congrArg (· + _) (Finset.sum_congr rfl fun q _ => ?_)
  rw [read4 (val_main_v62 (F := Ideal) x0 x1 x2 x3) _ b q a c rfl rfl rfl rfl, gate_group x0 x1 x2 x3 x7, read3 (val_main_v25 (F := Ideal) x4) _ a r q rfl rfl rfl]
  exact mul_comm _ _

theorem mixed_at (b : Fin 32) (r : Fin 128) (j : Fin 1024) : val_main_v69 (F := Ideal) x0 x1 x2 x3 x4 x5 (ix2 (rowAt b r) j) = sv (refWeights x1 x2 x3 x4 x5 x6) (refRows x0 x1 x2 x3 x7 b) r j := by
  rw [val_main_v69_apply, read4 (val_main_v68 (F := Ideal) x0 x1 x2 x3 x4 x5) _ b r (grp j) ⟨j.val % 128, by omega⟩
    (Fin.ext (show ((128 * b.val + r.val) * 1024 + j.val) / 131072 = b.val by omega))
    (Fin.ext (show ((128 * b.val + r.val) * 1024 + j.val) / 1024 % 128 = r.val by omega))
    (Fin.ext (show ((128 * b.val + r.val) * 1024 + j.val) / 128 % 8 = j.val / 128 by omega))
    (Fin.ext (show ((128 * b.val + r.val) * 1024 + j.val) % 128 = j.val % 128 by omega)),
    mixed_group x0 x1 x2 x3 x4 x5 x6 x7, chan_self]

theorem dy_at (b : Fin 32) (r : Fin 128) (j : Fin 1024) : val_main_v72 (F := Ideal) x6 x7 (ix2 (rowAt b r) j) = dy (refWeights x1 x2 x3 x4 x5 x6) (refRows x0 x1 x2 x3 x7 b) r j := by
  rw [val_main_v72_apply]
  refine Finset.sum_congr rfl fun q _ => ?_
  rw [read2 x7 _ (rowAt b r) q rfl rfl, read2 x6 _ j q rfl rfl]
  rfl

theorem dsv_at (b : Fin 32) (r : Fin 128) (j : Fin 1024) : val_main_v73 (F := Ideal) x0 x1 x2 x6 x7 (ix2 (rowAt b r) j) = dsv (refWeights x1 x2 x3 x4 x5 x6) (refRows x0 x1 x2 x3 x7 b) r j := by
  rw [val_main_v73_apply, left_at, dy_at x0 x1 x2 x3 x4 x5 x6 x7]
  exact mul_comm _ _

theorem du_at (b : Fin 32) (r : Fin 128) (j : Fin 1024) : val_main_v74 (F := Ideal) x0 x1 x2 x3 x4 x5 x6 x7 (ix2 (rowAt b r) j) = du (refWeights x1 x2 x3 x4 x5 x6) (refRows x0 x1 x2 x3 x7 b) r j := by
  rw [val_main_v74_apply, dy_at x0 x1 x2 x3 x4 x5 x6 x7, mixed_at x0 x1 x2 x3 x4 x5 x6 x7]
  rfl

theorem dsv_group (b : Fin 32) (r : Fin 128) (a : Fin 8) (c : Fin 128) :
    val_main_v75 (F := Ideal) x0 x1 x2 x6 x7 (ix4 b r a c) = dsv (refWeights x1 x2 x3 x4 x5 x6) (refRows x0 x1 x2 x3 x7 b) r (chan a c) := by
  rw [val_main_v75_apply, ← dsv_at x0 x1 x2 x3 x4 x5 x6 x7]
  exact read2 (val_main_v73 (F := Ideal) x0 x1 x2 x6 x7) _ (rowAt b r) (chan a c) (Fin.ext (regroup_row b r a c)) (Fin.ext (regroup_col b r a c))

theorem dsv_turned (b : Fin 32) (r : Fin 128) (a : Fin 8) (c : Fin 128) :
    val_main_v80 (F := Ideal) x0 x1 x2 x6 x7 (ix4 a b c r) = dsv (refWeights x1 x2 x3 x4 x5 x6) (refRows x0 x1 x2 x3 x7 b) r (chan a c) := by
  rw [val_main_v80_apply, read4 (val_main_v75 (F := Ideal) x0 x1 x2 x6 x7) _ b r a c rfl rfl rfl rfl, dsv_group x0 x1 x2 x3 x4 x5 x6 x7]

theorem dvn_group (b : Fin 32) (r : Fin 128) (a : Fin 8) (c : Fin 128) :
    val_main_v83 (F := Ideal) x0 x1 x2 x4 x6 x7 (ix4 b r a c) = dvn (refWeights x1 x2 x3 x4 x5 x6) (refRows x0 x1 x2 x3 x7 b) r (chan a c) := by
  rw [val_main_v83_apply, read4 (val_main_v82 (F := Ideal) x0 x1 x2 x4 x6 x7) _ a b c r rfl rfl rfl rfl, val_main_v82_apply]
  show _ = ∑ q, (refWeights x1 x2 x3 x4 x5 x6).wm (grp (chan a c)) q r * dsv (refWeights x1 x2 x3 x4 x5 x6) (refRows x0 x1 x2 x3 x7 b) q (chan a c)
  rw [grp_chan]
  refine Finset.sum_congr rfl fun q _ => ?_
  rw [read4 (val_main_v80 (F := Ideal) x0 x1 x2 x6 x7) _ a b c q rfl rfl rfl rfl, dsv_turned x0 x1 x2 x3 x4 x5 x6 x7, read3 (val_main_v25 (F := Ideal) x4) _ a q r rfl rfl rfl]
  exact mul_comm _ _

theorem dvn_at (b : Fin 32) (r : Fin 128) (j : Fin 1024) : val_main_v84 (F := Ideal) x0 x1 x2 x4 x6 x7 (ix2 (rowAt b r) j) = dvn (refWeights x1 x2 x3 x4 x5 x6) (refRows x0 x1 x2 x3 x7 b) r j := by
  rw [val_main_v84_apply, read4 (val_main_v83 (F := Ideal) x0 x1 x2 x4 x6 x7) _ b r (grp j) ⟨j.val % 128, by omega⟩
    (Fin.ext (show ((128 * b.val + r.val) * 1024 + j.val) / 131072 = b.val by omega))
    (Fin.ext (show ((128 * b.val + r.val) * 1024 + j.val) / 1024 % 128 = r.val by omega))
    (Fin.ext (show ((128 * b.val + r.val) * 1024 + j.val) / 128 % 8 = j.val / 128 by omega))
    (Fin.ext (show ((128 * b.val + r.val) * 1024 + j.val) % 128 = j.val % 128 by omega)),
    dvn_group x0 x1 x2 x3 x4 x5 x6 x7, chan_self]

/-- All rows, block by block. -/
theorem sum_rowAt (f : Fin 4096 → EReal) : ∑ n, f n = ∑ b, ∑ r, f (rowAt b r) := by
  refine Eq.trans ?_ (Fintype.sum_prod_type' (fun (b : Fin 32) (r : Fin 128) => f (rowAt b r)))
  exact (Fintype.sum_equiv (finProdFinEquiv (m := 32) (n := 128)) _ _
    fun x => congrArg f (Fin.ext (Nat.add_comm _ _))).symm

theorem dgv_at (j : Fin 1024) : val_main_v87 (F := Ideal) x0 x1 x2 x4 x6 x7 (ix2 0 j) = ∑ b, dgv (refWeights x1 x2 x3 x4 x5 x6) (refRows x0 x1 x2 x3 x7 b) j := by
  rw [val_main_v87_apply, read1 (val_main_v86 (F := Ideal) x0 x1 x2 x4 x6 x7) _ j (Fin.ext (show 0 * 1024 + j.val = j.val by omega)), val_main_v86_apply, val_main_cst_17_apply]
  show Ideal.ofBits .f32 0x00000000#32 + _ = _
  rw [Ideal.ofBits_zero_f32, zero_add, sum_rowAt]
  refine Finset.sum_congr rfl fun b _ => Finset.sum_congr rfl fun r _ => ?_
  rw [read2 (val_main_v85 (F := Ideal) x0 x1 x2 x4 x6 x7) _ (rowAt b r) j rfl rfl, val_main_v85_apply, norm_hat, dvn_at x0 x1 x2 x3 x4 x5 x6 x7]
  exact mul_comm _ _

end Gating
-- ==== Proof.RefBack.lean ====
/-
  The reference read row by row, from the gate back to the mixer's input: the gradients of the two norms and of the
  unit, as the formulas of one block of 128 rows. The reference differentiates each norm through its mean and its inverse
  root; on real rows that is the closed form.
-/
module

public import proofs.«01_k».proof.Proof.RefGate

@[expose] public section

noncomputable section

namespace Gating

open Idealize.ShloMosaic hiding ix1 ix2 ix3 ix4 eq_ix1 eq_ix2 eq_ix3 eq_ix4
open Idealize.ShloMosaic.TcCoe Idealize.ShloMosaic.ValueIdx Cert.ReferenceIdeal Cert.ReferenceIdeal.Gen
open Cert.ReferenceIdeal.Read

variable (x0 : (⟨S4096x1024, .f32⟩ : BufTy).Contents (Elt Ideal)) (x1 : (⟨S1x1024, .f32⟩ : BufTy).Contents (Elt Ideal))
  (x2 : (⟨S1024x2048, .f32⟩ : BufTy).Contents (Elt Ideal)) (x3 : (⟨S1x1024, .f32⟩ : BufTy).Contents (Elt Ideal))
  (x4 : (⟨S8x128x128, .f32⟩ : BufTy).Contents (Elt Ideal)) (x5 : (⟨S8x128, .f32⟩ : BufTy).Contents (Elt Ideal))
  (x6 : (⟨S1024x1024, .f32⟩ : BufTy).Contents (Elt Ideal)) (x7 : (⟨S4096x1024, .f32⟩ : BufTy).Contents (Elt Ideal))

/-! ### Constants -/

theorem neg_zero_word : Ideal.ofBits .f32 0x00000000#32 = 0 := Ideal.ofBits_zero_f32

/-- The reference's √(8 arctan 1) is √(2π). -/
theorem sqrt_eight_atan : Ideal.sqrt (Ideal.ofBits .f32 0x41000000#32 * Ideal.atan (Ideal.ofBits .f32 0x3F800000#32))
    = ((Real.sqrt (2 * Real.pi) : ℝ) : EReal) := by
  have e : (8 : ℝ) * Real.arctan 1 = 2 * Real.pi := by rw [Real.arctan_one]; ring
  rw [ofBits_eight, ofBits_one, ← EReal.coe_one, Ideal.atan_coe, ← EReal.coe_mul, e, Ideal.sqrt_coe,
    if_neg (not_lt.2 (by positivity))]

/-- The reference's spelling of the unit's derivative. -/
theorem geluD_div (x : EReal) :
    Ideal.ofBits .f32 0x3F000000#32 * (Ideal.ofBits .f32 0x3F800000#32
        + Ideal.erf (Ideal.div x (Ideal.sqrt (Ideal.ofBits .f32 0x40000000#32))))
      + x * Ideal.div (Ideal.exp (Ideal.ofBits .f32 0xBF000000#32 * (x * x)))
          (Ideal.sqrt (Ideal.ofBits .f32 0x41000000#32 * Ideal.atan (Ideal.ofBits .f32 0x3F800000#32))) = geluD x := by
  rw [div_sqrt_two, sqrt_eight_atan, Ideal.div_coe (Real.sqrt_ne_zero'.2 (by positivity)), one_div, ← mul_assoc,
    ← mul_assoc]
  exact geluD_word x

theorem unit_slope (n : Fin 4096) (q : Fin 2048) : val_main_v133 (F := Ideal) x0 x1 x2 (ix2 n q) = geluD (zRow x0 x1 x2 n q) := by
  rw [val_main_v133_apply, val_main_v122_apply, val_main_v121_apply, val_main_v120_apply, val_main_v119_apply, val_main_v118_apply, val_main_v117_apply, val_main_v116_apply, val_main_v115_apply, val_main_v132_apply, val_main_v131_apply, val_main_v130_apply, val_main_v129_apply, val_main_v128_apply, val_main_v127_apply, val_main_v126_apply, val_main_v125_apply, val_main_v124_apply, val_main_v123_apply, val_main_cst_25_apply, val_main_cst_26_apply, val_main_cst_27_apply, val_main_cst_28_apply, val_main_cst_29_apply, val_main_cst_30_apply]
  exact geluD_div _

/-! ### Back through the gate's norm -/

/-- The gradient of the normalised gate, before its gain. -/
def gainRow (b : Fin 32) (r : Fin 128) (j : Fin 1024) : EReal :=
  dvn (refWeights x1 x2 x3 x4 x5 x6) (refRows x0 x1 x2 x3 x7 b) r j * x3 (ix2 0 j)

theorem gained_at (b : Fin 32) (r : Fin 128) (j : Fin 1024) :
    val_main_v89 (F := Ideal) x0 x1 x2 x3 x4 x6 x7 (ix2 (rowAt b r) j) = gainRow x0 x1 x2 x3 x4 x5 x6 x7 b r j := by
  rw [val_main_v89_apply, val_main_v88_apply, dvn_at x0 x1 x2 x3 x4 x5 x6 x7, read2 x3 _ 0 j rfl rfl]
  rfl

theorem half_fall (n : Fin 4096) (u : Fin 1) : val_main_v57 (F := Ideal) x0 x1 x2 (ix2 n u)
    = -half * Ideal.div (stdInv (vRow x0 x1 x2 n))
        (mean (fun j => centred (vRow x0 x1 x2 n) j * centred (vRow x0 x1 x2 n) j) + eps) := by
  rw [val_main_v57_apply, val_main_v56_apply, val_main_v55_apply, val_main_cst_14_apply, std_guard, std_inv]
  exact congrArg (· * _) ofBits_neg_half

/-- The gradient of a row's variance, spread over the row. -/
def varRow (v d : Fin 1024 → EReal) : EReal :=
  Ideal.div ((∑ i, centred v i * d i)
    * (-half * Ideal.div (stdInv v) (mean (fun j => centred v j * centred v j) + eps))) ((1024 : ℝ) : EReal)

theorem variance_at (b : Fin 32) (r : Fin 128) (u : Fin 1) : val_main_v100 (F := Ideal) x0 x1 x2 x3 x4 x6 x7 (ix2 (rowAt b r) u)
    = varRow (vRow x0 x1 x2 (rowAt b r)) (gainRow x0 x1 x2 x3 x4 x5 x6 x7 b r) := by
  rw [val_main_v100_apply, val_main_v99_apply, val_main_v95_apply, val_main_v92_apply, val_main_v91_apply, val_main_cst_20_apply, val_main_cst_18_apply, half_fall]
  have e : ∀ k, val_main_v90 (F := Ideal) x0 x1 x2 x3 x4 x6 x7 (idx_main_v91 (idx_main_v92 (ix2 (rowAt b r) u)) k)
      = centred (vRow x0 x1 x2 (rowAt b r)) k * gainRow x0 x1 x2 x3 x4 x5 x6 x7 b r k := fun k => by
    rw [read2 (val_main_v90 (F := Ideal) x0 x1 x2 x3 x4 x6 x7) _ (rowAt b r) k (Fin.ext (show (rowAt b r).val * 1 + u.val = _ by omega)) rfl, val_main_v90_apply,
      centred_at', gained_at x0 x1 x2 x3 x4 x5 x6 x7]
    rfl
  simp only [e]
  show Ideal.div ((Ideal.ofBits .f32 0x00000000#32 + _) * _) (Ideal.ofBits .f32 0x44800000#32) = _
  rw [Ideal.ofBits_zero_f32, zero_add, ofBits_1024]
  rfl

theorem centre_at (b : Fin 32) (r : Fin 128) (j : Fin 1024) : val_main_v103 (F := Ideal) x0 x1 x2 x3 x4 x6 x7 (ix2 (rowAt b r) j)
    = varRow (vRow x0 x1 x2 (rowAt b r)) (gainRow x0 x1 x2 x3 x4 x5 x6 x7 b r)
      * (((2 : ℝ) : EReal) * centred (vRow x0 x1 x2 (rowAt b r)) j) := by
  rw [val_main_v103_apply, val_main_v102_apply, val_main_v101_apply, val_main_v45_apply, val_main_v44_apply, val_main_cst_21_apply, val_main_cst_10_apply, centred_at]
  have e : ∀ k, val_main_v100 (F := Ideal) x0 x1 x2 x3 x4 x6 x7 (idx_main_v101 (idx_main_v102 (ix2 (rowAt b r) j)) k)
      = varRow (vRow x0 x1 x2 (rowAt b r)) (gainRow x0 x1 x2 x3 x4 x5 x6 x7 b r) := fun k => by
    rw [read2 (val_main_v100 (F := Ideal) x0 x1 x2 x3 x4 x6 x7) _ (rowAt b r) k rfl rfl, variance_at x0 x1 x2 x3 x4 x5 x6 x7]
  simp only [e]
  show (Ideal.ofBits .f32 0x00000000#32 + ∑ _k : Fin 1, _) * (Ideal.ofBits .f32 0x40000000#32 * _) = _
  rw [Ideal.ofBits_zero_f32, zero_add, Fin.sum_univ_one, ofBits_two]

theorem direct_at (b : Fin 32) (r : Fin 128) (j : Fin 1024) : val_main_v94 (F := Ideal) x0 x1 x2 x3 x4 x6 x7 (ix2 (rowAt b r) j)
    = gainRow x0 x1 x2 x3 x4 x5 x6 x7 b r j * stdInv (vRow x0 x1 x2 (rowAt b r)) := by
  rw [val_main_v94_apply, val_main_v93_apply, gained_at x0 x1 x2 x3 x4 x5 x6 x7, read2 (val_main_v54 (F := Ideal) x0 x1 x2) _ (rowAt b r) 0 rfl rfl, std_inv]
  rfl

theorem normed_back (b : Fin 32) (r : Fin 128) (j : Fin 1024) : val_main_v113 (F := Ideal) x0 x1 x2 x3 x4 x6 x7 (ix2 (rowAt b r) j)
    = normVjp (vRow x0 x1 x2 (rowAt b r)) (gainRow x0 x1 x2 x3 x4 x5 x6 x7 b r) j := by
  rw [val_main_v113_apply, val_main_v107_apply, val_main_v112_apply, val_main_v111_apply, val_main_cst_24_apply, direct_at x0 x1 x2 x3 x4 x5 x6 x7, centre_at x0 x1 x2 x3 x4 x5 x6 x7]
  have e1 : ∀ i k, val_main_v96 (F := Ideal) x0 x1 x2 x3 x4 x6 x7 (idx_main_v97 (idx_main_v98 (idx_main_v111 (idx_main_v112 (ix2 (rowAt b r) j)) i)) k)
      = -(gainRow x0 x1 x2 x3 x4 x5 x6 x7 b r k * stdInv (vRow x0 x1 x2 (rowAt b r))) := fun i k => by
    rw [read2 (val_main_v96 (F := Ideal) x0 x1 x2 x3 x4 x6 x7) _ (rowAt b r) k (Fin.ext (show (rowAt b r).val * 1 + i.val = _ by omega)) rfl, val_main_v96_apply,
      direct_at x0 x1 x2 x3 x4 x5 x6 x7]
    rfl
  have e2 : ∀ i k, val_main_v104 (F := Ideal) x0 x1 x2 x3 x4 x6 x7 (idx_main_v105 (idx_main_v106 (idx_main_v111 (idx_main_v112 (ix2 (rowAt b r) j)) i)) k)
      = -(varRow (vRow x0 x1 x2 (rowAt b r)) (gainRow x0 x1 x2 x3 x4 x5 x6 x7 b r)
      * (((2 : ℝ) : EReal) * centred (vRow x0 x1 x2 (rowAt b r)) k)) := fun i k => by
    rw [read2 (val_main_v104 (F := Ideal) x0 x1 x2 x3 x4 x6 x7) _ (rowAt b r) k (Fin.ext (show (rowAt b r).val * 1 + i.val = _ by omega)) rfl, val_main_v104_apply,
      centre_at x0 x1 x2 x3 x4 x5 x6 x7]
    rfl
  simp only [val_main_v110_apply, val_main_v109_apply, val_main_v108_apply, val_main_v98_apply, val_main_v97_apply, val_main_v106_apply, val_main_v105_apply, val_main_cst_23_apply, val_main_cst_22_apply, val_main_cst_19_apply, e1, e2]
  show _ + (Ideal.ofBits .f32 0x00000000#32 + ∑ _k : Fin 1, Ideal.div ((Ideal.ofBits .f32 0x00000000#32 + _)
    + (Ideal.ofBits .f32 0x00000000#32 + _)) (Ideal.ofBits .f32 0x44800000#32)) = _
  simp only [Ideal.ofBits_zero_f32, zero_add, Fin.sum_univ_one, ofBits_1024]
  rfl

/-! ### Back through the unit -/

theorem cat_lo (n : Fin 4096) (j : Fin 1024) : val_main_v114 (F := Ideal) x0 x1 x2 x3 x4 x5 x6 x7 (ix2 n (lo j)) = val_main_v74 (F := Ideal) x0 x1 x2 x3 x4 x5 x6 x7 (ix2 n j) := by
  unfold val_main_v114
  exact concatenate_pair_apply_left (t := S4096x2048) (s₁ := S4096x1024) (s₂ := S4096x1024) (1 : Fin 2) _ _ _ (ix2 n (lo j)) rfl (ix2 n j) fun a => match a with
    | ⟨0, _⟩ => rfl
    | ⟨1, _⟩ => rfl
theorem cat_hi (n : Fin 4096) (j : Fin 1024) : val_main_v114 (F := Ideal) x0 x1 x2 x3 x4 x5 x6 x7 (ix2 n (hi j)) = val_main_v113 (F := Ideal) x0 x1 x2 x3 x4 x6 x7 (ix2 n j) := by
  unfold val_main_v114
  exact concatenate_pair_apply_right (t := S4096x2048) (s₁ := S4096x1024) (s₂ := S4096x1024) (1 : Fin 2) _ _ _ (ix2 n (hi j)) rfl rfl (ix2 n j) (fun a ha => match a with
    | ⟨0, _⟩ => rfl
    | ⟨1, _⟩ => absurd rfl ha) (Nat.add_comm j.val 1024)

end Gating
-- ==== Proof.RefResults.lean ====
/-
  The reference's results, entry by entry: the gradient handed on, the gradient of the projection, and the sums over the 32
  blocks of rows that are the gradients of the spatial weights, of the biases and of the two gains.
-/
module

public import proofs.«01_k».proof.Proof.RefBack
public import Idealize.ShloMosaic.Lib.KernelVsHost

@[expose] public section

noncomputable section

namespace Gating

open Idealize.ShloMosaic hiding ix1 ix2 ix3 ix4 eq_ix1 eq_ix2 eq_ix3 eq_ix4
open Idealize.ShloMosaic.TcCoe Idealize.ShloMosaic.ValueIdx Cert.ReferenceIdeal Cert.ReferenceIdeal.Gen
open Cert.ReferenceIdeal.Read

/-! ### Finiteness: real parameters and real rows keep every value real -/

theorem isReal_normGrad {v d : Fin 1024 → EReal} (hv : ∀ j, IsReal (v j)) (hd : ∀ j, IsReal (d j)) (j : Fin 1024) :
    IsReal (normGrad v d j) :=
  have hh : ∀ i, IsReal (normHat v i) := fun i => (isReal_centred hv i).mul (isReal_stdInv hv)
  (isReal_stdInv hv).mul (((hd j).sub (isReal_mean hd)).sub ((hh j).mul (isReal_mean fun i => (hd i).mul (hh i))))

/-- Every parameter is real. -/
structure Weights.Real (W : Weights) : Prop where
  g : ∀ j, IsReal (W.g j)
  gv : ∀ j, IsReal (W.gv j)
  wm : ∀ a i q, IsReal (W.wm a i q)
  bs : ∀ a i, IsReal (W.bs a i)
  wout : ∀ k q, IsReal (W.wout k q)
  win : ∀ k q, IsReal (W.win k q)

/-- Every entry of a block of rows is real. -/
structure Rows.Real (B : Rows) : Prop where
  ct : ∀ r j, IsReal (B.ct r j)
  x : ∀ r j, IsReal (B.x r j)
  z : ∀ r j, IsReal (B.z r j)
  vn : ∀ r j, IsReal (B.vn r j)

section Blocks
variable {W : Weights} {B : Rows} (hW : W.Real) (hB : B.Real)
include hW hB

theorem isReal_dy (r : Fin 128) (j : Fin 1024) : IsReal (dy W B r j) :=
  isReal_sum _ fun q => (hB.ct r q).mul (hW.wout j q)
theorem isReal_sv (r : Fin 128) (j : Fin 1024) : IsReal (sv W B r j) :=
  (isReal_sum _ fun q => (hW.wm _ r q).mul (hB.vn q j)).add (hW.bs _ r)
theorem isReal_dsv (r : Fin 128) (j : Fin 1024) : IsReal (dsv W B r j) :=
  (isReal_dy hW hB r j).mul (isReal_gelu (hB.z r _))
theorem isReal_dvn (r : Fin 128) (j : Fin 1024) : IsReal (dvn W B r j) :=
  isReal_sum _ fun q => (hW.wm _ q r).mul (isReal_dsv hW hB q j)
theorem isReal_gained (r : Fin 128) (j : Fin 1024) : IsReal (dvn W B r j * W.gv j) :=
  (isReal_dvn hW hB r j).mul (hW.gv j)
theorem isReal_dz (r : Fin 128) (j : Fin 2048) : IsReal (dz W B r j) := by
  unfold dz
  split
  · exact ((isReal_dy hW hB r _).mul (isReal_sv hW hB r _)).mul (isReal_geluD (hB.z r j))
  · exact (isReal_normGrad (fun i => isReal_gelu (hB.z r (hi i))) (isReal_gained hW hB r) _).mul
      (isReal_geluD (hB.z r j))
theorem isReal_dh (r : Fin 128) (k : Fin 1024) : IsReal (dh W B r k) :=
  isReal_sum _ fun j => (isReal_dz hW hB r j).mul (hW.win k j)

end Blocks

variable (x0 : (⟨S4096x1024, .f32⟩ : BufTy).Contents (Elt Ideal)) (x1 : (⟨S1x1024, .f32⟩ : BufTy).Contents (Elt Ideal))
  (x2 : (⟨S1024x2048, .f32⟩ : BufTy).Contents (Elt Ideal)) (x3 : (⟨S1x1024, .f32⟩ : BufTy).Contents (Elt Ideal))
  (x4 : (⟨S8x128x128, .f32⟩ : BufTy).Contents (Elt Ideal)) (x5 : (⟨S8x128, .f32⟩ : BufTy).Contents (Elt Ideal))
  (x6 : (⟨S1024x1024, .f32⟩ : BufTy).Contents (Elt Ideal)) (x7 : (⟨S4096x1024, .f32⟩ : BufTy).Contents (Elt Ideal))

/-- Every entry of every argument is real. -/
structure AllReal : Prop where
  r0 : ∀ i, IsReal (x0 i)
  r1 : ∀ i, IsReal (x1 i)
  r2 : ∀ i, IsReal (x2 i)
  r3 : ∀ i, IsReal (x3 i)
  r4 : ∀ i, IsReal (x4 i)
  r5 : ∀ i, IsReal (x5 i)
  r6 : ∀ i, IsReal (x6 i)
  r7 : ∀ i, IsReal (x7 i)

theorem isReal_masked (h : ∀ i, IsReal (x4 i)) (i : S8x128x128.Idx) : IsReal (val_main_v25 (F := Ideal) x4 i) := by
  rw [val_main_v25_apply]
  unfold Scalar.select
  split
  · exact h i
  · exact ⟨_, rfl⟩

variable {x0 x1 x2 x3 x4 x5 x6 x7} (h : AllReal x0 x1 x2 x3 x4 x5 x6 x7)
include h

theorem isReal_zRow (n : Fin 4096) (q : Fin 2048) : IsReal (zRow x0 x1 x2 n q) := by
  rw [projected]
  exact isReal_sum _ fun k => (((h.r0 _).mul (isReal_rmsInv fun j => h.r0 _)).mul (h.r1 _)).mul (h.r2 _)

theorem isReal_vRow (n : Fin 4096) (j : Fin 1024) : IsReal (vRow x0 x1 x2 n j) := isReal_gelu (isReal_zRow h n _)

theorem realWeights : (refWeights x1 x2 x3 x4 x5 x6).Real where
  g _ := h.r1 _
  gv _ := h.r3 _
  wm _ _ _ := isReal_masked x4 h.r4 _
  bs _ _ := h.r5 _
  wout _ _ := h.r6 _
  win _ _ := h.r2 _

theorem realRows (b : Fin 32) : (refRows x0 x1 x2 x3 x7 b).Real where
  ct _ _ := h.r7 _
  x _ _ := h.r0 _
  z _ _ := isReal_zRow h _ _
  vn r j := by
    show IsReal (val_main_v61 (F := Ideal) x0 x1 x2 x3 _)
    rw [norm_out]
    exact ((isReal_centred (isReal_vRow h _) _).mul (isReal_stdInv (isReal_vRow h _))).mul (h.r3 _)

/-! ### The gradient of the projection -/

theorem dv_at (b : Fin 32) (r : Fin 128) (j : Fin 1024) : val_main_v113 (F := Ideal) x0 x1 x2 x3 x4 x6 x7 (ix2 (rowAt b r) j)
    = dv (refWeights x1 x2 x3 x4 x5 x6) (refRows x0 x1 x2 x3 x7 b) r j := by
  rw [normed_back x0 x1 x2 x3 x4 x5 x6 x7]
  exact normVjp_eq _ _ (isReal_vRow h _) (isReal_gained (realWeights h) (realRows h b) r) j

theorem dz_at (b : Fin 32) (r : Fin 128) (j : Fin 2048) : val_main_v134 (F := Ideal) x0 x1 x2 x3 x4 x5 x6 x7 (ix2 (rowAt b r) j)
    = dz (refWeights x1 x2 x3 x4 x5 x6) (refRows x0 x1 x2 x3 x7 b) r j := by
  rw [val_main_v134_apply, unit_slope]
  unfold dz
  split
  · rename_i hj
    obtain ⟨k, rfl⟩ : ∃ k : Fin 1024, j = lo k := ⟨⟨j.val, hj⟩, rfl⟩
    rw [cat_lo x0 x1 x2 x3 x4 x5 x6 x7, du_at x0 x1 x2 x3 x4 x5 x6 x7]
    rfl
  · rename_i hj
    obtain ⟨k, rfl⟩ : ∃ k : Fin 1024, j = hi k := ⟨⟨j.val - 1024, by omega⟩, Fin.ext (show j.val = 1024 + _ by
      show j.val = 1024 + (j.val - 1024); omega)⟩
    rw [cat_hi x0 x1 x2 x3 x4 x5 x6 x7, dv_at h]
    have e : (⟨(hi k).val - 1024, by omega⟩ : Fin 1024) = k := Fin.ext (Nat.add_sub_cancel_left _ _)
    rw [e]
    rfl

theorem dz_word (b : Fin 32) (r : Fin 128) (j : Fin 2048) : val_main_v156 (F := Ideal) x0 x1 x2 x3 x4 x5 x6 x7 (ix2 (rowAt b r) j)
    = dz (refWeights x1 x2 x3 x4 x5 x6) (refRows x0 x1 x2 x3 x7 b) r j := dz_at h b r j

/-! ### The gradient handed on -/

theorem dh_at (b : Fin 32) (r : Fin 128) (j : Fin 1024) : val_main_v135 (F := Ideal) x0 x1 x2 x3 x4 x5 x6 x7 (ix2 (rowAt b r) j)
    = dh (refWeights x1 x2 x3 x4 x5 x6) (refRows x0 x1 x2 x3 x7 b) r j := by
  rw [val_main_v135_apply]
  refine Finset.sum_congr rfl fun q _ => ?_
  rw [read2 (val_main_v134 (F := Ideal) x0 x1 x2 x3 x4 x5 x6 x7) _ (rowAt b r) q rfl rfl, dz_at h, read2 x2 _ j q rfl rfl]
  rfl

theorem dh_gained (b : Fin 32) (r : Fin 128) (j : Fin 1024) : val_main_v140 (F := Ideal) x0 x1 x2 x3 x4 x5 x6 x7 (ix2 (rowAt b r) j)
    = dh (refWeights x1 x2 x3 x4 x5 x6) (refRows x0 x1 x2 x3 x7 b) r j * x1 (ix2 0 j) := by
  rw [val_main_v140_apply, val_main_v139_apply, dh_at h, read2 x1 _ 0 j rfl rfl]
  rfl

theorem rms_fall (n : Fin 4096) (u : Fin 1) : val_main_v10 (F := Ideal) x0 (ix2 n u)
    = -half * Ideal.div (rmsInv (xRow x0 n)) (mean (fun j => xRow x0 n j * xRow x0 n j) + eps) := by
  rw [val_main_v10_apply, val_main_v9_apply, val_main_v8_apply, val_main_cst_2_apply, rms_guard, rms_inv]
  exact congrArg (· * _) ofBits_neg_half

theorem rms_spread (b : Fin 32) (r : Fin 128) (u : Fin 1) : val_main_v148 (F := Ideal) x0 x1 x2 x3 x4 x5 x6 x7 (ix2 (rowAt b r) u)
    = Ideal.div ((∑ i, xRow x0 (rowAt b r) i * (dh (refWeights x1 x2 x3 x4 x5 x6) (refRows x0 x1 x2 x3 x7 b) r i * x1 (ix2 0 i)))
        * (-half * Ideal.div (rmsInv (xRow x0 (rowAt b r)))
          (mean (fun j => xRow x0 (rowAt b r) j * xRow x0 (rowAt b r) j) + eps))) ((1024 : ℝ) : EReal) := by
  rw [val_main_v148_apply, val_main_v147_apply, val_main_v146_apply, val_main_v143_apply, val_main_v142_apply, val_main_cst_33_apply, val_main_cst_32_apply, rms_fall h]
  have e : ∀ k, val_main_v141 (F := Ideal) x0 x1 x2 x3 x4 x5 x6 x7 (idx_main_v142 (idx_main_v143 (ix2 (rowAt b r) u)) k) = xRow x0 (rowAt b r) k
      * (dh (refWeights x1 x2 x3 x4 x5 x6) (refRows x0 x1 x2 x3 x7 b) r k * x1 (ix2 0 k)) := fun k => by
    rw [read2 (val_main_v141 (F := Ideal) x0 x1 x2 x3 x4 x5 x6 x7) _ (rowAt b r) k (Fin.ext (show (rowAt b r).val * 1 + u.val = _ by omega)) rfl, val_main_v141_apply,
      dh_gained h]
    rfl
  simp only [e]
  show Ideal.div ((Ideal.ofBits .f32 0x00000000#32 + _) * _) (Ideal.ofBits .f32 0x44800000#32) = _
  rw [Ideal.ofBits_zero_f32, zero_add, ofBits_1024]

theorem rms_back (b : Fin 32) (r : Fin 128) (j : Fin 1024) : val_main_v154 (F := Ideal) x0 x1 x2 x3 x4 x5 x6 x7 (ix2 (rowAt b r) j)
    = rmsVjp (xRow x0 (rowAt b r))
        (fun i => dh (refWeights x1 x2 x3 x4 x5 x6) (refRows x0 x1 x2 x3 x7 b) r i * x1 (ix2 0 i)) j := by
  rw [val_main_v154_apply, val_main_v153_apply, val_main_v152_apply, val_main_v151_apply, val_main_v150_apply, val_main_v149_apply, val_main_v145_apply, val_main_v144_apply, val_main_cst_34_apply, dh_gained h, read2 (val_main_v7 (F := Ideal) x0) _ (rowAt b r) 0 rfl rfl, rms_inv]
  have e : ∀ k, val_main_v148 (F := Ideal) x0 x1 x2 x3 x4 x5 x6 x7 (idx_main_v149 (idx_main_v150 (ix2 (rowAt b r) j)) k) = _ := fun k =>
    (read2 (val_main_v148 (F := Ideal) x0 x1 x2 x3 x4 x5 x6 x7) _ (rowAt b r) k rfl rfl).trans (rms_spread h b r k)
  simp only [e]
  show (_ + _ * (Ideal.ofBits .f32 0x00000000#32 + ∑ _k : Fin 1, _))
    + (Ideal.ofBits .f32 0x00000000#32 + ∑ _k : Fin 1, _) * _ = _
  simp only [Ideal.ofBits_zero_f32, zero_add, Fin.sum_univ_one]
  rfl

theorem dx_at (b : Fin 32) (r : Fin 128) (j : Fin 1024) : val_main_v155 (F := Ideal) x0 x1 x2 x3 x4 x5 x6 x7 (ix2 (rowAt b r) j)
    = dx (refWeights x1 x2 x3 x4 x5 x6) (refRows x0 x1 x2 x3 x7 b) r j := by
  rw [val_main_v155_apply, rms_back h]
  exact congrArg (x7 _ + ·) (rmsVjp_eq _ _ (fun i => h.r0 _)
    (fun i => (isReal_dh (realWeights h) (realRows h b) r i).mul (h.r1 _)) j)

/-! ### The gradients of the parameters -/

theorem dg_at (j : Fin 1024) :
    val_main_v138 (F := Ideal) x0 x1 x2 x3 x4 x5 x6 x7 (ix2 0 j) = ∑ b, dg (refWeights x1 x2 x3 x4 x5 x6) (refRows x0 x1 x2 x3 x7 b) j := by
  rw [val_main_v138_apply, read1 (val_main_v137 (F := Ideal) x0 x1 x2 x3 x4 x5 x6 x7) _ j (Fin.ext (show 0 * 1024 + j.val = j.val by omega)), val_main_v137_apply, val_main_cst_31_apply]
  show Ideal.ofBits .f32 0x00000000#32 + _ = _
  rw [Ideal.ofBits_zero_f32, zero_add, sum_rowAt]
  refine Finset.sum_congr rfl fun b _ => Finset.sum_congr rfl fun r _ => ?_
  rw [read2 (val_main_v136 (F := Ideal) x0 x1 x2 x3 x4 x5 x6 x7) _ (rowAt b r) j rfl rfl, val_main_v136_apply, rms_hat, dh_at h]
  exact mul_comm _ _

omit h

/-- A row under seven rows of zeros. -/
theorem first_row (f : S1x1024.Idx → EReal) (c : S_.Idx → EReal) (a : Fin 8) (j : Fin 1024) :
    pad S8x1024 ![0, 0] ![7, 0] ![0, 0] f c pads_S1x1024_S8x1024_070_000 h_S_ (ix2 a j)
      = if a = 0 then f (ix2 0 j) else c (Shape.Idx.first h_S_) := by
  by_cases ha : a = 0
  · subst ha
    rw [if_pos rfl]
    exact pad_apply_of_inside _ _ _ f c _ _ _ (ix2 0 j) fun b => match b with
      | ⟨0, _⟩ => rfl
      | ⟨1, _⟩ => show j.val = 0 + j.val * 1 by omega
  · rw [if_neg ha]
    refine pad_apply_of_not_inside _ _ _ f c _ _ _ (0 : Fin 2) fun H => ha (Fin.ext ?_)
    have H' : (a.val - 0) / (0 + 1) < 1 := H.2.2
    show a.val = 0
    omega

theorem zero_word : (Ideal.ofBits .f32 0x00000000#32 : EReal) = 0 := Ideal.ofBits_zero_f32

theorem dgv_padded (a : Fin 8) (j : Fin 1024) : val_main_v159 (F := Ideal) x0 x1 x2 x4 x6 x7 (ix2 a j)
    = if a = 0 then ∑ b, dgv (refWeights x1 x2 x3 x4 x5 x6) (refRows x0 x1 x2 x3 x7 b) j else 0 := by
  unfold val_main_v159
  rw [first_row, dgv_at x0 x1 x2 x3 x4 x5 x6 x7]
  exact congrArg (ite _ _) (show (((0 : ℤ) : ℝ) : EReal) = 0 by simp)

include h in
theorem dg_padded (a : Fin 8) (j : Fin 1024) : val_main_v160 (F := Ideal) x0 x1 x2 x3 x4 x5 x6 x7 (ix2 a j)
    = if a = 0 then ∑ b, dg (refWeights x1 x2 x3 x4 x5 x6) (refRows x0 x1 x2 x3 x7 b) j else 0 := by
  unfold val_main_v160
  rw [first_row, dg_at h]
  exact congrArg (ite _ _) (show (((0 : ℤ) : ℝ) : EReal) = 0 by simp)

/-- The gradient of the spatial weights sums over the blocks and over each group's channels. -/
theorem dwm_at (a : Fin 8) (p q : Fin 128) :
    val_main_v81 (F := Ideal) x0 x1 x2 x3 x6 x7 (ix3 a p q) = ∑ b, dwm (refWeights x1 x2 x3 x4 x5 x6) (refRows x0 x1 x2 x3 x7 b) a p q := by
  unfold val_main_v81
  generalize hx : val_main_v80 (F := Ideal) x0 x1 x2 x6 x7 = f
  generalize hy : val_main_v62 (F := Ideal) x0 x1 x2 x3 = g
  pointwise
  refine Finset.sum_congr rfl fun b _ => Finset.sum_congr rfl fun c _ => ?_
  subst hx hy
  exact congrArg₂ (· * ·) (dsv_turned x0 x1 x2 x3 x4 x5 x6 x7 b p a c) (gate_group x0 x1 x2 x3 x7 b q a c)

/-- A sum over the first and the last axis. -/
theorem sum_outer (f : S32x128x8x128.Idx → EReal) (c : EReal) (p : Fin 128) (a : Fin 8) :
    Ideal.hostReduceAdd reducesTo_S32x128x8x128_S128x8_d0_3 f c (ix2 p a) = c + ∑ b : Fin 32, ∑ k : Fin 128, f (ix4 b p a k) := by
  refine congrArg (c + ·) ((Finset.sum_filter_eq_sum_of_fiber _ (fun k : Fin 32 × Fin 128 => ix4 k.1 p a k.2)
    (fun _ _ e => Prod.ext (congrFun e 0) (congrFun e 3)) (fun i => ⟨fun e => ⟨(i 0, i 3), ?_⟩, ?_⟩) f).trans
    (Fintype.sum_prod_type' fun b k => f (ix4 b p a k)))
  · funext d
    match d with
    | ⟨0, _⟩ => rfl
    | ⟨1, _⟩ => exact Fin.ext (congrArg Fin.val (congrFun e 0)).symm
    | ⟨2, _⟩ => exact Fin.ext (congrArg Fin.val (congrFun e 1)).symm
    | ⟨3, _⟩ => rfl
  · rintro ⟨k, rfl⟩
    funext d
    match d with
    | ⟨0, _⟩ => rfl
    | ⟨1, _⟩ => rfl

/-- A sum over two axes of one entry each. -/
theorem sum_ones (f : S1x128x8x1.Idx → EReal) (c : EReal) (p : Fin 128) (a : Fin 8) :
    Ideal.hostReduceAdd reducesTo_S1x128x8x1_S128x8_d0_3 f c (ix2 p a) = c + f (ix4 0 p a 0) := by
  refine congrArg (c + ·) ((Finset.sum_filter_eq_sum_of_fiber _ (fun _ : Fin 1 => ix4 0 p a 0)
    (fun _ _ _ => Subsingleton.elim _ _) (fun i => ⟨fun e => ⟨0, ?_⟩, ?_⟩) f).trans (Fin.sum_univ_one _))
  · funext d
    match d with
    | ⟨0, _⟩ => exact Subsingleton.elim (α := Fin 1) _ _
    | ⟨1, _⟩ => exact Fin.ext (congrArg Fin.val (congrFun e 0)).symm
    | ⟨2, _⟩ => exact Fin.ext (congrArg Fin.val (congrFun e 1)).symm
    | ⟨3, _⟩ => exact Subsingleton.elim (α := Fin 1) _ _
  · rintro ⟨k, rfl⟩
    funext d
    match d with
    | ⟨0, _⟩ => rfl
    | ⟨1, _⟩ => rfl

theorem dbs_at (a : Fin 8) (p c : Fin 128) :
    val_main_v158 (F := Ideal) x0 x1 x2 x6 x7 (ix3 a p c) = ∑ b, dbs (refWeights x1 x2 x3 x4 x5 x6) (refRows x0 x1 x2 x3 x7 b) a p := by
  rw [val_main_v158_apply, val_main_v157_apply, read2 (val_main_v79 (F := Ideal) x0 x1 x2 x6 x7) _ a p rfl rfl, val_main_v79_apply, read2 (val_main_v78 (F := Ideal) x0 x1 x2 x6 x7) _ p a rfl rfl]
  unfold val_main_v78
  refine (sum_ones _ _ _ _).trans ?_
  rw [val_main_v77_apply, read2 (val_main_v76 (F := Ideal) x0 x1 x2 x6 x7) _ p a (Fin.ext (show (((0 * 128 + p.val) * 8 + a.val) * 1 + 0) / 8 = p.val by omega))
    (Fin.ext (show (((0 * 128 + p.val) * 8 + a.val) * 1 + 0) % 8 = a.val by omega))]
  unfold val_main_v76
  refine (congrArg (_ + ·) (sum_outer _ _ _ _)).trans ?_
  show Ideal.ofBits .f32 0x00000000#32 + (Ideal.ofBits .f32 0x00000000#32 + _) = _
  rw [Ideal.ofBits_zero_f32, zero_add, zero_add]
  exact Finset.sum_congr rfl fun b _ => Finset.sum_congr rfl fun k _ => dsv_group x0 x1 x2 x3 x4 x5 x6 x7 b p a k

end Gating
-- ==== Proof.FeedRef.lean ====
/-
  The reference of the feed-forward layer's backward call, row by row: on finite arguments its results are the row
  formulas, with the saved derivatives written out.
-/
module

public import proofs.«01_k».proof.Proof.FeedFormulas
public import proofs.«01_k».proof.Proof.RefResults
public import proofs.«01_k».proof.Proof.Gen.Reference2Ideal.Read

@[expose] public section

noncomputable section

namespace Feeding

open Idealize.ShloMosaic hiding ix1 ix2 ix3 ix4 eq_ix1 eq_ix2 eq_ix3 eq_ix4
open Idealize.ShloMosaic.TcCoe Idealize.ShloMosaic.ValueIdx Cert.Reference2Ideal Cert.Reference2Ideal.Gen
open Cert.Reference2Ideal.Read
open Gating (IsReal isReal_coe isReal_sum isReal_rmsInv rmsHat rmsInv rmsVjp rmsVjp_eq rmsGrad mean eps half read1 read2 xRow)

theorem logistic_real {a : EReal} : IsReal a → IsReal (logistic a)
  | ⟨x, hx⟩ => by
    have e : (1 : EReal) + Ideal.exp (-(x : EReal)) = ((1 + Real.exp (-x) : ℝ) : EReal) := by
      rw [← EReal.coe_neg, EReal.coe_add]
      rfl
    rw [hx, logistic, e]
    exact (isReal_coe 1).div (by positivity)

theorem slope_real {a : EReal} (h : IsReal a) : IsReal (slope a) :=
  (logistic_real h).mul ((isReal_coe 1).add (h.mul ((isReal_coe 1).sub (logistic_real h))))

theorem unit_real {a : EReal} (h : IsReal a) : IsReal (unit a) := h.mul (logistic_real h)

/-- The product rule for the gated branch, collected. -/
theorem collected {s a b l : EReal} : IsReal s → IsReal a → IsReal b → IsReal l →
    s * b * l + a * (s * b) * (l * (1 - l)) = s * (b * (l * (1 + a * (1 - l))))
  | ⟨s', hs⟩, ⟨a', ha⟩, ⟨b', hb⟩, ⟨l', hl⟩ => by
    rw [hs, ha, hb, hl, ← EReal.coe_one]
    simp only [← EReal.coe_mul, ← EReal.coe_sub, ← EReal.coe_add]
    congr 1
    ring

variable (x0 : (⟨S4096x1024, .f32⟩ : BufTy).Contents (Elt Ideal)) (x1 : (⟨S1x1024, .f32⟩ : BufTy).Contents (Elt Ideal))
  (x2 x3 : (⟨S1024x2816, .f32⟩ : BufTy).Contents (Elt Ideal)) (x4 : (⟨S2816x1024, .f32⟩ : BufTy).Contents (Elt Ideal))
  (x5 : (⟨S4096x1024, .f32⟩ : BufTy).Contents (Elt Ideal))

/-- The gated product of row `n`. -/
def aRow (n : Fin 4096) (k : Fin 2816) : EReal := val_main_v15 (F := Ideal) x0 x1 x2 (ix2 n k)
/-- The linear product of row `n`. -/
def bRow (n : Fin 4096) (k : Fin 2816) : EReal := val_main_v16 (F := Ideal) x0 x1 x3 (ix2 n k)

/-- The parameters the reference is given. -/
def refParams : Params where
  g j := x1 (ix2 0 j)
  wg k j := x2 (ix2 j k)
  wu k j := x3 (ix2 j k)
  wd k j := x4 (ix2 k j)

/-- Row `n` of what the reference is given, with the derivatives of its hidden product. -/
def refRow (n : Fin 4096) : Row where
  ct j := x5 (ix2 n j)
  x := xRow x0 n
  fa k := bRow x0 x1 x3 n k * slope (aRow x0 x1 x2 n k)
  fb k := unit (aRow x0 x1 x2 n k)

/-! ### The norm -/

theorem guard_at (n : Fin 4096) (u : Fin 1) :
    val_main_v6 (F := Ideal) x0 (ix2 n u) = mean (fun j => xRow x0 n j * xRow x0 n j) + eps :=
  Gating.rms_guard x0 n u

theorem inv_at (n : Fin 4096) (u : Fin 1) : val_main_v7 (F := Ideal) x0 (ix2 n u) = rmsInv (xRow x0 n) :=
  Gating.rms_inv x0 n u

theorem hat_at (n : Fin 4096) (j : Fin 1024) : val_main_v12 (F := Ideal) x0 (ix2 n j) = rmsHat (xRow x0 n) j :=
  Gating.rms_hat x0 n j

theorem out_at (n : Fin 4096) (j : Fin 1024) :
    val_main_v14 (F := Ideal) x0 x1 (ix2 n j) = rmsHat (xRow x0 n) j * x1 (ix2 0 j) :=
  Gating.rms_out x0 x1 n j

theorem aRow_eq (n : Fin 4096) (k : Fin 2816) :
    aRow x0 x1 x2 n k = ∑ j, rmsHat (xRow x0 n) j * x1 (ix2 0 j) * x2 (ix2 j k) := by
  rw [aRow, val_main_v15_apply]
  refine Finset.sum_congr rfl fun j _ => ?_
  rw [read2 (val_main_v14 (F := Ideal) x0 x1) _ n j rfl rfl, out_at, read2 x2 _ j k rfl rfl]

theorem bRow_eq (n : Fin 4096) (k : Fin 2816) :
    bRow x0 x1 x3 n k = ∑ j, rmsHat (xRow x0 n) j * x1 (ix2 0 j) * x3 (ix2 j k) := by
  rw [bRow, val_main_v16_apply]
  refine Finset.sum_congr rfl fun j _ => ?_
  rw [read2 (val_main_v14 (F := Ideal) x0 x1) _ n j rfl rfl, out_at, read2 x3 _ j k rfl rfl]

/-! ### The unit and its derivative -/

theorem logistic_at (n : Fin 4096) (k : Fin 2816) :
    val_main_v22 (F := Ideal) x0 x1 x2 (ix2 n k) = logistic (aRow x0 x1 x2 n k) := by
  rw [val_main_v22_apply, val_main_v21_apply, val_main_cst_4_apply, val_main_v20_apply, val_main_v19_apply,
    val_main_cst_3_apply, val_main_v18_apply, val_main_v17_apply]
  show Ideal.div (Ideal.ofBits .f32 0x3F800000#32) (Ideal.ofBits .f32 0x3F800000#32 + _) = _
  rw [Gating.ofBits_one]
  rfl

theorem unit_at (n : Fin 4096) (k : Fin 2816) :
    val_main_v26 (F := Ideal) x0 x1 x2 (ix2 n k) = unit (aRow x0 x1 x2 n k) := by
  rw [val_main_v26_apply, logistic_at]
  rfl

theorem spread_at (n : Fin 4096) (k : Fin 2816) : val_main_v25 (F := Ideal) x0 x1 x2 (ix2 n k)
    = logistic (aRow x0 x1 x2 n k) * (1 - logistic (aRow x0 x1 x2 n k)) := by
  rw [val_main_v25_apply, val_main_v24_apply, val_main_v23_apply, val_main_cst_5_apply, logistic_at]
  show _ * (Ideal.ofBits .f32 0x3F800000#32 - _) = _
  rw [Gating.ofBits_one]

/-! ### The hidden gradients -/

theorem ds_at (n : Fin 4096) (k : Fin 2816) : val_main_v29 (F := Ideal) x4 x5 (ix2 n k)
    = ds (refParams x1 x2 x3 x4) (refRow x0 x1 x2 x3 x5 n) k := by
  rw [val_main_v29_apply]
  refine Finset.sum_congr rfl fun q _ => ?_
  rw [read2 x5 _ n q rfl rfl, read2 x4 _ k q rfl rfl]
  rfl

theorem db_at (n : Fin 4096) (k : Fin 2816) : val_main_v30 (F := Ideal) x0 x1 x2 x4 x5 (ix2 n k)
    = db (refParams x1 x2 x3 x4) (refRow x0 x1 x2 x3 x5 n) k := by
  rw [val_main_v30_apply, unit_at, ds_at x0 x1 x2 x3]
  exact mul_comm _ _

/-- Every argument finite. -/
structure Finite : Prop where
  r0 : ∀ i, IsReal (x0 i)
  r1 : ∀ i, IsReal (x1 i)
  r2 : ∀ i, IsReal (x2 i)
  r3 : ∀ i, IsReal (x3 i)
  r4 : ∀ i, IsReal (x4 i)
  r5 : ∀ i, IsReal (x5 i)

variable {x0 x1 x2 x3 x4 x5} (h : Finite x0 x1 x2 x3 x4 x5)

include h

theorem hat_real (n : Fin 4096) (j : Fin 1024) : IsReal (rmsHat (xRow x0 n) j) :=
  (h.r0 _).mul (isReal_rmsInv fun j => h.r0 _)

theorem aRow_real (n : Fin 4096) (k : Fin 2816) : IsReal (aRow x0 x1 x2 n k) := by
  rw [aRow_eq]
  exact isReal_sum _ fun j => ((hat_real h n j).mul (h.r1 _)).mul (h.r2 _)

theorem bRow_real (n : Fin 4096) (k : Fin 2816) : IsReal (bRow x0 x1 x3 n k) := by
  rw [bRow_eq]
  exact isReal_sum _ fun j => ((hat_real h n j).mul (h.r1 _)).mul (h.r3 _)

theorem ds_real (n : Fin 4096) (k : Fin 2816) : IsReal (ds (refParams x1 x2 x3 x4) (refRow x0 x1 x2 x3 x5 n) k) :=
  isReal_sum _ fun q => (h.r5 _).mul (h.r4 _)

theorem da_real (n : Fin 4096) (k : Fin 2816) : IsReal (da (refParams x1 x2 x3 x4) (refRow x0 x1 x2 x3 x5 n) k) :=
  (ds_real h n k).mul ((bRow_real h n k).mul (slope_real (aRow_real h n k)))

theorem db_real (n : Fin 4096) (k : Fin 2816) : IsReal (db (refParams x1 x2 x3 x4) (refRow x0 x1 x2 x3 x5 n) k) :=
  (ds_real h n k).mul (unit_real (aRow_real h n k))

theorem dh_real (n : Fin 4096) (j : Fin 1024) : IsReal (dh (refParams x1 x2 x3 x4) (refRow x0 x1 x2 x3 x5 n) j) :=
  (isReal_sum _ fun k => (da_real h n k).mul (h.r2 _)).add (isReal_sum _ fun k => (db_real h n k).mul (h.r3 _))

theorem da_at (n : Fin 4096) (k : Fin 2816) : val_main_v35 (F := Ideal) x0 x1 x2 x3 x4 x5 (ix2 n k)
    = da (refParams x1 x2 x3 x4) (refRow x0 x1 x2 x3 x5 n) k := by
  rw [val_main_v35_apply, val_main_v34_apply, val_main_v33_apply, val_main_v32_apply, val_main_v31_apply, spread_at,
    logistic_at, ds_at x0 x1 x2 x3]
  exact collected (ds_real h n k) (aRow_real h n k) (bRow_real h n k) (logistic_real (aRow_real h n k))

theorem dh_at (n : Fin 4096) (j : Fin 1024) : val_main_v38 (F := Ideal) x0 x1 x2 x3 x4 x5 (ix2 n j)
    = dh (refParams x1 x2 x3 x4) (refRow x0 x1 x2 x3 x5 n) j := by
  rw [val_main_v38_apply, val_main_v36_apply, val_main_v37_apply]
  refine (add_comm (_ : EReal) _).trans (congrArg₂ (· + ·) ?_ ?_)
  · refine Finset.sum_congr rfl fun k _ => ?_
    rw [read2 (val_main_v35 (F := Ideal) x0 x1 x2 x3 x4 x5) _ n k rfl rfl, da_at h, read2 x2 _ j k rfl rfl]
    rfl
  · refine Finset.sum_congr rfl fun k _ => ?_
    rw [read2 (val_main_v30 (F := Ideal) x0 x1 x2 x4 x5) _ n k rfl rfl, db_at x0 x1 x2 x3, read2 x3 _ j k rfl rfl]
    rfl

/-! ### Back through the norm -/

theorem gained_at (n : Fin 4096) (j : Fin 1024) : val_main_v43 (F := Ideal) x0 x1 x2 x3 x4 x5 (ix2 n j)
    = dh (refParams x1 x2 x3 x4) (refRow x0 x1 x2 x3 x5 n) j * x1 (ix2 0 j) := by
  rw [val_main_v43_apply, val_main_v42_apply, dh_at h, read2 x1 _ 0 j rfl rfl]
  rfl

theorem spread_square (n : Fin 4096) (u : Fin 1) : val_main_v51 (F := Ideal) x0 x1 x2 x3 x4 x5 (ix2 n u)
    = Ideal.div ((∑ i, xRow x0 n i * (dh (refParams x1 x2 x3 x4) (refRow x0 x1 x2 x3 x5 n) i * x1 (ix2 0 i)))
        * (-half * Ideal.div (rmsInv (xRow x0 n)) (mean (fun j => xRow x0 n j * xRow x0 n j) + eps)))
        ((1024 : ℝ) : EReal) := by
  rw [val_main_v51_apply, val_main_v50_apply, val_main_v49_apply, val_main_v46_apply, val_main_v45_apply,
    val_main_v10_apply, val_main_v9_apply, val_main_v8_apply, val_main_cst_2_apply, val_main_cst_7_apply,
    val_main_cst_8_apply, guard_at, inv_at]
  have e : ∀ k, val_main_v44 (F := Ideal) x0 x1 x2 x3 x4 x5 (idx_main_v45 (idx_main_v46 (ix2 n u)) k)
      = xRow x0 n k * (dh (refParams x1 x2 x3 x4) (refRow x0 x1 x2 x3 x5 n) k * x1 (ix2 0 k)) := fun k => by
    rw [read2 (val_main_v44 (F := Ideal) x0 x1 x2 x3 x4 x5) _ n k (Fin.ext (show n.val * 1 + u.val = _ by omega)) rfl,
      val_main_v44_apply, gained_at h]
    rfl
  simp only [e]
  show Ideal.div ((Ideal.ofBits .f32 0x00000000#32 + _) * (Ideal.ofBits .f32 0xBF000000#32 * _))
    (Ideal.ofBits .f32 0x44800000#32) = _
  rw [Ideal.ofBits_zero_f32, zero_add, Gating.ofBits_1024, Gating.ofBits_neg_half]
  rfl

theorem back_at (n : Fin 4096) (j : Fin 1024) : val_main_v57 (F := Ideal) x0 x1 x2 x3 x4 x5 (ix2 n j)
    = rmsVjp (xRow x0 n) (fun i => dh (refParams x1 x2 x3 x4) (refRow x0 x1 x2 x3 x5 n) i * x1 (ix2 0 i)) j := by
  rw [val_main_v57_apply, val_main_v56_apply, val_main_v55_apply, val_main_v54_apply, val_main_v53_apply,
    val_main_v52_apply, val_main_v48_apply, val_main_v47_apply, val_main_cst_9_apply, gained_at h,
    read2 (val_main_v7 (F := Ideal) x0) _ n 0 rfl rfl, inv_at]
  have e : ∀ k, val_main_v51 (F := Ideal) x0 x1 x2 x3 x4 x5 (idx_main_v52 (idx_main_v53 (ix2 n j)) k) = _ := fun k =>
    (read2 (val_main_v51 (F := Ideal) x0 x1 x2 x3 x4 x5) _ n k rfl rfl).trans (spread_square h n k)
  simp only [e]
  show (_ + _ * (Ideal.ofBits .f32 0x00000000#32 + ∑ _k : Fin 1, _))
    + (Ideal.ofBits .f32 0x00000000#32 + ∑ _k : Fin 1, _) * _ = _
  simp only [Ideal.ofBits_zero_f32, zero_add, Fin.sum_univ_one]
  rfl

theorem dx_at (n : Fin 4096) (j : Fin 1024) : val_main_v58 (F := Ideal) x0 x1 x2 x3 x4 x5 (ix2 n j)
    = dx (refParams x1 x2 x3 x4) (refRow x0 x1 x2 x3 x5 n) j := by
  rw [val_main_v58_apply, back_at h]
  exact congrArg (x5 _ + ·) (rmsVjp_eq _ _ (fun i => h.r0 _) (fun i => (dh_real h n i).mul (h.r1 _)) j)

/-! ### The gain's gradient -/

theorem dg_at (j : Fin 1024) : val_main_v41 (F := Ideal) x0 x1 x2 x3 x4 x5 (ix2 0 j)
    = ∑ n, dg (refParams x1 x2 x3 x4) (refRow x0 x1 x2 x3 x5 n) j := by
  rw [val_main_v41_apply, read1 (val_main_v40 (F := Ideal) x0 x1 x2 x3 x4 x5) _ j
    (Fin.ext (show 0 * 1024 + j.val = j.val by omega)), val_main_v40_apply, val_main_cst_6_apply]
  show Ideal.ofBits .f32 0x00000000#32 + _ = _
  rw [Ideal.ofBits_zero_f32, zero_add]
  refine Finset.sum_congr rfl fun n _ => ?_
  rw [read2 (val_main_v39 (F := Ideal) x0 x1 x2 x3 x4 x5) _ n j rfl rfl, val_main_v39_apply, hat_at, dh_at h]
  exact mul_comm _ _

theorem dg_padded (a : Fin 8) (j : Fin 1024) : val_main_v61 (F := Ideal) x0 x1 x2 x3 x4 x5 (ix2 a j)
    = if a = 0 then ∑ n, dg (refParams x1 x2 x3 x4) (refRow x0 x1 x2 x3 x5 n) j else 0 := by
  rw [← dg_at h]
  exact (Gating.first_row (val_main_v41 (F := Ideal) x0 x1 x2 x3 x4 x5) _ a j).trans
    (congrArg (ite _ _) (show (((0 : ℤ) : ℝ) : EReal) = 0 by simp))

end Feeding
-- ==== Proof.HostSide.lean ====
/-
  What the kernel's host lines hand to the call: the masked spatial weights and their transpose, the biases spread over the
  channels, the projections' weights, and the saved projection and gate, each as the reference reads it.
-/
module

public import proofs.«01_k».proof.Proof.RefResults

@[expose] public section

noncomputable section

namespace Gating

open Idealize.ShloMosaic hiding ix1 ix2 ix3 ix4 eq_ix1 eq_ix2 eq_ix3 eq_ix4
open Idealize.ShloMosaic.TcCoe Idealize.ShloMosaic.ValueIdx Cert.KernelIdeal Cert.KernelIdeal.Gen
open Cert.ReferenceIdeal.Read

variable (m : (ℓ : Loc nD τ sig) → Buf (Elt Ideal) ℓ) (c : Dev nD)

/-- The `k`-th argument, as launched. -/
abbrev in0 : S4096x1024.Idx → EReal := m ((c : Thread nD τ).loc main_arg0)
abbrev in1 : S1x1024.Idx → EReal := m ((c : Thread nD τ).loc main_arg1)
abbrev in2 : S1024x2048.Idx → EReal := m ((c : Thread nD τ).loc main_arg2)
abbrev in3 : S1x1024.Idx → EReal := m ((c : Thread nD τ).loc main_arg3)
abbrev in4 : S8x128x128.Idx → EReal := m ((c : Thread nD τ).loc main_arg4)
abbrev in5 : S8x128.Idx → EReal := m ((c : Thread nD τ).loc main_arg5)
abbrev in6 : S1024x1024.Idx → EReal := m ((c : Thread nD τ).loc main_arg6)
abbrev in7 : S4096x1024.Idx → EReal := m ((c : Thread nD τ).loc main_arg7)

theorem saved_z : V m c main_v61 = val_main_v15 (F := Ideal) (in0 m c) (in1 m c) (in2 m c) := by
  entry_read
  rfl

theorem masked_in : V m c main_v10 = val_main_v25 (F := Ideal) (in4 m c) := by
  entry_read
  rfl

theorem masked_turned : V m c main_v12
    = transpose S8x128x128 [0, 2, 1] (val_main_v25 (F := Ideal) (in4 m c)) transposes_S8x128x128_S8x128x128_0_2_1 := by
  entry_read
  rfl

theorem out_in : V m c main_v63 = in6 m c := by
  entry_read
  rfl

theorem bias_in : V m c main_v14 = broadcastInDim S8x128x128 ![0, 1, 2] bcast_S8x128x1_S8x128x128_0_1_2
    (broadcastInDim S8x128x1 ![0, 1] bcast_S8x128_S8x128x1_0_1 (in5 m c)) := by
  entry_read
  rfl

theorem win_in : V m c main_v17 = transpose S4x1024x512 [1, 0, 2] (shapeCast S1024x4x512 (in2 m c)
    shapeCasts_S1024x2048_S1024x4x512) transposes_S1024x4x512_S4x1024x512_1_0_2 := by
  entry_read
  rfl

/-- The gate's norm and gain, over all rows. -/
def gateNorm (v : FVec Ideal S4096x1024 .f32) (gv : FVec Ideal S1x1024 .f32) : FVec Ideal S4096x1024 .f32 :=
  let mu := Host.divf (broadcastInDim S4096x1 ![0] bcast_S4096_S4096x1_0
    (Host.reduceAdd v (constant S_ .f32 0x00000000#32) reducesTo_S4096x1024_S4096_d1 h_S_))
    (broadcastInDim S4096x1 ![] bcast_S_S4096x1 (constant S_ .f32 0x44800000#32))
  let d := subf v (broadcastInDim S4096x1024 ![0, 1] bcast_S4096x1_S4096x1024_0_1 mu)
  let var := Host.divf (broadcastInDim S4096x1 ![0] bcast_S4096_S4096x1_0
    (Host.reduceAdd (mulf d d) (constant S_ .f32 0x00000000#32) reducesTo_S4096x1024_S4096_d1 h_S_))
    (broadcastInDim S4096x1 ![] bcast_S_S4096x1 (constant S_ .f32 0x44800000#32))
  mulf (mulf d (broadcastInDim S4096x1024 ![0, 1] bcast_S4096x1_S4096x1024_0_1
      (Host.rsqrt (addf var (broadcastInDim S4096x1 ![] bcast_S_S4096x1 (constant S_ .f32 0x358637BD#32))))))
    (broadcastInDim S4096x1024 ![0, 1] bcast_S1x1024_S4096x1024_0_1 gv)

/-- The right half of the projection through the unit, over all rows. -/
def gateHalf (z : FVec Ideal S4096x2048 .f32) : FVec Ideal S4096x1024 .f32 :=
  let h := extractStridedSlice S4096x1024 ![0, 1024] z slices_S4096x2048_S4096x1024_0_1024
  mulf (mulf (broadcastInDim S4096x1024 ![] bcast_S_S4096x1024 (constant S_ .f32 0x3F000000#32)) h)
    (addf (broadcastInDim S4096x1024 ![] bcast_S_S4096x1024 (constant S_ .f32 0x3F800000#32))
      (Host.erf (Host.divf h (broadcastInDim S4096x1024 ![] bcast_S_S4096x1024 (Host.sqrt (constant S_ .f32 0x40000000#32))))))

theorem gate_host : V m c main_v62 = gateNorm (gateHalf (val_main_v15 (F := Ideal) (in0 m c) (in1 m c) (in2 m c))) (in3 m c) := by
  entry_read
  rfl

theorem gate_ref (x0 : S4096x1024.Idx → EReal) (x1 : S1x1024.Idx → EReal) (x2 : S1024x2048.Idx → EReal) (x3 : S1x1024.Idx → EReal) :
    val_main_v61 (F := Ideal) x0 x1 x2 x3 = gateNorm (val_main_v36 (F := Ideal) x0 x1 x2) x3 := rfl

theorem half_same (x0 : S4096x1024.Idx → EReal) (x1 : S1x1024.Idx → EReal) (x2 : S1024x2048.Idx → EReal) :
    gateHalf (val_main_v15 (F := Ideal) x0 x1 x2) = val_main_v36 (F := Ideal) x0 x1 x2 := by
  funext i
  obtain ⟨n, j, rfl⟩ : ∃ (n : Fin 4096) (j : Fin 1024), i = ix2 n j := ⟨i 0, i 1, eq_ix2 i⟩
  rw [right_at]
  have e : extractStridedSlice S4096x1024 ![0, 1024] (val_main_v15 (F := Ideal) x0 x1 x2) slices_S4096x2048_S4096x1024_0_1024
      (ix2 n j) = zRow x0 x1 x2 n (hi j) := by
    refine (read2 (val_main_v15 (F := Ideal) x0 x1 x2) _ n (hi j) (Fin.ext ?_) (Fin.ext ?_))
    · exact Nat.zero_add _
    · rfl
  show Ideal.ofBits .f32 0x3F000000#32 * extractStridedSlice S4096x1024 ![0, 1024] (val_main_v15 (F := Ideal) x0 x1 x2)
      slices_S4096x2048_S4096x1024_0_1024 (ix2 n j) * (Ideal.ofBits .f32 0x3F800000#32 + Ideal.erf (Ideal.div
      (extractStridedSlice S4096x1024 ![0, 1024] (val_main_v15 (F := Ideal) x0 x1 x2)
        slices_S4096x2048_S4096x1024_0_1024 (ix2 n j)) (Ideal.sqrt (Ideal.ofBits .f32 0x40000000#32)))) = _
  rw [e]
  exact gelu_div _

/-- The call is handed the reference's own parameters and rows. -/
theorem handed : Handed m c
    (refWeights (in1 m c) (in2 m c) (in3 m c) (in4 m c) (in5 m c) (in6 m c))
    (refRows (in0 m c) (in1 m c) (in2 m c) (in3 m c) (in7 m c)) where
  ct _ _ _ := congrFun (V_main_arg7 m c) _
  x _ _ _ := congrFun (V_main_arg0 m c) _
  g _ := congrFun (V_main_arg1 m c) _
  z _ _ _ := congrFun (saved_z m c) _
  vn _ _ _ := congrFun ((gate_host m c).trans (by rw [half_same])) _
  gv _ := congrFun (V_main_arg3 m c) _
  wm _ _ _ := congrFun (masked_in m c) _
  wmt a i q := (congrFun (masked_turned m c) _).trans (by pointwise; rfl)
  bs a i k := (congrFun (bias_in m c) _).trans (by pointwise; rfl)
  wout _ _ := congrFun (out_in m c) _
  win s k q := (congrFun (win_in m c) _).trans (by
    pointwise
    exact read2 (in2 m c) _ k (quarter s q) rfl (Fin.ext (show s.val * 512 + q.val = 512 * s.val + q.val by omega)))

end Gating
-- ==== Proof.Final.lean ====
/-
  The six arrays the kernel leaves, as formulas of the arrays it is handed: the two row-wise ones block by block, the
  four sums over all 32 blocks.
-/
module

public import proofs.«01_k».proof.Proof.Points

@[expose] public section

set_option maxRecDepth 16384

noncomputable section

namespace Gating

open Idealize.ShloMosaic hiding ix1 ix2 ix3 eq_ix2 eq_ix3
open Idealize.ShloMosaic.TcCoe Idealize.ShloMosaic.ValueIdx Cert.KernelIdeal Cert.KernelIdeal.Gen Idealize.SL.Sem

variable {m : (ℓ : Loc nD τ sig) → Buf (Elt Ideal) ℓ} {c : Dev nD} {W : Weights} {B : Fin 32 → Rows}

/-- Every row among 4096 lies in one of the 32 blocks. -/
theorem rowAt_divmod (i : Fin 4096) : rowAt ⟨i.val / 128, by omega⟩ ⟨i.val % 128, by omega⟩ = i :=
  Fin.ext (show 128 * (i.val / 128) + i.val % 128 = i.val by omega)

/-- The array of 4096 rows whose 32 blocks are given. -/
def stacked {n : ℕ} (f : Fin 32 → Fin 128 → Fin n → EReal) : (⟨2, ![4096, n]⟩ : Shape).Idx → EReal :=
  fun i => f ⟨(i 0).val / 128, by have := idx2_lt0 i; omega⟩ ⟨(i 0).val % 128, by omega⟩ ⟨(i 1).val, idx2_lt1 i⟩

theorem stacked_apply {n : ℕ} (f : Fin 32 → Fin 128 → Fin n → EReal) (b : Fin 32) (r : Fin 128) (j : Fin n) :
    stacked f (ix2 (rowAt b r) j) = f b r j := by
  have h1 : (128 * b.val + r.val) / 128 = b.val := by omega
  have h2 : (128 * b.val + r.val) % 128 = r.val := by omega
  show f ⟨(128 * b.val + r.val) / 128, _⟩ ⟨(128 * b.val + r.val) % 128, _⟩ j = _
  congr 1 <;> exact Fin.ext (by assumption)

/-- Thirty-two blocks, four to a run. -/
theorem sum_parts (f : Fin 32 → EReal) : ∑ t : Fin cfg0.N, ∑ n : Fin 4, f (part t n) = ∑ b, f b := by
  refine (Fintype.sum_prod_type' (fun (t : Fin 8) (n : Fin 4) => f (part t n))).symm.trans ?_
  exact Fintype.sum_equiv (finProdFinEquiv (m := 8) (n := 4)) _ _ fun x => congrArg f (Fin.ext (Nat.add_comm _ _))

theorem dx_point (h : Handed m c W B) (t : Fin cfg0.N) (n : Fin 4) (r : Fin 128) (j : Fin 1024) :
    (outsAt0 m c t.val t.isLt).1 (ix2 (row n r) j) = dx W (B (part t n)) r j := by
  by_cases h0 : t.val % 8 = 0
  · rw [outsAt0_A m c t h0]
    dsimp only
    rw [first_dx _ _ _ _ _ _ _ _ _ _ _ _ _ _ _ _ _ _ _ _ _ _ _ _ _ _ _ _ _ _ _ _ _ _ _ _ _ _ _ _ _ _ _ _ _ _ _ _ _ _ _ _ (reads_at h t)]
  · rw [outsAt0_B m c t h0]
    dsimp only
    rw [next_dx _ _ _ _ _ _ _ _ _ _ _ _ _ _ _ _ _ _ _ _ _ _ _ _ _ _ _ _ _ _ _ _ _ _ _ _ _ _ _ _ _ _ _ _ _ _ _ _ _ _ _ _ _ _ _ _ (reads_at h t)]

theorem dx_block (h : Handed m c W B) (t : Fin cfg0.N) (y : S512x1024.Idx) :
    (outsAt0 m c t.val t.isLt).1 y = stacked (fun b => dx W (B b)) ((win0_11.blk t).view.emb y) := by
  obtain ⟨i, j, rfl⟩ : ∃ i j, y = ix2 i j := ⟨y 0, y 1, eq_ix2 y⟩
  have hi : i = row ⟨i.val / 128, by omega⟩ ⟨i.val % 128, by omega⟩ :=
    Fin.ext (show i.val = 128 * (i.val / 128) + i.val % 128 by omega)
  have he : (win0_11.blk t).view.emb (ix2 i j : S512x1024.Idx)
      = ix2 (rowAt (part t ⟨i.val / 128, by omega⟩) ⟨i.val % 128, by omega⟩) j := by
    blk_ext [index_11 t, rowAt, part]
    show t.val * 512 + i.val = 128 * (4 * t.val + i.val / 128) + i.val % 128
    omega
  rw [he, stacked_apply]
  exact (congrArg (fun i => (outsAt0 m c t.val t.isLt).1 (ix2 i j)) hi).trans (dx_point h t _ _ j)

theorem dx_final (h : Handed m c W B) (b : Fin 32) (r : Fin 128) (j : Fin 1024) :
    (dats m 0 c).arrAt 11 cfg0.N (ix2 (rowAt b r) j) = dx W (B b) r j := by
  have e : (dats m 0 c).arrAt 11 cfg0.N = stacked (fun b => dx W (B b)) := by
    refine (dats m 0 c).arrAt_eq_of_covers 11 _ (by decide +kernel) fun t hf y => ?_
    blk_simp
    rw [after0_11]
    exact dx_block h t y
  rw [e, stacked_apply]

theorem dz_point (h : Handed m c W B) (t : Fin cfg0.N) (n : Fin 4) (r : Fin 128) (j : Fin 2048) :
    (outsAt0 m c t.val t.isLt).2.1 (ix2 (row n r) j) = dz W (B (part t n)) r j := by
  by_cases h0 : t.val % 8 = 0
  · rw [outsAt0_A m c t h0]
    dsimp only
    rw [first_dz _ _ _ _ _ _ _ _ _ _ _ _ _ _ _ _ _ _ _ _ _ _ _ _ _ _ _ _ _ _ _ _ _ _ _ _ _ _ _ _ _ _ _ _ _ _ _ _ _ _ _ _ (reads_at h t)]
  · rw [outsAt0_B m c t h0]
    dsimp only
    rw [next_dz _ _ _ _ _ _ _ _ _ _ _ _ _ _ _ _ _ _ _ _ _ _ _ _ _ _ _ _ _ _ _ _ _ _ _ _ _ _ _ _ _ _ _ _ _ _ _ _ _ _ _ _ _ _ _ _ (reads_at h t)]

theorem dz_block (h : Handed m c W B) (t : Fin cfg0.N) (y : S512x2048.Idx) :
    (outsAt0 m c t.val t.isLt).2.1 y = stacked (fun b => dz W (B b)) ((win0_12.blk t).view.emb y) := by
  obtain ⟨i, j, rfl⟩ : ∃ i j, y = ix2 i j := ⟨y 0, y 1, eq_ix2 y⟩
  have hi : i = row ⟨i.val / 128, by omega⟩ ⟨i.val % 128, by omega⟩ :=
    Fin.ext (show i.val = 128 * (i.val / 128) + i.val % 128 by omega)
  have he : (win0_12.blk t).view.emb (ix2 i j : S512x2048.Idx)
      = ix2 (rowAt (part t ⟨i.val / 128, by omega⟩) ⟨i.val % 128, by omega⟩) j := by
    blk_ext [index_12 t, rowAt, part]
    show t.val * 512 + i.val = 128 * (4 * t.val + i.val / 128) + i.val % 128
    omega
  rw [he, stacked_apply]
  exact (congrArg (fun i => (outsAt0 m c t.val t.isLt).2.1 (ix2 i j)) hi).trans (dz_point h t _ _ j)

theorem dz_final (h : Handed m c W B) (b : Fin 32) (r : Fin 128) (j : Fin 2048) :
    (dats m 0 c).arrAt 12 cfg0.N (ix2 (rowAt b r) j) = dz W (B b) r j := by
  have e : (dats m 0 c).arrAt 12 cfg0.N = stacked (fun b => dz W (B b)) := by
    refine (dats m 0 c).arrAt_eq_of_covers 12 _ (by decide +kernel) fun t hf y => ?_
    blk_simp
    rw [after0_12]
    exact dz_block h t y
  rw [e, stacked_apply]

theorem dwm_final (h : Handed m c W B) (a : Fin 8) (p q : Fin 128) :
    (dats m 0 c).arrAt 13 cfg0.N (ix3 a p q) = ∑ b, dwm W (B b) a p q := by
  have e : (dats m 0 c).arrAt 13 cfg0.N = fun i : S8x128x128.Idx => ∑ p : Fin cfg0.N, ∑ n : Fin 4, dwm W (B (part p n)) (i 0) (i 1) (i 2) := by
    refine (dats m 0 c).arrAt_eq_of_after_last 13 t0_7 (by decide +kernel) _ fun j => ?_
    blk_simp
    rw [after0_13, Pipeline.eq_sum_fin_of_reset_step_apply_last (fun n h => (outsAt0 m c n h).2.2.1) 8 (fun _ => 0)
      (fun p i => ∑ n : Fin 4, dwm W (B (part p n)) (i 0) (i 1) (i 2))
      (fun t h0 i => by
        rw [outsAt0_A m c t h0]
        obtain ⟨a, p, q, rfl⟩ : ∃ a p q, i = ix3 a p q := ⟨i 0, i 1, i 2, eq_ix3 i⟩
        dsimp only
        rw [first_dwm _ _ _ _ _ _ _ _ _ _ _ _ _ _ _ _ _ _ _ _ _ _ _ _ _ _ _ _ _ _ _ _ _ _ _ _ _ _ _ _ _ _ _ _ _ _ _ _ _ _ _ _ (reads_at h t)])
      (fun t h0 i => by
        rw [outsAt0_B m c t h0]
        obtain ⟨a, p, q, rfl⟩ : ∃ a p q, i = ix3 a p q := ⟨i 0, i 1, i 2, eq_ix3 i⟩
        dsimp only
        rw [next_dwm _ _ _ _ _ _ _ _ _ _ _ _ _ _ _ _ _ _ _ _ _ _ _ _ _ _ _ _ _ _ _ _ _ _ _ _ _ _ _ _ _ _ _ _ _ _ _ _ _ _ _ _ _ _ _ _ (reads_at h t)])
      (le_of_eq N_0) t0_7 rfl _]
    exact zero_add (_ : EReal)
  rw [e]
  exact sum_parts fun b => dwm W (B b) a p q

theorem dbs_final (h : Handed m c W B) (a : Fin 8) (p q : Fin 128) :
    (dats m 0 c).arrAt 14 cfg0.N (ix3 a p q) = ∑ b, dbs W (B b) a p := by
  have e : (dats m 0 c).arrAt 14 cfg0.N = fun i : S8x128x128.Idx => ∑ p : Fin cfg0.N, ∑ n : Fin 4, dbs W (B (part p n)) (i 0) (i 1) := by
    refine (dats m 0 c).arrAt_eq_of_after_last 14 t0_7 (by decide +kernel) _ fun j => ?_
    blk_simp
    rw [after0_14, Pipeline.eq_sum_fin_of_reset_step_apply_last (fun n h => (outsAt0 m c n h).2.2.2.1) 8 (fun _ => 0)
      (fun p i => ∑ n : Fin 4, dbs W (B (part p n)) (i 0) (i 1))
      (fun t h0 i => by
        rw [outsAt0_A m c t h0]
        obtain ⟨a, p, q, rfl⟩ : ∃ a p q, i = ix3 a p q := ⟨i 0, i 1, i 2, eq_ix3 i⟩
        dsimp only
        rw [first_dbs _ _ _ _ _ _ _ _ _ _ _ _ _ _ _ _ _ _ _ _ _ _ _ _ _ _ _ _ _ _ _ _ _ _ _ _ _ _ _ _ _ _ _ _ _ _ _ _ _ _ _ _ (reads_at h t)])
      (fun t h0 i => by
        rw [outsAt0_B m c t h0]
        obtain ⟨a, p, q, rfl⟩ : ∃ a p q, i = ix3 a p q := ⟨i 0, i 1, i 2, eq_ix3 i⟩
        dsimp only
        rw [next_dbs _ _ _ _ _ _ _ _ _ _ _ _ _ _ _ _ _ _ _ _ _ _ _ _ _ _ _ _ _ _ _ _ _ _ _ _ _ _ _ _ _ _ _ _ _ _ _ _ _ _ _ _ _ _ _ _ (reads_at h t)])
      (le_of_eq N_0) t0_7 rfl _]
    exact zero_add (_ : EReal)
  rw [e]
  exact sum_parts fun b => dbs W (B b) a p

theorem dgv_sum (h : Handed m c W B) : (dats m 0 c).arrAt 15 cfg0.N
    = fun i : S8x1024.Idx => ∑ p : Fin cfg0.N, if (i 0).val = 0 then ∑ n : Fin 4, dgv W (B (part p n)) (i 1) else 0 := by
  refine (dats m 0 c).arrAt_eq_of_after_last 15 t0_7 (by decide +kernel) _ fun j => ?_
  blk_simp
  rw [after0_15, Pipeline.eq_sum_fin_of_reset_step_apply_last (fun n h => (outsAt0 m c n h).2.2.2.2.1) 8 (fun _ => 0)
    (fun p i => if (i 0).val = 0 then ∑ n : Fin 4, dgv W (B (part p n)) (i 1) else 0)
    (fun t h0 i => by
      rw [outsAt0_A m c t h0]
      obtain ⟨a, j, rfl⟩ : ∃ a j, i = ix2 a j := ⟨i 0, i 1, eq_ix2 i⟩
      by_cases ha : a = 0
      · subst ha
        dsimp only
        rw [first_dgv _ _ _ _ _ _ _ _ _ _ _ _ _ _ _ _ _ _ _ _ _ _ _ _ _ _ _ _ _ _ _ _ _ _ _ _ _ _ _ _ _ _ _ _ _ _ _ _ _ _ _ _ (reads_at h t)]
        rfl
      · have hv : ¬ ((ix2 a j : S8x1024.Idx) 0).val = 0 := fun e => ha (Fin.ext e)
        dsimp only
        rw [first_dgv_rest _ _ _ _ _ _ _ _ _ _ _ _ _ _ _ _ _ _ _ _ _ _ _ _ _ _ _ _ _ _ _ _ _ _ _ _ _ _ _ _ _ _ _ _ _ _ _ _ _ _ _ _ a ha, if_neg hv, add_zero])
    (fun t h0 i => by
      rw [outsAt0_B m c t h0]
      obtain ⟨a, j, rfl⟩ : ∃ a j, i = ix2 a j := ⟨i 0, i 1, eq_ix2 i⟩
      by_cases ha : a = 0
      · subst ha
        dsimp only
        rw [next_dgv _ _ _ _ _ _ _ _ _ _ _ _ _ _ _ _ _ _ _ _ _ _ _ _ _ _ _ _ _ _ _ _ _ _ _ _ _ _ _ _ _ _ _ _ _ _ _ _ _ _ _ _ _ _ _ _ (reads_at h t)]
        rfl
      · have hv : ¬ ((ix2 a j : S8x1024.Idx) 0).val = 0 := fun e => ha (Fin.ext e)
        dsimp only
        rw [next_dgv_rest _ _ _ _ _ _ _ _ _ _ _ _ _ _ _ _ _ _ _ _ _ _ _ _ _ _ _ _ _ _ _ _ _ _ _ _ _ _ _ _ _ _ _ _ _ _ _ _ _ _ _ _ _ _ _ _ a ha, if_neg hv, add_zero])
    (le_of_eq N_0) t0_7 rfl _]
  exact zero_add (_ : EReal)

theorem dgv_final (h : Handed m c W B) (j : Fin 1024) :
    (dats m 0 c).arrAt 15 cfg0.N (ix2 0 j) = ∑ b, dgv W (B b) j := by
  rw [dgv_sum h]
  exact sum_parts fun b => dgv W (B b) j

theorem dgv_final_rest (h : Handed m c W B) (a : Fin 8) (ha : a ≠ 0) (j : Fin 1024) :
    (dats m 0 c).arrAt 15 cfg0.N (ix2 a j) = (0 : EReal) := by
  rw [dgv_sum h]
  exact Finset.sum_eq_zero (M := EReal) fun p _ => if_neg (show ¬ a.val = 0 from fun e => ha (Fin.ext e))

theorem dg_sum (h : Handed m c W B) : (dats m 0 c).arrAt 16 cfg0.N
    = fun i : S8x1024.Idx => ∑ p : Fin cfg0.N, if (i 0).val = 0 then ∑ n : Fin 4, dg W (B (part p n)) (i 1) else 0 := by
  refine (dats m 0 c).arrAt_eq_of_after_last 16 t0_7 (by decide +kernel) _ fun j => ?_
  blk_simp
  rw [after0_16, Pipeline.eq_sum_fin_of_reset_step_apply_last (fun n h => (outsAt0 m c n h).2.2.2.2.2) 8 (fun _ => 0)
    (fun p i => if (i 0).val = 0 then ∑ n : Fin 4, dg W (B (part p n)) (i 1) else 0)
    (fun t h0 i => by
      rw [outsAt0_A m c t h0]
      obtain ⟨a, j, rfl⟩ : ∃ a j, i = ix2 a j := ⟨i 0, i 1, eq_ix2 i⟩
      by_cases ha : a = 0
      · subst ha
        dsimp only
        rw [first_dg _ _ _ _ _ _ _ _ _ _ _ _ _ _ _ _ _ _ _ _ _ _ _ _ _ _ _ _ _ _ _ _ _ _ _ _ _ _ _ _ _ _ _ _ _ _ _ _ _ _ _ _ (reads_at h t)]
        rfl
      · have hv : ¬ ((ix2 a j : S8x1024.Idx) 0).val = 0 := fun e => ha (Fin.ext e)
        dsimp only
        rw [first_dg_rest _ _ _ _ _ _ _ _ _ _ _ _ _ _ _ _ _ _ _ _ _ _ _ _ _ _ _ _ _ _ _ _ _ _ _ _ _ _ _ _ _ _ _ _ _ _ _ _ _ _ _ _ a ha, if_neg hv, add_zero])
    (fun t h0 i => by
      rw [outsAt0_B m c t h0]
      obtain ⟨a, j, rfl⟩ : ∃ a j, i = ix2 a j := ⟨i 0, i 1, eq_ix2 i⟩
      by_cases ha : a = 0
      · subst ha
        dsimp only
        rw [next_dg _ _ _ _ _ _ _ _ _ _ _ _ _ _ _ _ _ _ _ _ _ _ _ _ _ _ _ _ _ _ _ _ _ _ _ _ _ _ _ _ _ _ _ _ _ _ _ _ _ _ _ _ _ _ _ _ (reads_at h t)]
        rfl
      · have hv : ¬ ((ix2 a j : S8x1024.Idx) 0).val = 0 := fun e => ha (Fin.ext e)
        dsimp only
        rw [next_dg_rest _ _ _ _ _ _ _ _ _ _ _ _ _ _ _ _ _ _ _ _ _ _ _ _ _ _ _ _ _ _ _ _ _ _ _ _ _ _ _ _ _ _ _ _ _ _ _ _ _ _ _ _ _ _ _ _ a ha, if_neg hv, add_zero])
    (le_of_eq N_0) t0_7 rfl _]
  exact zero_add (_ : EReal)

theorem dg_final (h : Handed m c W B) (j : Fin 1024) :
    (dats m 0 c).arrAt 16 cfg0.N (ix2 0 j) = ∑ b, dg W (B b) j := by
  rw [dg_sum h]
  exact sum_parts fun b => dg W (B b) j

theorem dg_final_rest (h : Handed m c W B) (a : Fin 8) (ha : a ≠ 0) (j : Fin 1024) :
    (dats m 0 c).arrAt 16 cfg0.N (ix2 a j) = (0 : EReal) := by
  rw [dg_sum h]
  exact Finset.sum_eq_zero (M := EReal) fun p _ => if_neg (show ¬ a.val = 0 from fun e => ha (Fin.ext e))

end Gating
-- ==== Proof.Equal.lean ====
/-
  What the call leaves in its six arrays is what the reference computes from the same eight arguments, and the precondition
  says of each argument that all its entries are real numbers.
-/
module

public import proofs.«01_k».proof.Proof.HostSide
public import proofs.«01_k».proof.Proof.Final
public import proofs.«01_k».proof.Pre_all_finite
public import Idealize.ShloMosaic.Lib.KernelVsHost

@[expose] public section

noncomputable section

namespace Gating

open Idealize.ShloMosaic hiding ix1 ix2 ix3 ix4 eq_ix1 eq_ix2 eq_ix3 eq_ix4
open Idealize.ShloMosaic.TcCoe Idealize.ShloMosaic.ValueIdx Cert.KernelIdeal Cert.KernelIdeal.Gen
open Cert.ReferenceIdeal.Read

/-! ### From the precondition -/

/-- The precondition's test of one value: its absolute value is below the infinity. -/
theorem real_of_below (x : EReal)
    (h : FloatOps.cmpf (F := Ideal) (φ := .f32) .olt (FloatOps.hostAbsf (F := Ideal) (φ := .f32) x) (FloatOps.ofBits (F := Ideal) .f32 0x7F800000#32) = 1#1) :
    IsReal x := by
  have e := (Ideal.xori_weird_eq_hostAbsf_olt_inf x).trans h
  by_cases hx : x = ⊤ ∨ x = ⊥
  · exfalso
    have e' : IntOp.xori (BitVec.ofBool (decide (x = ⊤ ∨ x = ⊥))) 1#1 = 1#1 := e
    rw [decide_eq_true hx] at e'
    exact absurd e' (by decide)
  · push Not at hx
    exact ⟨x.toReal, (EReal.coe_toReal hx.1 hx.2).symm⟩

instance finiteFacts : Cert.Pre_all_finite.Facts where
  bcast_S_S4096x1024 := by decide
  bcast_S_S1x1024 := by decide
  bcast_S_S1024x2048 := by decide
  bcast_S_S8x128x128 := by decide
  bcast_S_S8x128 := by decide
  bcast_S_S1024x1024 := by decide

variable (m : (ℓ : Loc nD τ sig) → Buf (Elt Ideal) ℓ) (c : Dev nD)

/-- All eight arguments are real. -/
abbrev RealArgs : Prop := AllReal (in0 m c) (in1 m c) (in2 m c) (in3 m c) (in4 m c) (in5 m c) (in6 m c) (in7 m c)

/-! ### The six arrays -/

/-- Two arrays of 4096 rows are equal when their 32 blocks of 128 rows are. -/
theorem rows_ext {n : Nat} {f g : (⟨2, ![4096, n]⟩ : Shape).Idx → EReal}
    (h : ∀ b r j, f (ix2 (rowAt b r) j) = g (ix2 (rowAt b r) j)) : f = g := by
  funext i
  rw [eq_ix2 i]
  have e := h ⟨(i 0).val / 128, by have := (i 0).isLt; change _ < 4096 at this; omega⟩ ⟨(i 0).val % 128, by omega⟩ (i 1)
  rwa [rowAt_divmod (i 0)] at e

theorem out_dx (h : RealArgs m c) : @Eq (FVec Ideal Cert.ReferenceIdeal.S4096x1024 .f32) ((dats m 0 c).arrAt 11 cfg0.N)
    (val_main_v155 (F := Ideal) (in0 m c) (in1 m c) (in2 m c) (in3 m c) (in4 m c) (in5 m c) (in6 m c) (in7 m c)) :=
  rows_ext fun b r j => (dx_final (handed m c) b r j).trans (dx_at h b r j).symm

theorem out_dz (h : RealArgs m c) : @Eq (FVec Ideal Cert.ReferenceIdeal.S4096x2048 .bf16) ((dats m 0 c).arrAt 12 cfg0.N)
    (val_main_v156 (F := Ideal) (in0 m c) (in1 m c) (in2 m c) (in3 m c) (in4 m c) (in5 m c) (in6 m c) (in7 m c)) :=
  rows_ext fun b r j => (dz_final (handed m c) b r j).trans (dz_word h b r j).symm

/-- Two arrays of eight square matrices are equal when their entries are. -/
theorem squares_ext {f g : S8x128x128.Idx → EReal} (h : ∀ a p q, f (ix3 a p q) = g (ix3 a p q)) : f = g := by
  funext i
  rw [eq_ix3 i]
  exact h _ _ _

/-- Two arrays of eight rows, zero below the first, are equal when their first rows are. -/
theorem padded_ext {f g : (⟨2, ![8, 1024]⟩ : Shape).Idx → EReal} (s : Fin 1024 → EReal) (h : ∀ j, f (ix2 0 j) = s j)
    (hr : ∀ a, a ≠ 0 → ∀ j, f (ix2 a j) = 0) (hg : ∀ a j, g (ix2 a j) = if a = 0 then s j else 0) : f = g := by
  funext i
  obtain ⟨a, ha⟩ : ∃ a : Fin 8, a = i 0 := ⟨_, rfl⟩
  obtain ⟨j, hj⟩ : ∃ j : Fin 1024, j = i 1 := ⟨_, rfl⟩
  rw [eq_ix2 i, ← ha, ← hj]
  refine Eq.trans ?_ (hg a j).symm
  by_cases h0 : a = 0
  · rw [if_pos h0, h0]
    exact h _
  · rw [if_neg h0]
    exact hr _ h0 _

theorem out_dwm : @Eq (FVec Ideal Cert.ReferenceIdeal.S8x128x128 .f32) ((dats m 0 c).arrAt 13 cfg0.N)
    (val_main_v81 (F := Ideal) (in0 m c) (in1 m c) (in2 m c) (in3 m c) (in6 m c) (in7 m c)) :=
  squares_ext fun a p q => (dwm_final (handed m c) a p q).trans (dwm_at a p q).symm

theorem out_dbs : @Eq (FVec Ideal Cert.ReferenceIdeal.S8x128x128 .f32) ((dats m 0 c).arrAt 14 cfg0.N)
    (val_main_v158 (F := Ideal) (in0 m c) (in1 m c) (in2 m c) (in6 m c) (in7 m c)) :=
  squares_ext fun a p q => (dbs_final (handed m c) a p q).trans (dbs_at a p q).symm

theorem out_dgv : @Eq (FVec Ideal Cert.ReferenceIdeal.S8x1024 .f32) ((dats m 0 c).arrAt 15 cfg0.N)
    (val_main_v159 (F := Ideal) (in0 m c) (in1 m c) (in2 m c) (in4 m c) (in6 m c) (in7 m c)) :=
  padded_ext _ (dgv_final (handed m c)) (dgv_final_rest (handed m c)) dgv_padded

theorem out_dg (h : RealArgs m c) : @Eq (FVec Ideal Cert.ReferenceIdeal.S8x1024 .f32) ((dats m 0 c).arrAt 16 cfg0.N)
    (val_main_v160 (F := Ideal) (in0 m c) (in1 m c) (in2 m c) (in3 m c) (in4 m c) (in5 m c) (in6 m c) (in7 m c)) :=
  padded_ext _ (dg_final (handed m c)) (dg_final_rest (handed m c)) (dg_padded h)

end Gating
-- ==== Proof.FeedEqual.lean ====
/-
  What the feed-forward layer's backward call leaves in its four arrays is what the reference computes from the same six
  arguments: the host lines hand over the saved derivatives and the transposed weights as the row formulas read them.
-/
module

public import proofs.«01_k».proof.Proof.FeedFinal
public import proofs.«01_k».proof.Proof.FeedRef
public import proofs.«01_k».proof.Proof.Equal
public import proofs.«01_k».proof.Pre_all_finite2

@[expose] public section

noncomputable section

namespace Feeding

open Idealize.ShloMosaic hiding ix1 ix2 ix3 ix4 eq_ix1 eq_ix2 eq_ix3 eq_ix4
open Idealize.ShloMosaic.TcCoe Idealize.ShloMosaic.ValueIdx Cert.Kernel2Ideal Cert.Kernel2Ideal.Gen
open Cert.Reference2Ideal.Read

instance finiteFacts : Cert.Pre_all_finite2.Facts where
  bcast_S_S4096x1024 := by decide
  bcast_S_S1x1024 := by decide
  bcast_S_S1024x2816 := by decide
  bcast_S_S2816x1024 := by decide

variable (m : (ℓ : Loc nD τ sig) → Buf (Elt Ideal) ℓ) (c : Dev nD)

/-- The `k`-th argument, as launched. -/
abbrev in0 : S4096x1024.Idx → EReal := m ((c : Thread nD τ).loc main_arg0)
abbrev in1 : S1x1024.Idx → EReal := m ((c : Thread nD τ).loc main_arg1)
abbrev in2 : S1024x2816.Idx → EReal := m ((c : Thread nD τ).loc main_arg2)
abbrev in3 : S1024x2816.Idx → EReal := m ((c : Thread nD τ).loc main_arg3)
abbrev in4 : S2816x1024.Idx → EReal := m ((c : Thread nD τ).loc main_arg4)
abbrev in5 : S4096x1024.Idx → EReal := m ((c : Thread nD τ).loc main_arg5)

/-! ### What the call is handed -/

/-- The saved derivative of the gated branch, over all rows. -/
def savedGate (a b l w : FVec Ideal S4096x2816 .f32) : FVec Ideal S4096x2816 .f32 := mulf b (mulf l (addf w (mulf a (subf w l))))

theorem gate_in : V m c main_v28 = savedGate (val_main_v15 (F := Ideal) (in0 m c) (in1 m c) (in2 m c))
    (val_main_v16 (F := Ideal) (in0 m c) (in1 m c) (in3 m c)) (val_main_v22 (F := Ideal) (in0 m c) (in1 m c) (in2 m c))
    (val_main_v23 (F := Ideal)) := by
  entry_read
  rfl

theorem linear_in : V m c main_v29 = val_main_v26 (F := Ideal) (in0 m c) (in1 m c) (in2 m c) := by
  entry_read
  rfl

theorem wg_in : V m c main_v31 = transpose S2816x1024 [1, 0] (in2 m c) transposes_S1024x2816_S2816x1024_1_0 := by
  entry_read
  rfl

theorem wu_in : V m c main_v33 = transpose S2816x1024 [1, 0] (in3 m c) transposes_S1024x2816_S2816x1024_1_0 := by
  entry_read
  rfl

theorem wd_in : V m c main_v34 = in4 m c := by
  entry_read
  rfl

theorem x_in : V m c main_arg0 = in0 m c := by
  entry_read
  rfl

theorem g_in : V m c main_arg1 = in1 m c := by
  entry_read
  rfl

theorem ct_in : V m c main_arg5 = in5 m c := by
  entry_read
  rfl

/-- A weight turned over. -/
theorem turned (f : S1024x2816.Idx → EReal) (k : Fin 2816) (j : Fin 1024) :
    transpose S2816x1024 [1, 0] f transposes_S1024x2816_S2816x1024_1_0 (ix2 k j) = f (ix2 j k) := by
  pointwise
  rfl

theorem gate_read (n : Fin 4096) (k : Fin 2816) : V m c main_v28 (ix2 n k)
    = bRow (in0 m c) (in1 m c) (in3 m c) n k * slope (aRow (in0 m c) (in1 m c) (in2 m c) n k) := by
  rw [gate_in]
  show _ * (val_main_v22 (F := Ideal) _ _ _ (ix2 n k) * (val_main_v23 (F := Ideal) (ix2 n k)
    + _ * (val_main_v23 (F := Ideal) (ix2 n k) - val_main_v22 (F := Ideal) _ _ _ (ix2 n k)))) = _
  have e : val_main_v23 (F := Ideal) (ix2 n k) = (1 : EReal) := by
    rw [val_main_v23_apply, val_main_cst_5_apply]
    exact Gating.ofBits_one
  rw [logistic_at, e]
  rfl

theorem handed : Handed m c (refParams (in1 m c) (in2 m c) (in3 m c) (in4 m c))
    (refRow (in0 m c) (in1 m c) (in2 m c) (in3 m c) (in5 m c)) where
  ct n j := congrFun (ct_in m c) _
  fa n k := gate_read m c n k
  fb n k := (congrFun (linear_in m c) _).trans (unit_at _ _ _ n k)
  x n j := congrFun (x_in m c) _
  g j := congrFun (g_in m c) _
  wg k j := (congrFun (wg_in m c) _).trans (turned _ k j)
  wu k j := (congrFun (wu_in m c) _).trans (turned _ k j)
  wd k j := congrFun (wd_in m c) _

/-! ### The four arrays -/

/-- All six arguments are real. -/
abbrev RealArgs : Prop := Finite (in0 m c) (in1 m c) (in2 m c) (in3 m c) (in4 m c) (in5 m c)

theorem out_dx (h : RealArgs m c) : @Eq (FVec Ideal Cert.Reference2Ideal.S4096x1024 .f32) ((dats m 0 c).arrAt 8 cfg0.N)
    (val_main_v58 (F := Ideal) (in0 m c) (in1 m c) (in2 m c) (in3 m c) (in4 m c) (in5 m c)) :=
  (dx_final (handed m c)).trans (stacked_ext (dx_at h))

theorem out_da (h : RealArgs m c) : @Eq (FVec Ideal Cert.Reference2Ideal.S4096x2816 .bf16) ((dats m 0 c).arrAt 9 cfg0.N)
    (val_main_v59 (F := Ideal) (in0 m c) (in1 m c) (in2 m c) (in3 m c) (in4 m c) (in5 m c)) :=
  (da_final (handed m c)).trans (stacked_ext (da_at h))

theorem out_db : @Eq (FVec Ideal Cert.Reference2Ideal.S4096x2816 .bf16) ((dats m 0 c).arrAt 10 cfg0.N)
    (val_main_v60 (F := Ideal) (in0 m c) (in1 m c) (in2 m c) (in4 m c) (in5 m c)) :=
  (db_final (handed m c)).trans (stacked_ext (db_at _ _ _ _ _ _))

theorem out_dg (h : RealArgs m c) : @Eq (FVec Ideal Cert.Reference2Ideal.S8x1024 .f32) ((dats m 0 c).arrAt 11 cfg0.N)
    (val_main_v61 (F := Ideal) (in0 m c) (in1 m c) (in2 m c) (in3 m c) (in4 m c) (in5 m c)) :=
  Gating.padded_ext _ (dg_final (handed m c)) (dg_final_rest (handed m c)) (dg_padded h)

end Feeding
-- ==== Proof.FeedClaim.lean ====
/-
  The claims of the feed-forward layer's backward call: the frame of its reference, and the equality of its four results
  with the reference's.
-/
module

public import proofs.«01_k».proof.Defs
public import proofs.«01_k».proof.Proof.Gen.Reference2Ideal.Run
public import proofs.«01_k».proof.Proof.Same
public import proofs.«01_k».proof.Proof.FeedEqual

@[expose] public section

namespace Feeding

open Idealize Idealize.ShloMosaic Idealize.ShloMosaic.TcCoe

/-- Under the precondition every argument of every device is real. -/
theorem realArgs {m : (ℓ : Loc Cert.Kernel2Ideal.nD Cert.Kernel2Ideal.τ Cert.Kernel2Ideal.sig) → Buf (Elt Ideal) ℓ}
    (h : Cert.Pre_Kernel2Ideal_all_finite2 m) (c : Dev Cert.Kernel2Ideal.nD) : RealArgs m c := by
  obtain ⟨h0, h1, h2, h3, h4, h5⟩ := h c
  exact ⟨fun i => Gating.real_of_below _ (congrFun h0 i), fun i => Gating.real_of_below _ (congrFun h1 i),
    fun i => Gating.real_of_below _ (congrFun h2 i), fun i => Gating.real_of_below _ (congrFun h3 i),
    fun i => Gating.real_of_below _ (congrFun h4 i), fun i => Gating.real_of_below _ (congrFun h5 i)⟩

/-- The reference ends, its arguments unchanged; it has no semaphores. -/
theorem frameReference : Cert.quiescent_Reference2Ideal := by
  intro m g _
  refine (θ_run _ _ _).mono (fun r h => ⟨fun c => ?_, sem_eq_zero_of_no_sems (by decide) _⟩) (Cert.Reference2Ideal.Value.run m g)
  exact (h c).2.2.2.2

set_option maxHeartbeats 8000000 in
/-- The four results of the call are the reference's. -/
theorem equal : Cert.algebraic_Kernel2Ideal_Reference2Ideal_pre_all_finite2 := by
  intro m g m' g' hpre hagree
  refine ⟨fun c => (Cert.Kernel2Ideal.Gen.dats m 0 c).arrAt 8 Cert.Kernel2Ideal.cfg0.N,
    fun c => (Cert.Kernel2Ideal.Gen.dats m 0 c).arrAt 9 Cert.Kernel2Ideal.cfg0.N,
    fun c => (Cert.Kernel2Ideal.Gen.dats m 0 c).arrAt 10 Cert.Kernel2Ideal.cfg0.N,
    fun c => (Cert.Kernel2Ideal.Gen.dats m 0 c).arrAt 11 Cert.Kernel2Ideal.cfg0.N, ?_, ?_⟩
  · exact Cert.Kernel2Ideal.Value.run_blocks m g
  · refine (θ_run _ _ _).mono (fun r h c => ?_) (Cert.Reference2Ideal.Value.run m' g')
    obtain ⟨e0, e1, e2, e3, a0, a1, a2, a3, a4, a5⟩ := h c
    obtain ⟨p0, p1, p2, p3, p4, p5⟩ := hagree c
    have hr := realArgs hpre c
    have q0 : m' ((c.tc : Thread Cert.Reference2Ideal.nD Cert.Reference2Ideal.τ).loc Cert.Reference2Ideal.main_arg0) = in0 m c := p0
    have q1 : m' ((c.tc : Thread Cert.Reference2Ideal.nD Cert.Reference2Ideal.τ).loc Cert.Reference2Ideal.main_arg1) = in1 m c := p1
    have q2 : m' ((c.tc : Thread Cert.Reference2Ideal.nD Cert.Reference2Ideal.τ).loc Cert.Reference2Ideal.main_arg2) = in2 m c := p2
    have q3 : m' ((c.tc : Thread Cert.Reference2Ideal.nD Cert.Reference2Ideal.τ).loc Cert.Reference2Ideal.main_arg3) = in3 m c := p3
    have q4 : m' ((c.tc : Thread Cert.Reference2Ideal.nD Cert.Reference2Ideal.τ).loc Cert.Reference2Ideal.main_arg4) = in4 m c := p4
    have q5 : m' ((c.tc : Thread Cert.Reference2Ideal.nD Cert.Reference2Ideal.τ).loc Cert.Reference2Ideal.main_arg5) = in5 m c := p5
    have s0 := Gating.same6 (Cert.Reference2Ideal.Read.val_main_v58 (F := Ideal)) q0 q1 q2 q3 q4 q5
    have t0 := e0.trans (Cert.Reference2Ideal.Read.val_main_v58_eq (F := Ideal) m' c)
    have u0 := s0.trans (out_dx m c hr).symm
    have s1 := Gating.same6 (Cert.Reference2Ideal.Read.val_main_v59 (F := Ideal)) q0 q1 q2 q3 q4 q5
    have t1 := e1.trans (Cert.Reference2Ideal.Read.val_main_v59_eq (F := Ideal) m' c)
    have u1 := s1.trans (out_da m c hr).symm
    have s2 := Gating.same5 (Cert.Reference2Ideal.Read.val_main_v60 (F := Ideal)) q0 q1 q2 q4 q5
    have t2 := e2.trans (Cert.Reference2Ideal.Read.val_main_v60_eq (F := Ideal) _ _ _ _ _)
    have u2 := s2.trans (out_db m c).symm
    have s3 := Gating.same6 (Cert.Reference2Ideal.Read.val_main_v61 (F := Ideal)) q0 q1 q2 q3 q4 q5
    have t3 := e3.trans (Cert.Reference2Ideal.Read.val_main_v61_eq (F := Ideal) m' c)
    have u3 := s3.trans (out_dg m c hr).symm
    exact ⟨t0.trans u0, t1.trans u1, t2.trans u2, t3.trans u3, a0, a1, a2, a3, a4, a5⟩

end Feeding
-- ==== Proof.FwdFormulas.lean ====
/-
  The feed-forward layer's forward call, one row at a time, as formulas over the extended reals: the normed row, the two
  hidden products, the derivatives kept for the backward call, the hidden product and the layer's result.
-/
module

public import proofs.«01_k».proof.Proof.FeedFormulas

@[expose] public section

noncomputable section

namespace Forward

open Idealize.ShloMosaic
open Gating (rmsHat)
open Feeding (Params col unit slope)

variable (L : Params) (x : Fin 1024 → EReal)

/-- The normed row. -/
def h (j : Fin 1024) : EReal := rmsHat x j * L.g j
/-- The gated product. -/
def a (k : Fin 2816) : EReal := ∑ j, h L x j * L.wg k j
/-- The linear product. -/
def b (k : Fin 2816) : EReal := ∑ j, h L x j * L.wu k j
/-- The derivative of the hidden product along the gated branch. -/
def fa (k : Fin 2816) : EReal := b L x k * slope (a L x k)
/-- The derivative of the hidden product along the linear branch. -/
def fb (k : Fin 2816) : EReal := unit (a L x k)
/-- The hidden product. -/
def s (k : Fin 2816) : EReal := unit (a L x k) * b L x k
/-- The layer's result. -/
def o (j : Fin 1024) : EReal := x j + ∑ k, s L x k * L.wd k j

/-- The last run of hidden channels fits. -/
theorem last_run : 2304 + 512 ≤ 2816 := by decide

/-- A sum over the hidden channels, in the four runs of the forward call. -/
theorem sum_runs (f : Fin 2816 → EReal) : ∑ k, f k
    = (∑ q, f (col 0 768 (by decide) q)) + (∑ q, f (col 768 768 (by decide) q)) + (∑ q, f (col 1536 768 (by decide) q))
      + ∑ q, f (col 2304 512 (by decide) q) := by
  refine (Fin.sum_univ_add (a := 2304) (b := 512) f).trans (congrArg₂ (· + ·) ?_ rfl)
  refine (Fin.sum_univ_add (a := 1536) (b := 768) fun i => f (Fin.castAdd 512 i)).trans (congrArg₂ (· + ·) ?_ rfl)
  refine (Fin.sum_univ_add (a := 768) (b := 768) fun i => f (Fin.castAdd 512 (Fin.castAdd 768 i))).trans (congrArg₂ (· + ·) ?_ rfl)
  exact Finset.sum_congr rfl fun q _ => congrArg f (Fin.ext (by show q.val = 0 + q.val; omega))

/-- One run's part of the result. -/
def part (o n : ℕ) (ho : o + n ≤ 2816) (j : Fin 1024) : EReal := ∑ q, s L x (col o n ho q) * L.wd (col o n ho q) j

theorem o_parts (j : Fin 1024) : x j + part L x 0 768 (by decide) j + part L x 768 768 (by decide) j
    + part L x 1536 768 (by decide) j + part L x 2304 512 (by decide) j = o L x j := by
  unfold o part
  rw [sum_runs (fun k => s L x k * L.wd k j)]
  simp only [add_assoc]

end Forward
-- ==== Proof.FwdPays.lean ====
/-
  The values the feed-forward layer's forward call stores for a block of 512 rows, read at an index: the normed rows, then
  four runs of hidden channels, three of 768 and one of 512, whose products are added to the rows one after the other.
-/
module

public import proofs.«01_k».proof.Proof.FwdFormulas
public import proofs.«01_k».proof.Proof.Stages
public import proofs.«01_k».proof.Proof.Gen.Kernel3Ideal.Skeleton

@[expose] public section

noncomputable section

namespace Forward

open Idealize.ShloMosaic Idealize.ShloMosaic.ValueIdx Cert.Kernel3Ideal Cert.Kernel3Ideal.Gen
open Idealize.ShloMosaic.Ideal (matmul_constant_zero_apply multiReduction_add_single)
open Gating (mean rmsInv rmsHat eps ofBits_1024 ofBits_one)
open Feeding (Params col unit slope)

variable {φ₁ φ₂ : FTy}

/-! ### Products and sums -/

/-- Rows against rows, 768 of them. -/
theorem rows_wide (u : FVec Ideal S512x1024 φ₁) (v : FVec Ideal S768x1024 φ₂) (i : Fin 512) (j : Fin 768) :
    matmul dot_S512x1024_S768x1024_S512x768_1_1_0_0_n_n none u v (constant S512x768 .f32 0x00000000#32) (ix2 i j)
      = ∑ q : Fin 1024, u (ix2 i q) * v (ix2 j q) := by
  simp only [matmul]
  rw [matmul_constant_zero_apply, ← Equiv.sum_comp (contrEquiv1 dot_S512x1024_S768x1024_S512x768_1_1_0_0_n_n 1024 rfl rfl).symm]
  refine Finset.sum_congr rfl fun q _ => congrArg₂ (· * ·) (congrArg u ?_) (congrArg v ?_) <;>
    exact funext fun d => match d with | ⟨0, _⟩ => rfl | ⟨1, _⟩ => rfl

/-- Rows against rows, 512 of them. -/
theorem rows_narrow (u : FVec Ideal S512x1024 φ₁) (v : FVec Ideal S512x1024 φ₂) (i : Fin 512) (j : Fin 512) :
    matmul dot_S512x1024_S512x1024_S512x512_1_1_0_0_n_n none u v (constant S512x512 .f32 0x00000000#32) (ix2 i j)
      = ∑ q : Fin 1024, u (ix2 i q) * v (ix2 j q) := by
  simp only [matmul]
  rw [matmul_constant_zero_apply, ← Equiv.sum_comp (contrEquiv1 dot_S512x1024_S512x1024_S512x512_1_1_0_0_n_n 1024 rfl rfl).symm]
  refine Finset.sum_congr rfl fun q _ => congrArg₂ (· * ·) (congrArg u ?_) (congrArg v ?_) <;>
    exact funext fun d => match d with | ⟨0, _⟩ => rfl | ⟨1, _⟩ => rfl

/-- Rows against columns of 768. -/
theorem cols_wide (u : FVec Ideal S512x768 φ₁) (v : FVec Ideal S768x1024 φ₂) (i : Fin 512) (j : Fin 1024) :
    matmul dot_S512x768_S768x1024_S512x1024_1_0_0_1_n_n none u v (constant S512x1024 .f32 0x00000000#32) (ix2 i j)
      = ∑ q : Fin 768, u (ix2 i q) * v (ix2 q j) := by
  simp only [matmul]
  rw [matmul_constant_zero_apply, ← Equiv.sum_comp (contrEquiv1 dot_S512x768_S768x1024_S512x1024_1_0_0_1_n_n 768 rfl rfl).symm]
  refine Finset.sum_congr rfl fun q _ => congrArg₂ (· * ·) (congrArg u ?_) (congrArg v ?_) <;>
    exact funext fun d => match d with | ⟨0, _⟩ => rfl | ⟨1, _⟩ => rfl

/-- Rows against columns of 512. -/
theorem cols_narrow (u : FVec Ideal S512x512 φ₁) (v : FVec Ideal S512x1024 φ₂) (i : Fin 512) (j : Fin 1024) :
    matmul dot_S512x512_S512x1024_S512x1024_1_0_0_1_n_n none u v (constant S512x1024 .f32 0x00000000#32) (ix2 i j)
      = ∑ q : Fin 512, u (ix2 i q) * v (ix2 q j) := by
  simp only [matmul]
  rw [matmul_constant_zero_apply, ← Equiv.sum_comp (contrEquiv1 dot_S512x512_S512x1024_S512x1024_1_0_0_1_n_n 512 rfl rfl).symm]
  refine Finset.sum_congr rfl fun q _ => congrArg₂ (· * ·) (congrArg u ?_) (congrArg v ?_) <;>
    exact funext fun d => match d with | ⟨0, _⟩ => rfl | ⟨1, _⟩ => rfl

/-- The kernel's mean of a row. -/
theorem mean_row {f : FVec Ideal S512x1024 .f32} {g : Fin 1024 → EReal} (i : Fin 512) (u : Fin 1) (hf : ∀ j, f (ix2 i j) = g j) :
    divf (shapeCast S512x1 (multiReduction .add [1] S512 f 0x00000000#32 reduces_S512x1024_S512 (.inl rfl) rfl) shapeCasts_S512_S512x1)
      (broadcast S512x1 (Scalar.ofBits .f32 0x44800000#32)) (ix2 i u) = mean g := by
  show Ideal.div _ (Ideal.ofBits .f32 0x44800000#32) = _
  rw [ofBits_1024, shapeCast_apply _ _ (ix2 i u) (ix1 i) (by rw [Shape.rowMajor_val_one, Shape.rowMajor_val_two]; simp)]
  refine congrArg (fun s => Ideal.div s _) ((multiReduction_add_single f _ _ _ _ _).trans (Finset.sum_congr rfl fun j _ => ?_))
  rw [← hf j]
  exact congrArg f (funext fun d => match d with | ⟨0, _⟩ => rfl | ⟨1, _⟩ => rfl)

/-- A column laid out over the rows' entries. -/
theorem spread_col {α : Type} (f : S512x1.Idx → α) (i : Fin 512) (j : Fin 1024) :
    broadcastTo S512x1024 f broadcasts_S512x1_S512x1024 (ix2 i j) = f (ix2 i 0) :=
  broadcastTo_apply _ _ _ _ fun d => match d with | ⟨0, _⟩ => rfl | ⟨1, _⟩ => rfl

/-- A row laid out over all rows. -/
theorem spread_row {α : Type} (f : S1x1024.Idx → α) (i : Fin 512) (j : Fin 1024) :
    broadcastTo S512x1024 f broadcasts_S1x1024_S512x1024 (ix2 i j) = f (ix2 0 j) :=
  broadcastTo_apply _ _ _ _ fun d => match d with | ⟨0, _⟩ => rfl | ⟨1, _⟩ => rfl

/-- The derivative along the gated branch, at an index, whatever the run's length. -/
theorem slope_read {S : Shape} (u v : FVec Ideal S .f32) (i : S.Idx) :
    mulf v (mulf (logistic u) (addf (broadcast S (Scalar.ofBits .f32 0x3F800000#32))
      (mulf u (subf (broadcast S (Scalar.ofBits .f32 0x3F800000#32)) (logistic u))))) i = v i * slope (u i) := by
  show v i * (Ideal.logistic (u i) * (Ideal.ofBits .f32 0x3F800000#32 + u i * (Ideal.ofBits .f32 0x3F800000#32 - Ideal.logistic (u i)))) = _
  rw [ofBits_one]
  rfl

variable {L : Params} {X : Fin 512 → Fin 1024 → EReal}

/-! ### The norm -/

section Norm

variable {v0 : Vec Ideal S512x1024 .f32} {v11 : Vec Ideal S1x1024 .f32} (hx : ∀ r j, v0 (ix2 r j) = X r j)
  (hg : ∀ j, v11 (ix2 0 j) = L.g j)
include hx hg

theorem h_read (r : Fin 512) (j : Fin 1024) : k0_pay5 v0 v11 (ix2 r j) = h L (X r) j := by
  have hi : (rsqrt (addf (divf (shapeCast S512x1 (multiReduction .add [1] S512 (mulf v0 v0 : FVec Ideal S512x1024 .f32) 0x00000000#32 reduces_S512x1024_S512 (.inl rfl) rfl) shapeCasts_S512_S512x1)
      (broadcast S512x1 (Scalar.ofBits .f32 0x44800000#32))) (broadcast S512x1 (Scalar.ofBits .f32 0x358637BD#32))) : FVec Ideal S512x1 .f32) (ix2 r 0) = rmsInv (X r) := by
    refine congrArg (fun s => Ideal.rsqrt (s + eps)) (mean_row r 0 fun j => ?_)
    rw [mulf_apply, hx]
  unfold k0_pay5 h rmsHat
  show (mulf (mulf (v0 : FVec Ideal S512x1024 .f32) _) _ : FVec Ideal S512x1024 .f32) (ix2 r j) = _
  rw [mulf_apply, mulf_apply, spread_col, spread_row, hx, hi, hg]

end Norm

variable {v : FVec Ideal S512x1024 .bf16} (hv : ∀ r j, v (ix2 r j) = h L (X r) j)

/-! ### A run of 768 channels -/

section Wide

variable {p : ℕ} {hp : p + 768 ≤ 2816} {w w' : Vec Ideal S768x1024 .bf16}
  (hw : ∀ q j, w (ix2 q j) = L.wg (col p 768 hp q) j) (hw' : ∀ q j, w' (ix2 q j) = L.wu (col p 768 hp q) j)

include hv in
theorem product_wide {f : Fin 768 → Fin 1024 → EReal} (hf : ∀ q j, w (ix2 q j) = f q j) (r : Fin 512) (q : Fin 768) :
    k0_pay13 v w (ix2 r q) = ∑ j, h L (X r) j * f q j := by
  unfold k0_pay13
  refine (rows_wide _ _ _ _).trans ?_
  rw [shapeCast_self]
  exact Finset.sum_congr rfl fun j _ => congrArg₂ (· * ·) (hv r j) (hf q j)

include hv hw

theorem a_wide (r : Fin 512) (q : Fin 768) : k0_pay13 v w (ix2 r q) = a L (X r) (col p 768 hp q) := product_wide hv hw r q

theorem fb_wide (r : Fin 512) (q : Fin 768) : k0_pay19 v w (ix2 r q) = fb L (X r) (col p 768 hp q) :=
  congrArg unit (a_wide hv hw r q)

include hw'

theorem fa_wide (r : Fin 512) (q : Fin 768) : k0_pay18 v w w' (ix2 r q) = fa L (X r) (col p 768 hp q) :=
  (slope_read (k0_pay13 v w) (k0_pay14 v w') _).trans
    (congrArg₂ (fun b a => b * slope a) (product_wide hv hw' r q) (a_wide hv hw r q))

theorem s_wide (r : Fin 512) (q : Fin 768) : k0_pay17 v w w' (ix2 r q) = s L (X r) (col p 768 hp q) :=
  congrArg₂ (fun a b => unit a * b) (a_wide hv hw r q) (product_wide hv hw' r q)

end Wide

/-! ### The run of 512 channels -/

section Narrow

variable {w w' : Vec Ideal S512x1024 .bf16}
  (hw : ∀ q j, w (ix2 q j) = L.wg (col 2304 512 last_run q) j) (hw' : ∀ q j, w' (ix2 q j) = L.wu (col 2304 512 last_run q) j)

include hv in
theorem product_narrow {f : Fin 512 → Fin 1024 → EReal} (hf : ∀ q j, w (ix2 q j) = f q j) (r : Fin 512) (q : Fin 512) :
    k0_pay29 v w (ix2 r q) = ∑ j, h L (X r) j * f q j := by
  unfold k0_pay29
  refine (rows_narrow _ _ _ _).trans ?_
  rw [shapeCast_self]
  exact Finset.sum_congr rfl fun j _ => congrArg₂ (· * ·) (hv r j) (hf q j)

include hv hw

theorem a_narrow (r : Fin 512) (q : Fin 512) : k0_pay29 v w (ix2 r q) = a L (X r) (col 2304 512 last_run q) := product_narrow hv hw r q

theorem fb_narrow (r : Fin 512) (q : Fin 512) : k0_pay3 (k0_pay32 v w) (ix2 r q) = fb L (X r) (col 2304 512 last_run q) :=
  congrArg unit (a_narrow hv hw r q)

include hw'

theorem fa_narrow (r : Fin 512) (q : Fin 512) :
    k0_pay2 (k0_pay29 v w) (k0_pay30 v w') (k0_pay31 v w) (ix2 r q) = fa L (X r) (col 2304 512 last_run q) :=
  (slope_read (k0_pay29 v w) (k0_pay30 v w') _).trans
    (congrArg₂ (fun b a => b * slope a) (product_narrow hv hw' r q) (a_narrow hv hw r q))

theorem s_narrow (r : Fin 512) (q : Fin 512) : k0_pay1 (k0_pay33 v w w') (ix2 r q) = s L (X r) (col 2304 512 last_run q) :=
  congrArg₂ (fun a b => unit a * b) (a_narrow hv hw r q) (product_narrow hv hw' r q)

end Narrow

/-! ### The layer's result -/

/-- A run of 768 channels added. -/
theorem added_wide {p : ℕ} {hp : p + 768 ≤ 2816} {c : FVec Ideal S512x1024 .f32} {y : Fin 512 → Fin 1024 → EReal} {t : FVec Ideal S512x768 .bf16}
    {w : Vec Ideal S768x1024 .bf16} (hc : ∀ r j, c (ix2 r j) = y r j) (ht : ∀ r q, t (ix2 r q) = s L (X r) (col p 768 hp q))
    (hw : ∀ q j, w (ix2 q j) = L.wd (col p 768 hp q) j) (r : Fin 512) (j : Fin 1024) :
    addf c (matmul dot_S512x768_S768x1024_S512x1024_1_0_0_1_n_n none t
      (shapeCast S768x1024 w shapeCasts_S768x1024_S768x1024 : FVec Ideal S768x1024 .bf16) (constant S512x1024 .f32 0x00000000#32)) (ix2 r j)
      = y r j + part L (X r) p 768 hp j := by
  rw [addf_apply, cols_wide, shapeCast_self, hc]
  exact congrArg (y r j + ·) (Finset.sum_congr rfl fun q _ => congrArg₂ (· * ·) (ht r q) (hw q j))

/-- The run of 512 channels added. -/
theorem added_narrow {c : FVec Ideal S512x1024 .f32} {y : Fin 512 → Fin 1024 → EReal} {t : FVec Ideal S512x512 .f32}
    {w : Vec Ideal S512x1024 .bf16} (hc : ∀ r j, c (ix2 r j) = y r j) (ht : ∀ r q, k0_pay1 t (ix2 r q) = s L (X r) (col 2304 512 last_run q))
    (hw : ∀ q j, w (ix2 q j) = L.wd (col 2304 512 last_run q) j) (r : Fin 512) (j : Fin 1024) :
    k0_pay4 c t w (ix2 r j) = y r j + part L (X r) 2304 512 last_run j := by
  unfold k0_pay4
  rw [addf_apply, cols_narrow, shapeCast_self, hc]
  exact congrArg (y r j + ·) (Finset.sum_congr rfl fun q _ => congrArg₂ (· * ·) (ht r q) (hw q j))

end Forward
-- ==== Proof.FwdRun.lean ====
/-
  One run of the feed-forward layer's forward call, over a block of 512 rows: what it stores in its five blocks, as
  formulas of the rows.
-/
module

public import proofs.«01_k».proof.Proof.FwdPays
public import proofs.«01_k».proof.Proof.FeedBlocks
public import proofs.«01_k».proof.Proof.Gen.Kernel3Ideal.Frame

@[expose] public section

set_option maxRecDepth 16384

noncomputable section

namespace Forward

open Idealize.ShloMosaic Idealize.ShloMosaic.TcCoe Idealize.ShloMosaic.ValueIdx Cert.Kernel3Ideal Cert.Kernel3Ideal.Gen Idealize.SL.Sem
open Feeding (Params col channels whole gain laid piece_cons)

/-- What one run of the body reads: 512 rows of the layer's input, and the parameters whole. -/
structure Reads (L : Params) (X : Fin 512 → Fin 1024 → EReal) (x0 : Vec Ideal S512x1024 .f32) (x1 : Vec Ideal S1x1024 .f32)
    (x2 x3 x4 : Vec Ideal S2816x1024 .bf16) : Prop where
  x : ∀ r j, x0 (ix2 r j) = X r j
  g : ∀ j, x1 (ix2 0 j) = L.g j
  wg : ∀ k j, x2 (ix2 k j) = L.wg k j
  wu : ∀ k j, x3 (ix2 k j) = L.wu k j
  wd : ∀ k j, x4 (ix2 k j) = L.wd k j

variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S2816x1024 .bf16) (harg3 : arg3.IsWhole) (arg4 : Memref sig .tc .vmem S2816x1024 .bf16) (harg4 : arg4.IsWhole) (arg5 : Memref sig .tc .vmem S2816x1024 .bf16) (harg5 : arg5.IsWhole) (arg6 : Memref sig .tc .vmem S512x1024 .bf16) (harg6 : arg6.IsWhole) (arg7 : Memref sig .tc .vmem S512x2816 .bf16) (harg7 : arg7.IsWhole) (arg8 : Memref sig .tc .vmem S512x2816 .bf16) (harg8 : arg8.IsWhole) (arg9 : Memref sig .tc .vmem S512x2816 .bf16) (harg9 : arg9.IsWhole) (arg10 : Memref sig .tc .vmem S512x1024 .f32) (harg10 : arg10.IsWhole)
    (x0 : Vec Ideal S512x1024 .f32) (x1 : Vec Ideal S1x1024 .f32) (x2 x3 x4 : Vec Ideal S2816x1024 .bf16)
variable {L : Params} {X : Fin 512 → Fin 1024 → EReal} (H : Reads L X x0 x1 x2 x3 x4)

include H

/-- The normed rows. -/
theorem run_h (r : Fin 512) (j : Fin 1024) : out0_A_5 (F := Ideal) c i arg1 harg1 arg2 harg2 arg3 harg3 arg4 harg4 arg5 harg5 arg6 harg6 arg7 harg7 arg8 harg8 arg9 harg9 arg10 harg10 x0 x1 x2 x3 x4 (ix2 r j) = h L (X r) j := by
  refine (congrFun (View.read_writes_junk_eq_canon _ _) _).trans ?_
  refine (congrFun (View.canon_unit_zero (Val := Elt Ideal) (e := .bf16) (S := S512x1024) (off := ![0, 0]) (by decide) _ _) _).trans ?_
  exact h_read (whole H.x) (gain H.g) r j

/-- The derivative along the gated branch. -/
theorem run_fa (r : Fin 512) (k : Fin 2816) : out0_A_6 (F := Ideal) c i arg1 harg1 arg2 harg2 arg3 harg3 arg4 harg4 arg5 harg5 arg6 harg6 arg7 harg7 arg8 harg8 arg9 harg9 arg10 harg10 x0 x1 x2 x3 x4 (ix2 r k) = fa L (X r) k := by
  refine (congrFun (View.read_writes_junk_eq_canon _ _) _).trans ?_
  refine View.canon_apply_of_pieces (Val := Elt Ideal) (e := .bf16) (laid fun r k => fa L (X r) k) _ ?_ (ix2 r k) ?_
  · refine piece_cons 2304 512 (by decide) ?_ (piece_cons 1536 768 (by decide) ?_ (piece_cons 768 768 (by decide) ?_
      (piece_cons 0 768 (by decide) ?_ (List.forall_mem_nil _))))
    · exact fa_narrow (h_read (whole H.x) (gain H.g)) (channels H.wg 2304 512 (by decide)) (channels H.wu 2304 512 (by decide))
    · exact fa_wide (h_read (whole H.x) (gain H.g)) (channels H.wg 1536 768 (by decide)) (channels H.wu 1536 768 (by decide))
    · exact fa_wide (h_read (whole H.x) (gain H.g)) (channels H.wg 768 768 (by decide)) (channels H.wu 768 768 (by decide))
    · exact fa_wide (h_read (whole H.x) (gain H.g)) (channels H.wg 0 768 (by decide)) (channels H.wu 0 768 (by decide))
  · exact cover0_A_6 c i arg1 harg1 arg2 harg2 arg3 harg3 arg4 harg4 arg5 harg5 arg6 harg6 arg7 harg7 arg8 harg8 arg9 harg9 arg10 harg10 x0 x1 x2 x3 x4 _

/-- The derivative along the linear branch. -/
theorem run_fb (r : Fin 512) (k : Fin 2816) : out0_A_7 (F := Ideal) c i arg1 harg1 arg2 harg2 arg3 harg3 arg4 harg4 arg5 harg5 arg6 harg6 arg7 harg7 arg8 harg8 arg9 harg9 arg10 harg10 x0 x1 x2 x3 x4 (ix2 r k) = fb L (X r) k := by
  refine (congrFun (View.read_writes_junk_eq_canon _ _) _).trans ?_
  refine View.canon_apply_of_pieces (Val := Elt Ideal) (e := .bf16) (laid fun r k => fb L (X r) k) _ ?_ (ix2 r k) ?_
  · refine piece_cons 2304 512 (by decide) ?_ (piece_cons 1536 768 (by decide) ?_ (piece_cons 768 768 (by decide) ?_
      (piece_cons 0 768 (by decide) ?_ (List.forall_mem_nil _))))
    · exact fb_narrow (h_read (whole H.x) (gain H.g)) (channels H.wg 2304 512 (by decide))
    · exact fb_wide (h_read (whole H.x) (gain H.g)) (channels H.wg 1536 768 (by decide))
    · exact fb_wide (h_read (whole H.x) (gain H.g)) (channels H.wg 768 768 (by decide))
    · exact fb_wide (h_read (whole H.x) (gain H.g)) (channels H.wg 0 768 (by decide))
  · exact cover0_A_7 c i arg1 harg1 arg2 harg2 arg3 harg3 arg4 harg4 arg5 harg5 arg6 harg6 arg7 harg7 arg8 harg8 arg9 harg9 arg10 harg10 x0 x1 x2 x3 x4 _

/-- The hidden product. -/
theorem run_s (r : Fin 512) (k : Fin 2816) : out0_A_8 (F := Ideal) c i arg1 harg1 arg2 harg2 arg3 harg3 arg4 harg4 arg5 harg5 arg6 harg6 arg7 harg7 arg8 harg8 arg9 harg9 arg10 harg10 x0 x1 x2 x3 x4 (ix2 r k) = s L (X r) k := by
  refine (congrFun (View.read_writes_junk_eq_canon _ _) _).trans ?_
  refine View.canon_apply_of_pieces (Val := Elt Ideal) (e := .bf16) (laid fun r k => s L (X r) k) _ ?_ (ix2 r k) ?_
  · refine piece_cons 2304 512 (by decide) ?_ (piece_cons 1536 768 (by decide) ?_ (piece_cons 768 768 (by decide) ?_
      (piece_cons 0 768 (by decide) ?_ (List.forall_mem_nil _))))
    · exact s_narrow (h_read (whole H.x) (gain H.g)) (channels H.wg 2304 512 (by decide)) (channels H.wu 2304 512 (by decide))
    · exact s_wide (h_read (whole H.x) (gain H.g)) (channels H.wg 1536 768 (by decide)) (channels H.wu 1536 768 (by decide))
    · exact s_wide (h_read (whole H.x) (gain H.g)) (channels H.wg 768 768 (by decide)) (channels H.wu 768 768 (by decide))
    · exact s_wide (h_read (whole H.x) (gain H.g)) (channels H.wg 0 768 (by decide)) (channels H.wu 0 768 (by decide))
  · exact cover0_A_8 c i arg1 harg1 arg2 harg2 arg3 harg3 arg4 harg4 arg5 harg5 arg6 harg6 arg7 harg7 arg8 harg8 arg9 harg9 arg10 harg10 x0 x1 x2 x3 x4 _

/-- The layer's result. -/
theorem run_o (r : Fin 512) (j : Fin 1024) : out0_A_9 (F := Ideal) c i arg1 harg1 arg2 harg2 arg3 harg3 arg4 harg4 arg5 harg5 arg6 harg6 arg7 harg7 arg8 harg8 arg9 harg9 arg10 harg10 x0 x1 x2 x3 x4 (ix2 r j) = o L (X r) j := by
  refine (congrFun (View.read_writes_junk_eq_canon _ _) _).trans ?_
  refine (congrFun (View.canon_unit_zero (Val := Elt Ideal) (e := .f32) (S := S512x1024) (off := ![0, 0]) (by decide) _ _) _).trans ?_
  refine Eq.trans ?_ (o_parts L (X r) j)
  refine added_narrow (y := fun r j => X r j + part L (X r) 0 768 (by decide) j + part L (X r) 768 768 (by decide) j
    + part L (X r) 1536 768 (by decide) j) ?_
    (s_narrow (h_read (whole H.x) (gain H.g)) (channels H.wg 2304 512 (by decide)) (channels H.wu 2304 512 (by decide)))
    (channels H.wd 2304 512 (by decide)) r j
  refine added_wide (y := fun r j => X r j + part L (X r) 0 768 (by decide) j + part L (X r) 768 768 (by decide) j) ?_
    (s_wide (h_read (whole H.x) (gain H.g)) (channels H.wg 1536 768 (by decide)) (channels H.wu 1536 768 (by decide)))
    (channels H.wd 1536 768 (by decide))
  refine added_wide (y := fun r j => X r j + part L (X r) 0 768 (by decide) j) ?_
    (s_wide (h_read (whole H.x) (gain H.g)) (channels H.wg 768 768 (by decide)) (channels H.wu 768 768 (by decide)))
    (channels H.wd 768 768 (by decide))
  exact added_wide (whole H.x)
    (s_wide (h_read (whole H.x) (gain H.g)) (channels H.wg 0 768 (by decide)) (channels H.wu 0 768 (by decide)))
    (channels H.wd 0 768 (by decide))

end Forward
-- ==== Proof.FwdFinal.lean ====
/-
  From the runs of the feed-forward layer's forward call to its whole results: eight blocks of 512 rows, each stored where
  it belongs.
-/
module

public import Idealize.ShloMosaic.Lib.Pipeline.ValueKit
public import proofs.«01_k».proof.Proof.FwdRun
public import proofs.«01_k».proof.Proof.Gen.Kernel3Ideal.Value

@[expose] public section

set_option maxRecDepth 16384

noncomputable section

namespace Forward

open Idealize.ShloMosaic hiding ix1 ix2 ix3 eq_ix2 eq_ix3
open Idealize.ShloMosaic.TcCoe Idealize.ShloMosaic.ValueIdx Cert.Kernel3Ideal Cert.Kernel3Ideal.Gen Idealize.SL.Sem
open Feeding (Params stacked)

variable (m : (ℓ : Loc nD τ sig) → Buf (Elt Ideal) ℓ) (c : Dev nD) {L : Params} {X : Fin 4096 → Fin 1024 → EReal}

/-- Row `r` of the block that run `t` covers. -/
def rowAt (t : Fin cfg0.N) (r : Fin 512) : Fin 4096 := ⟨512 * t.val + r.val, by have : t.val < 8 := t.isLt; omega⟩

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![0, 0] := by decide +kernel
theorem index_3 : ∀ t : Fin cfg0.N, win0_3.index t = ![0, 0] := by decide +kernel
theorem index_4 : ∀ t : Fin cfg0.N, win0_4.index t = ![0, 0] := by decide +kernel
theorem index_5 : ∀ t : Fin cfg0.N, win0_5.index t = ![t.val, 0] := by decide +kernel
theorem index_6 : ∀ t : Fin cfg0.N, win0_6.index t = ![t.val, 0] := by decide +kernel
theorem index_7 : ∀ t : Fin cfg0.N, win0_7.index t = ![t.val, 0] := by decide +kernel
theorem index_8 : ∀ t : Fin cfg0.N, win0_8.index t = ![t.val, 0] := by decide +kernel
theorem index_9 : ∀ t : Fin cfg0.N, win0_9.index t = ![t.val, 0] := by decide +kernel

/-- What the arrays hold when the call starts: 4096 rows of the layer's input, and the parameters. -/
structure Handed (L : Params) (X : Fin 4096 → Fin 1024 → EReal) : Prop where
  x : ∀ n j, V m c main_arg0 (ix2 n j) = X n j
  g : ∀ j, V m c main_arg1 (ix2 0 j) = L.g j
  wg : ∀ k j, V m c main_v1 (ix2 k j) = L.wg k j
  wu : ∀ k j, V m c main_v3 (ix2 k j) = L.wu k j
  wd : ∀ k j, V m c main_v4 (ix2 k j) = L.wd k j

theorem x_at (t : Fin cfg0.N) (r : Fin 512) (j : Fin 1024) :
    iblk m c 0 t (ix2 r j) = V m c main_arg0 (ix2 (rowAt t r) j) := by
  blk_ext [iblk, V, index_0 t, rowAt]
  show t.val * 512 + r.val = 512 * t.val + r.val
  omega

theorem g_at (t : Fin cfg0.N) (j : Fin 1024) : iblk m c 1 t (ix2 0 j) = V m c main_arg1 (ix2 0 j) := by
  blk_ext [iblk, V, index_1 t]

theorem wg_at (t : Fin cfg0.N) (k : Fin 2816) (j : Fin 1024) : iblk m c 2 t (ix2 k j) = V m c main_v1 (ix2 k j) := by
  blk_ext [iblk, V, index_2 t]

theorem wu_at (t : Fin cfg0.N) (k : Fin 2816) (j : Fin 1024) : iblk m c 3 t (ix2 k j) = V m c main_v3 (ix2 k j) := by
  blk_ext [iblk, V, index_3 t]

theorem wd_at (t : Fin cfg0.N) (k : Fin 2816) (j : Fin 1024) : iblk m c 4 t (ix2 k j) = V m c main_v4 (ix2 k j) := by
  blk_ext [iblk, V, index_4 t]

variable {m c} (H : Handed m c L X)

include H

theorem reads_at (t : Fin cfg0.N) : Reads L (fun r => X (rowAt t r)) (iblk m c 0 t) (iblk m c 1 t) (iblk m c 2 t) (iblk m c 3 t)
    (iblk m c 4 t) where
  x r j := (x_at m c t r j).trans (H.x _ j)
  g j := (g_at m c t j).trans (H.g j)
  wg k j := (wg_at m c t k j).trans (H.wg k j)
  wu k j := (wu_at m c t k j).trans (H.wu k j)
  wd k j := (wd_at m c t k j).trans (H.wd k j)

theorem h_point (t : Fin cfg0.N) (r : Fin 512) (j : Fin 1024) :
    (outsAt0 m c t).1 (ix2 r j) = h L (X (rowAt t r)) j := by
  unfold outsAt0
  dsimp only
  rw [run_h _ _ _ _ _ _ _ _ _ _ _ _ _ _ _ _ _ _ _ _ _ _ _ _ _ _ _ (reads_at H t)]

theorem h_final : (dats m 0 c).arrAt 5 cfg0.N = stacked fun n => h L (X n) := by
  refine (dats m 0 c).arrAt_eq_of_covers 5 _ (by decide +kernel) fun t hf y => ?_
  blk_simp
  rw [after0_5]
  obtain ⟨i, j, rfl⟩ : ∃ i j, y = ix2 i j := ⟨y 0, y 1, eq_ix2 y⟩
  have he : (win0_5.blk t).view.emb (ix2 i j : S512x1024.Idx) = ix2 (rowAt t i) j := by
    blk_ext [index_5 t, rowAt]
    show t.val * 512 + i.val = 512 * t.val + i.val
    omega
  exact (h_point H t i j).trans
    (congrArg (stacked fun n => h L (X n)) he).symm

theorem fa_point (t : Fin cfg0.N) (r : Fin 512) (k : Fin 2816) :
    (outsAt0 m c t).2.1 (ix2 r k) = fa L (X (rowAt t r)) k := by
  unfold outsAt0
  dsimp only
  rw [run_fa _ _ _ _ _ _ _ _ _ _ _ _ _ _ _ _ _ _ _ _ _ _ _ _ _ _ _ (reads_at H t)]

theorem fa_final : (dats m 0 c).arrAt 6 cfg0.N = stacked fun n => fa L (X n) := by
  refine (dats m 0 c).arrAt_eq_of_covers 6 _ (by decide +kernel) fun t hf y => ?_
  blk_simp
  rw [after0_6]
  obtain ⟨i, j, rfl⟩ : ∃ i j, y = ix2 i j := ⟨y 0, y 1, eq_ix2 y⟩
  have he : (win0_6.blk t).view.emb (ix2 i j : S512x2816.Idx) = ix2 (rowAt t i) j := by
    blk_ext [index_6 t, rowAt]
    show t.val * 512 + i.val = 512 * t.val + i.val
    omega
  exact (fa_point H t i j).trans
    (congrArg (stacked fun n => fa L (X n)) he).symm

theorem fb_point (t : Fin cfg0.N) (r : Fin 512) (k : Fin 2816) :
    (outsAt0 m c t).2.2.1 (ix2 r k) = fb L (X (rowAt t r)) k := by
  unfold outsAt0
  dsimp only
  rw [run_fb _ _ _ _ _ _ _ _ _ _ _ _ _ _ _ _ _ _ _ _ _ _ _ _ _ _ _ (reads_at H t)]

theorem fb_final : (dats m 0 c).arrAt 7 cfg0.N = stacked fun n => fb L (X n) := by
  refine (dats m 0 c).arrAt_eq_of_covers 7 _ (by decide +kernel) fun t hf y => ?_
  blk_simp
  rw [after0_7]
  obtain ⟨i, j, rfl⟩ : ∃ i j, y = ix2 i j := ⟨y 0, y 1, eq_ix2 y⟩
  have he : (win0_7.blk t).view.emb (ix2 i j : S512x2816.Idx) = ix2 (rowAt t i) j := by
    blk_ext [index_7 t, rowAt]
    show t.val * 512 + i.val = 512 * t.val + i.val
    omega
  exact (fb_point H t i j).trans
    (congrArg (stacked fun n => fb L (X n)) he).symm

theorem s_point (t : Fin cfg0.N) (r : Fin 512) (k : Fin 2816) :
    (outsAt0 m c t).2.2.2.1 (ix2 r k) = s L (X (rowAt t r)) k := by
  unfold outsAt0
  dsimp only
  rw [run_s _ _ _ _ _ _ _ _ _ _ _ _ _ _ _ _ _ _ _ _ _ _ _ _ _ _ _ (reads_at H t)]

theorem s_final : (dats m 0 c).arrAt 8 cfg0.N = stacked fun n => s L (X n) := by
  refine (dats m 0 c).arrAt_eq_of_covers 8 _ (by decide +kernel) fun t hf y => ?_
  blk_simp
  rw [after0_8]
  obtain ⟨i, j, rfl⟩ : ∃ i j, y = ix2 i j := ⟨y 0, y 1, eq_ix2 y⟩
  have he : (win0_8.blk t).view.emb (ix2 i j : S512x2816.Idx) = ix2 (rowAt t i) j := by
    blk_ext [index_8 t, rowAt]
    show t.val * 512 + i.val = 512 * t.val + i.val
    omega
  exact (s_point H t i j).trans
    (congrArg (stacked fun n => s L (X n)) he).symm

theorem o_point (t : Fin cfg0.N) (r : Fin 512) (j : Fin 1024) :
    (outsAt0 m c t).2.2.2.2 (ix2 r j) = o L (X (rowAt t r)) j := by
  unfold outsAt0
  dsimp only
  rw [run_o _ _ _ _ _ _ _ _ _ _ _ _ _ _ _ _ _ _ _ _ _ _ _ _ _ _ _ (reads_at H t)]

theorem o_final : (dats m 0 c).arrAt 9 cfg0.N = stacked fun n => o L (X n) := by
  refine (dats m 0 c).arrAt_eq_of_covers 9 _ (by decide +kernel) fun t hf y => ?_
  blk_simp
  rw [after0_9]
  obtain ⟨i, j, rfl⟩ : ∃ i j, y = ix2 i j := ⟨y 0, y 1, eq_ix2 y⟩
  have he : (win0_9.blk t).view.emb (ix2 i j : S512x1024.Idx) = ix2 (rowAt t i) j := by
    blk_ext [index_9 t, rowAt]
    show t.val * 512 + i.val = 512 * t.val + i.val
    omega
  exact (o_point H t i j).trans
    (congrArg (stacked fun n => o L (X n)) he).symm

end Forward
-- ==== Proof.FwdRef.lean ====
/-
  The reference of the feed-forward layer's forward call, row by row: its results are the row formulas; the derivative
  along the gated branch, by the product rule in the reference, needs real arguments.
-/
module

public import proofs.«01_k».proof.Proof.FwdFormulas
public import proofs.«01_k».proof.Proof.FeedRef
public import proofs.«01_k».proof.Proof.Gen.Reference3Ideal.Read

@[expose] public section

noncomputable section

namespace Forward

open Idealize.ShloMosaic hiding ix1 ix2 ix3 ix4 eq_ix1 eq_ix2 eq_ix3 eq_ix4
open Idealize.ShloMosaic.TcCoe Idealize.ShloMosaic.ValueIdx Cert.Reference3Ideal Cert.Reference3Ideal.Gen
open Cert.Reference3Ideal.Read
open Gating (IsReal isReal_sum isReal_rmsInv rmsHat read2 xRow)
open Feeding (refParams logistic unit slope logistic_real)

/-- The product rule for the gated branch, collected. -/
theorem collected {a b l : EReal} : IsReal a → IsReal b → IsReal l →
    b * l + a * b * (l * (1 - l)) = b * (l * (1 + a * (1 - l)))
  | ⟨a', ha⟩, ⟨b', hb⟩, ⟨l', hl⟩ => by
    rw [ha, hb, hl, ← EReal.coe_one]
    simp only [← EReal.coe_mul, ← EReal.coe_sub, ← EReal.coe_add]
    congr 1
    ring

variable (x0 : (⟨S4096x1024, .f32⟩ : BufTy).Contents (Elt Ideal)) (x1 : (⟨S1x1024, .f32⟩ : BufTy).Contents (Elt Ideal))
  (x2 x3 : (⟨S1024x2816, .f32⟩ : BufTy).Contents (Elt Ideal)) (x4 : (⟨S2816x1024, .f32⟩ : BufTy).Contents (Elt Ideal))
  (n : Fin 4096)

/-! ### The parts -/

theorem h_at (j : Fin 1024) : val_main_v36 (F := Ideal) x0 x1 (ix2 n j) = h (refParams x1 x2 x3 x4) (xRow x0 n) j :=
  Feeding.out_at x0 x1 n j

theorem a_at (k : Fin 2816) : val_main_v12 (F := Ideal) x0 x1 x2 (ix2 n k) = a (refParams x1 x2 x3 x4) (xRow x0 n) k :=
  Feeding.aRow_eq x0 x1 x2 n k

theorem b_at (k : Fin 2816) : val_main_v13 (F := Ideal) x0 x1 x3 (ix2 n k) = b (refParams x1 x2 x3 x4) (xRow x0 n) k :=
  Feeding.bRow_eq x0 x1 x3 n k

theorem logistic_at (k : Fin 2816) :
    val_main_v19 (F := Ideal) x0 x1 x2 (ix2 n k) = logistic (a (refParams x1 x2 x3 x4) (xRow x0 n) k) :=
  (Feeding.logistic_at x0 x1 x2 n k).trans (congrArg logistic (Feeding.aRow_eq x0 x1 x2 n k))

theorem spread_at (k : Fin 2816) : val_main_v22 (F := Ideal) x0 x1 x2 (ix2 n k)
    = logistic (a (refParams x1 x2 x3 x4) (xRow x0 n) k) * (1 - logistic (a (refParams x1 x2 x3 x4) (xRow x0 n) k)) :=
  (Feeding.spread_at x0 x1 x2 n k).trans (congrArg (fun a => logistic a * (1 - logistic a)) (Feeding.aRow_eq x0 x1 x2 n k))

/-! ### The results -/

theorem fb_at (k : Fin 2816) : val_main_v42 (F := Ideal) x0 x1 x2 (ix2 n k) = fb (refParams x1 x2 x3 x4) (xRow x0 n) k :=
  (Feeding.unit_at x0 x1 x2 n k).trans (congrArg unit (Feeding.aRow_eq x0 x1 x2 n k))

theorem s_at (k : Fin 2816) : val_main_v44 (F := Ideal) x0 x1 x2 x3 (ix2 n k) = s (refParams x1 x2 x3 x4) (xRow x0 n) k :=
  congrArg₂ (· * ·) (fb_at x0 x1 x2 x3 x4 n k) (b_at x0 x1 x2 x3 x4 n k)

theorem o_at (j : Fin 1024) : val_main_v54 (F := Ideal) x0 x1 x2 x3 x4 (ix2 n j) = o (refParams x1 x2 x3 x4) (xRow x0 n) j := by
  rw [val_main_v54_apply, val_main_v53_apply]
  refine congrArg (xRow x0 n j + ·) (Finset.sum_congr rfl fun k _ => ?_)
  rw [read2 (val_main_v52 (F := Ideal) x0 x1 x2 x3) _ n k rfl rfl, read2 x4 _ k j rfl rfl]
  exact congrArg (· * x4 (ix2 k j)) (s_at x0 x1 x2 x3 x4 n k)

variable {x0 x1 x2 x3} (r0 : ∀ i, IsReal (x0 i)) (r1 : ∀ i, IsReal (x1 i)) (r2 : ∀ i, IsReal (x2 i)) (r3 : ∀ i, IsReal (x3 i))

include r0 r1 r2 r3

theorem fa_at (k : Fin 2816) : val_main_v41 (F := Ideal) x0 x1 x2 x3 (ix2 n k) = fa (refParams x1 x2 x3 x4) (xRow x0 n) k := by
  have hh : ∀ j, IsReal (h (refParams x1 x2 x3 x4) (xRow x0 n) j) := fun j =>
    ((r0 _).mul (isReal_rmsInv fun j => r0 _)).mul (r1 _)
  have ha : IsReal (a (refParams x1 x2 x3 x4) (xRow x0 n) k) := isReal_sum _ fun j => (hh j).mul (r2 _)
  have hb : IsReal (b (refParams x1 x2 x3 x4) (xRow x0 n) k) := isReal_sum _ fun j => (hh j).mul (r3 _)
  rw [val_main_v41_apply, val_main_v40_apply, val_main_v39_apply, val_main_v38_apply, val_main_v37_apply,
    spread_at x0 x1 x2 x3 x4, logistic_at x0 x1 x2 x3 x4, a_at x0 x1 x2 x3 x4, b_at x0 x1 x2 x3 x4]
  exact collected ha hb (logistic_real ha)

end Forward
-- ==== Proof.FwdEqual.lean ====
/-
  What the feed-forward layer's forward call leaves in its five arrays is what the reference computes from the same five
  arguments: the host lines hand over the weights, the first two turned over, as the row formulas read them.
-/
module

public import proofs.«01_k».proof.Proof.FwdFinal
public import proofs.«01_k».proof.Proof.FwdRef
public import proofs.«01_k».proof.Proof.Equal
public import proofs.«01_k».proof.Pre_all_finite3

@[expose] public section

noncomputable section

namespace Forward

open Idealize.ShloMosaic hiding ix1 ix2 ix3 ix4 eq_ix1 eq_ix2 eq_ix3 eq_ix4
open Idealize.ShloMosaic.TcCoe Idealize.ShloMosaic.ValueIdx Cert.Kernel3Ideal Cert.Kernel3Ideal.Gen
open Cert.Reference3Ideal.Read
open Gating (IsReal xRow)
open Feeding (refParams stacked_ext)

instance finiteFacts : Cert.Pre_all_finite3.Facts where
  bcast_S_S4096x1024 := by decide
  bcast_S_S1x1024 := by decide
  bcast_S_S1024x2816 := by decide

variable (m : (ℓ : Loc nD τ sig) → Buf (Elt Ideal) ℓ) (c : Dev nD)

/-- The `k`-th argument, as launched. -/
abbrev in0 : S4096x1024.Idx → EReal := m ((c : Thread nD τ).loc main_arg0)
abbrev in1 : S1x1024.Idx → EReal := m ((c : Thread nD τ).loc main_arg1)
abbrev in2 : S1024x2816.Idx → EReal := m ((c : Thread nD τ).loc main_arg2)
abbrev in3 : S1024x2816.Idx → EReal := m ((c : Thread nD τ).loc main_arg3)
abbrev in4 : S2816x1024.Idx → EReal := m ((c : Thread nD τ).loc main_arg4)

/-! ### What the call is handed -/

theorem x_in : V m c main_arg0 = in0 m c := by
  entry_read
  rfl

theorem g_in : V m c main_arg1 = in1 m c := by
  entry_read
  rfl

theorem wg_in : V m c main_v1 = transpose S2816x1024 [1, 0] (in2 m c) transposes_S1024x2816_S2816x1024_1_0 := by
  entry_read
  rfl

theorem wu_in : V m c main_v3 = transpose S2816x1024 [1, 0] (in3 m c) transposes_S1024x2816_S2816x1024_1_0 := by
  entry_read
  rfl

theorem wd_in : V m c main_v4 = in4 m c := by
  entry_read
  rfl

/-- A weight turned over. -/
theorem turned (f : S1024x2816.Idx → EReal) (k : Fin 2816) (j : Fin 1024) :
    transpose S2816x1024 [1, 0] f transposes_S1024x2816_S2816x1024_1_0 (ix2 k j) = f (ix2 j k) := by
  pointwise
  rfl

theorem handed : Handed m c (refParams (in1 m c) (in2 m c) (in3 m c) (in4 m c)) (xRow (in0 m c)) where
  x n j := congrFun (x_in m c) _
  g j := congrFun (g_in m c) _
  wg k j := (congrFun (wg_in m c) _).trans (turned _ k j)
  wu k j := (congrFun (wu_in m c) _).trans (turned _ k j)
  wd k j := congrFun (wd_in m c) _

/-! ### The five arrays -/

theorem out_h : @Eq (FVec Ideal Cert.Reference3Ideal.S4096x1024 .bf16) ((dats m 0 c).arrAt 5 cfg0.N)
    (val_main_v36 (F := Ideal) (in0 m c) (in1 m c)) :=
  (h_final (handed m c)).trans (stacked_ext (h_at _ _ _ _ _))

/-- The arguments that the derivative along the gated branch reads are real. -/
structure RealArgs : Prop where
  r0 : ∀ i, IsReal (in0 m c i)
  r1 : ∀ i, IsReal (in1 m c i)
  r2 : ∀ i, IsReal (in2 m c i)
  r3 : ∀ i, IsReal (in3 m c i)

theorem out_fa (r : RealArgs m c) : @Eq (FVec Ideal Cert.Reference3Ideal.S4096x2816 .bf16) ((dats m 0 c).arrAt 6 cfg0.N)
    (val_main_v41 (F := Ideal) (in0 m c) (in1 m c) (in2 m c) (in3 m c)) :=
  (fa_final (handed m c)).trans (stacked_ext fun n => fa_at _ n r.r0 r.r1 r.r2 r.r3)

theorem out_fb : @Eq (FVec Ideal Cert.Reference3Ideal.S4096x2816 .bf16) ((dats m 0 c).arrAt 7 cfg0.N)
    (val_main_v42 (F := Ideal) (in0 m c) (in1 m c) (in2 m c)) :=
  (fb_final (handed m c)).trans (stacked_ext (fb_at _ _ _ _ _))

theorem out_s : @Eq (FVec Ideal Cert.Reference3Ideal.S4096x2816 .bf16) ((dats m 0 c).arrAt 8 cfg0.N)
    (val_main_v44 (F := Ideal) (in0 m c) (in1 m c) (in2 m c) (in3 m c)) :=
  (s_final (handed m c)).trans (stacked_ext (s_at _ _ _ _ _))

theorem out_o : @Eq (FVec Ideal Cert.Reference3Ideal.S4096x1024 .f32) ((dats m 0 c).arrAt 9 cfg0.N)
    (val_main_v54 (F := Ideal) (in0 m c) (in1 m c) (in2 m c) (in3 m c) (in4 m c)) :=
  (o_final (handed m c)).trans (stacked_ext (o_at _ _ _ _ _))

end Forward
-- ==== Proof.FwdClaim.lean ====
/-
  The claims of the feed-forward layer's forward call: the frame of its reference, and the equality of its five results
  with the reference's.
-/
module

public import proofs.«01_k».proof.Defs
public import proofs.«01_k».proof.Proof.Gen.Reference3Ideal.Run
public import proofs.«01_k».proof.Proof.Same
public import proofs.«01_k».proof.Proof.FwdEqual

@[expose] public section

namespace Forward

open Idealize Idealize.ShloMosaic Idealize.ShloMosaic.TcCoe

/-- Under the precondition the arguments of every device, but the last projection, are real. -/
theorem realArgs {m : (ℓ : Loc Cert.Kernel3Ideal.nD Cert.Kernel3Ideal.τ Cert.Kernel3Ideal.sig) → Buf (Elt Ideal) ℓ}
    (hp : Cert.Pre_Kernel3Ideal_all_finite3 m) (c : Dev Cert.Kernel3Ideal.nD) : RealArgs m c := by
  obtain ⟨h0, h1, h2, h3⟩ := hp c
  exact ⟨fun i => Gating.real_of_below _ (congrFun h0 i), fun i => Gating.real_of_below _ (congrFun h1 i),
    fun i => Gating.real_of_below _ (congrFun h2 i), fun i => Gating.real_of_below _ (congrFun h3 i)⟩

/-- The reference ends, its arguments unchanged; it has no semaphores. -/
theorem frameReference : Cert.quiescent_Reference3Ideal := by
  intro m g _
  refine (θ_run _ _ _).mono (fun r h => ⟨fun c => ?_, sem_eq_zero_of_no_sems (by decide) _⟩) (Cert.Reference3Ideal.Value.run m g)
  exact (h c).2.2.2.2.2

set_option maxHeartbeats 8000000 in
/-- The five results of the call are the reference's. -/
theorem equal : Cert.algebraic_Kernel3Ideal_Reference3Ideal_pre_all_finite3 := by
  intro m g m' g' hpre hagree
  refine ⟨fun c => (Cert.Kernel3Ideal.Gen.dats m 0 c).arrAt 5 Cert.Kernel3Ideal.cfg0.N,
    fun c => (Cert.Kernel3Ideal.Gen.dats m 0 c).arrAt 6 Cert.Kernel3Ideal.cfg0.N,
    fun c => (Cert.Kernel3Ideal.Gen.dats m 0 c).arrAt 7 Cert.Kernel3Ideal.cfg0.N,
    fun c => (Cert.Kernel3Ideal.Gen.dats m 0 c).arrAt 8 Cert.Kernel3Ideal.cfg0.N,
    fun c => (Cert.Kernel3Ideal.Gen.dats m 0 c).arrAt 9 Cert.Kernel3Ideal.cfg0.N, ?_, ?_⟩
  · exact Cert.Kernel3Ideal.Value.run_blocks m g
  · refine (θ_run _ _ _).mono (fun r h c => ?_) (Cert.Reference3Ideal.Value.run m' g')
    obtain ⟨e0, e1, e2, e3, e4, a0, a1, a2, a3, a4⟩ := h c
    obtain ⟨p0, p1, p2, p3, p4⟩ := hagree c
    have q0 : m' ((c.tc : Thread Cert.Reference3Ideal.nD Cert.Reference3Ideal.τ).loc Cert.Reference3Ideal.main_arg0) = in0 m c := p0
    have q1 : m' ((c.tc : Thread Cert.Reference3Ideal.nD Cert.Reference3Ideal.τ).loc Cert.Reference3Ideal.main_arg1) = in1 m c := p1
    have q2 : m' ((c.tc : Thread Cert.Reference3Ideal.nD Cert.Reference3Ideal.τ).loc Cert.Reference3Ideal.main_arg2) = in2 m c := p2
    have q3 : m' ((c.tc : Thread Cert.Reference3Ideal.nD Cert.Reference3Ideal.τ).loc Cert.Reference3Ideal.main_arg3) = in3 m c := p3
    have q4 : m' ((c.tc : Thread Cert.Reference3Ideal.nD Cert.Reference3Ideal.τ).loc Cert.Reference3Ideal.main_arg4) = in4 m c := p4
    have s0 := congrArg₂ (Cert.Reference3Ideal.Read.val_main_v36 (F := Ideal)) q0 q1
    have t0 := e0.trans (Cert.Reference3Ideal.Read.val_main_v36_eq (F := Ideal) _ _)
    have u0 := s0.trans (out_h m c).symm
    have s1 := Gating.same4 (Cert.Reference3Ideal.Read.val_main_v41 (F := Ideal)) q0 q1 q2 q3
    have t1 := e1.trans (Cert.Reference3Ideal.Read.val_main_v41_eq (F := Ideal) m' c)
    have u1 := s1.trans (out_fa m c (realArgs hpre c)).symm
    have s2 := Gating.same3 (Cert.Reference3Ideal.Read.val_main_v42 (F := Ideal)) q0 q1 q2
    have t2 := e2.trans (Cert.Reference3Ideal.Read.val_main_v42_eq (F := Ideal) _ _ _)
    have u2 := s2.trans (out_fb m c).symm
    have s3 := Gating.same4 (Cert.Reference3Ideal.Read.val_main_v44 (F := Ideal)) q0 q1 q2 q3
    have t3 := e3.trans (Cert.Reference3Ideal.Read.val_main_v44_eq (F := Ideal) _ _ _ _)
    have u3 := s3.trans (out_s m c).symm
    have s4 := Gating.same5 (Cert.Reference3Ideal.Read.val_main_v54 (F := Ideal)) q0 q1 q2 q3 q4
    have t4 := e4.trans (Cert.Reference3Ideal.Read.val_main_v54_eq (F := Ideal) _ _ _ _ _)
    have u4 := s4.trans (out_o m c).symm
    exact ⟨t0.trans u0, t1.trans u1, t2.trans u2, t3.trans u3, t4.trans u4, a0, a1, a2, a3, a4⟩

end Forward
-- ==== Proof.WeightFormulas.lean ====
/-
  The product that gives a hidden weight's gradient, columns against columns over all 4096 rows, and the two changes of
  shape around it: a leading axis of length one dropped or put back.
-/
module

public import Idealize.ShloMosaic.Lib.Pipeline.ValueKit
public import proofs.«01_k».proof.Proof.RefForward

@[expose] public section

noncomputable section

namespace Weights

open Idealize.ShloMosaic hiding ix1 ix2 ix3 ix4 eq_ix1 eq_ix2 eq_ix3 eq_ix4
open Idealize.ShloMosaic.ValueIdx

/-- Column `i` of the first array against column `j` of the second, over the rows. -/
def product {A B : ℕ} (u : (⟨3, ![1, 4096, A]⟩ : Shape).Idx → EReal) (v : (⟨3, ![1, 4096, B]⟩ : Shape).Idx → EReal) (i : Fin A)
    (j : Fin B) : EReal :=
  ∑ n : Fin 4096, u (ix3 0 n i) * v (ix3 0 n j)

/-- All the products, as an array of the first array's columns by the second's. -/
def products {A B : ℕ} (u : (⟨3, ![1, 4096, A]⟩ : Shape).Idx → EReal) (v : (⟨3, ![1, 4096, B]⟩ : Shape).Idx → EReal) :
    (⟨3, ![1, A, B]⟩ : Shape).Idx → EReal :=
  fun i => product u v (i 1) (i 2)

variable {A B : ℕ} {α : Type}

/-- A matrix product that contracts the rows of both operands, read at an index: columns against columns. -/
theorem columns {φ₁ φ₂ : FTy} (d : DotDims ⟨2, ![4096, A]⟩ ⟨2, ![4096, B]⟩ ⟨2, ![A, B]⟩) (hr : d.contr.rank = 1)
    (hs : d.contr.size ⟨0, by omega⟩ = 4096) (hu : ∀ i j q, d.lhsIdx (ix2 i j) ((contrEquiv1 d 4096 hr hs).symm q) = ix2 q i)
    (hv : ∀ i j q, d.rhsIdx (ix2 i j) ((contrEquiv1 d 4096 hr hs).symm q) = ix2 q j) (u : FVec Ideal ⟨2, ![4096, A]⟩ φ₁)
    (v : FVec Ideal ⟨2, ![4096, B]⟩ φ₂) (i : Fin A) (j : Fin B) :
    FloatOps.matmul d none u v (constant ⟨2, ![A, B]⟩ .f32 0x00000000#32) (ix2 i j) = ∑ n : Fin 4096, u (ix2 n i) * v (ix2 n j) := by
  rw [Ideal.matmul_constant_zero_apply, ← Equiv.sum_comp (contrEquiv1 d 4096 hr hs).symm]
  exact Finset.sum_congr rfl fun q _ => congrArg₂ (· * ·) (congrArg u (hu i j q)) (congrArg v (hv i j q))

/-- Only the leading index zero exists. -/
theorem only_first (i : (⟨3, ![1, A, B]⟩ : Shape).Idx) : i = ix3 0 (i 1) (i 2) :=
  (eq_ix3 i).trans (congrArg (fun a : Fin 1 => ix3 a (i 1) (i 2)) (Subsingleton.elim (α := Fin 1) _ _))

/-- The leading axis dropped. -/
theorem dropped (f : (⟨3, ![1, A, B]⟩ : Shape).Idx → α) (h) (i : Fin A) (j : Fin B) :
    shapeCast ⟨2, ![A, B]⟩ f h (ix2 i j) = f (ix3 0 i j) :=
  shapeCast_apply _ _ _ _ (by rw [Shape.rowMajor_val_three, Shape.rowMajor_val_two]; simp; rfl)

/-- The leading axis put back. -/
theorem restored (f : (⟨2, ![A, B]⟩ : Shape).Idx → α) (h) (i : Fin A) (j : Fin B) :
    shapeCast ⟨3, ![1, A, B]⟩ f h (ix3 0 i j) = f (ix2 i j) :=
  shapeCast_apply _ _ _ _ (by rw [Shape.rowMajor_val_three, Shape.rowMajor_val_two]; simp; rfl)

/-- The product of two blocks whose leading axes are dropped, and of the result the leading axis put back. -/
theorem block_product {φ₁ φ₂ : FTy} (d : DotDims ⟨2, ![4096, A]⟩ ⟨2, ![4096, B]⟩ ⟨2, ![A, B]⟩) (hr : d.contr.rank = 1)
    (hs : d.contr.size ⟨0, by omega⟩ = 4096) (hu : ∀ i j q, d.lhsIdx (ix2 i j) ((contrEquiv1 d 4096 hr hs).symm q) = ix2 q i)
    (hv : ∀ i j q, d.rhsIdx (ix2 i j) ((contrEquiv1 d 4096 hr hs).symm q) = ix2 q j) (u : FVec Ideal ⟨3, ![1, 4096, A]⟩ φ₁)
    (v : FVec Ideal ⟨3, ![1, 4096, B]⟩ φ₂) (h₁ h₂ h₃) (i : Fin A) (j : Fin B) :
    shapeCast ⟨3, ![1, A, B]⟩ (FloatOps.matmul (F := Ideal) d none (φ₁ := φ₁) (φ₂ := φ₂) (shapeCast ⟨2, ![4096, A]⟩ u h₁)
      (shapeCast ⟨2, ![4096, B]⟩ v h₂) (constant ⟨2, ![A, B]⟩ .f32 0x00000000#32)) h₃ (ix3 0 i j) = product u v i j :=
  (restored _ _ i j).trans ((columns d hr hs hu hv _ _ i j).trans
    (Finset.sum_congr rfl fun n _ => congrArg₂ (· * ·) (dropped _ _ n i) (dropped _ _ n j)))

/-- Two arrays of this shape that agree everywhere. -/
theorem ext {f g : (⟨3, ![1, A, B]⟩ : Shape).Idx → EReal} (h : ∀ i j, f (ix3 0 i j) = g (ix3 0 i j)) : f = g :=
  funext fun i => by rw [only_first i]; exact h _ _

/-- A block of the products: columns `i` and `j` of two blocks that are columns `p i` and `q j` of the arrays. -/
theorem product_block {A' B' : ℕ} {u : (⟨3, ![1, 4096, A]⟩ : Shape).Idx → EReal} {v : (⟨3, ![1, 4096, B]⟩ : Shape).Idx → EReal}
    {u' : (⟨3, ![1, 4096, A']⟩ : Shape).Idx → EReal} {v' : (⟨3, ![1, 4096, B']⟩ : Shape).Idx → EReal} {i : Fin A} {j : Fin B}
    {i' : Fin A'} {j' : Fin B'} (hu : ∀ n, u' (ix3 0 n i') = u (ix3 0 n i)) (hv : ∀ n, v' (ix3 0 n j') = v (ix3 0 n j)) :
    product u' v' i' j' = product u v i j :=
  Finset.sum_congr rfl fun n _ => congrArg₂ (· * ·) (hu n) (hv n)

end Weights
-- ==== Proof.WeightIn.lean ====
/-
  The call that gives the gradient of a hidden layer's input weight: two grid points, each 1408 of the hidden channels
  against all columns of the normed rows.
-/
module

public import proofs.«01_k».proof.Proof.WeightFormulas
public import proofs.«01_k».proof.Proof.Gen.Kernel4Ideal.Value

@[expose] public section

set_option maxRecDepth 16384

noncomputable section

namespace Weights.In

open Idealize.ShloMosaic hiding ix1 ix2 ix3 ix4 eq_ix1 eq_ix2 eq_ix3 eq_ix4
open Idealize.ShloMosaic.TcCoe Idealize.ShloMosaic.ValueIdx Cert.Kernel4Ideal Cert.Kernel4Ideal.Gen Idealize.SL.Sem

/-- What a grid point stores: the columns of its first block against those of its second. -/
theorem stored (u : Vec Ideal S1x4096x1408 .bf16) (v : Vec Ideal S1x4096x1024 .bf16) (i : Fin 1408) (j : Fin 1024) :
    k0_pay1 u v (ix3 0 i j) = product u v i j :=
  block_product dot_S4096x1408_S4096x1024_S1408x1024_0_0_1_1_n_n rfl rfl
    (fun _ _ _ => funext fun d => match d with | ⟨0, _⟩ => rfl | ⟨1, _⟩ => rfl)
    (fun _ _ _ => funext fun d => match d with | ⟨0, _⟩ => rfl | ⟨1, _⟩ => rfl) u v _ _ _ i j

variable (m : (ℓ : Loc nD τ sig) → Buf (Elt Ideal) ℓ) (c : Dev nD)

/-- Hidden channel `i` of the half that point `t` covers. -/
def channelAt (t : Fin cfg0.N) (i : Fin 1408) : Fin 2816 := ⟨1408 * t.val + i.val, by have : t.val < 2 := t.isLt; omega⟩

theorem index_0 : ∀ t : Fin cfg0.N, win0_0.index t = ![0, 0, t.val] := by decide +kernel
theorem index_1 : ∀ t : Fin cfg0.N, win0_1.index t = ![0, 0, 0] := by decide +kernel
theorem index_2 : ∀ t : Fin cfg0.N, win0_2.index t = ![0, t.val, 0] := by decide +kernel

theorem first_at (t : Fin cfg0.N) (n : Fin 4096) (i : Fin 1408) :
    iblk m c 0 t (ix3 0 n i) = V m c main_v13 (ix3 0 n (channelAt t i)) := by
  blk_ext [iblk, V, index_0 t, channelAt]
  show t.val * 1408 + i.val = 1408 * t.val + i.val
  omega

theorem second_at (t : Fin cfg0.N) (n : Fin 4096) (j : Fin 1024) : iblk m c 1 t (ix3 0 n j) = V m c main_v14 (ix3 0 n j) := by
  blk_ext [iblk, V, index_1 t]

theorem point (t : Fin cfg0.N) (i : Fin 1408) (j : Fin 1024) :
    out0_2 (iblk m c 0 t) (iblk m c 1 t) (ix3 0 i j) = product (V m c main_v13) (V m c main_v14) (channelAt t i) j := by
  unfold out0_2
  rw [View.canon_unit_zero (Val := Elt Ideal) (e := .bf16) (S := S1x1408x1024) (off := ![0, 0, 0]) (by decide)]
  refine (stored _ _ i j).trans ?_
  rw [View.ld_unit_zero (by decide), View.ld_unit_zero (by decide)]
  exact product_block (fun n => first_at m c t n i) (fun n => second_at m c t n j)

/-- The call's result: all the products. -/
theorem final : (dats m 0 c).arrAt 2 cfg0.N = products (V m c main_v13) (V m c main_v14) := by
  refine (dats m 0 c).arrAt_eq_of_covers 2 _ (by decide +kernel) fun t hf y => ?_
  blk_simp
  rw [after0_2]
  obtain ⟨i, j, rfl⟩ : ∃ i j, y = ix3 0 i j := ⟨y 1, y 2, only_first y⟩
  have he : (win0_2.blk t).view.emb (ix3 0 i j : S1x1408x1024.Idx) = ix3 0 (channelAt t i) j := by
    blk_ext [index_2 t, channelAt]
    show t.val * 1408 + i.val = 1408 * t.val + i.val
    omega
  exact (point m c t i j).trans (congrArg (products (V m c main_v13) (V m c main_v14)) he).symm

end Weights.In
-- ==== Proof.WeightInClaim.lean ====
/-
  The claims of the call that gives the gradient of a hidden layer's input weight: the frame of its reference, and the
  equality of its result with the reference's.
-/
module

public import proofs.«01_k».proof.Defs
public import proofs.«01_k».proof.Proof.Gen.Reference4Ideal.Run
public import proofs.«01_k».proof.Proof.Gen.Reference4Ideal.Read
public import proofs.«01_k».proof.Proof.Same
public import proofs.«01_k».proof.Proof.WeightIn

@[expose] public section

namespace Weights.In

open Idealize
open Idealize.ShloMosaic hiding ix1 ix2 ix3 ix4 eq_ix1 eq_ix2 eq_ix3 eq_ix4
open Idealize.ShloMosaic.TcCoe Idealize.ShloMosaic.ValueIdx Cert.Kernel4Ideal Cert.Kernel4Ideal.Gen
open Cert.Reference4Ideal.Read
open Gating (read2)

variable (m : (ℓ : Loc nD τ sig) → Buf (Elt Ideal) ℓ) (c : Dev nD)

/-- The `k`-th argument, as launched. -/
abbrev in0 : S4096x1024.Idx → EReal := m ((c : Thread nD τ).loc main_arg0)
abbrev in1 : S1x1024.Idx → EReal := m ((c : Thread nD τ).loc main_arg1)
abbrev in2 : S4096x2816.Idx → EReal := m ((c : Thread nD τ).loc main_arg2)

theorem d_in : V m c main_v13 = broadcastInDim S1x4096x2816 ![1, 2] bcast_S4096x2816_S1x4096x2816_1_2 (in2 m c) := by
  entry_read
  rfl

/-- The normed rows are the reference's. -/
theorem h_in : V m c main_v14 = broadcastInDim S1x4096x1024 ![1, 2] bcast_S4096x1024_S1x4096x1024_1_2
    (val_main_v12 (F := Ideal) (in0 m c) (in1 m c)) := by
  entry_read
  rfl

theorem d_at (n : Fin 4096) (i : Fin 2816) : V m c main_v13 (ix3 0 n i) = in2 m c (ix2 n i) := by
  rw [d_in]
  pointwise
  rfl

theorem h_at (n : Fin 4096) (j : Fin 1024) : V m c main_v14 (ix3 0 n j) = val_main_v12 (F := Ideal) (in0 m c) (in1 m c) (ix2 n j) := by
  rw [h_in]
  pointwise
  rfl

/-- The call's result is the reference's. -/
theorem out_dw : @Eq (FVec Ideal Cert.Reference4Ideal.S1x2816x1024 .bf16) ((dats m 0 c).arrAt 2 cfg0.N)
    (val_main_v19 (F := Ideal) (in0 m c) (in1 m c) (in2 m c)) := by
  refine (final m c).trans (ext fun i j => ?_)
  rw [val_main_v19_apply, val_main_v18_apply, val_main_v17_apply, val_main_v16_apply]
  show (product (V m c main_v13) (V m c main_v14) i j : EReal) = val_main_v15 (F := Ideal) (in0 m c) (in1 m c) (in2 m c) _
  rw [read2 (val_main_v15 (F := Ideal) (in0 m c) (in1 m c) (in2 m c)) _ i j rfl rfl, val_main_v15_apply]
  unfold product
  refine Finset.sum_congr rfl fun n _ => ?_
  rw [read2 (val_main_v14 (F := Ideal) (in2 m c)) _ n i rfl rfl, read2 (val_main_v12 (F := Ideal) (in0 m c) (in1 m c)) _ n j rfl rfl]
  exact congrArg₂ (· * ·) (d_at m c n i) (h_at m c n j)

/-- The reference ends, its arguments unchanged; it has no semaphores. -/
theorem frameReference : Cert.quiescent_Reference4Ideal := by
  intro m g _
  refine (θ_run _ _ _).mono (fun r h => ⟨fun c => ?_, sem_eq_zero_of_no_sems (by decide) _⟩) (Cert.Reference4Ideal.Value.run m g)
  exact (h c).2

set_option maxHeartbeats 8000000 in
/-- The result of the call is the reference's, whatever the arguments. -/
theorem equal : Cert.algebraic_Kernel4Ideal_Reference4Ideal := by
  intro m g m' g' _ hagree
  refine ⟨fun c => (Cert.Kernel4Ideal.Gen.dats m 0 c).arrAt 2 Cert.Kernel4Ideal.cfg0.N, ?_, ?_⟩
  · exact Cert.Kernel4Ideal.Value.run_blocks m g
  · refine (θ_run _ _ _).mono (fun r h c => ?_) (Cert.Reference4Ideal.Value.run m' g')
    obtain ⟨e0, a0, a1, a2⟩ := h c
    obtain ⟨p0, p1, p2⟩ := hagree c
    have q0 : m' ((c.tc : Thread Cert.Reference4Ideal.nD Cert.Reference4Ideal.τ).loc Cert.Reference4Ideal.main_arg0) = in0 m c := p0
    have q1 : m' ((c.tc : Thread Cert.Reference4Ideal.nD Cert.Reference4Ideal.τ).loc Cert.Reference4Ideal.main_arg1) = in1 m c := p1
    have q2 : m' ((c.tc : Thread Cert.Reference4Ideal.nD Cert.Reference4Ideal.τ).loc Cert.Reference4Ideal.main_arg2) = in2 m c := p2
    have s0 := Gating.same3 (Cert.Reference4Ideal.Read.val_main_v19 (F := Ideal)) q0 q1 q2
    have t0 := e0.trans (Cert.Reference4Ideal.Read.val_main_v19_eq (F := Ideal) _ _ _)
    have u0 := s0.trans (out_dw m c).symm
    exact ⟨t0.trans u0, a0, a1, a2⟩

end Weights.In
-- ==== Proof.WeightOut.lean ====
/-
  The call that gives the gradient of the hidden layer's output weight: four grid points, each one half of the hidden
  channels against one half of the columns of the incoming gradient.
-/
module

public import proofs.«01_k».proof.Proof.WeightFormulas
public import proofs.«01_k».proof.Proof.Gen.Kernel5Ideal.Value

@[expose] public section

set_option maxRecDepth 16384

noncomputable section

namespace Weights.Out

open Idealize.ShloMosaic hiding ix1 ix2 ix3 ix4 eq_ix1 eq_ix2 eq_ix3 eq_ix4
open Idealize.ShloMosaic.TcCoe Idealize.ShloMosaic.ValueIdx Cert.Kernel5Ideal Cert.Kernel5Ideal.Gen Idealize.SL.Sem

/-- What a grid point stores: the columns of its first block against those of its second. -/
theorem stored (u : Vec Ideal S1x4096x1408 .bf16) (v : Vec Ideal S1x4096x512 .f32) (i : Fin 1408) (j : Fin 512) :
    k0_pay1 u v (ix3 0 i j) = product u v i j :=
  block_product (φ₂ := .bf16) dot_S4096x1408_S4096x512_S1408x512_0_0_1_1_n_n rfl rfl
    (fun _ _ _ => funext fun d => match d with | ⟨0, _⟩ => rfl | ⟨1, _⟩ => rfl)
    (fun _ _ _ => funext fun d => match d with | ⟨0, _⟩ => rfl | ⟨1, _⟩ => rfl) u v _ _ _ i j

variable (m : (ℓ : Loc nD τ sig) → Buf (Elt Ideal) ℓ) (c : Dev nD)

/-- Hidden channel `i` of the half that point `t` covers. -/
def channelAt (t : Fin cfg0.N) (i : Fin 1408) : Fin 2816 := ⟨1408 * (t.val / 2) + i.val, by have : t.val < 4 := t.isLt; omega⟩

/-- Column `j` of the half that point `t` covers. -/
def columnAt (t : Fin cfg0.N) (j : Fin 512) : Fin 1024 := ⟨512 * (t.val % 2) + j.val, by omega⟩

theorem index_0 : ∀ t : Fin cfg0.N, win0_0.index t = ![0, 0, t.val / 2] := by decide +kernel
theorem index_1 : ∀ t : Fin cfg0.N, win0_1.index t = ![0, 0, t.val % 2] := by decide +kernel
theorem index_2 : ∀ t : Fin cfg0.N, win0_2.index t = ![0, t.val / 2, t.val % 2] := by decide +kernel

theorem first_at (t : Fin cfg0.N) (n : Fin 4096) (i : Fin 1408) :
    iblk m c 0 t (ix3 0 n i) = V m c main_v23 (ix3 0 n (channelAt t i)) := by
  blk_ext [iblk, V, index_0 t, channelAt]
  show t.val / 2 * 1408 + i.val = 1408 * (t.val / 2) + i.val
  omega

theorem second_at (t : Fin cfg0.N) (n : Fin 4096) (j : Fin 512) : iblk m c 1 t (ix3 0 n j) = V m c main_v24 (ix3 0 n (columnAt t j)) := by
  blk_ext [iblk, V, index_1 t, columnAt]
  show t.val % 2 * 512 + j.val = 512 * (t.val % 2) + j.val
  omega

theorem point (t : Fin cfg0.N) (i : Fin 1408) (j : Fin 512) :
    out0_2 (iblk m c 0 t) (iblk m c 1 t) (ix3 0 i j) = product (V m c main_v23) (V m c main_v24) (channelAt t i) (columnAt t j) := by
  unfold out0_2
  rw [View.canon_unit_zero (Val := Elt Ideal) (e := .bf16) (S := S1x1408x512) (off := ![0, 0, 0]) (by decide)]
  refine (stored _ _ i j).trans ?_
  rw [View.ld_unit_zero (by decide), View.ld_unit_zero (by decide)]
  exact product_block (fun n => first_at m c t n i) (fun n => second_at m c t n j)

/-- The call's result: all the products. -/
theorem final : (dats m 0 c).arrAt 2 cfg0.N = products (V m c main_v23) (V m c main_v24) := by
  refine (dats m 0 c).arrAt_eq_of_covers 2 _ (by decide +kernel) fun t hf y => ?_
  blk_simp
  rw [after0_2]
  obtain ⟨i, j, rfl⟩ : ∃ i j, y = ix3 0 i j := ⟨y 1, y 2, only_first y⟩
  have he : (win0_2.blk t).view.emb (ix3 0 i j : S1x1408x512.Idx) = ix3 0 (channelAt t i) (columnAt t j) := by
    blk_ext [index_2 t, channelAt, columnAt]
    · show t.val / 2 * 1408 + i.val = 1408 * (t.val / 2) + i.val
      omega
    · show t.val % 2 * 512 + j.val = 512 * (t.val % 2) + j.val
      omega
  exact (point m c t i j).trans (congrArg (products (V m c main_v23) (V m c main_v24)) he).symm

end Weights.Out
-- ==== Proof.WeightOutClaim.lean ====
/-
  The claims of the call that gives the gradient of the hidden layer's output weight: the frame of its reference, and the
  equality of its result with the reference's.
-/
module

public import proofs.«01_k».proof.Defs
public import proofs.«01_k».proof.Proof.Gen.Reference5Ideal.Run
public import proofs.«01_k».proof.Proof.Gen.Reference5Ideal.Read
public import proofs.«01_k».proof.Proof.Same
public import proofs.«01_k».proof.Proof.WeightOut

@[expose] public section

namespace Weights.Out

open Idealize
open Idealize.ShloMosaic hiding ix1 ix2 ix3 ix4 eq_ix1 eq_ix2 eq_ix3 eq_ix4
open Idealize.ShloMosaic.TcCoe Idealize.ShloMosaic.ValueIdx Cert.Kernel5Ideal Cert.Kernel5Ideal.Gen
open Cert.Reference5Ideal.Read
open Gating (read2)

variable (m : (ℓ : Loc nD τ sig) → Buf (Elt Ideal) ℓ) (c : Dev nD)

/-- The `k`-th argument, as launched; the fifth, the output weight itself, does not matter. -/
abbrev in0 : S4096x1024.Idx → EReal := m ((c : Thread nD τ).loc main_arg0)
abbrev in1 : S1x1024.Idx → EReal := m ((c : Thread nD τ).loc main_arg1)
abbrev in2 : S1024x2816.Idx → EReal := m ((c : Thread nD τ).loc main_arg2)
abbrev in3 : S1024x2816.Idx → EReal := m ((c : Thread nD τ).loc main_arg3)
abbrev in5 : S4096x1024.Idx → EReal := m ((c : Thread nD τ).loc main_arg5)

/-- The hidden product is the reference's. -/
theorem s_in : V m c main_v23 = broadcastInDim S1x4096x2816 ![1, 2] bcast_S4096x2816_S1x4096x2816_1_2
    (val_main_v21 (F := Ideal) (in0 m c) (in1 m c) (in2 m c) (in3 m c)) := by
  entry_read
  rfl

theorem ct_in : V m c main_v24 = broadcastInDim S1x4096x1024 ![1, 2] bcast_S4096x1024_S1x4096x1024_1_2 (in5 m c) := by
  entry_read
  rfl

theorem s_at (n : Fin 4096) (i : Fin 2816) : V m c main_v23 (ix3 0 n i)
    = val_main_v21 (F := Ideal) (in0 m c) (in1 m c) (in2 m c) (in3 m c) (ix2 n i) := by
  rw [s_in]
  pointwise
  rfl

theorem ct_at (n : Fin 4096) (j : Fin 1024) : V m c main_v24 (ix3 0 n j) = in5 m c (ix2 n j) := by
  rw [ct_in]
  pointwise
  rfl

/-- The call's result is the reference's, which has the two factors the other way round. -/
theorem out_dw : @Eq (FVec Ideal Cert.Reference5Ideal.S1x2816x1024 .bf16) ((dats m 0 c).arrAt 2 cfg0.N)
    (val_main_v27 (F := Ideal) (in0 m c) (in1 m c) (in2 m c) (in3 m c) (in5 m c)) := by
  refine (final m c).trans (ext fun i j => ?_)
  rw [val_main_v27_apply, val_main_v26_apply, val_main_v25_apply]
  show (product (V m c main_v23) (V m c main_v24) i j : EReal) = val_main_v24 (F := Ideal) (in0 m c) (in1 m c) (in2 m c) (in3 m c) (in5 m c) _
  rw [read2 (val_main_v24 (F := Ideal) (in0 m c) (in1 m c) (in2 m c) (in3 m c) (in5 m c)) _ j i rfl rfl, val_main_v24_apply]
  unfold product
  refine Finset.sum_congr rfl fun n _ => ?_
  rw [read2 (in5 m c) _ n j rfl rfl, read2 (val_main_v21 (F := Ideal) (in0 m c) (in1 m c) (in2 m c) (in3 m c)) _ n i rfl rfl,
    mul_comm]
  exact congrArg₂ (fun s t => t * s) (s_at m c n i) (ct_at m c n j)

/-- The reference ends, its arguments unchanged; it has no semaphores. -/
theorem frameReference : Cert.quiescent_Reference5Ideal := by
  intro m g _
  refine (θ_run _ _ _).mono (fun r h => ⟨fun c => ?_, sem_eq_zero_of_no_sems (by decide) _⟩) (Cert.Reference5Ideal.Value.run m g)
  exact (h c).2

set_option maxHeartbeats 8000000 in
/-- The result of the call is the reference's, whatever the arguments. -/
theorem equal : Cert.algebraic_Kernel5Ideal_Reference5Ideal := by
  intro m g m' g' _ hagree
  refine ⟨fun c => (Cert.Kernel5Ideal.Gen.dats m 0 c).arrAt 2 Cert.Kernel5Ideal.cfg0.N, ?_, ?_⟩
  · exact Cert.Kernel5Ideal.Value.run_blocks m g
  · refine (θ_run _ _ _).mono (fun r h c => ?_) (Cert.Reference5Ideal.Value.run m' g')
    obtain ⟨e0, a⟩ := h c
    obtain ⟨p0, p1, p2, p3, _, p5⟩ := hagree c
    have q0 : m' ((c.tc : Thread Cert.Reference5Ideal.nD Cert.Reference5Ideal.τ).loc Cert.Reference5Ideal.main_arg0) = in0 m c := p0
    have q1 : m' ((c.tc : Thread Cert.Reference5Ideal.nD Cert.Reference5Ideal.τ).loc Cert.Reference5Ideal.main_arg1) = in1 m c := p1
    have q2 : m' ((c.tc : Thread Cert.Reference5Ideal.nD Cert.Reference5Ideal.τ).loc Cert.Reference5Ideal.main_arg2) = in2 m c := p2
    have q3 : m' ((c.tc : Thread Cert.Reference5Ideal.nD Cert.Reference5Ideal.τ).loc Cert.Reference5Ideal.main_arg3) = in3 m c := p3
    have q5 : m' ((c.tc : Thread Cert.Reference5Ideal.nD Cert.Reference5Ideal.τ).loc Cert.Reference5Ideal.main_arg5) = in5 m c := p5
    have s0 := Gating.same5 (Cert.Reference5Ideal.Read.val_main_v27 (F := Ideal)) q0 q1 q2 q3 q5
    have t0 := e0.trans (Cert.Reference5Ideal.Read.val_main_v27_eq (F := Ideal) _ _ _ _ _)
    have u0 := s0.trans (out_dw m c).symm
    exact ⟨t0.trans u0, a⟩

end Weights.Out
-- ==== Proof.MixOut.lean ====
/-
  The call that gives the gradient of an output weight of the mixing layers: two grid points, each 512 columns of the
  layer's saved values against all columns of the incoming gradient.
-/
module

public import proofs.«01_k».proof.Proof.WeightFormulas
public import proofs.«01_k».proof.Proof.Gen.Kernel6Ideal.Value

@[expose] public section

set_option maxRecDepth 16384

noncomputable section

namespace Weights.MixOut

open Idealize.ShloMosaic hiding ix1 ix2 ix3 ix4 eq_ix1 eq_ix2 eq_ix3 eq_ix4
open Idealize.ShloMosaic.TcCoe Idealize.ShloMosaic.ValueIdx Cert.Kernel6Ideal Cert.Kernel6Ideal.Gen Idealize.SL.Sem

/-- What a grid point stores: the columns of its first block against those of its second. -/
theorem stored (u : Vec Ideal S1x4096x512 .bf16) (v : Vec Ideal S1x4096x1024 .f32) (i : Fin 512) (j : Fin 1024) :
    k0_pay1 u v (ix3 0 i j) = product u v i j :=
  block_product (φ₂ := .bf16) dot_S4096x512_S4096x1024_S512x1024_0_0_1_1_n_n rfl rfl
    (fun _ _ _ => funext fun d => match d with | ⟨0, _⟩ => rfl | ⟨1, _⟩ => rfl)
    (fun _ _ _ => funext fun d => match d with | ⟨0, _⟩ => rfl | ⟨1, _⟩ => rfl) u v _ _ _ i j

variable (m : (ℓ : Loc nD τ sig) → Buf (Elt Ideal) ℓ) (c : Dev nD)

/-- Row `i` of the half of the weight that point `t` covers. -/
def rowAt (t : Fin cfg0.N) (i : Fin 512) : Fin 1024 := ⟨512 * t.val + i.val, by have : t.val < 2 := t.isLt; omega⟩

theorem index_0 : ∀ t : Fin cfg0.N, win0_0.index t = ![0, 0, t.val] := by decide +kernel
theorem index_1 : ∀ t : Fin cfg0.N, win0_1.index t = ![0, 0, 0] := by decide +kernel
theorem index_2 : ∀ t : Fin cfg0.N, win0_2.index t = ![0, t.val, 0] := by decide +kernel

theorem first_at (t : Fin cfg0.N) (n : Fin 4096) (i : Fin 512) : iblk m c 0 t (ix3 0 n i) = V m c main_v0 (ix3 0 n (rowAt t i)) := by
  blk_ext [iblk, V, index_0 t, rowAt]
  show t.val * 512 + i.val = 512 * t.val + i.val
  omega

theorem second_at (t : Fin cfg0.N) (n : Fin 4096) (j : Fin 1024) : iblk m c 1 t (ix3 0 n j) = V m c main_v1 (ix3 0 n j) := by
  blk_ext [iblk, V, index_1 t]

theorem point (t : Fin cfg0.N) (i : Fin 512) (j : Fin 1024) :
    out0_2 (iblk m c 0 t) (iblk m c 1 t) (ix3 0 i j) = product (V m c main_v0) (V m c main_v1) (rowAt t i) j := by
  unfold out0_2
  rw [View.canon_unit_zero (Val := Elt Ideal) (e := .bf16) (S := S1x512x1024) (off := ![0, 0, 0]) (by decide)]
  refine (stored _ _ i j).trans ?_
  rw [View.ld_unit_zero (by decide), View.ld_unit_zero (by decide)]
  exact product_block (fun n => first_at m c t n i) (fun n => second_at m c t n j)

/-- The call's result: all the products. -/
theorem final : (dats m 0 c).arrAt 2 cfg0.N = products (V m c main_v0) (V m c main_v1) := by
  refine (dats m 0 c).arrAt_eq_of_covers 2 _ (by decide +kernel) fun t hf y => ?_
  blk_simp
  rw [after0_2]
  obtain ⟨i, j, rfl⟩ : ∃ i j, y = ix3 0 i j := ⟨y 1, y 2, only_first y⟩
  have he : (win0_2.blk t).view.emb (ix3 0 i j : S1x512x1024.Idx) = ix3 0 (rowAt t i) j := by
    blk_ext [index_2 t, rowAt]
    show t.val * 512 + i.val = 512 * t.val + i.val
    omega
  exact (point m c t i j).trans (congrArg (products (V m c main_v0) (V m c main_v1)) he).symm

end Weights.MixOut
-- ==== Proof.MixOutClaim.lean ====
/-
  The claims of the call that gives the gradient of an output weight of the mixing layers: the frame of its reference, and
  the equality of its result with the reference's.
-/
module

public import proofs.«01_k».proof.Defs
public import proofs.«01_k».proof.Proof.Gen.Reference6Ideal.Run
public import proofs.«01_k».proof.Proof.Gen.Reference6Ideal.Read
public import proofs.«01_k».proof.Proof.Same
public import proofs.«01_k».proof.Proof.MixOut

@[expose] public section

namespace Weights.MixOut

open Idealize
open Idealize.ShloMosaic hiding ix1 ix2 ix3 ix4 eq_ix1 eq_ix2 eq_ix3 eq_ix4
open Idealize.ShloMosaic.TcCoe Idealize.ShloMosaic.ValueIdx Cert.Kernel6Ideal Cert.Kernel6Ideal.Gen
open Cert.Reference6Ideal.Read
open Gating (read2)

variable (m : (ℓ : Loc nD τ sig) → Buf (Elt Ideal) ℓ) (c : Dev nD)

/-- The `k`-th argument, as launched. -/
abbrev in0 : S4096x1024.Idx → EReal := m ((c : Thread nD τ).loc main_arg0)
abbrev in1 : S4096x1024.Idx → EReal := m ((c : Thread nD τ).loc main_arg1)

theorem y_in : V m c main_v0 = broadcastInDim S1x4096x1024 ![1, 2] bcast_S4096x1024_S1x4096x1024_1_2 (in0 m c) := by
  entry_read
  rfl

theorem ct_in : V m c main_v1 = broadcastInDim S1x4096x1024 ![1, 2] bcast_S4096x1024_S1x4096x1024_1_2 (in1 m c) := by
  entry_read
  rfl

theorem y_at (n : Fin 4096) (i : Fin 1024) : V m c main_v0 (ix3 0 n i) = in0 m c (ix2 n i) := by
  rw [y_in]
  pointwise
  rfl

theorem ct_at (n : Fin 4096) (j : Fin 1024) : V m c main_v1 (ix3 0 n j) = in1 m c (ix2 n j) := by
  rw [ct_in]
  pointwise
  rfl

/-- The call's result is the reference's, which has the two factors the other way round. -/
theorem out_dw : @Eq (FVec Ideal Cert.Reference6Ideal.S1x1024x1024 .bf16) ((dats m 0 c).arrAt 2 cfg0.N)
    (val_main_v6 (F := Ideal) (in0 m c) (in1 m c)) := by
  refine (final m c).trans (ext fun i j => ?_)
  rw [val_main_v6_apply, val_main_v5_apply, val_main_v4_apply]
  show (product (V m c main_v0) (V m c main_v1) i j : EReal) = val_main_v3 (F := Ideal) (in0 m c) (in1 m c) _
  rw [read2 (val_main_v3 (F := Ideal) (in0 m c) (in1 m c)) _ j i rfl rfl, val_main_v3_apply]
  unfold product
  refine Finset.sum_congr rfl fun n _ => ?_
  rw [read2 (in1 m c) _ n j rfl rfl, read2 (val_main_v1 (F := Ideal) (in0 m c)) _ n i rfl rfl, mul_comm]
  exact congrArg₂ (fun s t => t * s) (y_at m c n i) (ct_at m c n j)

/-- The reference ends, its arguments unchanged; it has no semaphores. -/
theorem frameReference : Cert.quiescent_Reference6Ideal := by
  intro m g _
  refine (θ_run _ _ _).mono (fun r h => ⟨fun c => ?_, sem_eq_zero_of_no_sems (by decide) _⟩) (Cert.Reference6Ideal.Value.run m g)
  exact (h c).2

/-- The result of the call is the reference's, whatever the arguments. -/
theorem equal : Cert.algebraic_Kernel6Ideal_Reference6Ideal := by
  intro m g m' g' _ hagree
  refine ⟨fun c => (Cert.Kernel6Ideal.Gen.dats m 0 c).arrAt 2 Cert.Kernel6Ideal.cfg0.N, ?_, ?_⟩
  · exact Cert.Kernel6Ideal.Value.run_blocks m g
  · refine (θ_run _ _ _).mono (fun r h c => ?_) (Cert.Reference6Ideal.Value.run m' g')
    obtain ⟨e0, a⟩ := h c
    obtain ⟨p0, p1⟩ := hagree c
    have q0 : m' ((c.tc : Thread Cert.Reference6Ideal.nD Cert.Reference6Ideal.τ).loc Cert.Reference6Ideal.main_arg0) = in0 m c := p0
    have q1 : m' ((c.tc : Thread Cert.Reference6Ideal.nD Cert.Reference6Ideal.τ).loc Cert.Reference6Ideal.main_arg1) = in1 m c := p1
    have s0 := congrArg₂ (Cert.Reference6Ideal.Read.val_main_v6 (F := Ideal)) q0 q1
    have t0 := e0.trans (Cert.Reference6Ideal.Read.val_main_v6_eq (F := Ideal) _ _)
    have u0 := s0.trans (out_dw m c).symm
    exact ⟨t0.trans u0, a⟩

end Weights.MixOut
-- ==== Proof.MixIn.lean ====
/-
  The call that gives the gradient of a mixing layer's input weight: four grid points, each all columns of the normed rows
  against the 512 columns of the incoming gradient that belong to one of the four shares of the weight.
-/
module

public import proofs.«01_k».proof.Proof.WeightFormulas
public import proofs.«01_k».proof.Proof.Gen.Kernel7Ideal.Value

@[expose] public section

set_option maxRecDepth 16384

noncomputable section

namespace Weights.MixIn

open Idealize.ShloMosaic hiding ix1 ix2 ix3 ix4 eq_ix1 eq_ix2 eq_ix3 eq_ix4
open Idealize.ShloMosaic.TcCoe Idealize.ShloMosaic.ValueIdx Cert.Kernel7Ideal Cert.Kernel7Ideal.Gen Idealize.SL.Sem

/-- What a grid point stores: the columns of its first block against those of its second. -/
theorem stored (u : Vec Ideal S1x4096x1024 .bf16) (v : Vec Ideal S1x4096x512 .bf16) (i : Fin 1024) (j : Fin 512) :
    k0_pay1 u v (ix3 0 i j) = product u v i j :=
  block_product dot_S4096x1024_S4096x512_S1024x512_0_0_1_1_n_n rfl rfl
    (fun _ _ _ => funext fun d => match d with | ⟨0, _⟩ => rfl | ⟨1, _⟩ => rfl)
    (fun _ _ _ => funext fun d => match d with | ⟨0, _⟩ => rfl | ⟨1, _⟩ => rfl) u v _ _ _ i j

/-- Column `j` of the share `s`, among all 2048. -/
def column (s : Fin 4) (j : Fin 512) : Fin 2048 := ⟨512 * s.val + j.val, by omega⟩

/-- The products in shares: the columns of the second array in four parts of 512, the parts first. -/
def shares (u : S1x4096x1024.Idx → EReal) (v : S1x4096x2048.Idx → EReal) : S4x1024x512.Idx → EReal :=
  fun i => product u v (i 1) (column (i 0) (i 2))

variable (m : (ℓ : Loc nD τ sig) → Buf (Elt Ideal) ℓ) (c : Dev nD)

/-- The share that point `t` gives. -/
def shareAt (t : Fin cfg0.N) : Fin 4 := ⟨t.val, t.isLt⟩

theorem index_0 : ∀ t : Fin cfg0.N, win0_0.index t = ![0, 0, 0] := by decide +kernel
theorem index_1 : ∀ t : Fin cfg0.N, win0_1.index t = ![0, 0, t.val] := by decide +kernel
theorem index_2 : ∀ t : Fin cfg0.N, win0_2.index t = ![t.val, 0, 0] := by decide +kernel

theorem first_at (t : Fin cfg0.N) (n : Fin 4096) (i : Fin 1024) : iblk m c 0 t (ix3 0 n i) = V m c main_v14 (ix3 0 n i) := by
  blk_ext [iblk, V, index_0 t]

theorem second_at (t : Fin cfg0.N) (n : Fin 4096) (j : Fin 512) :
    iblk m c 1 t (ix3 0 n j) = V m c main_v13 (ix3 0 n (column (shareAt t) j)) := by
  blk_ext [iblk, V, index_1 t, column, shareAt]
  show t.val * 512 + j.val = 512 * t.val + j.val
  omega

theorem point (t : Fin cfg0.N) (i : Fin 1024) (j : Fin 512) :
    out0_2 (iblk m c 0 t) (iblk m c 1 t) (ix3 0 i j) = product (V m c main_v14) (V m c main_v13) i (column (shareAt t) j) := by
  unfold out0_2
  rw [View.canon_unit_zero (Val := Elt Ideal) (e := .bf16) (S := S1x1024x512) (off := ![0, 0, 0]) (by decide)]
  refine (stored _ _ i j).trans ?_
  rw [View.ld_unit_zero (by decide), View.ld_unit_zero (by decide)]
  exact product_block (fun n => first_at m c t n i) (fun n => second_at m c t n j)

/-- The call's result: all the products, in shares. -/
theorem final : (dats m 0 c).arrAt 2 cfg0.N = shares (V m c main_v14) (V m c main_v13) := by
  refine (dats m 0 c).arrAt_eq_of_covers 2 _ (by decide +kernel) fun t hf y => ?_
  blk_simp
  rw [after0_2]
  obtain ⟨i, j, rfl⟩ : ∃ i j, y = ix3 0 i j := ⟨y 1, y 2, only_first y⟩
  have he : (win0_2.blk t).view.emb (ix3 0 i j : S1x1024x512.Idx) = ix3 (shareAt t) i j := by
    blk_ext [index_2 t, shareAt]
  exact (point m c t i j).trans (congrArg (shares (V m c main_v14) (V m c main_v13)) he).symm

end Weights.MixIn
-- ==== Proof.MixInClaim.lean ====
/-
  The claims of the call that gives the gradient of a mixing layer's input weight: the frame of its reference, and the
  equality of its result with the reference's.
-/
module

public import proofs.«01_k».proof.Defs
public import proofs.«01_k».proof.Proof.Gen.Reference7Ideal.Run
public import proofs.«01_k».proof.Proof.Gen.Reference7Ideal.Read
public import proofs.«01_k».proof.Proof.Same
public import proofs.«01_k».proof.Proof.MixIn

@[expose] public section

namespace Weights.MixIn

open Idealize
open Idealize.ShloMosaic hiding ix1 ix2 ix3 ix4 eq_ix1 eq_ix2 eq_ix3 eq_ix4
open Idealize.ShloMosaic.TcCoe Idealize.ShloMosaic.ValueIdx Cert.Kernel7Ideal Cert.Kernel7Ideal.Gen
open Cert.Reference7Ideal.Read
open Gating (read2)

variable (m : (ℓ : Loc nD τ sig) → Buf (Elt Ideal) ℓ) (c : Dev nD)

/-- The `k`-th argument, as launched. -/
abbrev in0 : S4096x1024.Idx → EReal := m ((c : Thread nD τ).loc main_arg0)
abbrev in1 : S1x1024.Idx → EReal := m ((c : Thread nD τ).loc main_arg1)
abbrev in2 : S4096x2048.Idx → EReal := m ((c : Thread nD τ).loc main_arg2)

theorem dz_in : V m c main_v13 = broadcastInDim S1x4096x2048 ![1, 2] bcast_S4096x2048_S1x4096x2048_1_2 (in2 m c) := by
  entry_read
  rfl

/-- The normed rows are the reference's. -/
theorem h_in : V m c main_v14 = broadcastInDim S1x4096x1024 ![1, 2] bcast_S4096x1024_S1x4096x1024_1_2
    (val_main_v12 (F := Ideal) (in0 m c) (in1 m c)) := by
  entry_read
  rfl

theorem dz_at (n : Fin 4096) (j : Fin 2048) : V m c main_v13 (ix3 0 n j) = in2 m c (ix2 n j) := by
  rw [dz_in]
  pointwise
  rfl

theorem h_at (n : Fin 4096) (i : Fin 1024) : V m c main_v14 (ix3 0 n i) = val_main_v12 (F := Ideal) (in0 m c) (in1 m c) (ix2 n i) := by
  rw [h_in]
  pointwise
  rfl

/-- The reference's product at a share, a row and a column of the share. -/
theorem reference_at (s : Fin 4) (i : Fin 1024) (j : Fin 512) :
    val_main_v19 (F := Ideal) (in0 m c) (in1 m c) (in2 m c) (ix3 s i j)
      = (val_main_v15 (F := Ideal) (in0 m c) (in1 m c) (in2 m c) (ix2 (column s j) i) : EReal) := by
  rw [val_main_v19_apply, val_main_v18_apply, val_main_v17_apply, val_main_v16_apply]
  refine congrArg (val_main_v15 (F := Ideal) (in0 m c) (in1 m c) (in2 m c)) (funext fun a => Fin.ext ?_)
  match a with
  | ⟨0, _⟩ =>
    show ((i.val * 4 + s.val) * 512 + j.val) % 2048 = 512 * s.val + j.val
    omega
  | ⟨1, _⟩ =>
    show ((i.val * 4 + s.val) * 512 + j.val) / 2048 = i.val
    omega

/-- The call's result is the reference's, which has the two factors the other way round. -/
theorem out_dw : @Eq (FVec Ideal Cert.Reference7Ideal.S4x1024x512 .bf16) ((dats m 0 c).arrAt 2 cfg0.N)
    (val_main_v19 (F := Ideal) (in0 m c) (in1 m c) (in2 m c)) := by
  refine (final m c).trans (funext fun y => ?_)
  obtain ⟨s, i, j, rfl⟩ : ∃ s i j, y = ix3 s i j := ⟨y 0, y 1, y 2, eq_ix3 y⟩
  rw [reference_at, val_main_v15_apply]
  show product (V m c main_v14) (V m c main_v13) i (column s j) = _
  unfold product
  refine Finset.sum_congr rfl fun n _ => ?_
  rw [read2 (val_main_v14 (F := Ideal) (in2 m c)) _ n (column s j) rfl rfl,
    read2 (val_main_v12 (F := Ideal) (in0 m c) (in1 m c)) _ n i rfl rfl, mul_comm]
  exact congrArg₂ (fun s t => t * s) (h_at m c n i) (dz_at m c n (column s j))

/-- The reference ends, its arguments unchanged; it has no semaphores. -/
theorem frameReference : Cert.quiescent_Reference7Ideal := by
  intro m g _
  refine (θ_run _ _ _).mono (fun r h => ⟨fun c => ?_, sem_eq_zero_of_no_sems (by decide) _⟩) (Cert.Reference7Ideal.Value.run m g)
  exact (h c).2

set_option maxHeartbeats 8000000 in
/-- The result of the call is the reference's, whatever the arguments. -/
theorem equal : Cert.algebraic_Kernel7Ideal_Reference7Ideal := by
  intro m g m' g' _ hagree
  refine ⟨fun c => (Cert.Kernel7Ideal.Gen.dats m 0 c).arrAt 2 Cert.Kernel7Ideal.cfg0.N, ?_, ?_⟩
  · exact Cert.Kernel7Ideal.Value.run_blocks m g
  · refine (θ_run _ _ _).mono (fun r h c => ?_) (Cert.Reference7Ideal.Value.run m' g')
    obtain ⟨e0, a⟩ := h c
    obtain ⟨p0, p1, p2⟩ := hagree c
    have q0 : m' ((c.tc : Thread Cert.Reference7Ideal.nD Cert.Reference7Ideal.τ).loc Cert.Reference7Ideal.main_arg0) = in0 m c := p0
    have q1 : m' ((c.tc : Thread Cert.Reference7Ideal.nD Cert.Reference7Ideal.τ).loc Cert.Reference7Ideal.main_arg1) = in1 m c := p1
    have q2 : m' ((c.tc : Thread Cert.Reference7Ideal.nD Cert.Reference7Ideal.τ).loc Cert.Reference7Ideal.main_arg2) = in2 m c := p2
    have s0 := Gating.same3 (Cert.Reference7Ideal.Read.val_main_v19 (F := Ideal)) q0 q1 q2
    have t0 := e0.trans (Cert.Reference7Ideal.Read.val_main_v19_eq (F := Ideal) _ _ _)
    have u0 := s0.trans (out_dw m c).symm
    exact ⟨t0.trans u0, a⟩

end Weights.MixIn
-- ==== Proof.ConvIn.lean ====
/-
  The call that gives the gradient of the convolution layer's input weight: twelve grid points, each all columns of the
  normed rows against 256 columns of one of the three parts of the incoming gradient. The 3072 columns of the three parts are
  the 3072 columns of the four shares.
-/
module

public import proofs.«01_k».proof.Proof.WeightFormulas
public import proofs.«01_k».proof.Proof.Gen.Kernel8Ideal.Value

@[expose] public section

set_option maxRecDepth 16384

noncomputable section

namespace Weights.ConvIn

open Idealize.ShloMosaic hiding ix1 ix2 ix3 ix4 eq_ix1 eq_ix2 eq_ix3 eq_ix4
open Idealize.ShloMosaic.TcCoe Idealize.ShloMosaic.ValueIdx Cert.Kernel8Ideal Cert.Kernel8Ideal.Gen Idealize.SL.Sem

/-- What a grid point stores: the columns of its first block against those of its second. -/
theorem stored (u : Vec Ideal S1x4096x1024 .bf16) (v : Vec Ideal S1x4096x256 .bf16) (i : Fin 1024) (j : Fin 256) :
    k0_pay1 u v (ix3 0 i j) = product u v i j :=
  block_product dot_S4096x1024_S4096x256_S1024x256_0_0_1_1_n_n rfl rfl
    (fun _ _ _ => funext fun d => match d with | ⟨0, _⟩ => rfl | ⟨1, _⟩ => rfl)
    (fun _ _ _ => funext fun d => match d with | ⟨0, _⟩ => rfl | ⟨1, _⟩ => rfl) u v _ _ _ i j

/-- The part that column `q` of the share `s` lies in, and the column of the part. -/
def part (s : Fin 4) (q : Fin 768) : Fin 3 := ⟨(768 * s.val + q.val) / 1024, by omega⟩
def column (s : Fin 4) (q : Fin 768) : Fin 1024 := ⟨(768 * s.val + q.val) % 1024, by omega⟩

/-- The products in shares, from a gradient in parts. -/
def shares (u : S1x4096x1024.Idx → EReal) (v : S3x4096x1024.Idx → EReal) : S4x1024x768.Idx → EReal :=
  fun i => ∑ n : Fin 4096, u (ix3 0 n (i 1)) * v (ix3 (part (i 0) (i 2)) n (column (i 0) (i 2)))

variable (m : (ℓ : Loc nD τ sig) → Buf (Elt Ideal) ℓ) (c : Dev nD)

/-- The share that point `t` gives columns of, and where in it column `j` of its block lies. -/
def shareAt (t : Fin cfg0.N) : Fin 4 := ⟨t.val / 3, by have : t.val < 12 := t.isLt; omega⟩
def placeAt (t : Fin cfg0.N) (j : Fin 256) : Fin 768 := ⟨256 * (t.val % 3) + j.val, by omega⟩

theorem index_0 : ∀ t : Fin cfg0.N, win0_0.index t = ![0, 0, 0] := by decide +kernel
theorem index_1 : ∀ t : Fin cfg0.N, win0_1.index t = ![t.val / 4, 0, t.val % 4] := by decide +kernel
theorem index_2 : ∀ t : Fin cfg0.N, win0_2.index t = ![t.val / 3, 0, t.val % 3] := by decide +kernel

theorem first_at (t : Fin cfg0.N) (n : Fin 4096) (i : Fin 1024) : iblk m c 0 t (ix3 0 n i) = V m c main_v13 (ix3 0 n i) := by
  blk_ext [iblk, V, index_0 t]

theorem second_at (t : Fin cfg0.N) (n : Fin 4096) (j : Fin 256) :
    iblk m c 1 t (ix3 0 n j) = V m c main_arg2 (ix3 (part (shareAt t) (placeAt t j)) n (column (shareAt t) (placeAt t j))) := by
  have : t.val < 12 := t.isLt
  blk_ext [iblk, V, index_1 t, part, column, shareAt, placeAt]
  show t.val % 4 * 256 + j.val = (768 * (t.val / 3) + (256 * (t.val % 3) + j.val)) % 1024
  omega

theorem point (t : Fin cfg0.N) (i : Fin 1024) (j : Fin 256) :
    out0_2 (iblk m c 0 t) (iblk m c 1 t) (ix3 0 i j)
      = shares (V m c main_v13) (V m c main_arg2) (ix3 (shareAt t) i (placeAt t j)) := by
  unfold out0_2
  rw [View.canon_unit_zero (Val := Elt Ideal) (e := .bf16) (S := S1x1024x256) (off := ![0, 0, 0]) (by decide)]
  refine (stored _ _ i j).trans ?_
  rw [View.ld_unit_zero (by decide), View.ld_unit_zero (by decide)]
  exact Finset.sum_congr rfl fun n _ => congrArg₂ (· * ·) (first_at m c t n i) (second_at m c t n j)

/-- The call's result: all the products, in shares. -/
theorem final : (dats m 0 c).arrAt 2 cfg0.N = shares (V m c main_v13) (V m c main_arg2) := by
  refine (dats m 0 c).arrAt_eq_of_covers 2 _ (by decide +kernel) fun t hf y => ?_
  blk_simp
  rw [after0_2]
  obtain ⟨i, j, rfl⟩ : ∃ i j, y = ix3 0 i j := ⟨y 1, y 2, only_first y⟩
  have he : (win0_2.blk t).view.emb (ix3 0 i j : S1x1024x256.Idx) = ix3 (shareAt t) i (placeAt t j) := by
    blk_ext [index_2 t, shareAt, placeAt]
    show t.val % 3 * 256 + j.val = 256 * (t.val % 3) + j.val
    omega
  exact (point m c t i j).trans (congrArg (shares (V m c main_v13) (V m c main_arg2)) he).symm

end Weights.ConvIn
-- ==== Proof.ConvInClaim.lean ====
/-
  The claims of the call that gives the gradient of the convolution layer's input weight: the frame of its reference, and
  the equality of its result with the reference's.
-/
module

public import proofs.«01_k».proof.Defs
public import proofs.«01_k».proof.Proof.Gen.Reference8Ideal.Run
public import proofs.«01_k».proof.Proof.Gen.Reference8Ideal.Read
public import proofs.«01_k».proof.Proof.Same
public import proofs.«01_k».proof.Proof.ConvIn

@[expose] public section

namespace Weights.ConvIn

open Idealize
open Idealize.ShloMosaic hiding ix1 ix2 ix3 ix4 eq_ix1 eq_ix2 eq_ix3 eq_ix4
open Idealize.ShloMosaic.TcCoe Idealize.ShloMosaic.ValueIdx Cert.Kernel8Ideal Cert.Kernel8Ideal.Gen
open Cert.Reference8Ideal.Read
open Gating (read2 read3)

variable (m : (ℓ : Loc nD τ sig) → Buf (Elt Ideal) ℓ) (c : Dev nD)

/-- The `k`-th argument, as launched. -/
abbrev in0 : S4096x1024.Idx → EReal := m ((c : Thread nD τ).loc main_arg0)
abbrev in1 : S1x1024.Idx → EReal := m ((c : Thread nD τ).loc main_arg1)
abbrev in2 : S3x4096x1024.Idx → EReal := m ((c : Thread nD τ).loc main_arg2)

theorem dp_in : V m c main_arg2 = in2 m c := by
  entry_read
  rfl

/-- The normed rows are the reference's. -/
theorem h_in : V m c main_v13 = broadcastInDim S1x4096x1024 ![1, 2] bcast_S4096x1024_S1x4096x1024_1_2
    (val_main_v12 (F := Ideal) (in0 m c) (in1 m c)) := by
  entry_read
  rfl

theorem h_at (n : Fin 4096) (i : Fin 1024) : V m c main_v13 (ix3 0 n i) = val_main_v12 (F := Ideal) (in0 m c) (in1 m c) (ix2 n i) := by
  rw [h_in]
  pointwise
  rfl

/-- The incoming gradient with its three parts side by side, as the reference has it. -/
theorem beside (s : Fin 4) (n : Fin 4096) (q : Fin 768) (x : Fin 3072) (hx : x.val = 768 * s.val + q.val) :
    val_main_v18 (F := Ideal) (in2 m c) (ix2 n x) = in2 m c (ix3 (part s q) n (column s q)) := by
  rw [val_main_v18_apply, val_main_v17_apply, val_main_v16_apply]
  refine congrArg (in2 m c) (funext fun a => Fin.ext ?_)
  match a with
  | ⟨0, _⟩ =>
    show (n.val * 3072 + x.val) / 1024 % 3 = (768 * s.val + q.val) / 1024
    omega
  | ⟨1, _⟩ =>
    show (n.val * 3072 + x.val) / 3072 = n.val
    omega
  | ⟨2, _⟩ =>
    show (n.val * 3072 + x.val) % 1024 = (768 * s.val + q.val) % 1024
    omega

/-- The reference's product at a share, a row and a column of the share. -/
theorem reference_at (s : Fin 4) (i : Fin 1024) (q : Fin 768) :
    val_main_v23 (F := Ideal) (in0 m c) (in1 m c) (in2 m c) (ix3 s i q)
      = (val_main_v19 (F := Ideal) (in0 m c) (in1 m c) (in2 m c) (ix2 ⟨768 * s.val + q.val, by omega⟩ i) : EReal) := by
  rw [val_main_v23_apply, val_main_v22_apply, val_main_v21_apply, val_main_v20_apply]
  refine congrArg (val_main_v19 (F := Ideal) (in0 m c) (in1 m c) (in2 m c)) (funext fun a => Fin.ext ?_)
  match a with
  | ⟨0, _⟩ =>
    show ((i.val * 4 + s.val) * 768 + q.val) % 3072 = 768 * s.val + q.val
    omega
  | ⟨1, _⟩ =>
    show ((i.val * 4 + s.val) * 768 + q.val) / 3072 = i.val
    omega

/-- The call's result is the reference's, which has the two factors the other way round. -/
theorem out_eq : @Eq (FVec Ideal Cert.Reference8Ideal.S4x1024x768 .bf16) ((dats m 0 c).arrAt 2 cfg0.N)
    (val_main_v23 (F := Ideal) (in0 m c) (in1 m c) (in2 m c)) := by
  refine (final m c).trans (funext fun y => ?_)
  obtain ⟨s, i, q, rfl⟩ : ∃ s i q, y = ix3 s i q := ⟨y 0, y 1, y 2, eq_ix3 y⟩
  rw [reference_at, val_main_v19_apply]
  refine Finset.sum_congr rfl fun n _ => ?_
  rw [read2 (val_main_v18 (F := Ideal) (in2 m c)) _ n ⟨768 * s.val + q.val, by omega⟩ rfl rfl, beside m c s n q _ rfl,
    read2 (val_main_v12 (F := Ideal) (in0 m c) (in1 m c)) _ n i rfl rfl, mul_comm]
  exact congrArg₂ (fun s t => t * s) (h_at m c n i) (congrFun (dp_in m c) _)

/-- The reference ends, its arguments unchanged; it has no semaphores. -/
theorem frameReference : Cert.quiescent_Reference8Ideal := by
  intro m g _
  refine (θ_run _ _ _).mono (fun r h => ⟨fun c => ?_, sem_eq_zero_of_no_sems (by decide) _⟩) (Cert.Reference8Ideal.Value.run m g)
  exact (h c).2

set_option maxHeartbeats 8000000 in
/-- The result of the call is the reference's, whatever the arguments. -/
theorem equal : Cert.algebraic_Kernel8Ideal_Reference8Ideal := by
  intro m g m' g' _ hagree
  refine ⟨fun c => (Cert.Kernel8Ideal.Gen.dats m 0 c).arrAt 2 Cert.Kernel8Ideal.cfg0.N, ?_, ?_⟩
  · exact Cert.Kernel8Ideal.Value.run_blocks m g
  · refine (θ_run _ _ _).mono (fun r h c => ?_) (Cert.Reference8Ideal.Value.run m' g')
    obtain ⟨e0, a⟩ := h c
    obtain ⟨p0, p1, p2⟩ := hagree c
    have q0 : m' ((c.tc : Thread Cert.Reference8Ideal.nD Cert.Reference8Ideal.τ).loc Cert.Reference8Ideal.main_arg0) = in0 m c := p0
    have q1 : m' ((c.tc : Thread Cert.Reference8Ideal.nD Cert.Reference8Ideal.τ).loc Cert.Reference8Ideal.main_arg1) = in1 m c := p1
    have q2 : m' ((c.tc : Thread Cert.Reference8Ideal.nD Cert.Reference8Ideal.τ).loc Cert.Reference8Ideal.main_arg2) = in2 m c := p2
    have s0 := Gating.same3 (Cert.Reference8Ideal.Read.val_main_v23 (F := Ideal)) q0 q1 q2
    have t0 := e0.trans (Cert.Reference8Ideal.Read.val_main_v23_eq (F := Ideal) _ _ _)
    have u0 := s0.trans (out_eq m c).symm
    exact ⟨t0.trans u0, a⟩

end Weights.ConvIn
-- ==== Proof.PoolIn.lean ====
/-
  The call that gives the gradient of the pooling layer's input weight: two grid points, each 512 columns of the normed rows
  against all columns of the incoming gradient.
-/
module

public import proofs.«01_k».proof.Proof.WeightFormulas
public import proofs.«01_k».proof.Proof.Gen.Kernel9Ideal.Value

@[expose] public section

set_option maxRecDepth 16384

noncomputable section

namespace Weights.PoolIn

open Idealize.ShloMosaic hiding ix1 ix2 ix3 ix4 eq_ix1 eq_ix2 eq_ix3 eq_ix4
open Idealize.ShloMosaic.TcCoe Idealize.ShloMosaic.ValueIdx Cert.Kernel9Ideal Cert.Kernel9Ideal.Gen Idealize.SL.Sem

/-- What a grid point stores: the columns of its first block against those of its second. -/
theorem stored (u : Vec Ideal S1x4096x512 .bf16) (v : Vec Ideal S1x4096x1024 .bf16) (i : Fin 512) (j : Fin 1024) :
    k0_pay1 u v (ix3 0 i j) = product u v i j :=
  block_product dot_S4096x512_S4096x1024_S512x1024_0_0_1_1_n_n rfl rfl
    (fun _ _ _ => funext fun d => match d with | ⟨0, _⟩ => rfl | ⟨1, _⟩ => rfl)
    (fun _ _ _ => funext fun d => match d with | ⟨0, _⟩ => rfl | ⟨1, _⟩ => rfl) u v _ _ _ i j

variable (m : (ℓ : Loc nD τ sig) → Buf (Elt Ideal) ℓ) (c : Dev nD)

/-- Row `i` of the half of the weight that point `t` covers. -/
def rowAt (t : Fin cfg0.N) (i : Fin 512) : Fin 1024 := ⟨512 * t.val + i.val, by have : t.val < 2 := t.isLt; omega⟩

theorem index_0 : ∀ t : Fin cfg0.N, win0_0.index t = ![0, 0, t.val] := by decide +kernel
theorem index_1 : ∀ t : Fin cfg0.N, win0_1.index t = ![0, 0, 0] := by decide +kernel
theorem index_2 : ∀ t : Fin cfg0.N, win0_2.index t = ![0, t.val, 0] := by decide +kernel

theorem first_at (t : Fin cfg0.N) (n : Fin 4096) (i : Fin 512) : iblk m c 0 t (ix3 0 n i) = V m c main_v13 (ix3 0 n (rowAt t i)) := by
  blk_ext [iblk, V, index_0 t, rowAt]
  show t.val * 512 + i.val = 512 * t.val + i.val
  omega

theorem second_at (t : Fin cfg0.N) (n : Fin 4096) (j : Fin 1024) : iblk m c 1 t (ix3 0 n j) = V m c main_v14 (ix3 0 n j) := by
  blk_ext [iblk, V, index_1 t]

theorem point (t : Fin cfg0.N) (i : Fin 512) (j : Fin 1024) :
    out0_2 (iblk m c 0 t) (iblk m c 1 t) (ix3 0 i j) = product (V m c main_v13) (V m c main_v14) (rowAt t i) j := by
  unfold out0_2
  rw [View.canon_unit_zero (Val := Elt Ideal) (e := .bf16) (S := S1x512x1024) (off := ![0, 0, 0]) (by decide)]
  refine (stored _ _ i j).trans ?_
  rw [View.ld_unit_zero (by decide), View.ld_unit_zero (by decide)]
  exact product_block (fun n => first_at m c t n i) (fun n => second_at m c t n j)

/-- The call's result: all the products. -/
theorem final : (dats m 0 c).arrAt 2 cfg0.N = products (V m c main_v13) (V m c main_v14) := by
  refine (dats m 0 c).arrAt_eq_of_covers 2 _ (by decide +kernel) fun t hf y => ?_
  blk_simp
  rw [after0_2]
  obtain ⟨i, j, rfl⟩ : ∃ i j, y = ix3 0 i j := ⟨y 1, y 2, only_first y⟩
  have he : (win0_2.blk t).view.emb (ix3 0 i j : S1x512x1024.Idx) = ix3 0 (rowAt t i) j := by
    blk_ext [index_2 t, rowAt]
    show t.val * 512 + i.val = 512 * t.val + i.val
    omega
  exact (point m c t i j).trans (congrArg (products (V m c main_v13) (V m c main_v14)) he).symm

end Weights.PoolIn
-- ==== Proof.PoolInClaim.lean ====
/-
  The claims of the call that gives the gradient of the pooling layer's input weight: the frame of its reference, and the
  equality of its result with the reference's.
-/
module

public import proofs.«01_k».proof.Defs
public import proofs.«01_k».proof.Proof.Gen.Reference9Ideal.Run
public import proofs.«01_k».proof.Proof.Gen.Reference9Ideal.Read
public import proofs.«01_k».proof.Proof.Same
public import proofs.«01_k».proof.Proof.PoolIn

@[expose] public section

namespace Weights.PoolIn

open Idealize
open Idealize.ShloMosaic hiding ix1 ix2 ix3 ix4 eq_ix1 eq_ix2 eq_ix3 eq_ix4
open Idealize.ShloMosaic.TcCoe Idealize.ShloMosaic.ValueIdx Cert.Kernel9Ideal Cert.Kernel9Ideal.Gen
open Cert.Reference9Ideal.Read
open Gating (read2 read3)

variable (m : (ℓ : Loc nD τ sig) → Buf (Elt Ideal) ℓ) (c : Dev nD)

/-- The `k`-th argument, as launched. -/
abbrev in0 : S4096x1024.Idx → EReal := m ((c : Thread nD τ).loc main_arg0)
abbrev in1 : S1x1024.Idx → EReal := m ((c : Thread nD τ).loc main_arg1)
abbrev in2 : S4096x1024.Idx → EReal := m ((c : Thread nD τ).loc main_arg2)

/-- The normed rows are the reference's. -/
theorem h_in : V m c main_v13 = broadcastInDim S1x4096x1024 ![1, 2] bcast_S4096x1024_S1x4096x1024_1_2
    (val_main_v12 (F := Ideal) (in0 m c) (in1 m c)) := by
  entry_read
  rfl

theorem dp_in : V m c main_v14 = broadcastInDim S1x4096x1024 ![1, 2] bcast_S4096x1024_S1x4096x1024_1_2 (in2 m c) := by
  entry_read
  rfl

theorem h_at (n : Fin 4096) (i : Fin 1024) : V m c main_v13 (ix3 0 n i) = val_main_v12 (F := Ideal) (in0 m c) (in1 m c) (ix2 n i) := by
  rw [h_in]
  pointwise
  rfl

theorem dp_at (n : Fin 4096) (j : Fin 1024) : V m c main_v14 (ix3 0 n j) = in2 m c (ix2 n j) := by
  rw [dp_in]
  pointwise
  rfl

/-- The call's result is the reference's, which has the two factors the other way round. -/
theorem out_eq : @Eq (FVec Ideal Cert.Reference9Ideal.S1x1024x1024 .bf16) ((dats m 0 c).arrAt 2 cfg0.N)
    (val_main_v18 (F := Ideal) (in0 m c) (in1 m c) (in2 m c)) := by
  refine (final m c).trans (ext fun i j => ?_)
  rw [val_main_v18_apply, val_main_v17_apply, val_main_v16_apply]
  show (product (V m c main_v13) (V m c main_v14) i j : EReal) = val_main_v15 (F := Ideal) (in0 m c) (in1 m c) (in2 m c) _
  rw [read2 (val_main_v15 (F := Ideal) (in0 m c) (in1 m c) (in2 m c)) _ j i rfl rfl, val_main_v15_apply]
  unfold product
  refine Finset.sum_congr rfl fun n _ => ?_
  rw [read2 (val_main_v14 (F := Ideal) (in2 m c)) _ n j rfl rfl, read2 (val_main_v12 (F := Ideal) (in0 m c) (in1 m c)) _ n i rfl rfl,
    mul_comm]
  exact congrArg₂ (fun s t => t * s) (h_at m c n i) (dp_at m c n j)

/-- The reference ends, its arguments unchanged; it has no semaphores. -/
theorem frameReference : Cert.quiescent_Reference9Ideal := by
  intro m g _
  refine (θ_run _ _ _).mono (fun r h => ⟨fun c => ?_, sem_eq_zero_of_no_sems (by decide) _⟩) (Cert.Reference9Ideal.Value.run m g)
  exact (h c).2

set_option maxHeartbeats 8000000 in
/-- The result of the call is the reference's, whatever the arguments. -/
theorem equal : Cert.algebraic_Kernel9Ideal_Reference9Ideal := by
  intro m g m' g' _ hagree
  refine ⟨fun c => (Cert.Kernel9Ideal.Gen.dats m 0 c).arrAt 2 Cert.Kernel9Ideal.cfg0.N, ?_, ?_⟩
  · exact Cert.Kernel9Ideal.Value.run_blocks m g
  · refine (θ_run _ _ _).mono (fun r h c => ?_) (Cert.Reference9Ideal.Value.run m' g')
    obtain ⟨e0, a⟩ := h c
    obtain ⟨p0, p1, p2⟩ := hagree c
    have q0 : m' ((c.tc : Thread Cert.Reference9Ideal.nD Cert.Reference9Ideal.τ).loc Cert.Reference9Ideal.main_arg0) = in0 m c := p0
    have q1 : m' ((c.tc : Thread Cert.Reference9Ideal.nD Cert.Reference9Ideal.τ).loc Cert.Reference9Ideal.main_arg1) = in1 m c := p1
    have q2 : m' ((c.tc : Thread Cert.Reference9Ideal.nD Cert.Reference9Ideal.τ).loc Cert.Reference9Ideal.main_arg2) = in2 m c := p2
    have s0 := Gating.same3 (Cert.Reference9Ideal.Read.val_main_v18 (F := Ideal)) q0 q1 q2
    have t0 := e0.trans (Cert.Reference9Ideal.Read.val_main_v18_eq (F := Ideal) _ _ _)
    have u0 := s0.trans (out_eq m c).symm
    exact ⟨t0.trans u0, a⟩

end Weights.PoolIn
-- ==== Proof.PoolGroup.lean ====
/-
  The call that gives the gradient of the pooling layer's four group weights: four grid points, each the 256 columns of one
  group of the pooled rows against the 256 columns of the same group of the incoming gradient.
-/
module

public import proofs.«01_k».proof.Proof.WeightFormulas
public import proofs.«01_k».proof.Proof.Gen.Kernel10Ideal.Value

@[expose] public section

set_option maxRecDepth 16384

noncomputable section

namespace Weights.PoolGroup

open Idealize.ShloMosaic hiding ix1 ix2 ix3 ix4 eq_ix1 eq_ix2 eq_ix3 eq_ix4
open Idealize.ShloMosaic.TcCoe Idealize.ShloMosaic.ValueIdx Cert.Kernel10Ideal Cert.Kernel10Ideal.Gen Idealize.SL.Sem

/-- What a grid point stores: the columns of its first block against those of its second. -/
theorem stored (u : Vec Ideal S1x4096x256 .bf16) (v : Vec Ideal S1x4096x256 .bf16) (i : Fin 256) (j : Fin 256) :
    k0_pay1 u v (ix3 0 i j) = product u v i j :=
  block_product dot_S4096x256_S4096x256_S256x256_0_0_1_1_n_n rfl rfl
    (fun _ _ _ => funext fun d => match d with | ⟨0, _⟩ => rfl | ⟨1, _⟩ => rfl)
    (fun _ _ _ => funext fun d => match d with | ⟨0, _⟩ => rfl | ⟨1, _⟩ => rfl) u v _ _ _ i j

/-- Column `i` of the group `s`, among all 1024. -/
def column (s : Fin 4) (i : Fin 256) : Fin 1024 := ⟨256 * s.val + i.val, by omega⟩

/-- The products within the groups. -/
def groups (u : S1x4096x1024.Idx → EReal) (v : S1x4096x1024.Idx → EReal) : S4x256x256.Idx → EReal :=
  fun i => product u v (column (i 0) (i 1)) (column (i 0) (i 2))

variable (m : (ℓ : Loc nD τ sig) → Buf (Elt Ideal) ℓ) (c : Dev nD)

/-- The group that point `t` gives. -/
def groupAt (t : Fin cfg0.N) : Fin 4 := ⟨t.val, t.isLt⟩

theorem index_0 : ∀ t : Fin cfg0.N, win0_0.index t = ![0, 0, t.val] := by decide +kernel
theorem index_1 : ∀ t : Fin cfg0.N, win0_1.index t = ![0, 0, t.val] := by decide +kernel
theorem index_2 : ∀ t : Fin cfg0.N, win0_2.index t = ![t.val, 0, 0] := by decide +kernel

theorem first_at (t : Fin cfg0.N) (n : Fin 4096) (i : Fin 256) :
    iblk m c 0 t (ix3 0 n i) = V m c main_v0 (ix3 0 n (column (groupAt t) i)) := by
  blk_ext [iblk, V, index_0 t, column, groupAt]
  show t.val * 256 + i.val = 256 * t.val + i.val
  omega

theorem second_at (t : Fin cfg0.N) (n : Fin 4096) (j : Fin 256) :
    iblk m c 1 t (ix3 0 n j) = V m c main_v1 (ix3 0 n (column (groupAt t) j)) := by
  blk_ext [iblk, V, index_1 t, column, groupAt]
  show t.val * 256 + j.val = 256 * t.val + j.val
  omega

theorem point (t : Fin cfg0.N) (i : Fin 256) (j : Fin 256) :
    out0_2 (iblk m c 0 t) (iblk m c 1 t) (ix3 0 i j)
      = product (V m c main_v0) (V m c main_v1) (column (groupAt t) i) (column (groupAt t) j) := by
  unfold out0_2
  rw [View.canon_unit_zero (Val := Elt Ideal) (e := .bf16) (S := S1x256x256) (off := ![0, 0, 0]) (by decide)]
  refine (stored _ _ i j).trans ?_
  rw [View.ld_unit_zero (by decide), View.ld_unit_zero (by decide)]
  exact product_block (fun n => first_at m c t n i) (fun n => second_at m c t n j)

/-- The call's result: all the groups' products. -/
theorem final : (dats m 0 c).arrAt 2 cfg0.N = groups (V m c main_v0) (V m c main_v1) := by
  refine (dats m 0 c).arrAt_eq_of_covers 2 _ (by decide +kernel) fun t hf y => ?_
  blk_simp
  rw [after0_2]
  obtain ⟨i, j, rfl⟩ : ∃ i j, y = ix3 0 i j := ⟨y 1, y 2, only_first y⟩
  have he : (win0_2.blk t).view.emb (ix3 0 i j : S1x256x256.Idx) = ix3 (groupAt t) i j := by
    blk_ext [index_2 t, groupAt]
  exact (point m c t i j).trans (congrArg (groups (V m c main_v0) (V m c main_v1)) he).symm

end Weights.PoolGroup
-- ==== Proof.PoolGroupClaim.lean ====
/-
  The claims of the call that gives the gradient of the pooling layer's group weights: the frame of its reference, and the
  equality of its result with the reference's.
-/
module

public import proofs.«01_k».proof.Defs
public import proofs.«01_k».proof.Proof.Gen.Reference10Ideal.Run
public import proofs.«01_k».proof.Proof.Gen.Reference10Ideal.Read
public import proofs.«01_k».proof.Proof.Same
public import proofs.«01_k».proof.Proof.PoolGroup

@[expose] public section

namespace Weights.PoolGroup

open Idealize
open Idealize.ShloMosaic hiding ix1 ix2 ix3 ix4 eq_ix1 eq_ix2 eq_ix3 eq_ix4
open Idealize.ShloMosaic.TcCoe Idealize.ShloMosaic.ValueIdx Cert.Kernel10Ideal Cert.Kernel10Ideal.Gen
open Cert.Reference10Ideal.Read
open Gating (read2 read3)

variable (m : (ℓ : Loc nD τ sig) → Buf (Elt Ideal) ℓ) (c : Dev nD)

/-- The `k`-th argument, as launched. -/
abbrev in0 : S4096x1024.Idx → EReal := m ((c : Thread nD τ).loc main_arg0)
abbrev in1 : S4096x1024.Idx → EReal := m ((c : Thread nD τ).loc main_arg1)

theorem d_in : V m c main_v0 = broadcastInDim S1x4096x1024 ![1, 2] bcast_S4096x1024_S1x4096x1024_1_2 (in0 m c) := by
  entry_read
  rfl

theorem dy_in : V m c main_v1 = broadcastInDim S1x4096x1024 ![1, 2] bcast_S4096x1024_S1x4096x1024_1_2 (in1 m c) := by
  entry_read
  rfl

theorem d_at (n : Fin 4096) (i : Fin 1024) : V m c main_v0 (ix3 0 n i) = in0 m c (ix2 n i) := by
  rw [d_in]
  pointwise
  rfl

theorem dy_at (n : Fin 4096) (j : Fin 1024) : V m c main_v1 (ix3 0 n j) = in1 m c (ix2 n j) := by
  rw [dy_in]
  pointwise
  rfl

/-- The pooled rows in groups, as the reference has them. -/
theorem pooled (n : Fin 4096) (s : Fin 4) (i : Fin 256) :
    val_main_v2 (F := Ideal) (in0 m c) (ix3 n s i) = in0 m c (ix2 n (column s i)) := by
  rw [val_main_v2_apply, val_main_v1_apply]
  refine congrArg (in0 m c) (funext fun a => Fin.ext ?_)
  match a with
  | ⟨0, _⟩ =>
    show ((n.val * 4 + s.val) * 256 + i.val) / 1024 = n.val
    omega
  | ⟨1, _⟩ =>
    show ((n.val * 4 + s.val) * 256 + i.val) % 1024 = 256 * s.val + i.val
    omega

/-- The incoming gradient in groups, rows last, as the reference has it. -/
theorem incoming (s : Fin 4) (j : Fin 256) (n : Fin 4096) :
    val_main_v8 (F := Ideal) (in1 m c) (ix3 s j n) = in1 m c (ix2 n (column s j)) := by
  rw [val_main_v8_apply, val_main_v7_apply, val_main_v6_apply]
  refine congrArg (in1 m c) (funext fun a => Fin.ext ?_)
  match a with
  | ⟨0, _⟩ =>
    show ((n.val * 4 + s.val) * 256 + j.val) / 1024 = n.val
    omega
  | ⟨1, _⟩ =>
    show ((n.val * 4 + s.val) * 256 + j.val) % 1024 = 256 * s.val + j.val
    omega

/-- The call's result is the reference's, which has the two factors the other way round. -/
theorem out_eq : @Eq (FVec Ideal Cert.Reference10Ideal.S4x256x256 .bf16) ((dats m 0 c).arrAt 2 cfg0.N)
    (val_main_v11 (F := Ideal) (in0 m c) (in1 m c)) := by
  refine (final m c).trans (funext fun y => ?_)
  obtain ⟨s, i, j, rfl⟩ : ∃ s i j, y = ix3 s i j := ⟨y 0, y 1, y 2, eq_ix3 y⟩
  rw [val_main_v11_apply, val_main_v10_apply]
  show (product (V m c main_v0) (V m c main_v1) (column s i) (column s j) : EReal) = val_main_v9 (F := Ideal) (in0 m c) (in1 m c) _
  rw [read3 (val_main_v9 (F := Ideal) (in0 m c) (in1 m c)) _ s j i rfl rfl rfl, val_main_v9_apply]
  unfold product
  refine Finset.sum_congr rfl fun n _ => ?_
  rw [read3 (val_main_v8 (F := Ideal) (in1 m c)) _ s j n rfl rfl rfl, incoming,
    read3 (val_main_v2 (F := Ideal) (in0 m c)) _ n s i rfl rfl rfl, pooled, mul_comm]
  exact congrArg₂ (fun s t => t * s) (d_at m c n _) (dy_at m c n _)

/-- The reference ends, its arguments unchanged; it has no semaphores. -/
theorem frameReference : Cert.quiescent_Reference10Ideal := by
  intro m g _
  refine (θ_run _ _ _).mono (fun r h => ⟨fun c => ?_, sem_eq_zero_of_no_sems (by decide) _⟩) (Cert.Reference10Ideal.Value.run m g)
  exact (h c).2

set_option maxHeartbeats 8000000 in
/-- The result of the call is the reference's, whatever the arguments. -/
theorem equal : Cert.algebraic_Kernel10Ideal_Reference10Ideal := by
  intro m g m' g' _ hagree
  refine ⟨fun c => (Cert.Kernel10Ideal.Gen.dats m 0 c).arrAt 2 Cert.Kernel10Ideal.cfg0.N, ?_, ?_⟩
  · exact Cert.Kernel10Ideal.Value.run_blocks m g
  · refine (θ_run _ _ _).mono (fun r h c => ?_) (Cert.Reference10Ideal.Value.run m' g')
    obtain ⟨e0, a⟩ := h c
    obtain ⟨p0, p1⟩ := hagree c
    have q0 : m' ((c.tc : Thread Cert.Reference10Ideal.nD Cert.Reference10Ideal.τ).loc Cert.Reference10Ideal.main_arg0) = in0 m c := p0
    have q1 : m' ((c.tc : Thread Cert.Reference10Ideal.nD Cert.Reference10Ideal.τ).loc Cert.Reference10Ideal.main_arg1) = in1 m c := p1
    have s0 := congrArg₂ (Cert.Reference10Ideal.Read.val_main_v11 (F := Ideal)) q0 q1
    have t0 := e0.trans (Cert.Reference10Ideal.Read.val_main_v11_eq (F := Ideal) _ _)
    have u0 := s0.trans (out_eq m c).symm
    exact ⟨t0.trans u0, a⟩

end Weights.PoolGroup
-- ==== Proof.RowProducts.lean ====
/-
  Products of rows: against the rows and against the columns of a second matrix, read at an index, for matrices of any size.
-/
module

public import Idealize.ShloMosaic.Lib.Pipeline.ValueKit
public import proofs.«01_k».proof.Proof.RefForward

@[expose] public section

noncomputable section

namespace Rows

open Idealize.ShloMosaic hiding ix1 ix2 ix3 ix4 eq_ix1 eq_ix2 eq_ix3 eq_ix4
open Idealize.ShloMosaic.ValueIdx

variable {T A B : ℕ} {φ₁ φ₂ : FTy}

/-- A matrix product that contracts the columns of both operands: rows against rows. -/
theorem against_rows (d : DotDims ⟨2, ![T, A]⟩ ⟨2, ![B, A]⟩ ⟨2, ![T, B]⟩) (hr : d.contr.rank = 1)
    (hs : d.contr.size ⟨0, by omega⟩ = A) (hu : ∀ i j q, d.lhsIdx (ix2 i j) ((contrEquiv1 d A hr hs).symm q) = ix2 i q)
    (hv : ∀ i j q, d.rhsIdx (ix2 i j) ((contrEquiv1 d A hr hs).symm q) = ix2 j q) (u : FVec Ideal ⟨2, ![T, A]⟩ φ₁)
    (v : FVec Ideal ⟨2, ![B, A]⟩ φ₂) (i : Fin T) (j : Fin B) :
    FloatOps.matmul d none u v (constant ⟨2, ![T, B]⟩ .f32 0x00000000#32) (ix2 i j) = ∑ q : Fin A, u (ix2 i q) * v (ix2 j q) := by
  rw [Ideal.matmul_constant_zero_apply, ← Equiv.sum_comp (contrEquiv1 d A hr hs).symm]
  exact Finset.sum_congr rfl fun q _ => congrArg₂ (· * ·) (congrArg u (hu i j q)) (congrArg v (hv i j q))

/-- A matrix product that contracts the columns of the first operand and the rows of the second: rows against columns. -/
theorem against_columns (d : DotDims ⟨2, ![T, A]⟩ ⟨2, ![A, B]⟩ ⟨2, ![T, B]⟩) (hr : d.contr.rank = 1)
    (hs : d.contr.size ⟨0, by omega⟩ = A) (hu : ∀ i j q, d.lhsIdx (ix2 i j) ((contrEquiv1 d A hr hs).symm q) = ix2 i q)
    (hv : ∀ i j q, d.rhsIdx (ix2 i j) ((contrEquiv1 d A hr hs).symm q) = ix2 q j) (u : FVec Ideal ⟨2, ![T, A]⟩ φ₁)
    (v : FVec Ideal ⟨2, ![A, B]⟩ φ₂) (i : Fin T) (j : Fin B) :
    FloatOps.matmul d none u v (constant ⟨2, ![T, B]⟩ .f32 0x00000000#32) (ix2 i j) = ∑ q : Fin A, u (ix2 i q) * v (ix2 q j) := by
  rw [Ideal.matmul_constant_zero_apply, ← Equiv.sum_comp (contrEquiv1 d A hr hs).symm]
  exact Finset.sum_congr rfl fun q _ => congrArg₂ (· * ·) (congrArg u (hu i j q)) (congrArg v (hv i j q))

end Rows
-- ==== Proof.ConvBack.lean ====
/-
  The call that takes the convolution layer's incoming gradient back through its output weight: eight grid points, each 512
  rows of the gradient against the rows of the weight.
-/
module

public import proofs.«01_k».proof.Proof.RowProducts
public import proofs.«01_k».proof.Proof.Gen.Kernel11Ideal.Value

@[expose] public section

set_option maxRecDepth 16384

noncomputable section

namespace ConvBack

open Idealize.ShloMosaic hiding ix1 ix2 ix3 ix4 eq_ix1 eq_ix2 eq_ix3 eq_ix4
open Idealize.ShloMosaic.TcCoe Idealize.ShloMosaic.ValueIdx Cert.Kernel11Ideal Cert.Kernel11Ideal.Gen Idealize.SL.Sem

/-- What a grid point stores: the rows of its block against the rows of the weight. -/
theorem stored (u : Vec Ideal S512x1024 .f32) (v : Vec Ideal S1024x1024 .bf16) (i : Fin 512) (j : Fin 1024) :
    k0_pay1 u v (ix2 i j) = ∑ q : Fin 1024, u (ix2 i q) * v (ix2 j q) := by
  unfold k0_pay1
  rw [shapeCast_id]
  exact Rows.against_rows (φ₁ := .bf16) (φ₂ := .bf16) dot_S512x1024_S1024x1024_S512x1024_1_1_0_0_n_n rfl rfl
    (fun _ _ _ => funext fun d => match d with | ⟨0, _⟩ => rfl | ⟨1, _⟩ => rfl)
    (fun _ _ _ => funext fun d => match d with | ⟨0, _⟩ => rfl | ⟨1, _⟩ => rfl) u v i j

/-- Every row against every row of the weight. -/
def products (u : S4096x1024.Idx → EReal) (v : S1024x1024.Idx → EReal) : S4096x1024.Idx → EReal :=
  fun i => ∑ q : Fin 1024, u (ix2 (i 0) q) * v (ix2 (i 1) q)

variable (m : (ℓ : Loc nD τ sig) → Buf (Elt Ideal) ℓ) (c : Dev nD)

/-- Row `r` of the block that point `t` covers. -/
def rowAt (t : Fin cfg0.N) (r : Fin 512) : Fin 4096 := ⟨512 * t.val + r.val, by have : t.val < 8 := t.isLt; omega⟩

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel

theorem first_at (t : Fin cfg0.N) (r : Fin 512) (j : Fin 1024) : iblk m c 0 t (ix2 r j) = V m c main_arg0 (ix2 (rowAt t r) j) := by
  blk_ext [iblk, V, index_0 t, rowAt]
  show t.val * 512 + r.val = 512 * t.val + r.val
  omega

theorem second_at (t : Fin cfg0.N) (i : Fin 1024) (j : Fin 1024) : iblk m c 1 t (ix2 i j) = V m c main_v0 (ix2 i j) := by
  blk_ext [iblk, V, index_1 t]

theorem point (t : Fin cfg0.N) (i : Fin 512) (j : Fin 1024) :
    out0_2 (iblk m c 0 t) (iblk m c 1 t) (ix2 i j) = products (V m c main_arg0) (V m c main_v0) (ix2 (rowAt t i) j) := by
  unfold out0_2
  rw [View.canon_unit_zero (Val := Elt Ideal) (e := .bf16) (S := S512x1024) (off := ![0, 0]) (by decide)]
  refine (stored _ _ i j).trans ?_
  rw [View.ld_unit_zero (by decide), View.ld_unit_zero (by decide)]
  exact Finset.sum_congr rfl fun q _ => congrArg₂ (· * ·) (first_at m c t i q) (second_at m c t j q)

/-- The call's result: all the products. -/
theorem final : (dats m 0 c).arrAt 2 cfg0.N = products (V m c main_arg0) (V m c main_v0) := by
  refine (dats m 0 c).arrAt_eq_of_covers 2 _ (by decide +kernel) fun t hf y => ?_
  blk_simp
  rw [after0_2]
  obtain ⟨i, j, rfl⟩ : ∃ i j, y = ix2 i j := ⟨y 0, y 1, eq_ix2 y⟩
  have he : (win0_2.blk t).view.emb (ix2 i j : S512x1024.Idx) = ix2 (rowAt t i) j := by
    blk_ext [index_2 t, rowAt]
    show t.val * 512 + i.val = 512 * t.val + i.val
    omega
  exact (point m c t i j).trans (congrArg (products (V m c main_arg0) (V m c main_v0)) he).symm

end ConvBack
-- ==== Proof.ConvBackClaim.lean ====
/-
  The claims of the call that takes the convolution layer's gradient back through its output weight: the frame of its
  reference, and the equality of its result with the reference's.
-/
module

public import proofs.«01_k».proof.Defs
public import proofs.«01_k».proof.Proof.Gen.Reference11Ideal.Run
public import proofs.«01_k».proof.Proof.Gen.Reference11Ideal.Read
public import proofs.«01_k».proof.Proof.Same
public import proofs.«01_k».proof.Proof.ConvBack

@[expose] public section

namespace ConvBack

open Idealize
open Idealize.ShloMosaic hiding ix1 ix2 ix3 ix4 eq_ix1 eq_ix2 eq_ix3 eq_ix4
open Idealize.ShloMosaic.TcCoe Idealize.ShloMosaic.ValueIdx Cert.Kernel11Ideal Cert.Kernel11Ideal.Gen
open Cert.Reference11Ideal.Read
open Gating (read2 read3)

variable (m : (ℓ : Loc nD τ sig) → Buf (Elt Ideal) ℓ) (c : Dev nD)

/-- The `k`-th argument, as launched. -/
abbrev in0 : S4096x1024.Idx → EReal := m ((c : Thread nD τ).loc main_arg0)
abbrev in1 : S1024x1024.Idx → EReal := m ((c : Thread nD τ).loc main_arg1)

theorem ct_in : V m c main_arg0 = in0 m c := by
  entry_read
  rfl

theorem w_in : V m c main_v0 = in1 m c := by
  entry_read
  rfl

/-- The call's result is the reference's. -/
theorem out_eq : @Eq (FVec Ideal Cert.Reference11Ideal.S4096x1024 .bf16) ((dats m 0 c).arrAt 2 cfg0.N)
    (val_main_v3 (F := Ideal) (in0 m c) (in1 m c)) := by
  refine (final m c).trans (funext fun y => ?_)
  obtain ⟨i, j, rfl⟩ : ∃ i j, y = ix2 i j := ⟨y 0, y 1, eq_ix2 y⟩
  rw [val_main_v3_apply]
  show products (V m c main_arg0) (V m c main_v0) (ix2 i j) = val_main_v2 (F := Ideal) (in0 m c) (in1 m c) (ix2 i j)
  rw [val_main_v2_apply, ct_in, w_in]
  refine Finset.sum_congr rfl fun q _ => ?_
  rw [read2 (in0 m c) (lidx_main_v2 (ix2 i j) q) i q rfl rfl, read2 (in1 m c) (ridx_main_v2 (ix2 i j) q) j q rfl rfl]

/-- The reference ends, its arguments unchanged; it has no semaphores. -/
theorem frameReference : Cert.quiescent_Reference11Ideal := by
  intro m g _
  refine (θ_run _ _ _).mono (fun r h => ⟨fun c => ?_, sem_eq_zero_of_no_sems (by decide) _⟩) (Cert.Reference11Ideal.Value.run m g)
  exact (h c).2

set_option maxHeartbeats 8000000 in
/-- The result of the call is the reference's, whatever the arguments. -/
theorem equal : Cert.algebraic_Kernel11Ideal_Reference11Ideal := by
  intro m g m' g' _ hagree
  refine ⟨fun c => (Cert.Kernel11Ideal.Gen.dats m 0 c).arrAt 2 Cert.Kernel11Ideal.cfg0.N, ?_, ?_⟩
  · exact Cert.Kernel11Ideal.Value.run_blocks m g
  · refine (θ_run _ _ _).mono (fun r h c => ?_) (Cert.Reference11Ideal.Value.run m' g')
    obtain ⟨e0, a⟩ := h c
    obtain ⟨p0, p1⟩ := hagree c
    have q0 : m' ((c.tc : Thread Cert.Reference11Ideal.nD Cert.Reference11Ideal.τ).loc Cert.Reference11Ideal.main_arg0) = in0 m c := p0
    have q1 : m' ((c.tc : Thread Cert.Reference11Ideal.nD Cert.Reference11Ideal.τ).loc Cert.Reference11Ideal.main_arg1) = in1 m c := p1
    have s0 := congrArg₂ (Cert.Reference11Ideal.Read.val_main_v3 (F := Ideal)) q0 q1
    have t0 := e0.trans (Cert.Reference11Ideal.Read.val_main_v3_eq (F := Ideal) _ _)
    have u0 := s0.trans (out_eq m c).symm
    exact ⟨t0.trans u0, a⟩

end ConvBack
-- ==== Proof.ConvOut.lean ====
/-
  The call that ends the convolution layer's forward pass: eight grid points, each 512 rows against the columns of the output
  weight, added to the layer's input.
-/
module

public import proofs.«01_k».proof.Proof.RowProducts
public import proofs.«01_k».proof.Proof.Gen.Kernel12Ideal.Value

@[expose] public section

set_option maxRecDepth 16384

noncomputable section

namespace ConvOut

open Idealize.ShloMosaic hiding ix1 ix2 ix3 ix4 eq_ix1 eq_ix2 eq_ix3 eq_ix4
open Idealize.ShloMosaic.TcCoe Idealize.ShloMosaic.ValueIdx Cert.Kernel12Ideal Cert.Kernel12Ideal.Gen Idealize.SL.Sem

/-- What a grid point stores: the layer's input and the rows of its block against the columns of the weight. -/
theorem stored (x : Vec Ideal S512x1024 .f32) (u : Vec Ideal S512x1024 .bf16) (v : Vec Ideal S1024x1024 .bf16) (i : Fin 512)
    (j : Fin 1024) : k0_pay1 x u v (ix2 i j) = x (ix2 i j) + ∑ q : Fin 1024, u (ix2 i q) * v (ix2 q j) := by
  unfold k0_pay1
  rw [shapeCast_id]
  exact congrArg (x (ix2 i j) + ·) (Rows.against_columns dot_S512x1024_S1024x1024_S512x1024_1_0_0_1_n_n rfl rfl
    (fun _ _ _ => funext fun d => match d with | ⟨0, _⟩ => rfl | ⟨1, _⟩ => rfl)
    (fun _ _ _ => funext fun d => match d with | ⟨0, _⟩ => rfl | ⟨1, _⟩ => rfl) u v i j)

/-- The input, and every row against every column of the weight. -/
def added (x u : S4096x1024.Idx → EReal) (v : S1024x1024.Idx → EReal) : S4096x1024.Idx → EReal :=
  fun i => x (ix2 (i 0) (i 1)) + ∑ q : Fin 1024, u (ix2 (i 0) q) * v (ix2 q (i 1))

variable (m : (ℓ : Loc nD τ sig) → Buf (Elt Ideal) ℓ) (c : Dev nD)

/-- Row `r` of the block that point `t` covers. -/
def rowAt (t : Fin cfg0.N) (r : Fin 512) : Fin 4096 := ⟨512 * t.val + r.val, by have : t.val < 8 := t.isLt; omega⟩

theorem index_0 : ∀ t : Fin cfg0.N, win0_0.index t = ![t.val, 0] := by decide +kernel
theorem index_1 : ∀ t : Fin cfg0.N, win0_1.index t = ![0, 0] := by decide +kernel
theorem index_2 : ∀ t : Fin cfg0.N, win0_2.index t = ![t.val, 0] := by decide +kernel
theorem index_3 : ∀ t : Fin cfg0.N, win0_3.index t = ![t.val, 0] := by decide +kernel

theorem first_at (t : Fin cfg0.N) (r : Fin 512) (j : Fin 1024) : iblk m c 0 t (ix2 r j) = V m c main_arg1 (ix2 (rowAt t r) j) := by
  blk_ext [iblk, V, index_0 t, rowAt]
  show t.val * 512 + r.val = 512 * t.val + r.val
  omega

theorem second_at (t : Fin cfg0.N) (i : Fin 1024) (j : Fin 1024) : iblk m c 1 t (ix2 i j) = V m c main_v0 (ix2 i j) := by
  blk_ext [iblk, V, index_1 t]

theorem third_at (t : Fin cfg0.N) (r : Fin 512) (j : Fin 1024) : iblk m c 2 t (ix2 r j) = V m c main_arg0 (ix2 (rowAt t r) j) := by
  blk_ext [iblk, V, index_2 t, rowAt]
  show t.val * 512 + r.val = 512 * t.val + r.val
  omega

theorem point (t : Fin cfg0.N) (i : Fin 512) (j : Fin 1024) :
    out0_3 (iblk m c 0 t) (iblk m c 1 t) (iblk m c 2 t) (ix2 i j)
      = added (V m c main_arg0) (V m c main_arg1) (V m c main_v0) (ix2 (rowAt t i) j) := by
  unfold out0_3
  rw [View.canon_unit_zero (Val := Elt Ideal) (e := .f32) (S := S512x1024) (off := ![0, 0]) (by decide)]
  refine (stored _ _ _ i j).trans ?_
  rw [View.ld_unit_zero (by decide), View.ld_unit_zero (by decide), View.ld_unit_zero (by decide)]
  exact congrArg₂ (· + ·) (third_at m c t i j)
    (Finset.sum_congr rfl fun q _ => congrArg₂ (· * ·) (first_at m c t i q) (second_at m c t q j))

/-- The call's result, whole. -/
theorem final : (dats m 0 c).arrAt 3 cfg0.N = added (V m c main_arg0) (V m c main_arg1) (V m c main_v0) := by
  refine (dats m 0 c).arrAt_eq_of_covers 3 _ (by decide +kernel) fun t hf y => ?_
  blk_simp
  rw [after0_3]
  obtain ⟨i, j, rfl⟩ : ∃ i j, y = ix2 i j := ⟨y 0, y 1, eq_ix2 y⟩
  have he : (win0_3.blk t).view.emb (ix2 i j : S512x1024.Idx) = ix2 (rowAt t i) j := by
    blk_ext [index_3 t, rowAt]
    show t.val * 512 + i.val = 512 * t.val + i.val
    omega
  exact (point m c t i j).trans (congrArg (added (V m c main_arg0) (V m c main_arg1) (V m c main_v0)) he).symm

end ConvOut
-- ==== Proof.ConvOutClaim.lean ====
/-
  The claims of the call that ends the convolution layer's forward pass: the frame of its reference, and the equality of its
  result with the reference's.
-/
module

public import proofs.«01_k».proof.Defs
public import proofs.«01_k».proof.Proof.Gen.Reference12Ideal.Run
public import proofs.«01_k».proof.Proof.Gen.Reference12Ideal.Read
public import proofs.«01_k».proof.Proof.Same
public import proofs.«01_k».proof.Proof.ConvOut

@[expose] public section

namespace ConvOut

open Idealize
open Idealize.ShloMosaic hiding ix1 ix2 ix3 ix4 eq_ix1 eq_ix2 eq_ix3 eq_ix4
open Idealize.ShloMosaic.TcCoe Idealize.ShloMosaic.ValueIdx Cert.Kernel12Ideal Cert.Kernel12Ideal.Gen
open Cert.Reference12Ideal.Read
open Gating (read2 read3)

variable (m : (ℓ : Loc nD τ sig) → Buf (Elt Ideal) ℓ) (c : Dev nD)

/-- The `k`-th argument, as launched. -/
abbrev in0 : S4096x1024.Idx → EReal := m ((c : Thread nD τ).loc main_arg0)
abbrev in1 : S4096x1024.Idx → EReal := m ((c : Thread nD τ).loc main_arg1)
abbrev in2 : S1024x1024.Idx → EReal := m ((c : Thread nD τ).loc main_arg2)

theorem x_in : V m c main_arg0 = in0 m c := by
  entry_read
  rfl

theorem y_in : V m c main_arg1 = in1 m c := by
  entry_read
  rfl

theorem w_in : V m c main_v0 = in2 m c := by
  entry_read
  rfl

/-- The call's result is the reference's. -/
theorem out_eq : @Eq (FVec Ideal Cert.Reference12Ideal.S4096x1024 .f32) ((dats m 0 c).arrAt 3 cfg0.N)
    (val_main_v2 (F := Ideal) (in0 m c) (in1 m c) (in2 m c)) := by
  refine (final m c).trans (funext fun y => ?_)
  obtain ⟨i, j, rfl⟩ : ∃ i j, y = ix2 i j := ⟨y 0, y 1, eq_ix2 y⟩
  rw [val_main_v2_apply, x_in, y_in, w_in]
  refine congrArg (in0 m c (ix2 i j) + ·) (Eq.trans ?_ (val_main_v1_apply (in1 m c) (in2 m c) (ix2 i j)).symm)
  refine Finset.sum_congr rfl fun q _ => ?_
  rw [read2 (val_main_v0 (F := Ideal) (in1 m c)) (lidx_main_v1 (ix2 i j) q) i q rfl rfl,
    read2 (in2 m c) (ridx_main_v1 (ix2 i j) q) q j rfl rfl]
  rfl

/-- The reference ends, its arguments unchanged; it has no semaphores. -/
theorem frameReference : Cert.quiescent_Reference12Ideal := by
  intro m g _
  refine (θ_run _ _ _).mono (fun r h => ⟨fun c => ?_, sem_eq_zero_of_no_sems (by decide) _⟩) (Cert.Reference12Ideal.Value.run m g)
  exact (h c).2

set_option maxHeartbeats 8000000 in
/-- The result of the call is the reference's, whatever the arguments. -/
theorem equal : Cert.algebraic_Kernel12Ideal_Reference12Ideal := by
  intro m g m' g' _ hagree
  refine ⟨fun c => (Cert.Kernel12Ideal.Gen.dats m 0 c).arrAt 3 Cert.Kernel12Ideal.cfg0.N, ?_, ?_⟩
  · exact Cert.Kernel12Ideal.Value.run_blocks m g
  · refine (θ_run _ _ _).mono (fun r h c => ?_) (Cert.Reference12Ideal.Value.run m' g')
    obtain ⟨e0, a⟩ := h c
    obtain ⟨p0, p1, p2⟩ := hagree c
    have q0 : m' ((c.tc : Thread Cert.Reference12Ideal.nD Cert.Reference12Ideal.τ).loc Cert.Reference12Ideal.main_arg0) = in0 m c := p0
    have q1 : m' ((c.tc : Thread Cert.Reference12Ideal.nD Cert.Reference12Ideal.τ).loc Cert.Reference12Ideal.main_arg1) = in1 m c := p1
    have q2 : m' ((c.tc : Thread Cert.Reference12Ideal.nD Cert.Reference12Ideal.τ).loc Cert.Reference12Ideal.main_arg2) = in2 m c := p2
    have s0 := Gating.same3 (Cert.Reference12Ideal.Read.val_main_v2 (F := Ideal)) q0 q1 q2
    have t0 := e0.trans (Cert.Reference12Ideal.Read.val_main_v2_eq (F := Ideal) _ _ _)
    have u0 := s0.trans (out_eq m c).symm
    exact ⟨t0.trans u0, a⟩

end ConvOut
-- ==== Proof.NormBackRef.lean ====
/-
  The reference of the pooling layer's input backward call, row by row: the gradient of the gained rows is a product,
  and on finite arguments its results are the formulas of the norm's gradient.
-/
module

public import proofs.«01_k».proof.Proof.FeedFormulas
public import proofs.«01_k».proof.Proof.RefResults
public import proofs.«01_k».proof.Proof.Gen.Reference14Ideal.Read

@[expose] public section

noncomputable section

namespace NormBack

open Idealize.ShloMosaic hiding ix1 ix2 ix3 ix4 eq_ix1 eq_ix2 eq_ix3 eq_ix4
open Idealize.ShloMosaic.TcCoe Idealize.ShloMosaic.ValueIdx Cert.Reference14Ideal Cert.Reference14Ideal.Gen Cert.Reference14Ideal.Read
open Gating (IsReal isReal_coe isReal_sum isReal_rmsInv rmsHat rmsInv rmsVjp rmsVjp_eq rmsGrad mean eps half read1 read2 xRow)

variable {x0 : (⟨S4096x1024, .f32⟩ : BufTy).Contents (Elt Ideal)} {x1 : (⟨S1x1024, .f32⟩ : BufTy).Contents (Elt Ideal)}
  {x2 : (⟨S1024x1024, .f32⟩ : BufTy).Contents (Elt Ideal)} {x3 : (⟨S4096x1024, .bf16⟩ : BufTy).Contents (Elt Ideal)}
  {x4 : (⟨S4096x1024, .f32⟩ : BufTy).Contents (Elt Ideal)}

/-! ### The norm -/

theorem guard_at (n : Fin 4096) (u : Fin 1) :
    val_main_v6 (F := Ideal) x0 (ix2 n u) = mean (fun j => xRow x0 n j * xRow x0 n j) + eps :=
  Gating.rms_guard x0 n u

theorem inv_at (n : Fin 4096) (u : Fin 1) : val_main_v7 (F := Ideal) x0 (ix2 n u) = rmsInv (xRow x0 n) :=
  Gating.rms_inv x0 n u

theorem hat_at (n : Fin 4096) (j : Fin 1024) : val_main_v12 (F := Ideal) x0 (ix2 n j) = rmsHat (xRow x0 n) j :=
  Gating.rms_hat x0 n j

/-- The gradient of the gained rows: rows of the output's gradient against rows of the weight. -/
theorem product_at (n : Fin 4096) (j : Fin 1024) :
    val_main_v17 (F := Ideal) x2 x3 (ix2 n j) = ∑ q : Fin 1024, x3 (ix2 n q) * x2 (ix2 j q) := by
  rw [val_main_v17_apply]
  refine Finset.sum_congr rfl fun q _ => congrArg₂ (· * ·) ?_ ?_
  · rw [val_main_v16_apply]
    exact read2 x3 _ n q rfl rfl
  · exact read2 x2 _ j q rfl rfl

variable {D : Fin 4096 → Fin 1024 → EReal} (hD : ∀ n j, val_main_v17 (F := Ideal) x2 x3 (ix2 n j) = D n j)
include hD

/-! ### The rows' gradient -/

theorem gained_at (n : Fin 4096) (j : Fin 1024) : val_main_v22 (F := Ideal) x1 x2 x3 (ix2 n j) = D n j * x1 (ix2 0 j) := by
  rw [val_main_v22_apply, val_main_v21_apply, hD, read2 x1 _ 0 j rfl rfl]
  rfl

theorem spread_square (n : Fin 4096) (u : Fin 1) : val_main_v30 (F := Ideal) x0 x1 x2 x3 (ix2 n u)
    = Ideal.div ((∑ i, xRow x0 n i * (D n i * x1 (ix2 0 i)))
        * (-half * Ideal.div (rmsInv (xRow x0 n)) (mean (fun j => xRow x0 n j * xRow x0 n j) + eps)))
        ((1024 : ℝ) : EReal) := by
  rw [val_main_v30_apply, val_main_v29_apply, val_main_v28_apply, val_main_v25_apply, val_main_v24_apply,
    val_main_v10_apply, val_main_v9_apply, val_main_v8_apply, val_main_cst_2_apply, val_main_cst_4_apply,
    val_main_cst_5_apply, guard_at, inv_at]
  have e : ∀ k, val_main_v23 (F := Ideal) x0 x1 x2 x3 (idx_main_v24 (idx_main_v25 (ix2 n u)) k)
      = xRow x0 n k * (D n k * x1 (ix2 0 k)) := fun k => by
    rw [read2 (val_main_v23 (F := Ideal) x0 x1 x2 x3) _ n k (Fin.ext (show n.val * 1 + u.val = _ by omega)) rfl,
      val_main_v23_apply, gained_at hD]
    rfl
  simp only [e]
  show Ideal.div ((Ideal.ofBits .f32 0x00000000#32 + _) * (Ideal.ofBits .f32 0xBF000000#32 * _))
    (Ideal.ofBits .f32 0x44800000#32) = _
  rw [Ideal.ofBits_zero_f32, zero_add, Gating.ofBits_1024, Gating.ofBits_neg_half]
  rfl

theorem back_at (n : Fin 4096) (j : Fin 1024) : val_main_v36 (F := Ideal) x0 x1 x2 x3 (ix2 n j)
    = rmsVjp (xRow x0 n) (fun i => D n i * x1 (ix2 0 i)) j := by
  rw [val_main_v36_apply, val_main_v35_apply, val_main_v34_apply, val_main_v33_apply, val_main_v32_apply,
    val_main_v31_apply, val_main_v27_apply, val_main_v26_apply, val_main_cst_6_apply, gained_at hD,
    read2 (val_main_v7 (F := Ideal) x0) _ n 0 rfl rfl, inv_at]
  have e : ∀ k, val_main_v30 (F := Ideal) x0 x1 x2 x3 (idx_main_v31 (idx_main_v32 (ix2 n j)) k) = _ := fun k =>
    (read2 (val_main_v30 (F := Ideal) x0 x1 x2 x3) _ n k rfl rfl).trans (spread_square hD n k)
  simp only [e]
  show (_ + _ * (Ideal.ofBits .f32 0x00000000#32 + ∑ _k : Fin 1, _))
    + (Ideal.ofBits .f32 0x00000000#32 + ∑ _k : Fin 1, _) * _ = _
  simp only [Ideal.ofBits_zero_f32, zero_add, Fin.sum_univ_one]
  rfl

theorem dx_at (h0 : ∀ i, IsReal (x0 i)) (h1 : ∀ i, IsReal (x1 i)) (hr : ∀ n j, IsReal (D n j)) (n : Fin 4096) (j : Fin 1024) :
    val_main_v37 (F := Ideal) x0 x1 x2 x3 x4 (ix2 n j)
      = x4 (ix2 n j) + rmsGrad (xRow x0 n) (fun i => D n i * x1 (ix2 0 i)) j := by
  rw [val_main_v37_apply, back_at hD]
  exact congrArg (x4 _ + ·) (rmsVjp_eq _ _ (fun i => h0 _) (fun i => (hr n i).mul (h1 _)) j)

/-! ### The gain's gradient -/

theorem dg_at (j : Fin 1024) : val_main_v20 (F := Ideal) x0 x2 x3 (ix2 0 j) = ∑ n, D n j * rmsHat (xRow x0 n) j := by
  rw [val_main_v20_apply, read1 (val_main_v19 (F := Ideal) x0 x2 x3) _ j
    (Fin.ext (show 0 * 1024 + j.val = j.val by omega)), val_main_v19_apply, val_main_cst_3_apply]
  show Ideal.ofBits .f32 0x00000000#32 + _ = _
  rw [Ideal.ofBits_zero_f32, zero_add]
  refine Finset.sum_congr rfl fun n _ => ?_
  rw [read2 (val_main_v18 (F := Ideal) x0 x2 x3) _ n j rfl rfl, val_main_v18_apply, hat_at, hD]
  exact mul_comm _ _

theorem dg_padded (a : Fin 8) (j : Fin 1024) : val_main_v38 (F := Ideal) x0 x2 x3 (ix2 a j)
    = if a = 0 then ∑ n, D n j * rmsHat (xRow x0 n) j else 0 := by
  rw [← dg_at hD]
  exact (Gating.first_row (val_main_v20 (F := Ideal) x0 x2 x3) _ a j).trans
    (congrArg (ite _ _) (show (((0 : ℤ) : ℝ) : EReal) = 0 by simp))

end NormBack
-- ==== Proof.ConvNormRef.lean ====
/-
  The reference of the convolution layer's input backward call: the gradient of the gained rows is a product over 3072
  columns, and what follows it is what the pooling layer's reference does with its own product.
-/
module

public import proofs.«01_k».proof.Proof.NormBackRef
public import proofs.«01_k».proof.Proof.Gen.Reference13Ideal.Read

@[expose] public section

noncomputable section

namespace ConvNorm

open Idealize.ShloMosaic hiding ix1 ix2 ix3 ix4 eq_ix1 eq_ix2 eq_ix3 eq_ix4
open Idealize.ShloMosaic.TcCoe Idealize.ShloMosaic.ValueIdx Cert.Reference13Ideal Cert.Reference13Ideal.Gen Cert.Reference13Ideal.Read
open Gating (IsReal rmsHat rmsGrad read2 read3 xRow)

/-- The part of the output's gradient that column `k` lies in, and its place there. -/
def part (k : Fin 3072) : Fin 3 := ⟨k.val / 1024, by omega⟩
def place (k : Fin 3072) : Fin 1024 := ⟨k.val % 1024, by omega⟩

/-- The gradient of the gained rows: rows of the output's gradient, its three parts side by side, against rows of the weight. -/
def product (w : S1024x3072.Idx → EReal) (dp : S3x4096x1024.Idx → EReal) (n : Fin 4096) (j : Fin 1024) : EReal :=
  ∑ k : Fin 3072, dp (ix3 (part k) n (place k)) * w (ix2 j k)

variable (x0 : (⟨S4096x1024, .f32⟩ : BufTy).Contents (Elt Ideal)) (x1 : (⟨S1x1024, .f32⟩ : BufTy).Contents (Elt Ideal))
  (x2 : (⟨S1024x3072, .f32⟩ : BufTy).Contents (Elt Ideal)) (x3 : (⟨S3x4096x1024, .bf16⟩ : BufTy).Contents (Elt Ideal))
  (x4 : (⟨S4096x1024, .f32⟩ : BufTy).Contents (Elt Ideal))

theorem beside (n : Fin 4096) (k : Fin 3072) : val_main_v20 (F := Ideal) x3 (ix2 n k) = x3 (ix3 (part k) n (place k)) := by
  rw [val_main_v20_apply, val_main_v19_apply, val_main_v18_apply]
  refine congrArg x3 (funext fun a => Fin.ext ?_)
  match a with
  | ⟨0, _⟩ =>
    show (n.val * 3072 + k.val) / 1024 % 3 = k.val / 1024
    omega
  | ⟨1, _⟩ =>
    show (n.val * 3072 + k.val) / 3072 = n.val
    omega
  | ⟨2, _⟩ =>
    show (n.val * 3072 + k.val) % 1024 = k.val % 1024
    omega

theorem product_at (n : Fin 4096) (j : Fin 1024) : val_main_v21 (F := Ideal) x2 x3 (ix2 n j) = product x2 x3 n j := by
  rw [val_main_v21_apply]
  refine Finset.sum_congr rfl fun k _ => congrArg₂ (· * ·) ?_ (read2 x2 _ j k rfl rfl)
  exact (read2 (val_main_v20 (F := Ideal) x3) _ n k rfl rfl).trans (beside x3 n k)

/-! ### Any gradient is its product with the unit matrix -/

/-- The unit matrix. -/
def unit (i : Cert.Reference14Ideal.S1024x1024.Idx) : EReal := if (i 0).val = (i 1).val then 1 else 0

theorem unit_product (d : FVec Ideal S4096x1024 .f32) :
    @Eq (FVec Ideal S4096x1024 .f32) (Cert.Reference14Ideal.Read.val_main_v17 (F := Ideal) unit d) d := by
  funext i
  obtain ⟨n, j, rfl⟩ : ∃ (n : Fin 4096) (j : Fin 1024), i = ix2 n j := ⟨i 0, i 1, eq_ix2 i⟩
  refine (NormBack.product_at n j).trans ?_
  have e : ∀ q : Fin 1024, (d (ix2 n q) : EReal) * unit (ix2 j q) = if j = q then d (ix2 n q) else 0 := fun q => by
    by_cases h : j = q
    · rw [if_pos h, unit, if_pos (congrArg Fin.val h), mul_one]
    · rw [if_neg h, unit, if_neg (fun e => h (Fin.ext e)), mul_zero]
  refine (Finset.sum_congr rfl fun q _ => e q).trans ?_
  rw [Finset.sum_ite_eq, if_pos (Finset.mem_univ j)]

theorem dx_same : @Eq (FVec Ideal S4096x1024 .f32) (Cert.Reference13Ideal.Read.val_main_v41 (F := Ideal) x0 x1 x2 x3 x4)
    (Cert.Reference14Ideal.Read.val_main_v37 (F := Ideal) x0 x1 unit (Cert.Reference13Ideal.Read.val_main_v21 (F := Ideal) x2 x3) x4) := by
  unfold Cert.Reference14Ideal.Read.val_main_v37 Cert.Reference14Ideal.Read.val_main_v36 Cert.Reference14Ideal.Read.val_main_v35 Cert.Reference14Ideal.Read.val_main_v34
    Cert.Reference14Ideal.Read.val_main_v33 Cert.Reference14Ideal.Read.val_main_v32 Cert.Reference14Ideal.Read.val_main_v31 Cert.Reference14Ideal.Read.val_main_v30
    Cert.Reference14Ideal.Read.val_main_v28 Cert.Reference14Ideal.Read.val_main_v27 Cert.Reference14Ideal.Read.val_main_v25 Cert.Reference14Ideal.Read.val_main_v24
    Cert.Reference14Ideal.Read.val_main_v23 Cert.Reference14Ideal.Read.val_main_v22
  rw [unit_product]
  rfl

theorem dg_same : @Eq (FVec Ideal S8x1024 .f32) (Cert.Reference13Ideal.Read.val_main_v42 (F := Ideal) x0 x2 x3)
    (Cert.Reference14Ideal.Read.val_main_v38 (F := Ideal) x0 unit (Cert.Reference13Ideal.Read.val_main_v21 (F := Ideal) x2 x3)) := by
  unfold Cert.Reference14Ideal.Read.val_main_v38 Cert.Reference14Ideal.Read.val_main_v20 Cert.Reference14Ideal.Read.val_main_v19 Cert.Reference14Ideal.Read.val_main_v18
  rw [unit_product]
  rfl

/-! ### The results -/

variable {x0 x1 x2 x3 x4}

theorem of_unit (n : Fin 4096) (j : Fin 1024) :
    Cert.Reference14Ideal.Read.val_main_v17 (F := Ideal) unit (Cert.Reference13Ideal.Read.val_main_v21 (F := Ideal) x2 x3) (ix2 n j)
      = product x2 x3 n j :=
  (congrFun (unit_product _) (ix2 n j)).trans (product_at x2 x3 n j)

theorem dx_at (h0 : ∀ i, IsReal (x0 i)) (h1 : ∀ i, IsReal (x1 i)) (hr : ∀ n j, IsReal (product x2 x3 n j)) (n : Fin 4096) (j : Fin 1024) :
    val_main_v41 (F := Ideal) x0 x1 x2 x3 x4 (ix2 n j)
      = x4 (ix2 n j) + rmsGrad (xRow x0 n) (fun i => product x2 x3 n i * x1 (ix2 0 i)) j :=
  (congrFun (dx_same x0 x1 x2 x3 x4) (ix2 n j)).trans (NormBack.dx_at of_unit h0 h1 hr n j)

theorem dg_padded (a : Fin 8) (j : Fin 1024) : val_main_v42 (F := Ideal) x0 x2 x3 (ix2 a j)
    = if a = 0 then ∑ n, product x2 x3 n j * rmsHat (xRow x0 n) j else 0 :=
  (congrFun (dg_same x0 x2 x3) (ix2 a j)).trans (NormBack.dg_padded of_unit a j)

end ConvNorm
-- ==== Proof.NormBack.lean ====
/-
  The gradient of a layer's input norm as a kernel computes it for a block of `N` rows: from the rows, the gain and the
  gradient of the gained rows, the gradient of the rows and the rows' shares of the gain's gradient.
-/
module

public import proofs.«01_k».proof.Proof.FeedFormulas
public import proofs.«01_k».proof.Proof.Stages

@[expose] public section

noncomputable section

namespace NormBack

open Idealize.ShloMosaic Idealize.ShloMosaic.ValueIdx
open Idealize.ShloMosaic.Ideal (multiReduction_add_single)
open Gating (mean rmsInv rmsHat rmsGrad eps ofBits_1024)

variable {N : ℕ}

/-- The shapes fit: sums over a row and over a column, and a column or a row laid out over the block. -/
structure Laws (N : ℕ) : Prop where
  row : (⟨2, ![N, 1024]⟩ : Shape).Reduces [1] ⟨1, ![N]⟩
  kept : (⟨1, ![N]⟩ : Shape).ShapeCasts ⟨2, ![N, 1]⟩
  col : (⟨2, ![N, 1024]⟩ : Shape).Reduces [0] ⟨1, ![1024]⟩
  laid : (⟨1, ![1024]⟩ : Shape).ShapeCasts ⟨2, ![1, 1024]⟩
  across : (⟨2, ![N, 1]⟩ : Shape).Broadcasts ⟨2, ![N, 1024]⟩
  down : (⟨2, ![1, 1024]⟩ : Shape).Broadcasts ⟨2, ![N, 1024]⟩

variable (l : Laws N)

/-- The means of the rows. -/
def means (f : FVec Ideal ⟨2, ![N, 1024]⟩ .f32) : FVec Ideal ⟨2, ![N, 1]⟩ .f32 :=
  divf (shapeCast ⟨2, ![N, 1]⟩ (multiReduction .add [1] ⟨1, ![N]⟩ f 0x00000000#32 l.row (.inl rfl) rfl) l.kept)
    (broadcast ⟨2, ![N, 1]⟩ (Scalar.ofBits .f32 0x44800000#32))

/-- One over the rows' root mean squares. -/
def inverses (x : FVec Ideal ⟨2, ![N, 1024]⟩ .f32) : FVec Ideal ⟨2, ![N, 1]⟩ .f32 :=
  rsqrt (addf (means l (mulf x x)) (broadcast ⟨2, ![N, 1]⟩ (Scalar.ofBits .f32 0x358637BD#32)))

/-- The normed rows. -/
def hats (x : FVec Ideal ⟨2, ![N, 1024]⟩ .f32) : FVec Ideal ⟨2, ![N, 1024]⟩ .f32 :=
  mulf x (broadcastTo ⟨2, ![N, 1024]⟩ (inverses l x) l.across)

/-- The gradient of the normed rows, before the gain. -/
def gained (d : FVec Ideal ⟨2, ![N, 1024]⟩ .f32) (g : FVec Ideal ⟨2, ![1, 1024]⟩ .f32) : FVec Ideal ⟨2, ![N, 1024]⟩ .f32 :=
  mulf d (broadcastTo ⟨2, ![N, 1024]⟩ g l.down)

/-- The gradient of the rows. -/
def grads (d x : FVec Ideal ⟨2, ![N, 1024]⟩ .f32) (g : FVec Ideal ⟨2, ![1, 1024]⟩ .f32) : FVec Ideal ⟨2, ![N, 1024]⟩ .f32 :=
  mulf (broadcastTo ⟨2, ![N, 1024]⟩ (inverses l x) l.across)
    (subf (gained l d g) (mulf (hats l x)
      (broadcastTo ⟨2, ![N, 1024]⟩ (means l (mulf (gained l d g) (hats l x))) l.across)))

/-- The rows' shares of the gain's gradient, summed. -/
def shares (d x : FVec Ideal ⟨2, ![N, 1024]⟩ .f32) : FVec Ideal ⟨2, ![1, 1024]⟩ .f32 :=
  shapeCast ⟨2, ![1, 1024]⟩ (multiReduction .add [0] ⟨1, ![1024]⟩ (mulf d (hats l x)) 0x00000000#32 l.col (.inl rfl) rfl) l.laid

/-! ### Read at an index -/

theorem across_apply {α : Type} (f : (⟨2, ![N, 1]⟩ : Shape).Idx → α) (i : Fin N) (j : Fin 1024) :
    broadcastTo ⟨2, ![N, 1024]⟩ f l.across (ix2 i j) = f (ix2 i 0) :=
  broadcastTo_apply _ _ _ _ fun a => match a with
    | ⟨0, _⟩ => by
      show i.val = _
      split
      · rename_i h
        have h : N = 1 := h
        omega
      · rfl
    | ⟨1, _⟩ => rfl

theorem down_apply {α : Type} (f : (⟨2, ![1, 1024]⟩ : Shape).Idx → α) (i : Fin N) (j : Fin 1024) :
    broadcastTo ⟨2, ![N, 1024]⟩ f l.down (ix2 i j) = f (ix2 0 j) :=
  broadcastTo_apply _ _ _ _ fun a => match a with | ⟨0, _⟩ => rfl | ⟨1, _⟩ => rfl

theorem means_apply {f : FVec Ideal ⟨2, ![N, 1024]⟩ .f32} {g : Fin 1024 → EReal} (i : Fin N) (h : ∀ j, f (ix2 i j) = g j) :
    means l f (ix2 i 0) = mean g := by
  show Ideal.div _ (Ideal.ofBits .f32 0x44800000#32) = _
  rw [ofBits_1024, shapeCast_apply _ _ (ix2 i 0) (ix1 i) (by rw [Shape.rowMajor_val_one, Shape.rowMajor_val_two]; exact (Nat.mul_one i.val).symm)]
  refine congrArg (fun s => Ideal.div s _) ((multiReduction_add_single f _ _ _ _ _).trans (Finset.sum_congr rfl fun j _ => ?_))
  rw [← h j]
  exact congrArg f (funext fun d => match d with | ⟨0, _⟩ => rfl | ⟨1, _⟩ => rfl)

variable {x d : FVec Ideal ⟨2, ![N, 1024]⟩ .f32} {g : FVec Ideal ⟨2, ![1, 1024]⟩ .f32} {X D : Fin N → Fin 1024 → EReal}
  {G : Fin 1024 → EReal} (hx : ∀ r j, x (ix2 r j) = X r j) (hd : ∀ r j, d (ix2 r j) = D r j) (hg : ∀ j, g (ix2 0 j) = G j)

include hx in
theorem inverses_apply (r : Fin N) : inverses l x (ix2 r 0) = rmsInv (X r) :=
  congrArg (fun s => Ideal.rsqrt (s + eps)) (means_apply l r fun j => by rw [mulf_apply, hx])

include hx in
theorem hats_apply (r : Fin N) (j : Fin 1024) : hats l x (ix2 r j) = rmsHat (X r) j := by
  unfold hats rmsHat
  rw [mulf_apply, across_apply l, hx, inverses_apply l hx]

include hd hg in
theorem gained_apply (r : Fin N) (j : Fin 1024) : gained l d g (ix2 r j) = D r j * G j := by
  unfold gained
  rw [mulf_apply, down_apply l, hd, hg]

include hx hd hg in
theorem grads_apply (r : Fin N) (j : Fin 1024) : grads l d x g (ix2 r j) = rmsGrad (X r) (fun i => D r i * G i) j := by
  unfold grads rmsGrad
  rw [mulf_apply, subf_apply, mulf_apply, across_apply l, across_apply l, gained_apply l hd hg, inverses_apply l hx, hats_apply l hx,
    means_apply l (g := fun i => D r i * G i * rmsHat (X r) i) r fun i => by
      rw [mulf_apply, gained_apply l hd hg, hats_apply l hx]]

include hx hd in
theorem shares_apply (j : Fin 1024) : shares l d x (ix2 0 j) = ∑ r, D r j * rmsHat (X r) j := by
  unfold shares
  rw [shapeCast_apply _ _ (ix2 0 j) (ix1 j) (by rw [Shape.rowMajor_val_one, Shape.rowMajor_val_two]; simp)]
  refine (multiReduction_add_single _ _ _ _ _ _).trans (Finset.sum_congr rfl fun i _ => ?_)
  have e : mulf d (hats l x) (ix2 i j) = D i j * rmsHat (X i) j := congrArg₂ (· * ·) (hd i j) (hats_apply l hx i j)
  refine Eq.trans (congrArg (mulf d (hats l x)) (show _ = (ix2 i j : (⟨2, ![N, 1024]⟩ : Shape).Idx) from ?_)) e
  exact funext fun d => match d with | ⟨0, _⟩ => rfl | ⟨1, _⟩ => rfl

end NormBack
-- ==== Proof.NormBlocks.lean ====
/-
  The gradient of an input norm over 4096 rows, taken in eight blocks of 512: what a block is handed, what it stores, and the
  gain's gradient added up over the blocks in the first row of an array of eight.
-/
module

public import Idealize.ShloMosaic.Lib.Pipeline.ValueKit
public import proofs.«01_k».proof.Proof.NormBack
public import proofs.«01_k».proof.Proof.FeedBlocks

@[expose] public section

noncomputable section

namespace NormBack

open Idealize.ShloMosaic hiding ix1 ix2 ix3 ix4 eq_ix1 eq_ix2 eq_ix3 eq_ix4
open Idealize.ShloMosaic.ValueIdx
open Gating (rmsHat rmsGrad)

/-- What a block holds: its rows, the gain, the gradient handed on, and the gradient of the gained rows. -/
structure Reads (X C D : Fin 512 → Fin 1024 → EReal) (G : Fin 1024 → EReal) (d : Fin 512 → Fin 1024 → EReal)
    (x ct : (⟨2, ![512, 1024]⟩ : Shape).Idx → EReal) (g : (⟨2, ![1, 1024]⟩ : Shape).Idx → EReal) : Prop where
  x : ∀ r j, x (ix2 r j) = X r j
  g : ∀ j, g (ix2 0 j) = G j
  ct : ∀ r j, ct (ix2 r j) = C r j
  d : ∀ r j, d r j = D r j

/-- An array written whole is read back. -/
theorem filled {sg : RefSig} {a b : ℕ} {M : Memref sg .tc .vmem ⟨2, ![a, b]⟩ .f32} {p : (⟨2, ![a, b]⟩ : Shape).Idx → EReal} {inb}
    (i : (⟨2, ![a, b]⟩ : Shape).Idx) :
    M.view.read (Elt Ideal) (M.view.writes (Elt Ideal) M.view.junk ((⟨Rect.unit (s := ⟨2, ![a, b]⟩) ![0, 0] (⟨2, ![a, b]⟩ : Shape).size inb, p⟩ : View.Piece (Elt Ideal) ⟨2, ![a, b]⟩ .f32) :: [])) i
      = p i :=
  (congrFun (View.read_writes_junk_eq_canon _ _) _).trans
    (congrFun (View.canon_unit_zero (Val := Elt Ideal) (e := .f32) (S := ⟨2, ![a, b]⟩) (off := ![0, 0])
      (funext fun d => match d with | ⟨0, _⟩ => rfl | ⟨1, _⟩ => rfl) _ _) _)

/-- Row `r` of block `t`. -/
def rowAt (t : Fin 8) (r : Fin 512) : Fin 4096 := ⟨512 * t.val + r.val, by omega⟩

/-- Eight blocks of 512 rows. -/
theorem sum_blocks (f : Fin 4096 → EReal) : ∑ t : Fin 8, ∑ r : Fin 512, f (rowAt t r) = ∑ n, f n := by
  refine (Fintype.sum_prod_type' (fun (t : Fin 8) (r : Fin 512) => f (rowAt t r))).symm.trans ?_
  exact Fintype.sum_equiv (finProdFinEquiv (m := 8) (n := 512)) _ _ fun x => congrArg f (Fin.ext (Nat.add_comm _ _))

/-- The gradient of the rows. -/
def dx (X C D : Fin 4096 → Fin 1024 → EReal) (G : Fin 1024 → EReal) (n : Fin 4096) (j : Fin 1024) : EReal :=
  C n j + rmsGrad (X n) (fun i => D n i * G i) j

/-- The shares of block `t` in the gain's gradient. -/
def share (X D : Fin 4096 → Fin 1024 → EReal) (t : Fin 8) (j : Fin 1024) : EReal :=
  ∑ r : Fin 512, D (rowAt t r) j * rmsHat (X (rowAt t r)) j

/-- The gain's gradient in row 0 of eight, the rest zero. -/
def dg (X D : Fin 4096 → Fin 1024 → EReal) (a : Fin 8) (j : Fin 1024) : EReal :=
  if a = 0 then ∑ n, D n j * rmsHat (X n) j else 0

/-- An array whose first row starts at the first block's shares and gains those of each later block, its other rows staying at
    zero, ends as the gain's gradient. -/
theorem dg_total {X D : Fin 4096 → Fin 1024 → EReal} (f : (n : ℕ) → n < 8 → (⟨2, ![8, 1024]⟩ : Shape).Idx → EReal)
    (first : ∀ t : Fin 8, t.val % 8 = 0 → ∀ j, f t.val t.isLt (ix2 0 j) = 0 + share X D t j)
    (first_rest : ∀ t : Fin 8, t.val % 8 = 0 → ∀ a, a ≠ 0 → ∀ j, f t.val t.isLt (ix2 a j) = 0)
    (next : ∀ t : Fin 8, ¬ t.val % 8 = 0 → ∀ j, f t.val t.isLt (ix2 0 j)
      = f (t.val - 1) (Nat.lt_of_le_of_lt (Nat.sub_le _ _) t.isLt) (ix2 0 j) + share X D t j)
    (next_rest : ∀ t : Fin 8, ¬ t.val % 8 = 0 → ∀ a, a ≠ 0 → ∀ j, f t.val t.isLt (ix2 a j)
      = f (t.val - 1) (Nat.lt_of_le_of_lt (Nat.sub_le _ _) t.isLt) (ix2 a j)) (a : Fin 8) (j : Fin 1024) :
    f 7 (by decide) (ix2 a j) = dg X D a j := by
  by_cases ha : a = 0
  · subst ha
    refine (Pipeline.eq_sum_fin_of_reset_step_apply_last (fun n h j => f n h (ix2 0 j)) 8 (fun _ => 0) (share X D) first next
      (le_refl _) 7 rfl j).trans ?_
    exact (zero_add (_ : EReal)).trans (sum_blocks fun n => D n j * rmsHat (X n) j)
  · refine (Pipeline.eq_sum_fin_of_reset_step_apply_last (fun n h j => f n h (ix2 a j)) 8 (fun _ => (0 : EReal)) (fun _ _ => 0)
      (fun t h j => (first_rest t h a ha j).trans (zero_add (0 : EReal)).symm)
      (fun t h j => (next_rest t h a ha j).trans (add_zero (_ : EReal)).symm) (le_refl _) 7 rfl j).trans ?_
    refine ((zero_add (_ : EReal)).trans Finset.sum_const_zero).trans ?_
    exact (if_neg ha).symm

end NormBack
-- ==== Proof.ConvNorm.lean ====
/-
  One run of the convolution layer's input backward call: 512 rows of the output's gradient against the rows of the weight,
  twelve runs of columns one after the other, then the gradient of the input norm.
-/
module

public import proofs.«01_k».proof.Proof.NormBlocks
public import proofs.«01_k».proof.Proof.RowProducts
public import proofs.«01_k».proof.Proof.ConvNormRef
public import proofs.«01_k».proof.Proof.Gen.Kernel13Ideal.Frame

@[expose] public section

set_option maxRecDepth 16384

noncomputable section

namespace ConvNorm

open Idealize.ShloMosaic hiding ix1 ix2 ix3 ix4 eq_ix1 eq_ix2 eq_ix3 eq_ix4
open Idealize.ShloMosaic.TcCoe Idealize.ShloMosaic.ValueIdx Cert.Kernel13Ideal Cert.Kernel13Ideal.Gen Idealize.SL.Sem
open Gating (rmsHat rmsGrad load_apply drop_unit)
open Feeding (whole gain row_hit row_miss row_filled)
open NormBack (Reads filled)

/-- The shapes of a block of 512 rows. -/
theorem laws : NormBack.Laws 512 where
  row := reduces_S512x1024_S512
  kept := shapeCasts_S512_S512x1
  col := reduces_S512x1024_S1024
  laid := shapeCasts_S1024_S1x1024
  across := broadcasts_S512x1_S512x1024
  down := broadcasts_S1x1024_S512x1024

/-- Where column `k` of the weight lies: its slice, and its place there. -/
def slice (k : Fin 3072) : Fin 4 := ⟨k.val / 768, by omega⟩
def within (k : Fin 3072) : Fin 768 := ⟨k.val % 768, by omega⟩
/-- Column `q` of run `s` of 256 columns. -/
def column (s : Fin 12) (q : Fin 256) : Fin 3072 := ⟨256 * s.val + q.val, by omega⟩

/-- The gradient of the gained row `r`: the output's gradient against the rows of the weight. -/
def rowD (x0 : Vec Ideal S3x512x1024 .bf16) (x1 : Vec Ideal S4x1024x768 .bf16) (r : Fin 512) (j : Fin 1024) : EReal :=
  ∑ k : Fin 3072, x0 (ix3 (part k) r (place k)) * x1 (ix3 (slice k) j (within k))

/-- Twelve runs of 256 columns. -/
theorem sum_runs (f : Fin 3072 → EReal) : ∑ s : Fin 12, ∑ q : Fin 256, f (column s q) = ∑ k, f k := by
  refine (Fintype.sum_prod_type' (fun (s : Fin 12) (q : Fin 256) => f (column s q))).symm.trans ?_
  exact Fintype.sum_equiv (finProdFinEquiv (m := 12) (n := 256)) _ _ fun x => congrArg f (Fin.ext (Nat.add_comm _ _))

/-- A run's product, added to what came before. -/
theorem run_added (acc : FVec Ideal S512x1024 .f32) (u : Vec Ideal S1x512x256 .bf16) (v : Vec Ideal S1x1024x256 .bf16) (r : Fin 512) (j : Fin 1024) :
    addf acc (matmul dot_S512x256_S1024x256_S512x1024_1_1_0_0_n_n none
      (shapeCast S512x256 u shapeCasts_S1x512x256_S512x256 : FVec Ideal S512x256 .bf16)
      (shapeCast S1024x256 v shapeCasts_S1x1024x256_S1024x256 : FVec Ideal S1024x256 .bf16) (constant S512x1024 .f32 0x00000000#32)) (ix2 r j)
      = acc (ix2 r j) + ∑ q : Fin 256, u (ix3 0 r q) * v (ix3 0 j q) := by
  refine congrArg (acc (ix2 r j) + ·) ((Rows.against_rows dot_S512x256_S1024x256_S512x1024_1_1_0_0_n_n rfl rfl
    (fun _ _ _ => funext fun d => match d with | ⟨0, _⟩ => rfl | ⟨1, _⟩ => rfl)
    (fun _ _ _ => funext fun d => match d with | ⟨0, _⟩ => rfl | ⟨1, _⟩ => rfl)
    (shapeCast S512x256 u shapeCasts_S1x512x256_S512x256 : FVec Ideal S512x256 .bf16)
    (shapeCast S1024x256 v shapeCasts_S1x1024x256_S1024x256 : FVec Ideal S1024x256 .bf16) r j).trans ?_)
  exact Finset.sum_congr rfl fun q _ => congrArg₂ (· * ·) (drop_unit u _ r q) (drop_unit v _ j q)

theorem sum_twelve (f : Fin 12 → EReal) :
    ∑ s, f s = 0 + f 0 + f 1 + f 2 + f 3 + f 4 + f 5 + f 6 + f 7 + f 8 + f 9 + f 10 + f 11 := by
  simp only [Fin.sum_univ_castSucc, Fin.sum_univ_zero]
  rfl

/-- The twelve runs, in the order the call takes them. -/
theorem runs_added (u : Fin 12 → Vec Ideal S1x512x256 .bf16) (v : Fin 12 → Vec Ideal S1x1024x256 .bf16) (r : Fin 512) (j : Fin 1024) :
    k0_pay7 (k0_pay6 (k0_pay4 (u 0) (v 0) (u 1) (v 1) (u 2) (v 2) (u 3) (v 3)) (k0_pay5 (u 4)) (v 4) (u 5) (v 5) (u 6) (v 6) (u 7) (v 7) (u 8) (v 8))
      (u 9) (v 9) (u 10) (v 10) (u 11) (v 11) (ix2 r j) = ∑ s : Fin 12, ∑ q : Fin 256, u s (ix3 0 r q) * v s (ix3 0 j q) := by
  unfold k0_pay7 k0_pay6 k0_pay5 k0_pay4
  dsimp only
  rw [run_added, run_added, run_added, run_added, run_added, run_added, run_added, run_added, run_added, run_added, run_added, run_added]
  refine Eq.trans ?_ (sum_twelve fun s => ∑ q : Fin 256, u s (ix3 0 r q) * v s (ix3 0 j q)).symm
  exact congrArg (fun z : EReal => z + _ + _ + _ + _ + _ + _ + _ + _ + _ + _ + _ + _) Ideal.ofBits_zero_f32

section Stored

variable {arg1 : Memref sig .tc .vmem S3x512x1024 .bf16} (harg1 : arg1.IsWhole) {arg2 : Memref sig .tc .vmem S4x1024x768 .bf16}
  (harg2 : arg2.IsWhole) {x0 : Vec Ideal S3x512x1024 .bf16} {x1 : Vec Ideal S4x1024x768 .bf16}

theorem fits_dp : ∀ (s : Fin 12) (d : Fin 3), ![s.val / 4, 0, s.val % 4 * 256] d + S1x512x256.size d ≤ S3x512x1024.size d := by decide
theorem fits_w : ∀ (s : Fin 12) (d : Fin 3), ![s.val / 3, 0, s.val % 3 * 256] d + S1x1024x256.size d ≤ S4x1024x768.size d := by decide

variable (x0 x1) in
/-- The output's gradient on run `s` of the columns, loaded. -/
def dpRun (s : Fin 12) : Vec Ideal S1x512x256 .bf16 :=
  View.readAt (Elt Ideal) arg1.view (Rect.unit (s := S3x512x1024) ![s.val / 4, 0, s.val % 4 * 256] S1x512x256.size (fits_dp s)).toLoadRect
    (harg1.unread x0)

variable (x0 x1) in
/-- The weight on run `s` of the columns, loaded. -/
def wRun (s : Fin 12) : Vec Ideal S1x1024x256 .bf16 :=
  View.readAt (Elt Ideal) arg2.view (Rect.unit (s := S4x1024x768) ![s.val / 3, 0, s.val % 3 * 256] S1x1024x256.size (fits_w s)).toLoadRect
    (harg2.unread x1)

theorem dpRun_apply (s : Fin 12) (r : Fin 512) (q : Fin 256) :
    dpRun harg1 x0 s (ix3 0 r q) = x0 (ix3 (part (column s q)) r (place (column s q))) :=
  load_apply _ _ _ _ _ _ _ _ fun d => match d with
    | ⟨0, _⟩ => show (256 * s.val + q.val) / 1024 = s.val / 4 + 0 by omega
    | ⟨1, _⟩ => (Nat.zero_add _).symm
    | ⟨2, _⟩ => show (256 * s.val + q.val) % 1024 = s.val % 4 * 256 + q.val by omega

theorem wRun_apply (s : Fin 12) (j : Fin 1024) (q : Fin 256) :
    wRun harg2 x1 s (ix3 0 j q) = x1 (ix3 (slice (column s q)) j (within (column s q))) :=
  load_apply _ _ _ _ _ _ _ _ fun d => match d with
    | ⟨0, _⟩ => show (256 * s.val + q.val) / 768 = s.val / 3 + 0 by omega
    | ⟨1, _⟩ => (Nat.zero_add _).symm
    | ⟨2, _⟩ => show (256 * s.val + q.val) % 768 = s.val % 3 * 256 + q.val by omega

variable (x0 x1) in
/-- The first nine runs. -/
abbrev nine : FVec Ideal S512x1024 .f32 :=
  k0_pay6 (k0_pay4 (dpRun harg1 x0 0) (wRun harg2 x1 0) (dpRun harg1 x0 1) (wRun harg2 x1 1) (dpRun harg1 x0 2) (wRun harg2 x1 2)
      (dpRun harg1 x0 3) (wRun harg2 x1 3))
    (k0_pay5 (dpRun harg1 x0 4)) (wRun harg2 x1 4) (dpRun harg1 x0 5) (wRun harg2 x1 5) (dpRun harg1 x0 6) (wRun harg2 x1 6)
    (dpRun harg1 x0 7) (wRun harg2 x1 7) (dpRun harg1 x0 8) (wRun harg2 x1 8)

theorem rowD_loaded (r : Fin 512) (j : Fin 1024) :
    k0_pay7 (nine harg1 harg2 x0 x1) (dpRun harg1 x0 9) (wRun harg2 x1 9) (dpRun harg1 x0 10) (wRun harg2 x1 10) (dpRun harg1 x0 11)
      (wRun harg2 x1 11) (ix2 r j) = rowD x0 x1 r j := by
  refine (runs_added (dpRun harg1 x0) (wRun harg2 x1) r j).trans ?_
  refine Eq.trans (Finset.sum_congr rfl fun s _ => Finset.sum_congr rfl fun q _ => ?_)
    (sum_runs fun k => x0 (ix3 (part k) r (place k)) * x1 (ix3 (slice k) j (within k)))
  rw [dpRun_apply, wRun_apply]

variable {x ct : Vec Ideal S512x1024 .f32} {g : Vec Ideal S1x1024 .f32} {X C : Fin 512 → Fin 1024 → EReal} {G : Fin 1024 → EReal}
  {D : Fin 512 → Fin 1024 → EReal} (hD : ∀ r j, rowD x0 x1 r j = D r j)
include hD

theorem dx_stored (hx : ∀ r j, x (ix2 r j) = X r j) (hg : ∀ j, g (ix2 0 j) = G j) (hc : ∀ r j, ct (ix2 r j) = C r j)
    (r : Fin 512) (j : Fin 1024) :
    k0_pay1 (k0_pay8 x) (k0_pay9 x) (k0_pay10 (nine harg1 harg2 x0 x1) (dpRun harg1 x0 9) (wRun harg2 x1 9) (dpRun harg1 x0 10)
      (wRun harg2 x1 10) (dpRun harg1 x0 11) (wRun harg2 x1 11) g) ct (ix2 r j) = C r j + rmsGrad (X r) (fun i => D r i * G i) j :=
  congrArg₂ (· + ·) (hc r j) (NormBack.grads_apply laws hx (fun r j => (rowD_loaded harg1 harg2 r j).trans (hD r j)) hg r j)

theorem dg_stored (hx : ∀ r j, x (ix2 r j) = X r j) {p : Vec Ideal S1x1024 .f32} {s : EReal} {j : Fin 1024} (hp : p (ix2 0 j) = s) :
    k0_pay3 (k0_pay7 (nine harg1 harg2 x0 x1) (dpRun harg1 x0 9) (wRun harg2 x1 9) (dpRun harg1 x0 10) (wRun harg2 x1 10)
      (dpRun harg1 x0 11) (wRun harg2 x1 11)) (k0_pay9 x) p (ix2 0 j) = s + ∑ r : Fin 512, D r j * rmsHat (X r) j :=
  congrArg₂ (· + ·) ((congrFun (shapeCast_self p _) _).trans hp)
    (NormBack.shares_apply laws hx (fun r j => (rowD_loaded harg1 harg2 r j).trans (hD r j)) j)

end Stored

variable (c : Dev nD) (i : grid0.Coords) (arg1 : Memref sig .tc .vmem S3x512x1024 .bf16) (harg1 : arg1.IsWhole) (arg2 : Memref sig .tc .vmem S4x1024x768 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole)
  (x0 : Vec Ideal S3x512x1024 .bf16) (x1 : Vec Ideal S4x1024x768 .bf16) (x2 : Vec Ideal S512x1024 .f32) (x3 : Vec Ideal S1x1024 .f32) (x4 : Vec Ideal S512x1024 .f32) (xo6 : Vec Ideal S8x1024 .f32)
variable {X C D : Fin 512 → Fin 1024 → EReal} {G : Fin 1024 → EReal} (h : Reads X C D G (rowD x0 x1) x2 x4 x3)

/-! ### The first block -/

section First
variable (hc0 : cond0_0 i)

include h in
theorem first_dx (r : Fin 512) (j : Fin 1024) :
    out0_A_5 (F := Ideal) c i arg1 harg1 arg2 harg2 arg3 harg3 arg4 harg4 arg5 harg5 arg6 harg6 arg7 harg7 hc0 x0 x1 x2 x3 x4 (ix2 r j)
      = C r j + rmsGrad (X r) (fun i => D r i * G i) j := by
  refine (filled _).trans ?_
  exact dx_stored harg1 harg2 h.d (whole h.x) (gain h.g) (whole h.ct) r j

include h in
/-- The gain's gradient: the first row holds the rows' shares … -/
theorem first_dg (j : Fin 1024) :
    out0_A_6 (F := Ideal) c i arg1 harg1 arg2 harg2 arg3 harg3 arg4 harg4 arg5 harg5 arg6 harg6 arg7 harg7 hc0 x0 x1 x2 x3 x4 (ix2 0 j)
      = 0 + ∑ r : Fin 512, D r j * rmsHat (X r) j := by
  refine (row_hit j).trans ?_
  refine dg_stored harg1 harg2 h.d (whole h.x) ?_
  exact (row_filled j).trans Ideal.ofBits_zero_f32

/-- … and the others zero. -/
theorem first_dg_rest (a : Fin 8) (ha : a ≠ 0) (j : Fin 1024) :
    out0_A_6 (F := Ideal) c i arg1 harg1 arg2 harg2 arg3 harg3 arg4 harg4 arg5 harg5 arg6 harg6 arg7 harg7 hc0 x0 x1 x2 x3 x4 (ix2 a j) = 0 := by
  refine (row_miss a ha j).trans ?_
  refine (filled _).trans ?_
  exact Ideal.ofBits_zero_f32

end First

/-! ### A later block -/

section Next
variable (hc0 : ¬cond0_0 i)

include h in
theorem next_dx (r : Fin 512) (j : Fin 1024) :
    out0_B_5 (F := Ideal) c i arg1 harg1 arg2 harg2 arg3 harg3 arg4 harg4 arg5 harg5 arg6 harg6 arg7 harg7 hc0 x0 x1 x2 x3 x4 xo6 (ix2 r j)
      = C r j + rmsGrad (X r) (fun i => D r i * G i) j := by
  refine (filled _).trans ?_
  exact dx_stored harg1 harg2 h.d (whole h.x) (gain h.g) (whole h.ct) r j

include h in
/-- The gain's gradient: the first row gains the rows' shares … -/
theorem next_dg (j : Fin 1024) :
    out0_B_6 (F := Ideal) c i arg1 harg1 arg2 harg2 arg3 harg3 arg4 harg4 arg5 harg5 arg6 harg6 arg7 harg7 hc0 x0 x1 x2 x3 x4 xo6 (ix2 0 j)
      = xo6 (ix2 0 j) + ∑ r : Fin 512, D r j * rmsHat (X r) j := by
  refine (row_hit j).trans ?_
  refine dg_stored harg1 harg2 h.d (whole h.x) ?_
  exact Gating.load_apply _ _ _ _ _ _ _ _ fun d => match d with
    | ⟨0, _⟩ => rfl
    | ⟨1, _⟩ => (Nat.zero_add _).symm

/-- … and the others keep what they held. -/
theorem next_dg_rest (a : Fin 8) (ha : a ≠ 0) (j : Fin 1024) :
    out0_B_6 (F := Ideal) c i arg1 harg1 arg2 harg2 arg3 harg3 arg4 harg4 arg5 harg5 arg6 harg6 arg7 harg7 hc0 x0 x1 x2 x3 x4 xo6 (ix2 a j) = xo6 (ix2 a j) := by
  refine (row_miss a ha j).trans ?_
  exact congrFun (Memref.IsWhole.read_unread _ _) _

end Next

end ConvNorm
-- ==== Proof.ConvNormFinal.lean ====
/-
  From the runs of the convolution layer's input backward call to its two results: eight blocks of 512 rows, and the
  gain's gradient summed over all rows.
-/
module

public import proofs.«01_k».proof.Proof.ConvNorm
public import proofs.«01_k».proof.Proof.Gen.Kernel13Ideal.Value

@[expose] public section

set_option maxRecDepth 16384

noncomputable section

namespace ConvNorm

open Idealize.ShloMosaic hiding ix1 ix2 ix3 eq_ix2 eq_ix3
open Idealize.ShloMosaic.TcCoe Idealize.ShloMosaic.ValueIdx Cert.Kernel13Ideal Cert.Kernel13Ideal.Gen Idealize.SL.Sem
open Gating (rmsHat rmsGrad)
open Feeding (stacked)
open NormBack (Reads rowAt dx dg dg_total)

variable (m : (ℓ : Loc nD τ sig) → Buf (Elt Ideal) ℓ) (c : Dev nD)

theorem index_0 : ∀ t : Fin cfg0.N, win0_0.index t = ![0, t.val, 0] := by decide +kernel
theorem index_1 : ∀ t : Fin cfg0.N, win0_1.index t = ![0, 0, 0] := by decide +kernel
theorem index_2 : ∀ t : Fin cfg0.N, win0_2.index t = ![t.val, 0] := by decide +kernel
theorem index_3 : ∀ t : Fin cfg0.N, win0_3.index t = ![0, 0] := by decide +kernel
theorem index_4 : ∀ t : Fin cfg0.N, win0_4.index t = ![t.val, 0] := by decide +kernel
theorem index_5 : ∀ t : Fin cfg0.N, win0_5.index t = ![t.val, 0] := by decide +kernel

theorem dp_at (t : Fin cfg0.N) (p : Fin 3) (r : Fin 512) (j : Fin 1024) :
    iblk m c 0 t (ix3 p r j) = V m c main_arg3 (ix3 p (rowAt t r) j) := by
  blk_ext [iblk, V, index_0 t, rowAt]
  show t.val * 512 + r.val = 512 * t.val + r.val
  omega

theorem w_at (t : Fin cfg0.N) (p : Fin 4) (j : Fin 1024) (k : Fin 768) : iblk m c 1 t (ix3 p j k) = V m c main_v2 (ix3 p j k) := by
  blk_ext [iblk, V, index_1 t]

theorem x_at (t : Fin cfg0.N) (r : Fin 512) (j : Fin 1024) : iblk m c 2 t (ix2 r j) = V m c main_arg0 (ix2 (rowAt t r) j) := by
  blk_ext [iblk, V, index_2 t, rowAt]
  show t.val * 512 + r.val = 512 * t.val + r.val
  omega

theorem g_at (t : Fin cfg0.N) (j : Fin 1024) : iblk m c 3 t (ix2 0 j) = V m c main_arg1 (ix2 0 j) := by
  blk_ext [iblk, V, index_3 t]

theorem ct_at (t : Fin cfg0.N) (r : Fin 512) (j : Fin 1024) : iblk m c 4 t (ix2 r j) = V m c main_arg4 (ix2 (rowAt t r) j) := by
  blk_ext [iblk, V, index_4 t, rowAt]
  show t.val * 512 + r.val = 512 * t.val + r.val
  omega

/-- What the arrays hold when the call starts: the rows, the gain, the gradient handed on, and the products of the rows of
    the output's gradient with the rows of the weight. -/
structure Handed (X C D : Fin 4096 → Fin 1024 → EReal) (G : Fin 1024 → EReal) : Prop where
  x : ∀ n j, V m c main_arg0 (ix2 n j) = X n j
  g : ∀ j, V m c main_arg1 (ix2 0 j) = G j
  ct : ∀ n j, V m c main_arg4 (ix2 n j) = C n j
  d : ∀ (t : Fin cfg0.N) r j, rowD (iblk m c 0 t) (iblk m c 1 t) r j = D (rowAt t r) j

variable {m c} {X C D : Fin 4096 → Fin 1024 → EReal} {G : Fin 1024 → EReal} (h : Handed m c X C D G)
include h

theorem reads_at (t : Fin cfg0.N) : Reads (fun r => X (rowAt t r)) (fun r => C (rowAt t r)) (fun r => D (rowAt t r)) G
    (rowD (iblk m c 0 t) (iblk m c 1 t)) (iblk m c 2 t) (iblk m c 4 t) (iblk m c 3 t) where
  x r j := (x_at m c t r j).trans (h.x _ j)
  g j := (g_at m c t j).trans (h.g j)
  ct r j := (ct_at m c t r j).trans (h.ct _ j)
  d := h.d t

theorem dx_point (t : Fin cfg0.N) (r : Fin 512) (j : Fin 1024) : (outsAt0 m c t.val t.isLt).1 (ix2 r j) = dx X C D G (rowAt t r) j := by
  by_cases h0 : t.val % 8 = 0
  · rw [outsAt0_A m c t h0]
    dsimp only
    rw [first_dx _ _ _ _ _ _ _ _ _ _ _ _ _ _ _ _ _ _ _ _ _ (reads_at h t)]
    rfl
  · rw [outsAt0_B m c t h0]
    dsimp only
    rw [next_dx _ _ _ _ _ _ _ _ _ _ _ _ _ _ _ _ _ _ _ _ _ _ (reads_at h t)]
    rfl

theorem dx_final : (dats m 0 c).arrAt 5 cfg0.N = stacked (dx X C D G) := by
  refine (dats m 0 c).arrAt_eq_of_covers 5 _ (by decide +kernel) fun t hf y => ?_
  blk_simp
  rw [after0_5]
  obtain ⟨i, j, rfl⟩ : ∃ i j, y = ix2 i j := ⟨y 0, y 1, eq_ix2 y⟩
  have he : (win0_5.blk t).view.emb (ix2 i j : S512x1024.Idx) = ix2 (rowAt t i) j := by
    blk_ext [index_5 t, rowAt]
    show t.val * 512 + i.val = 512 * t.val + i.val
    omega
  exact (dx_point h t i j).trans (congrArg (stacked (dx X C D G)) he).symm

theorem dg_final : (dats m 0 c).arrAt 6 cfg0.N = stacked (dg X D) := by
  refine (dats m 0 c).arrAt_eq_of_after_last 6 t0_7 (by decide +kernel) _ fun i => ?_
  blk_simp
  rw [after0_6]
  obtain ⟨a, j, rfl⟩ : ∃ a j, i = ix2 a j := ⟨i 0, i 1, eq_ix2 i⟩
  refine dg_total (fun n h => (outsAt0 m c n h).2) (fun t h0 j => ?_) (fun t h0 a ha j => ?_) (fun t h0 j => ?_) (fun t h0 a ha j => ?_) a j
  · rw [outsAt0_A m c t h0]
    dsimp only
    rw [first_dg _ _ _ _ _ _ _ _ _ _ _ _ _ _ _ _ _ _ _ _ _ (reads_at h t)]
    rfl
  · rw [outsAt0_A m c t h0]
    dsimp only
    rw [first_dg_rest _ _ _ _ _ _ _ _ _ _ _ _ _ _ _ _ _ _ _ _ _ _ a ha]
  · rw [outsAt0_B m c t h0]
    dsimp only
    rw [next_dg _ _ _ _ _ _ _ _ _ _ _ _ _ _ _ _ _ _ _ _ _ _ (reads_at h t)]
    rfl
  · rw [outsAt0_B m c t h0]
    dsimp only
    rw [next_dg_rest _ _ _ _ _ _ _ _ _ _ _ _ _ _ _ _ _ _ _ _ _ _ _ a ha]

end ConvNorm
-- ==== Proof.ConvNormClaim.lean ====
/-
  What the convolution layer's input backward call leaves in its two arrays is what the reference computes from the same five
  arguments: the claims of the call.
-/
module

public import proofs.«01_k».proof.Defs
public import proofs.«01_k».proof.Pre_all_finite13
public import proofs.«01_k».proof.Proof.Gen.Reference13Ideal.Run
public import proofs.«01_k».proof.Proof.Same
public import proofs.«01_k».proof.Proof.Equal
public import proofs.«01_k».proof.Proof.ConvNormRef
public import proofs.«01_k».proof.Proof.ConvNormFinal

@[expose] public section

noncomputable section

namespace ConvNorm

open Idealize
open Idealize.ShloMosaic hiding ix1 ix2 ix3 ix4 eq_ix1 eq_ix2 eq_ix3 eq_ix4
open Idealize.ShloMosaic.TcCoe Idealize.ShloMosaic.ValueIdx Cert.Kernel13Ideal Cert.Kernel13Ideal.Gen
open Cert.Reference13Ideal.Read
open Gating (IsReal isReal_sum read2 xRow)
open Feeding (stacked_ext)

instance finiteFacts : Cert.Pre_all_finite13.Facts where
  bcast_S_S4096x1024 := by decide
  bcast_S_S1x1024 := by decide
  bcast_S_S1024x3072 := by decide
  bcast_S_S3x4096x1024 := by decide

variable (m : (ℓ : Loc nD τ sig) → Buf (Elt Ideal) ℓ) (c : Dev nD)

/-- The `k`-th argument, as launched. -/
abbrev in0 : S4096x1024.Idx → EReal := m ((c : Thread nD τ).loc main_arg0)
abbrev in1 : S1x1024.Idx → EReal := m ((c : Thread nD τ).loc main_arg1)
abbrev in2 : S1024x3072.Idx → EReal := m ((c : Thread nD τ).loc main_arg2)
abbrev in3 : S3x4096x1024.Idx → EReal := m ((c : Thread nD τ).loc main_arg3)
abbrev in4 : S4096x1024.Idx → EReal := m ((c : Thread nD τ).loc main_arg4)

/-! ### What the call is handed -/

theorem dp_in : V m c main_arg3 = in3 m c := by
  entry_read
  rfl

theorem w_in : V m c main_v2 = transpose S4x1024x768 [1, 0, 2] (shapeCast S1024x4x768 (in2 m c) shapeCasts_S1024x3072_S1024x4x768)
    transposes_S1024x4x768_S4x1024x768_1_0_2 := by
  entry_read
  rfl

theorem x_in : V m c main_arg0 = in0 m c := by
  entry_read
  rfl

theorem g_in : V m c main_arg1 = in1 m c := by
  entry_read
  rfl

theorem ct_in : V m c main_arg4 = in4 m c := by
  entry_read
  rfl

/-- The weight as the call takes it, its columns in four slices. -/
theorem w_read (j : Fin 1024) (k : Fin 3072) : V m c main_v2 (ix3 (slice k) j (within k)) = in2 m c (ix2 j k) := by
  rw [w_in]
  refine (transpose_apply _ _ _ (ix3 (slice k) j (within k)) (ix3 j (slice k) (within k)) (fun b => match b with
    | ⟨0, _⟩ => rfl
    | ⟨1, _⟩ => rfl
    | ⟨2, _⟩ => rfl)).trans (shapeCast_apply _ _ (ix3 j (slice k) (within k)) (ix2 j k) ?_)
  rw [Shape.rowMajor_val_two, Shape.rowMajor_val_three]
  show j.val * 3072 + k.val = (j.val * 4 + k.val / 768) * 768 + k.val % 768
  omega

theorem handed : Handed m c (xRow (in0 m c)) (fun n j => in4 m c (ix2 n j)) (product (in2 m c) (in3 m c)) (fun j => in1 m c (ix2 0 j)) where
  x n j := congrFun (x_in m c) _
  g j := congrFun (g_in m c) _
  ct n j := congrFun (ct_in m c) _
  d t r j := Finset.sum_congr rfl fun k _ => congrArg₂ (· * ·) ((dp_at m c t (part k) r (place k)).trans (congrFun (dp_in m c) _))
    ((w_at m c t (slice k) j (within k)).trans (w_read m c j k))

/-! ### The two arrays -/

/-- The rows, the gain, the weight and the output's gradient are real. -/
structure RealArgs : Prop where
  r0 : ∀ i, IsReal (in0 m c i)
  r1 : ∀ i, IsReal (in1 m c i)
  r2 : ∀ i, IsReal (in2 m c i)
  r3 : ∀ i, IsReal (in3 m c i)

theorem out_dx (h : RealArgs m c) : @Eq (FVec Ideal Cert.Reference13Ideal.S4096x1024 .f32) ((dats m 0 c).arrAt 5 cfg0.N)
    (val_main_v41 (F := Ideal) (in0 m c) (in1 m c) (in2 m c) (in3 m c) (in4 m c)) :=
  (dx_final (handed m c)).trans (stacked_ext (ConvNorm.dx_at h.r0 h.r1
    fun n j => isReal_sum _ fun q => (h.r3 _).mul (h.r2 _)))

theorem out_dg : @Eq (FVec Ideal Cert.Reference13Ideal.S8x1024 .f32) ((dats m 0 c).arrAt 6 cfg0.N)
    (val_main_v42 (F := Ideal) (in0 m c) (in2 m c) (in3 m c)) :=
  (dg_final (handed m c)).trans (stacked_ext ConvNorm.dg_padded)

/-! ### The claims -/

/-- Under the precondition the four arguments of every device that the sums read are real. -/
theorem realArgs {m : (ℓ : Loc nD τ sig) → Buf (Elt Ideal) ℓ} (h : Cert.Pre_Kernel13Ideal_all_finite13 m) (c : Dev nD) : RealArgs m c := by
  obtain ⟨h0, h1, h2, h3⟩ := h c
  exact ⟨fun i => Gating.real_of_below _ (congrFun h0 i), fun i => Gating.real_of_below _ (congrFun h1 i),
    fun i => Gating.real_of_below _ (congrFun h2 i), fun i => Gating.real_of_below _ (congrFun h3 i)⟩

/-- The reference ends, its arguments unchanged; it has no semaphores. -/
theorem frameReference : Cert.quiescent_Reference13Ideal := by
  intro m g _
  refine (θ_run _ _ _).mono (fun r h => ⟨fun c => ?_, sem_eq_zero_of_no_sems (by decide) _⟩) (Cert.Reference13Ideal.Value.run m g)
  exact (h c).2.2

set_option maxHeartbeats 8000000 in
/-- The two results of the call are the reference's. -/
theorem equal : Cert.algebraic_Kernel13Ideal_Reference13Ideal_pre_all_finite13 := by
  intro m g m' g' hpre hagree
  refine ⟨fun c => (dats m 0 c).arrAt 5 cfg0.N, fun c => (dats m 0 c).arrAt 6 cfg0.N, ?_, ?_⟩
  · exact Cert.Kernel13Ideal.Value.run_blocks m g
  · refine (θ_run _ _ _).mono (fun r h c => ?_) (Cert.Reference13Ideal.Value.run m' g')
    obtain ⟨e0, e1, a0, a1, a2, a3, a4⟩ := h c
    obtain ⟨p0, p1, p2, p3, p4⟩ := hagree c
    have q0 : m' ((c.tc : Thread Cert.Reference13Ideal.nD Cert.Reference13Ideal.τ).loc Cert.Reference13Ideal.main_arg0) = in0 m c := p0
    have q1 : m' ((c.tc : Thread Cert.Reference13Ideal.nD Cert.Reference13Ideal.τ).loc Cert.Reference13Ideal.main_arg1) = in1 m c := p1
    have q2 : m' ((c.tc : Thread Cert.Reference13Ideal.nD Cert.Reference13Ideal.τ).loc Cert.Reference13Ideal.main_arg2) = in2 m c := p2
    have q3 : m' ((c.tc : Thread Cert.Reference13Ideal.nD Cert.Reference13Ideal.τ).loc Cert.Reference13Ideal.main_arg3) = in3 m c := p3
    have q4 : m' ((c.tc : Thread Cert.Reference13Ideal.nD Cert.Reference13Ideal.τ).loc Cert.Reference13Ideal.main_arg4) = in4 m c := p4
    have s0 := Gating.same5 (val_main_v41 (F := Ideal)) q0 q1 q2 q3 q4
    have t0 := e0.trans (val_main_v41_eq (F := Ideal) m' c)
    have u0 := s0.trans (out_dx m c (realArgs hpre c)).symm
    have s1 := Gating.same3 (val_main_v42 (F := Ideal)) q0 q2 q3
    have t1 := e1.trans (val_main_v42_eq (F := Ideal) _ _ _)
    have u1 := s1.trans (out_dg m c).symm
    exact ⟨t0.trans u0, t1.trans u1, a0, a1, a2, a3, a4⟩

end ConvNorm
-- ==== Proof.PoolNorm.lean ====
/-
  One run of the pooling layer's input backward call: 512 rows of the output's gradient against the rows of the weight, then
  the gradient of the input norm.
-/
module

public import proofs.«01_k».proof.Proof.NormBlocks
public import proofs.«01_k».proof.Proof.RowProducts
public import proofs.«01_k».proof.Proof.Gen.Kernel14Ideal.Frame

@[expose] public section

set_option maxRecDepth 16384

noncomputable section

namespace PoolNorm

open Idealize.ShloMosaic hiding ix1 ix2 ix3 ix4 eq_ix1 eq_ix2 eq_ix3 eq_ix4
open Idealize.ShloMosaic.TcCoe Idealize.ShloMosaic.ValueIdx Cert.Kernel14Ideal Cert.Kernel14Ideal.Gen Idealize.SL.Sem
open Gating (rmsHat rmsGrad load_whole drop_unit)
open Feeding (whole gain row_hit row_miss row_filled)
open NormBack (Reads filled)

/-- The shapes of a block of 512 rows. -/
theorem laws : NormBack.Laws 512 where
  row := reduces_S512x1024_S512
  kept := shapeCasts_S512_S512x1
  col := reduces_S512x1024_S1024
  laid := shapeCasts_S1024_S1x1024
  across := broadcasts_S512x1_S512x1024
  down := broadcasts_S1x1024_S512x1024

/-- The gradient of the gained row `r`: the output's gradient against the rows of the weight. -/
def rowD (x0 : Vec Ideal S1x512x1024 .bf16) (x1 : Vec Ideal S1x1024x1024 .bf16) (r : Fin 512) (j : Fin 1024) : EReal :=
  ∑ q : Fin 1024, x0 (ix3 0 r q) * x1 (ix3 0 j q)

theorem rowD_read (x0 : Vec Ideal S1x512x1024 .bf16) (x1 : Vec Ideal S1x1024x1024 .bf16) (r : Fin 512) (j : Fin 1024) :
    k0_pay3 x0 x1 (ix2 r j) = rowD x0 x1 r j := by
  refine (congrArg₂ (· + ·) Ideal.ofBits_zero_f32 (Rows.against_rows dot_S512x1024_S1024x1024_S512x1024_1_1_0_0_n_n rfl rfl
    (fun _ _ _ => funext fun d => match d with | ⟨0, _⟩ => rfl | ⟨1, _⟩ => rfl)
    (fun _ _ _ => funext fun d => match d with | ⟨0, _⟩ => rfl | ⟨1, _⟩ => rfl)
    (shapeCast S512x1024 x0 shapeCasts_S1x512x1024_S512x1024 : FVec Ideal S512x1024 .bf16)
    (shapeCast S1024x1024 x1 shapeCasts_S1x1024x1024_S1024x1024 : FVec Ideal S1024x1024 .bf16) r j)).trans ((zero_add _).trans ?_)
  exact Finset.sum_congr rfl fun q _ => congrArg₂ (· * ·) (drop_unit x0 _ r q) (drop_unit x1 _ j q)

section Stored

variable {arg1 : Memref sig .tc .vmem S1x512x1024 .bf16} (harg1 : arg1.IsWhole) {arg2 : Memref sig .tc .vmem S1x1024x1024 .bf16}
  (harg2 : arg2.IsWhole) {x0 : Vec Ideal S1x512x1024 .bf16} {x1 : Vec Ideal S1x1024x1024 .bf16} {i1 i2}

theorem rowD_loaded (r : Fin 512) (j : Fin 1024) :
    k0_pay3 (View.readAt (Elt Ideal) arg1.view (Rect.unit (s := S1x512x1024) ![0, 0, 0] S1x512x1024.size i1).toLoadRect (harg1.unread x0))
      (View.readAt (Elt Ideal) arg2.view (Rect.unit (s := S1x1024x1024) ![0, 0, 0] S1x1024x1024.size i2).toLoadRect (harg2.unread x1)) (ix2 r j)
      = rowD x0 x1 r j := by
  rw [load_whole arg1 harg1 x0 (by decide) i1, load_whole arg2 harg2 x1 (by decide) i2]
  exact rowD_read x0 x1 r j

variable {x ct : Vec Ideal S512x1024 .f32} {g : Vec Ideal S1x1024 .f32} {X C : Fin 512 → Fin 1024 → EReal} {G : Fin 1024 → EReal}
  {D : Fin 512 → Fin 1024 → EReal} (hD : ∀ r j, rowD x0 x1 r j = D r j)
include hD

theorem dx_stored (hx : ∀ r j, x (ix2 r j) = X r j) (hg : ∀ j, g (ix2 0 j) = G j) (hc : ∀ r j, ct (ix2 r j) = C r j)
    (r : Fin 512) (j : Fin 1024) :
    k0_pay7 (View.readAt (Elt Ideal) arg1.view (Rect.unit (s := S1x512x1024) ![0, 0, 0] S1x512x1024.size i1).toLoadRect (harg1.unread x0))
      (View.readAt (Elt Ideal) arg2.view (Rect.unit (s := S1x1024x1024) ![0, 0, 0] S1x1024x1024.size i2).toLoadRect (harg2.unread x1))
      x g ct (ix2 r j) = C r j + rmsGrad (X r) (fun i => D r i * G i) j :=
  congrArg₂ (· + ·) (hc r j) (NormBack.grads_apply laws hx (fun r j => (rowD_loaded harg1 harg2 r j).trans (hD r j)) hg r j)

theorem dg_stored (hx : ∀ r j, x (ix2 r j) = X r j) {p : Vec Ideal S1x1024 .f32} {s : EReal} {j : Fin 1024} (hp : p (ix2 0 j) = s) :
    k0_pay2 (k0_pay6 (View.readAt (Elt Ideal) arg1.view (Rect.unit (s := S1x512x1024) ![0, 0, 0] S1x512x1024.size i1).toLoadRect (harg1.unread x0))
      (View.readAt (Elt Ideal) arg2.view (Rect.unit (s := S1x1024x1024) ![0, 0, 0] S1x1024x1024.size i2).toLoadRect (harg2.unread x1))
      x) p (ix2 0 j) = s + ∑ r : Fin 512, D r j * rmsHat (X r) j :=
  congrArg₂ (· + ·) ((congrFun (shapeCast_self p _) _).trans hp) (NormBack.shares_apply laws hx (fun r j => (rowD_loaded harg1 harg2 r j).trans (hD r j)) j)

end Stored

variable (c : Dev nD) (i : grid0.Coords) (arg1 : Memref sig .tc .vmem S1x512x1024 .bf16) (harg1 : arg1.IsWhole) (arg2 : Memref sig .tc .vmem S1x1024x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole)
  (x0 : Vec Ideal S1x512x1024 .bf16) (x1 : Vec Ideal S1x1024x1024 .bf16) (x2 : Vec Ideal S512x1024 .f32) (x3 : Vec Ideal S1x1024 .f32) (x4 : Vec Ideal S512x1024 .f32) (xo6 : Vec Ideal S8x1024 .f32)
variable {X C D : Fin 512 → Fin 1024 → EReal} {G : Fin 1024 → EReal} (h : Reads X C D G (rowD x0 x1) x2 x4 x3)

/-! ### The first block -/

section First
variable (hc0 : cond0_0 i)

include h in
theorem first_dx (r : Fin 512) (j : Fin 1024) :
    out0_A_5 (F := Ideal) c i arg1 harg1 arg2 harg2 arg3 harg3 arg4 harg4 arg5 harg5 arg6 harg6 arg7 harg7 hc0 x0 x1 x2 x3 x4 (ix2 r j)
      = C r j + rmsGrad (X r) (fun i => D r i * G i) j := by
  refine (filled _).trans ?_
  exact dx_stored harg1 harg2 h.d (whole h.x) (gain h.g) (whole h.ct) r j

include h in
/-- The gain's gradient: the first row holds the rows' shares … -/
theorem first_dg (j : Fin 1024) :
    out0_A_6 (F := Ideal) c i arg1 harg1 arg2 harg2 arg3 harg3 arg4 harg4 arg5 harg5 arg6 harg6 arg7 harg7 hc0 x0 x1 x2 x3 x4 (ix2 0 j)
      = 0 + ∑ r : Fin 512, D r j * rmsHat (X r) j := by
  refine (row_hit j).trans ?_
  refine dg_stored harg1 harg2 h.d (whole h.x) ?_
  exact (row_filled j).trans Ideal.ofBits_zero_f32

/-- … and the others zero. -/
theorem first_dg_rest (a : Fin 8) (ha : a ≠ 0) (j : Fin 1024) :
    out0_A_6 (F := Ideal) c i arg1 harg1 arg2 harg2 arg3 harg3 arg4 harg4 arg5 harg5 arg6 harg6 arg7 harg7 hc0 x0 x1 x2 x3 x4 (ix2 a j) = 0 := by
  refine (row_miss a ha j).trans ?_
  refine (filled _).trans ?_
  exact Ideal.ofBits_zero_f32

end First

/-! ### A later block -/

section Next
variable (hc0 : ¬cond0_0 i)

include h in
theorem next_dx (r : Fin 512) (j : Fin 1024) :
    out0_B_5 (F := Ideal) c i arg1 harg1 arg2 harg2 arg3 harg3 arg4 harg4 arg5 harg5 arg6 harg6 arg7 harg7 hc0 x0 x1 x2 x3 x4 xo6 (ix2 r j)
      = C r j + rmsGrad (X r) (fun i => D r i * G i) j := by
  refine (filled _).trans ?_
  exact dx_stored harg1 harg2 h.d (whole h.x) (gain h.g) (whole h.ct) r j

include h in
/-- The gain's gradient: the first row gains the rows' shares … -/
theorem next_dg (j : Fin 1024) :
    out0_B_6 (F := Ideal) c i arg1 harg1 arg2 harg2 arg3 harg3 arg4 harg4 arg5 harg5 arg6 harg6 arg7 harg7 hc0 x0 x1 x2 x3 x4 xo6 (ix2 0 j)
      = xo6 (ix2 0 j) + ∑ r : Fin 512, D r j * rmsHat (X r) j := by
  refine (row_hit j).trans ?_
  refine dg_stored harg1 harg2 h.d (whole h.x) ?_
  exact Gating.load_apply _ _ _ _ _ _ _ _ fun d => match d with
    | ⟨0, _⟩ => rfl
    | ⟨1, _⟩ => (Nat.zero_add _).symm

/-- … and the others keep what they held. -/
theorem next_dg_rest (a : Fin 8) (ha : a ≠ 0) (j : Fin 1024) :
    out0_B_6 (F := Ideal) c i arg1 harg1 arg2 harg2 arg3 harg3 arg4 harg4 arg5 harg5 arg6 harg6 arg7 harg7 hc0 x0 x1 x2 x3 x4 xo6 (ix2 a j) = xo6 (ix2 a j) := by
  refine (row_miss a ha j).trans ?_
  exact congrFun (Memref.IsWhole.read_unread _ _) _

end Next

end PoolNorm
-- ==== Proof.PoolNormFinal.lean ====
/-
  From the runs of the pooling layer's input backward call to its two results: eight blocks of 512 rows, and the gain's
  gradient summed over all rows.
-/
module

public import proofs.«01_k».proof.Proof.PoolNorm
public import proofs.«01_k».proof.Proof.Gen.Kernel14Ideal.Value

@[expose] public section

set_option maxRecDepth 16384

noncomputable section

namespace PoolNorm

open Idealize.ShloMosaic hiding ix1 ix2 ix3 eq_ix2 eq_ix3
open Idealize.ShloMosaic.TcCoe Idealize.ShloMosaic.ValueIdx Cert.Kernel14Ideal Cert.Kernel14Ideal.Gen Idealize.SL.Sem
open Gating (rmsHat rmsGrad)
open Feeding (stacked)
open NormBack (Reads rowAt dx dg dg_total)

variable (m : (ℓ : Loc nD τ sig) → Buf (Elt Ideal) ℓ) (c : Dev nD)

theorem index_0 : ∀ t : Fin cfg0.N, win0_0.index t = ![0, t.val, 0] := by decide +kernel
theorem index_1 : ∀ t : Fin cfg0.N, win0_1.index t = ![0, 0, 0] := by decide +kernel
theorem index_2 : ∀ t : Fin cfg0.N, win0_2.index t = ![t.val, 0] := by decide +kernel
theorem index_3 : ∀ t : Fin cfg0.N, win0_3.index t = ![0, 0] := by decide +kernel
theorem index_4 : ∀ t : Fin cfg0.N, win0_4.index t = ![t.val, 0] := by decide +kernel
theorem index_5 : ∀ t : Fin cfg0.N, win0_5.index t = ![t.val, 0] := by decide +kernel

theorem dp_at (t : Fin cfg0.N) (p : Fin 1) (r : Fin 512) (j : Fin 1024) :
    iblk m c 0 t (ix3 p r j) = V m c main_v0 (ix3 p (rowAt t r) j) := by
  blk_ext [iblk, V, index_0 t, rowAt]
  show t.val * 512 + r.val = 512 * t.val + r.val
  omega

theorem w_at (t : Fin cfg0.N) (p : Fin 1) (j : Fin 1024) (k : Fin 1024) : iblk m c 1 t (ix3 p j k) = V m c main_v2 (ix3 p j k) := by
  blk_ext [iblk, V, index_1 t]

theorem x_at (t : Fin cfg0.N) (r : Fin 512) (j : Fin 1024) : iblk m c 2 t (ix2 r j) = V m c main_arg0 (ix2 (rowAt t r) j) := by
  blk_ext [iblk, V, index_2 t, rowAt]
  show t.val * 512 + r.val = 512 * t.val + r.val
  omega

theorem g_at (t : Fin cfg0.N) (j : Fin 1024) : iblk m c 3 t (ix2 0 j) = V m c main_arg1 (ix2 0 j) := by
  blk_ext [iblk, V, index_3 t]

theorem ct_at (t : Fin cfg0.N) (r : Fin 512) (j : Fin 1024) : iblk m c 4 t (ix2 r j) = V m c main_arg4 (ix2 (rowAt t r) j) := by
  blk_ext [iblk, V, index_4 t, rowAt]
  show t.val * 512 + r.val = 512 * t.val + r.val
  omega

/-- What the arrays hold when the call starts: the rows, the gain, the gradient handed on, and the products of the rows of
    the output's gradient with the rows of the weight. -/
structure Handed (X C D : Fin 4096 → Fin 1024 → EReal) (G : Fin 1024 → EReal) : Prop where
  x : ∀ n j, V m c main_arg0 (ix2 n j) = X n j
  g : ∀ j, V m c main_arg1 (ix2 0 j) = G j
  ct : ∀ n j, V m c main_arg4 (ix2 n j) = C n j
  d : ∀ (t : Fin cfg0.N) r j, rowD (iblk m c 0 t) (iblk m c 1 t) r j = D (rowAt t r) j

variable {m c} {X C D : Fin 4096 → Fin 1024 → EReal} {G : Fin 1024 → EReal} (h : Handed m c X C D G)
include h

theorem reads_at (t : Fin cfg0.N) : Reads (fun r => X (rowAt t r)) (fun r => C (rowAt t r)) (fun r => D (rowAt t r)) G
    (rowD (iblk m c 0 t) (iblk m c 1 t)) (iblk m c 2 t) (iblk m c 4 t) (iblk m c 3 t) where
  x r j := (x_at m c t r j).trans (h.x _ j)
  g j := (g_at m c t j).trans (h.g j)
  ct r j := (ct_at m c t r j).trans (h.ct _ j)
  d := h.d t

theorem dx_point (t : Fin cfg0.N) (r : Fin 512) (j : Fin 1024) : (outsAt0 m c t.val t.isLt).1 (ix2 r j) = dx X C D G (rowAt t r) j := by
  by_cases h0 : t.val % 8 = 0
  · rw [outsAt0_A m c t h0]
    dsimp only
    rw [first_dx _ _ _ _ _ _ _ _ _ _ _ _ _ _ _ _ _ _ _ _ _ (reads_at h t)]
    rfl
  · rw [outsAt0_B m c t h0]
    dsimp only
    rw [next_dx _ _ _ _ _ _ _ _ _ _ _ _ _ _ _ _ _ _ _ _ _ _ (reads_at h t)]
    rfl

theorem dx_final : (dats m 0 c).arrAt 5 cfg0.N = stacked (dx X C D G) := by
  refine (dats m 0 c).arrAt_eq_of_covers 5 _ (by decide +kernel) fun t hf y => ?_
  blk_simp
  rw [after0_5]
  obtain ⟨i, j, rfl⟩ : ∃ i j, y = ix2 i j := ⟨y 0, y 1, eq_ix2 y⟩
  have he : (win0_5.blk t).view.emb (ix2 i j : S512x1024.Idx) = ix2 (rowAt t i) j := by
    blk_ext [index_5 t, rowAt]
    show t.val * 512 + i.val = 512 * t.val + i.val
    omega
  exact (dx_point h t i j).trans (congrArg (stacked (dx X C D G)) he).symm

theorem dg_final : (dats m 0 c).arrAt 6 cfg0.N = stacked (dg X D) := by
  refine (dats m 0 c).arrAt_eq_of_after_last 6 t0_7 (by decide +kernel) _ fun i => ?_
  blk_simp
  rw [after0_6]
  obtain ⟨a, j, rfl⟩ : ∃ a j, i = ix2 a j := ⟨i 0, i 1, eq_ix2 i⟩
  refine dg_total (fun n h => (outsAt0 m c n h).2) (fun t h0 j => ?_) (fun t h0 a ha j => ?_) (fun t h0 j => ?_) (fun t h0 a ha j => ?_) a j
  · rw [outsAt0_A m c t h0]
    dsimp only
    rw [first_dg _ _ _ _ _ _ _ _ _ _ _ _ _ _ _ _ _ _ _ _ _ (reads_at h t)]
    rfl
  · rw [outsAt0_A m c t h0]
    dsimp only
    rw [first_dg_rest _ _ _ _ _ _ _ _ _ _ _ _ _ _ _ _ _ _ _ _ _ _ a ha]
  · rw [outsAt0_B m c t h0]
    dsimp only
    rw [next_dg _ _ _ _ _ _ _ _ _ _ _ _ _ _ _ _ _ _ _ _ _ _ (reads_at h t)]
    rfl
  · rw [outsAt0_B m c t h0]
    dsimp only
    rw [next_dg_rest _ _ _ _ _ _ _ _ _ _ _ _ _ _ _ _ _ _ _ _ _ _ _ a ha]

end PoolNorm
-- ==== Proof.PoolNormClaim.lean ====
/-
  What the pooling layer's input backward call leaves in its two arrays is what the reference computes from the same five
  arguments: the claims of the call.
-/
module

public import proofs.«01_k».proof.Defs
public import proofs.«01_k».proof.Pre_all_finite14
public import proofs.«01_k».proof.Proof.Gen.Reference14Ideal.Run
public import proofs.«01_k».proof.Proof.Same
public import proofs.«01_k».proof.Proof.Equal
public import proofs.«01_k».proof.Proof.NormBackRef
public import proofs.«01_k».proof.Proof.PoolNormFinal

@[expose] public section

noncomputable section

namespace PoolNorm

open Idealize
open Idealize.ShloMosaic hiding ix1 ix2 ix3 ix4 eq_ix1 eq_ix2 eq_ix3 eq_ix4
open Idealize.ShloMosaic.TcCoe Idealize.ShloMosaic.ValueIdx Cert.Kernel14Ideal Cert.Kernel14Ideal.Gen
open Cert.Reference14Ideal.Read
open Gating (IsReal isReal_sum read2 xRow)
open Feeding (stacked_ext)

instance finiteFacts : Cert.Pre_all_finite14.Facts where
  bcast_S_S4096x1024 := by decide
  bcast_S_S1x1024 := by decide
  bcast_S_S1024x1024 := by decide

variable (m : (ℓ : Loc nD τ sig) → Buf (Elt Ideal) ℓ) (c : Dev nD)

/-- The `k`-th argument, as launched. -/
abbrev in0 : S4096x1024.Idx → EReal := m ((c : Thread nD τ).loc main_arg0)
abbrev in1 : S1x1024.Idx → EReal := m ((c : Thread nD τ).loc main_arg1)
abbrev in2 : S1024x1024.Idx → EReal := m ((c : Thread nD τ).loc main_arg2)
abbrev in3 : S4096x1024.Idx → EReal := m ((c : Thread nD τ).loc main_arg3)
abbrev in4 : S4096x1024.Idx → EReal := m ((c : Thread nD τ).loc main_arg4)

/-! ### What the call is handed -/

theorem dp_in : V m c main_v0 = broadcastInDim S1x4096x1024 ![1, 2] bcast_S4096x1024_S1x4096x1024_1_2 (in3 m c) := by
  entry_read
  rfl

theorem w_in : V m c main_v2 = broadcastInDim S1x1024x1024 ![1, 2] bcast_S1024x1024_S1x1024x1024_1_2 (in2 m c) := by
  entry_read
  rfl

theorem x_in : V m c main_arg0 = in0 m c := by
  entry_read
  rfl

theorem g_in : V m c main_arg1 = in1 m c := by
  entry_read
  rfl

theorem ct_in : V m c main_arg4 = in4 m c := by
  entry_read
  rfl

theorem dp_read (n : Fin 4096) (q : Fin 1024) : V m c main_v0 (ix3 0 n q) = in3 m c (ix2 n q) := by
  rw [dp_in]
  pointwise
  rfl

theorem w_read (j q : Fin 1024) : V m c main_v2 (ix3 0 j q) = in2 m c (ix2 j q) := by
  rw [w_in]
  pointwise
  rfl

/-- The gradient of the gained rows. -/
def product (n : Fin 4096) (j : Fin 1024) : EReal := ∑ q : Fin 1024, in3 m c (ix2 n q) * in2 m c (ix2 j q)

theorem handed : Handed m c (xRow (in0 m c)) (fun n j => in4 m c (ix2 n j)) (product m c) (fun j => in1 m c (ix2 0 j)) where
  x n j := congrFun (x_in m c) _
  g j := congrFun (g_in m c) _
  ct n j := congrFun (ct_in m c) _
  d t r j := Finset.sum_congr rfl fun q _ => congrArg₂ (· * ·) ((dp_at m c t 0 r q).trans (dp_read m c _ q))
    ((w_at m c t 0 j q).trans (w_read m c j q))

/-! ### The two arrays -/

/-- The rows, the gain, the weight and the output's gradient are real. -/
structure RealArgs : Prop where
  r0 : ∀ i, IsReal (in0 m c i)
  r1 : ∀ i, IsReal (in1 m c i)
  r2 : ∀ i, IsReal (in2 m c i)
  r3 : ∀ i, IsReal (in3 m c i)

theorem out_dx (h : RealArgs m c) : @Eq (FVec Ideal Cert.Reference14Ideal.S4096x1024 .f32) ((dats m 0 c).arrAt 5 cfg0.N)
    (val_main_v37 (F := Ideal) (in0 m c) (in1 m c) (in2 m c) (in3 m c) (in4 m c)) :=
  (dx_final (handed m c)).trans (stacked_ext (NormBack.dx_at NormBack.product_at h.r0 h.r1
    fun n j => isReal_sum _ fun q => (h.r3 _).mul (h.r2 _)))

theorem out_dg : @Eq (FVec Ideal Cert.Reference14Ideal.S8x1024 .f32) ((dats m 0 c).arrAt 6 cfg0.N)
    (val_main_v38 (F := Ideal) (in0 m c) (in2 m c) (in3 m c)) :=
  (dg_final (handed m c)).trans (stacked_ext (NormBack.dg_padded NormBack.product_at))

/-! ### The claims -/

/-- Under the precondition the four arguments of every device that the sums read are real. -/
theorem realArgs {m : (ℓ : Loc nD τ sig) → Buf (Elt Ideal) ℓ} (h : Cert.Pre_Kernel14Ideal_all_finite14 m) (c : Dev nD) : RealArgs m c := by
  obtain ⟨h0, h1, h2, h3⟩ := h c
  exact ⟨fun i => Gating.real_of_below _ (congrFun h0 i), fun i => Gating.real_of_below _ (congrFun h1 i),
    fun i => Gating.real_of_below _ (congrFun h2 i), fun i => Gating.real_of_below _ (congrFun h3 i)⟩

/-- The reference ends, its arguments unchanged; it has no semaphores. -/
theorem frameReference : Cert.quiescent_Reference14Ideal := by
  intro m g _
  refine (θ_run _ _ _).mono (fun r h => ⟨fun c => ?_, sem_eq_zero_of_no_sems (by decide) _⟩) (Cert.Reference14Ideal.Value.run m g)
  exact (h c).2.2

set_option maxHeartbeats 8000000 in
/-- The two results of the call are the reference's. -/
theorem equal : Cert.algebraic_Kernel14Ideal_Reference14Ideal_pre_all_finite14 := by
  intro m g m' g' hpre hagree
  refine ⟨fun c => (dats m 0 c).arrAt 5 cfg0.N, fun c => (dats m 0 c).arrAt 6 cfg0.N, ?_, ?_⟩
  · exact Cert.Kernel14Ideal.Value.run_blocks m g
  · refine (θ_run _ _ _).mono (fun r h c => ?_) (Cert.Reference14Ideal.Value.run m' g')
    obtain ⟨e0, e1, a0, a1, a2, a3, a4⟩ := h c
    obtain ⟨p0, p1, p2, p3, p4⟩ := hagree c
    have q0 : m' ((c.tc : Thread Cert.Reference14Ideal.nD Cert.Reference14Ideal.τ).loc Cert.Reference14Ideal.main_arg0) = in0 m c := p0
    have q1 : m' ((c.tc : Thread Cert.Reference14Ideal.nD Cert.Reference14Ideal.τ).loc Cert.Reference14Ideal.main_arg1) = in1 m c := p1
    have q2 : m' ((c.tc : Thread Cert.Reference14Ideal.nD Cert.Reference14Ideal.τ).loc Cert.Reference14Ideal.main_arg2) = in2 m c := p2
    have q3 : m' ((c.tc : Thread Cert.Reference14Ideal.nD Cert.Reference14Ideal.τ).loc Cert.Reference14Ideal.main_arg3) = in3 m c := p3
    have q4 : m' ((c.tc : Thread Cert.Reference14Ideal.nD Cert.Reference14Ideal.τ).loc Cert.Reference14Ideal.main_arg4) = in4 m c := p4
    have s0 := Gating.same5 (val_main_v37 (F := Ideal)) q0 q1 q2 q3 q4
    have t0 := e0.trans (val_main_v37_eq (F := Ideal) m' c)
    have u0 := s0.trans (out_dx m c (realArgs hpre c)).symm
    have s1 := Gating.same3 (val_main_v38 (F := Ideal)) q0 q2 q3
    have t1 := e1.trans (val_main_v38_eq (F := Ideal) _ _ _)
    have u1 := s1.trans (out_dg m c).symm
    exact ⟨t0.trans u0, t1.trans u1, a0, a1, a2, a3, a4⟩

end PoolNorm
-- ==== Proof.lean ====
/-
  All the claims, of fourteen calls: the frames of their programs, the two named constants, and the equality of each call's
  results with its reference's. The claims of the mixing layer's backward call are proved here; those of the feed-forward
  layer's calls are put together in `FeedClaim`, `FwdClaim`, `WeightInClaim` and `WeightOutClaim`, those of the other
  mixing layers' calls in the further modules that end in `Claim`.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Same
public import proofs.«01_k».proof.Proof.FeedClaim
public import proofs.«01_k».proof.Proof.FwdClaim
public import proofs.«01_k».proof.Proof.WeightInClaim
public import proofs.«01_k».proof.Proof.WeightOutClaim
public import proofs.«01_k».proof.Proof.MixOutClaim
public import proofs.«01_k».proof.Proof.MixInClaim
public import proofs.«01_k».proof.Proof.ConvInClaim
public import proofs.«01_k».proof.Proof.PoolInClaim
public import proofs.«01_k».proof.Proof.PoolGroupClaim
public import proofs.«01_k».proof.Proof.ConvBackClaim
public import proofs.«01_k».proof.Proof.ConvOutClaim
public import proofs.«01_k».proof.Proof.ConvNormClaim
public import proofs.«01_k».proof.Proof.PoolNormClaim
public import proofs.«01_k».proof.Proof.Equal

@[expose] public section

namespace Gating

open Idealize Idealize.ShloMosaic Idealize.ShloMosaic.TcCoe

/-- Under the precondition every argument of every device is real. -/
theorem realArgs {m : (ℓ : Loc Cert.KernelIdeal.nD Cert.KernelIdeal.τ Cert.KernelIdeal.sig) → Buf (Elt Ideal) ℓ}
    (h : Cert.Pre_KernelIdeal_all_finite m) (c : Dev Cert.KernelIdeal.nD) : RealArgs m c := by
  obtain ⟨h0, h1, h2, h3, h4, h5, h6, h7⟩ := h c
  exact ⟨fun i => real_of_below _ (congrFun h0 i), fun i => real_of_below _ (congrFun h1 i),
    fun i => real_of_below _ (congrFun h2 i), fun i => real_of_below _ (congrFun h3 i),
    fun i => real_of_below _ (congrFun h4 i), fun i => real_of_below _ (congrFun h5 i),
    fun i => real_of_below _ (congrFun h6 i), fun i => real_of_below _ (congrFun h7 i)⟩

/-- The reference ends, its arguments unchanged; it has no semaphores. -/
theorem frameReference : Cert.quiescent_ReferenceIdeal := by
  intro m g _
  refine (θ_run _ _ _).mono (fun r h => ⟨fun c => ?_, sem_eq_zero_of_no_sems (by decide) _⟩) (Cert.ReferenceIdeal.Value.run m g)
  exact (h c).2.2.2.2.2.2

set_option maxHeartbeats 8000000 in
/-- The six results of the kernel are the reference's. -/
theorem equal : Cert.algebraic_KernelIdeal_ReferenceIdeal_pre_all_finite := by
  intro m g m' g' hpre hagree
  refine ⟨fun c => (Cert.KernelIdeal.Gen.dats m 0 c).arrAt 11 Cert.KernelIdeal.cfg0.N,
    fun c => (Cert.KernelIdeal.Gen.dats m 0 c).arrAt 12 Cert.KernelIdeal.cfg0.N,
    fun c => (Cert.KernelIdeal.Gen.dats m 0 c).arrAt 13 Cert.KernelIdeal.cfg0.N,
    fun c => (Cert.KernelIdeal.Gen.dats m 0 c).arrAt 14 Cert.KernelIdeal.cfg0.N,
    fun c => (Cert.KernelIdeal.Gen.dats m 0 c).arrAt 15 Cert.KernelIdeal.cfg0.N,
    fun c => (Cert.KernelIdeal.Gen.dats m 0 c).arrAt 16 Cert.KernelIdeal.cfg0.N, ?_, ?_⟩
  · exact Cert.KernelIdeal.Value.run_blocks m g
  · refine (θ_run _ _ _).mono (fun r h c => ?_) (Cert.ReferenceIdeal.Value.run m' g')
    obtain ⟨e0, e1, e2, e3, e4, e5, a0, a1, a2, a3, a4, a5, a6, a7⟩ := h c
    obtain ⟨p0, p1, p2, p3, p4, p5, p6, p7⟩ := hagree c
    have hr := realArgs hpre c
    have q0 : StableHlo.launchContents m' c (Proc.devRef .tc Cert.ReferenceIdeal.main_arg0) = in0 m c := p0
    have q1 : StableHlo.launchContents m' c (Proc.devRef .tc Cert.ReferenceIdeal.main_arg1) = in1 m c := p1
    have q2 : StableHlo.launchContents m' c (Proc.devRef .tc Cert.ReferenceIdeal.main_arg2) = in2 m c := p2
    have q3 : StableHlo.launchContents m' c (Proc.devRef .tc Cert.ReferenceIdeal.main_arg3) = in3 m c := p3
    have q4 : StableHlo.launchContents m' c (Proc.devRef .tc Cert.ReferenceIdeal.main_arg4) = in4 m c := p4
    have q5 : StableHlo.launchContents m' c (Proc.devRef .tc Cert.ReferenceIdeal.main_arg5) = in5 m c := p5
    have q6 : StableHlo.launchContents m' c (Proc.devRef .tc Cert.ReferenceIdeal.main_arg6) = in6 m c := p6
    have q7 : StableHlo.launchContents m' c (Proc.devRef .tc Cert.ReferenceIdeal.main_arg7) = in7 m c := p7
    have s0 := same8 (Cert.ReferenceIdeal.Read.val_main_v155 (F := Ideal)) q0 q1 q2 q3 q4 q5 q6 q7
    have t0 := e0.trans (Cert.ReferenceIdeal.Read.val_main_v155_eq (F := Ideal) (StableHlo.launchContents m' c))
    have u0 := s0.trans (out_dx m c hr).symm
    have s1 := same8 (Cert.ReferenceIdeal.Read.val_main_v156 (F := Ideal)) q0 q1 q2 q3 q4 q5 q6 q7
    have t1 := e1.trans (Cert.ReferenceIdeal.Read.val_main_v156_eq (F := Ideal) (StableHlo.launchContents m' c))
    have u1 := s1.trans (out_dz m c hr).symm
    have s2 := same6 (Cert.ReferenceIdeal.Read.val_main_v81 (F := Ideal)) q0 q1 q2 q3 q6 q7
    have t2 := e2.trans (Cert.ReferenceIdeal.Read.val_main_v81_eq (F := Ideal) (StableHlo.launchContents m' c))
    have u2 := s2.trans (out_dwm m c).symm
    have s3 := same5 (Cert.ReferenceIdeal.Read.val_main_v158 (F := Ideal)) q0 q1 q2 q6 q7
    have t3 := e3.trans (Cert.ReferenceIdeal.Read.val_main_v158_eq (F := Ideal) (StableHlo.launchContents m' c))
    have u3 := s3.trans (out_dbs m c).symm
    have s4 := same6 (Cert.ReferenceIdeal.Read.val_main_v159 (F := Ideal)) q0 q1 q2 q4 q6 q7
    have t4 := e4.trans (Cert.ReferenceIdeal.Read.val_main_v159_eq (F := Ideal) (StableHlo.launchContents m' c))
    have u4 := s4.trans (out_dgv m c).symm
    have s5 := same8 (Cert.ReferenceIdeal.Read.val_main_v160 (F := Ideal)) q0 q1 q2 q3 q4 q5 q6 q7
    have t5 := e5.trans (Cert.ReferenceIdeal.Read.val_main_v160_eq (F := Ideal) (StableHlo.launchContents m' c))
    have u5 := s5.trans (out_dg m c hr).symm
    exact ⟨t0.trans u0, t1.trans u1, t2.trans u2, t3.trans u3, t4.trans u4, t5.trans u5, a0, a1, a2, a3, a4, a5, a6, a7⟩

end Gating

/-- All the claims. -/
theorem Cert.Proof.claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts,
    Cert.Kernel6Ideal.Gen.facts, Cert.Reference6Ideal.Gen.facts, Cert.Kernel7.Gen.facts, Cert.Kernel7Ideal.Gen.facts,
    Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Gating.finiteFacts, Feeding.finiteFacts, Forward.finiteFacts, ConvNorm.finiteFacts, PoolNorm.finiteFacts,
    fun m g _ => Cert.Kernel.Gen.frame m g, fun m g _ => Cert.KernelIdeal.Gen.frame m g,
    fun m g _ => Cert.KernelIdeal.Gen.frame m g, Gating.frameReference, fun m g _ => Gating.frameReference m g trivial,
    fun m g _ => Cert.Kernel2.Gen.frame m g, fun m g _ => Cert.Kernel2Ideal.Gen.frame m g,
    fun m g _ => Cert.Kernel2Ideal.Gen.frame m g, Feeding.frameReference, fun m g _ => Feeding.frameReference m g trivial,
    fun m g _ => Cert.Kernel3.Gen.frame m g, fun m g _ => Cert.Kernel3Ideal.Gen.frame m g,
    fun m g _ => Cert.Kernel3Ideal.Gen.frame m g, Forward.frameReference, fun m g _ => Forward.frameReference m g trivial,
    fun m g _ => Cert.Kernel4.Gen.frame m g, fun m g _ => Cert.Kernel4Ideal.Gen.frame m g, Weights.In.frameReference,
    fun m g _ => Cert.Kernel5.Gen.frame m g, fun m g _ => Cert.Kernel5Ideal.Gen.frame m g, Weights.Out.frameReference,
    fun m g _ => Cert.Kernel6.Gen.frame m g, fun m g _ => Cert.Kernel6Ideal.Gen.frame m g, Weights.MixOut.frameReference,
    fun m g _ => Cert.Kernel7.Gen.frame m g, fun m g _ => Cert.Kernel7Ideal.Gen.frame m g, Weights.MixIn.frameReference,
    fun m g _ => Cert.Kernel8.Gen.frame m g, fun m g _ => Cert.Kernel8Ideal.Gen.frame m g, Weights.ConvIn.frameReference,
    fun m g _ => Cert.Kernel9.Gen.frame m g, fun m g _ => Cert.Kernel9Ideal.Gen.frame m g, Weights.PoolIn.frameReference,
    fun m g _ => Cert.Kernel10.Gen.frame m g, fun m g _ => Cert.Kernel10Ideal.Gen.frame m g, Weights.PoolGroup.frameReference,
    fun m g _ => Cert.Kernel11.Gen.frame m g, fun m g _ => Cert.Kernel11Ideal.Gen.frame m g, ConvBack.frameReference,
    fun m g _ => Cert.Kernel12.Gen.frame m g, fun m g _ => Cert.Kernel12Ideal.Gen.frame m g, ConvOut.frameReference,
    fun m g _ => Cert.Kernel13.Gen.frame m g, fun m g _ => Cert.Kernel13Ideal.Gen.frame m g,
    fun m g _ => Cert.Kernel13Ideal.Gen.frame m g, ConvNorm.frameReference, fun m g _ => ConvNorm.frameReference m g trivial,
    fun m g _ => Cert.Kernel14.Gen.frame m g, fun m g _ => Cert.Kernel14Ideal.Gen.frame m g,
    fun m g _ => Cert.Kernel14Ideal.Gen.frame m g, PoolNorm.frameReference, fun m g _ => PoolNorm.frameReference m g trivial,
    ⟨Idealize.ShloMosaic.IdealRules.named_const.statement Cert.KernelIdeal.κ "inv_sqrt2" .f32 0x3F3504F3#32 _ rfl,
      Idealize.ShloMosaic.IdealRules.named_const.statement Cert.KernelIdeal.κ "inv_sqrt_2pi" .f32 0x3ECC422A#32 _ rfl⟩,
    Gating.equal, trivial, Feeding.equal, trivial, Forward.equal, trivial, Weights.In.equal,
    trivial, Weights.Out.equal, trivial, Weights.MixOut.equal, trivial, Weights.MixIn.equal,
    trivial, Weights.ConvIn.equal, trivial, Weights.PoolIn.equal, trivial, Weights.PoolGroup.equal, trivial, ConvBack.equal, trivial, ConvOut.equal,
    trivial, ConvNorm.equal, trivial, PoolNorm.equal⟩
